-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v13_0)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v16_0)) (v4 : (c : Dev Cert.KernelIdeal.nD) → Buf (Elt Ideal) ((c.tc : Thread Cert.KernelIdeal.nD Cert.KernelIdeal.τ).loc Cert.KernelIdeal.main_v13_2)) (v5 : (c : Dev Cert.KernelIdeal.nD) → Buf (Elt Ideal) ((c.tc : Thread Cert.KernelIdeal.nD Cert.KernelIdeal.τ).loc Cert.KernelIdeal.main_v18)) (v6 : (c : Dev Cert.KernelIdeal.nD) → Buf (Elt Ideal) ((c.tc : Thread Cert.KernelIdeal.nD Cert.KernelIdeal.τ).loc Cert.KernelIdeal.main_v19)) (v7 : (c : Dev Cert.KernelIdeal.nD) → Buf (Elt Ideal) ((c.tc : Thread Cert.KernelIdeal.nD Cert.KernelIdeal.τ).loc Cert.KernelIdeal.main_v12_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v13_0) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v16_0) = v3 c
          ∧ r.2.mem ((c.tc : Thread Cert.KernelIdeal.nD Cert.KernelIdeal.τ).loc Cert.KernelIdeal.main_v13_2) = v4 c
          ∧ r.2.mem ((c.tc : Thread Cert.KernelIdeal.nD Cert.KernelIdeal.τ).loc Cert.KernelIdeal.main_v18) = v5 c
          ∧ r.2.mem ((c.tc : Thread Cert.KernelIdeal.nD Cert.KernelIdeal.τ).loc Cert.KernelIdeal.main_v19) = v6 c
          ∧ r.2.mem ((c.tc : Thread Cert.KernelIdeal.nD Cert.KernelIdeal.τ).loc Cert.KernelIdeal.main_v12_0) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_v41) = v4 c
          ∧ r.2.mem ((c.tc : Thread Cert.ReferenceIdeal.nD Cert.ReferenceIdeal.τ).loc Cert.ReferenceIdeal.main_v36) = v5 c
          ∧ r.2.mem ((c.tc : Thread Cert.ReferenceIdeal.nD Cert.ReferenceIdeal.τ).loc Cert.ReferenceIdeal.main_v32) = v6 c
          ∧ r.2.mem ((c.tc : Thread Cert.ReferenceIdeal.nD Cert.ReferenceIdeal.τ).loc Cert.ReferenceIdeal.main_v27) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v38_0)) (v1 : (c : Dev Cert.Kernel2Ideal.nD) → Buf (Elt Ideal) ((c.tc : Thread Cert.Kernel2Ideal.nD Cert.Kernel2Ideal.τ).loc Cert.Kernel2Ideal.main_v38_2)) (v2 : (c : Dev Cert.Kernel2Ideal.nD) → Buf (Elt Ideal) ((c.tc : Thread Cert.Kernel2Ideal.nD Cert.Kernel2Ideal.τ).loc Cert.Kernel2Ideal.main_v46)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v38_0) = v0 c
          ∧ r.2.mem ((c.tc : Thread Cert.Kernel2Ideal.nD Cert.Kernel2Ideal.τ).loc Cert.Kernel2Ideal.main_v38_2) = v1 c
          ∧ r.2.mem ((c.tc : Thread Cert.Kernel2Ideal.nD Cert.Kernel2Ideal.τ).loc Cert.Kernel2Ideal.main_v46) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v64) = v0 c
          ∧ r.2.mem ((c.tc : Thread Cert.Reference4Ideal.nD Cert.Reference4Ideal.τ).loc Cert.Reference4Ideal.main_v61) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2176x1024 : Shape := ⟨2, ![2176, 1024]⟩
abbrev S2176x2048 : Shape := ⟨2, ![2176, 2048]⟩
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S1 : Shape := ⟨1, ![1]⟩
abbrev S8 : Shape := ⟨1, ![8]⟩

class Facts : Prop where
  bitsLt_bf16_f32 : FTy.bits .bf16 < FTy.bits .f32
  bcast_S_S2176x1024 : S_.BroadcastsInDim S2176x1024 (![] : Fin 0 → Fin S2176x1024.rank)
  reducesTo_S2176x1024_S_d0_1 : S2176x1024.ReducesTo [0, 1] S_
  h_S_ : 0 < S_.numel
  bcast_S_S2176x2048 : S_.BroadcastsInDim S2176x2048 (![] : Fin 0 → Fin S2176x2048.rank)
  reducesTo_S2176x2048_S_d0_1 : S2176x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1 : S_.BroadcastsInDim S1 (![] : Fin 0 → Fin S1.rank)
  concatenates_S1_S1_S1_S1_S1_S1_S1_S1_S8_d0 : Shape.Concatenates [S1, S1, S1, S1, S1, S1, S1, S1] S8 0

variable [Facts]

def fn_part2 {F : FTy → Type} [FloatOps F] (main_v4 : IVec S_ 1) (main_v8 : IVec S_ 1) (main_v12 : IVec S_ 1) (main_v16 : IVec S_ 1) (main_v20 : IVec S_ 1) (main_v24 : IVec S_ 1) (main_v28 : IVec S_ 1) (main_v31 : IVec S2176x1024 1) (main_c_13 : IVec S_ 1) : IVec S8 1 :=
  let main_v32 : IVec S_ 1 := (fun x v => Host.reduce IntOp.andi x v reducesTo_S2176x1024_S_d0_1 h_S_) main_v31 main_c_13
  let main_v33 : IVec S1 1 := broadcastInDim S1 ![] bcast_S_S1 main_v4
  let main_v34 : IVec S1 1 := broadcastInDim S1 ![] bcast_S_S1 main_v8
  let main_v35 : IVec S1 1 := broadcastInDim S1 ![] bcast_S_S1 main_v12
  let main_v36 : IVec S1 1 := broadcastInDim S1 ![] bcast_S_S1 main_v16
  let main_v37 : IVec S1 1 := broadcastInDim S1 ![] bcast_S_S1 main_v20
  let main_v38 : IVec S1 1 := broadcastInDim S1 ![] bcast_S_S1 main_v24
  let main_v39 : IVec S1 1 := broadcastInDim S1 ![] bcast_S_S1 main_v28
  let main_v40 : IVec S1 1 := broadcastInDim S1 ![] bcast_S_S1 main_v32
  let main_v41 : IVec S8 1 := concatenate S8 0 [⟨S1, main_v33⟩, ⟨S1, main_v34⟩, ⟨S1, main_v35⟩, ⟨S1, main_v36⟩, ⟨S1, main_v37⟩, ⟨S1, main_v38⟩, ⟨S1, main_v39⟩, ⟨S1, main_v40⟩] concatenates_S1_S1_S1_S1_S1_S1_S1_S1_S8_d0
  main_v41

def fn_part1 {F : FTy → Type} [FloatOps F] (main_arg4 : FVec F S1024x2816 .f32) (main_arg5 : FVec F S1024x2816 .f32) (main_arg6 : FVec F S2816x1024 .f32) (main_arg7 : FVec F S2176x1024 .f32) (main_v4 : IVec S_ 1) (main_v8 : IVec S_ 1) (main_v12 : IVec S_ 1) (main_v15 : IVec S1x1024 1) (main_c_5 : IVec S_ 1) : IVec S8 1 :=
  let main_v16 : IVec S_ 1 := (fun x v => Host.reduce IntOp.andi x v reducesTo_S1x1024_S_d0_1 h_S_) main_v15 main_c_5
  let main_v17 : FVec F S1024x2816 .f32 := Host.absf main_arg4
  let main_cst_6 : FVec F S_ .f32 := constant S_ .f32 0x7F800000#32
  let main_v18 : FVec F S1024x2816 .f32 := broadcastInDim S1024x2816 ![] bcast_S_S1024x2816 main_cst_6
  let main_v19 : IVec S1024x2816 1 := cmpf .olt main_v17 main_v18
  let main_c_7 : IVec S_ 1 := constantI S_ 1 1#1
  let main_v20 : IVec S_ 1 := (fun x v => Host.reduce IntOp.andi x v reducesTo_S1024x2816_S_d0_1 h_S_) main_v19 main_c_7
  let main_v21 : FVec F S1024x2816 .f32 := Host.absf main_arg5
  let main_cst_8 : FVec F S_ .f32 := constant S_ .f32 0x7F800000#32
  let main_v22 : FVec F S1024x2816 .f32 := broadcastInDim S1024x2816 ![] bcast_S_S1024x2816 main_cst_8
  let main_v23 : IVec S1024x2816 1 := cmpf .olt main_v21 main_v22
  let main_c_9 : IVec S_ 1 := constantI S_ 1 1#1
  let main_v24 : IVec S_ 1 := (fun x v => Host.reduce IntOp.andi x v reducesTo_S1024x2816_S_d0_1 h_S_) main_v23 main_c_9
  let main_v25 : FVec F S2816x1024 .f32 := Host.absf main_arg6
  let main_cst_10 : FVec F S_ .f32 := constant S_ .f32 0x7F800000#32
  let main_v26 : FVec F S2816x1024 .f32 := broadcastInDim S2816x1024 ![] bcast_S_S2816x1024 main_cst_10
  let main_v27 : IVec S2816x1024 1 := cmpf .olt main_v25 main_v26
  let main_c_11 : IVec S_ 1 := constantI S_ 1 1#1
  let main_v28 : IVec S_ 1 := (fun x v => Host.reduce IntOp.andi x v reducesTo_S2816x1024_S_d0_1 h_S_) main_v27 main_c_11
  let main_v29 : FVec F S2176x1024 .f32 := Host.absf main_arg7
  let main_cst_12 : FVec F S_ .f32 := constant S_ .f32 0x7F800000#32
  let main_v30 : FVec F S2176x1024 .f32 := broadcastInDim S2176x1024 ![] bcast_S_S2176x1024 main_cst_12
  let main_v31 : IVec S2176x1024 1 := cmpf .olt main_v29 main_v30
  let main_c_13 : IVec S_ 1 := constantI S_ 1 1#1
  fn_part2 (F := F) main_v4 main_v8 main_v12 main_v16 main_v20 main_v24 main_v28 main_v31 main_c_13

def fn {F : FTy → Type} [FloatOps F] (main_arg0 : FVec F S2176x1024 .f32) (main_arg1 : FVec F S2176x2048 .bf16) (main_arg2 : FVec F S2048x1024 .f32) (main_arg3 : FVec F S1x1024 .f32) (main_arg4 : FVec F S1024x2816 .f32) (main_arg5 : FVec F S1024x2816 .f32) (main_arg6 : FVec F S2816x1024 .f32) (main_arg7 : FVec F S2176x1024 .f32) : IVec S8 1 :=
  let main_v0 : FVec F S2176x2048 .f32 := (extf .f32 · bitsLt_bf16_f32) main_arg1
  let main_v1 : FVec F S2176x1024 .f32 := Host.absf main_arg0
  let main_cst : FVec F S_ .f32 := constant S_ .f32 0x7F800000#32
  let main_v2 : FVec F S2176x1024 .f32 := broadcastInDim S2176x1024 ![] bcast_S_S2176x1024 main_cst
  let main_v3 : IVec S2176x1024 1 := cmpf .olt main_v1 main_v2
  let main_c : IVec S_ 1 := constantI S_ 1 1#1
  let main_v4 : IVec S_ 1 := (fun x v => Host.reduce IntOp.andi x v reducesTo_S2176x1024_S_d0_1 h_S_) main_v3 main_c
  let main_v5 : FVec F S2176x2048 .f32 := Host.absf main_v0
  let main_cst_0 : FVec F S_ .f32 := constant S_ .f32 0x7F800000#32
  let main_v6 : FVec F S2176x2048 .f32 := broadcastInDim S2176x2048 ![] bcast_S_S2176x2048 main_cst_0
  let main_v7 : IVec S2176x2048 1 := cmpf .olt main_v5 main_v6
  let main_c_1 : IVec S_ 1 := constantI S_ 1 1#1
  let main_v8 : IVec S_ 1 := (fun x v => Host.reduce IntOp.andi x v reducesTo_S2176x2048_S_d0_1 h_S_) main_v7 main_c_1
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : FVec F S1x1024 .f32 := Host.absf main_arg3
  let main_cst_4 : FVec F S_ .f32 := constant S_ .f32 0x7F800000#32
  let main_v14 : FVec F S1x1024 .f32 := broadcastInDim S1x1024 ![] bcast_S_S1x1024 main_cst_4
  let main_v15 : IVec S1x1024 1 := cmpf .olt main_v13 main_v14
  let main_c_5 : IVec S_ 1 := constantI S_ 1 1#1
  fn_part1 (F := F) main_arg4 main_arg5 main_arg6 main_arg7 main_v4 main_v8 main_v12 main_v15 main_c_5
-- ==== Kernel.lean ====
abbrev S2176x1024 : Shape := ⟨2, ![2176, 1024]⟩
abbrev S2176x2048 : Shape := ⟨2, ![2176, 2048]⟩
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S2048x256 : Shape := ⟨2, ![2048, 256]⟩
abbrev S2176x256 : Shape := ⟨2, ![2176, 256]⟩
abbrev S544x1024 : Shape := ⟨2, ![544, 1024]⟩
abbrev S544 : Shape := ⟨1, ![544]⟩
abbrev S544x1 : Shape := ⟨2, ![544, 1]⟩
abbrev S2176x2816 : Shape := ⟨2, ![2176, 2816]⟩
abbrev S256x1024 : Shape := ⟨2, ![256, 1024]⟩
abbrev S2816x256 : Shape := ⟨2, ![2816, 256]⟩
abbrev S2176x1408 : Shape := ⟨2, ![2176, 1408]⟩
abbrev S2176x512 : Shape := ⟨2, ![2176, 512]⟩
abbrev S1408x512 : Shape := ⟨2, ![1408, 512]⟩
abbrev S272x2816 : Shape := ⟨2, ![272, 2816]⟩
abbrev S272x1024 : Shape := ⟨2, ![272, 1024]⟩
abbrev S272 : Shape := ⟨1, ![272]⟩
abbrev S272x1 : Shape := ⟨2, ![272, 1]⟩
abbrev S1024 : Shape := ⟨1, ![1024]⟩
abbrev S1024x512 : Shape := ⟨2, ![1024, 512]⟩

abbrev nBuf : Space → Nat
  | .hbm => 37
  | .vmem => 94
  | .smem => 0
  | _ => 0

abbrev bufTy : (tb : Table) → Fin (tcTables nBuf tb) → BufTy
  | .hbm, ⟨0, _⟩ => ⟨S2176x1024, .f32⟩
  | .hbm, ⟨1, _⟩ => ⟨S2176x2048, .bf16⟩
  | .hbm, ⟨2, _⟩ => ⟨S2048x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2176x1024, .f32⟩
  | .hbm, ⟨8, _⟩ => ⟨S2048x1024, .bf16⟩
  | .hbm, ⟨9, _⟩ => ⟨S2816x1024, .bf16⟩
  | .hbm, ⟨10, _⟩ => ⟨S2176x1024, .bf16⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S2176x1024, .f32⟩
  | .hbm, ⟨16, _⟩ => ⟨S2176x1024, .bf16⟩
  | .hbm, ⟨17, _⟩ => ⟨S2176x2816, .bf16⟩
  | .hbm, ⟨18, _⟩ => ⟨S2176x2816, .bf16⟩
  | .hbm, ⟨19, _⟩ => ⟨S2176x2816, .bf16⟩
  | .hbm, ⟨20, _⟩ => ⟨S2176x1024, .f32⟩
  | .hbm, ⟨21, _⟩ => ⟨S2176x2816, .bf16⟩
  | .hbm, ⟨22, _⟩ => ⟨S2176x2816, .bf16⟩
  | .hbm, ⟨23, _⟩ => ⟨S2816x1024, .f32⟩
  | .hbm, ⟨24, _⟩ => ⟨S2816x1024, .bf16⟩
  | .hbm, ⟨25, _⟩ => ⟨S2176x1024, .f32⟩
  | .hbm, ⟨26, _⟩ => ⟨S2176x1024, .bf16⟩
  | .hbm, ⟨27, _⟩ => ⟨S1x1024, .f32⟩
  | .hbm, ⟨28, _⟩ => ⟨S2816x1024, .f32⟩
  | .hbm, ⟨29, _⟩ => ⟨S2816x1024, .bf16⟩
  | .hbm, ⟨30, _⟩ => ⟨S2816x1024, .f32⟩
  | .hbm, ⟨31, _⟩ => ⟨S2816x1024, .bf16⟩
  | .hbm, ⟨32, _⟩ => ⟨S2048x1024, .f32⟩
  | .hbm, ⟨33, _⟩ => ⟨S2048x1024, .bf16⟩
  | .hbm, ⟨34, _⟩ => ⟨S2176x2048, .f32⟩
  | .hbm, ⟨35, _⟩ => ⟨S1024x2816, .f32⟩
  | .hbm, ⟨36, _⟩ => ⟨S1024x2816, .f32⟩
  | .local _ .vmem, ⟨0, _⟩ => ⟨S2176x2048, .bf16⟩
  | .local _ .vmem, ⟨1, _⟩ => ⟨S2048x256, .bf16⟩
  | .local _ .vmem, ⟨2, _⟩ => ⟨S2048x256, .bf16⟩
  | .local _ .vmem, ⟨3, _⟩ => ⟨S2176x256, .f32⟩
  | .local _ .vmem, ⟨4, _⟩ => ⟨S2176x256, .f32⟩
  | .local _ .vmem, ⟨5, _⟩ => ⟨S2176x256, .f32⟩
  | .local _ .vmem, ⟨6, _⟩ => ⟨S2176x256, .f32⟩
  | .local _ .vmem, ⟨7, _⟩ => ⟨S544x1024, .f32⟩
  | .local _ .vmem, ⟨8, _⟩ => ⟨S544x1024, .f32⟩
  | .local _ .vmem, ⟨9, _⟩ => ⟨S1x1024, .f32⟩
  | .local _ .vmem, ⟨10, _⟩ => ⟨S544x1024, .bf16⟩
  | .local _ .vmem, ⟨11, _⟩ => ⟨S544x1024, .bf16⟩
  | .local _ .vmem, ⟨12, _⟩ => ⟨S2176x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S2176x256, .bf16⟩
  | .local _ .vmem, ⟨18, _⟩ => ⟨S2176x256, .bf16⟩
  | .local _ .vmem, ⟨19, _⟩ => ⟨S2176x256, .bf16⟩
  | .local _ .vmem, ⟨20, _⟩ => ⟨S2176x256, .bf16⟩
  | .local _ .vmem, ⟨21, _⟩ => ⟨S2176x256, .bf16⟩
  | .local _ .vmem, ⟨22, _⟩ => ⟨S2176x256, .bf16⟩
  | .local _ .vmem, ⟨23, _⟩ => ⟨S2176x2816, .bf16⟩
  | .local _ .vmem, ⟨24, _⟩ => ⟨S2816x256, .bf16⟩
  | .local _ .vmem, ⟨25, _⟩ => ⟨S2816x256, .bf16⟩
  | .local _ .vmem, ⟨26, _⟩ => ⟨S2176x256, .f32⟩
  | .local _ .vmem, ⟨27, _⟩ => ⟨S2176x256, .f32⟩
  | .local _ .vmem, ⟨28, _⟩ => ⟨S2176x256, .f32⟩
  | .local _ .vmem, ⟨29, _⟩ => ⟨S2176x256, .f32⟩
  | .local _ .vmem, ⟨30, _⟩ => ⟨S2176x1024, .bf16⟩
  | .local _ .vmem, ⟨31, _⟩ => ⟨S256x1024, .bf16⟩
  | .local _ .vmem, ⟨32, _⟩ => ⟨S256x1024, .bf16⟩
  | .local _ .vmem, ⟨33, _⟩ => ⟨S2176x256, .bf16⟩
  | .local _ .vmem, ⟨34, _⟩ => ⟨S2176x256, .bf16⟩
  | .local _ .vmem, ⟨35, _⟩ => ⟨S2176x256, .bf16⟩
  | .local _ .vmem, ⟨36, _⟩ => ⟨S2176x256, .bf16⟩
  | .local _ .vmem, ⟨37, _⟩ => ⟨S2176x256, .bf16⟩
  | .local _ .vmem, ⟨38, _⟩ => ⟨S2176x256, .bf16⟩
  | .local _ .vmem, ⟨39, _⟩ => ⟨S2176x256, .bf16⟩
  | .local _ .vmem, ⟨40, _⟩ => ⟨S2176x256, .bf16⟩
  | .local _ .vmem, ⟨41, _⟩ => ⟨S2176x1408, .bf16⟩
  | .local _ .vmem, ⟨42, _⟩ => ⟨S2176x1408, .bf16⟩
  | .local _ .vmem, ⟨43, _⟩ => ⟨S2176x512, .bf16⟩
  | .local _ .vmem, ⟨44, _⟩ => ⟨S2176x512, .bf16⟩
  | .local _ .vmem, ⟨45, _⟩ => ⟨S1408x512, .f32⟩
  | .local _ .vmem, ⟨46, _⟩ => ⟨S1408x512, .f32⟩
  | .local _ .vmem, ⟨47, _⟩ => ⟨S1408x512, .bf16⟩
  | .local _ .vmem, ⟨48, _⟩ => ⟨S1408x512, .bf16⟩
  | .local _ .vmem, ⟨49, _⟩ => ⟨S272x2816, .bf16⟩
  | .local _ .vmem, ⟨50, _⟩ => ⟨S272x2816, .bf16⟩
  | .local _ .vmem, ⟨51, _⟩ => ⟨S2816x1024, .bf16⟩
  | .local _ .vmem, ⟨52, _⟩ => ⟨S272x2816, .bf16⟩
  | .local _ .vmem, ⟨53, _⟩ => ⟨S272x2816, .bf16⟩
  | .local _ .vmem, ⟨54, _⟩ => ⟨S2816x1024, .bf16⟩
  | .local _ .vmem, ⟨55, _⟩ => ⟨S272x1024, .f32⟩
  | .local _ .vmem, ⟨56, _⟩ => ⟨S272x1024, .f32⟩
  | .local _ .vmem, ⟨57, _⟩ => ⟨S1x1024, .f32⟩
  | .local _ .vmem, ⟨58, _⟩ => ⟨S272x1024, .f32⟩
  | .local _ .vmem, ⟨59, _⟩ => ⟨S272x1024, .f32⟩
  | .local _ .vmem, ⟨60, _⟩ => ⟨S272x1024, .f32⟩
  | .local _ .vmem, ⟨61, _⟩ => ⟨S272x1024, .f32⟩
  | .local _ .vmem, ⟨62, _⟩ => ⟨S272x1024, .bf16⟩
  | .local _ .vmem, ⟨63, _⟩ => ⟨S272x1024, .bf16⟩
  | .local _ .vmem, ⟨64, _⟩ => ⟨S1x1024, .f32⟩
  | .local _ .vmem, ⟨65, _⟩ => ⟨S2176x1408, .bf16⟩
  | .local _ .vmem, ⟨66, _⟩ => ⟨S2176x1408, .bf16⟩
  | .local _ .vmem, ⟨67, _⟩ => ⟨S2176x512, .bf16⟩
  | .local _ .vmem, ⟨68, _⟩ => ⟨S2176x512, .bf16⟩
  | .local _ .vmem, ⟨69, _⟩ => ⟨S1408x512, .f32⟩
  | .local _ .vmem, ⟨70, _⟩ => ⟨S1408x512, .f32⟩
  | .local _ .vmem, ⟨71, _⟩ => ⟨S1408x512, .bf16⟩
  | .local _ .vmem, ⟨72, _⟩ => ⟨S1408x512, .bf16⟩
  | .local _ .vmem, ⟨73, _⟩ => ⟨S2176x1408, .bf16⟩
  | .local _ .vmem, ⟨74, _⟩ => ⟨S2176x1408, .bf16⟩
  | .local _ .vmem, ⟨75, _⟩ => ⟨S2176x512, .bf16⟩
  | .local _ .vmem, ⟨76, _⟩ => ⟨S2176x512, .bf16⟩
  | .local _ .vmem, ⟨77, _⟩ => ⟨S1408x512, .f32⟩
  | .local _ .vmem, ⟨78, _⟩ => ⟨S1408x512, .f32⟩
  | .local _ .vmem, ⟨79, _⟩ => ⟨S1408x512, .bf16⟩
  | .local _ .vmem, ⟨80, _⟩ => ⟨S1408x512, .bf16⟩
  | .local _ .vmem, ⟨81, _⟩ => ⟨S2176x1024, .bf16⟩
  | .local _ .vmem, ⟨82, _⟩ => ⟨S2176x1024, .bf16⟩
  | .local _ .vmem, ⟨83, _⟩ => ⟨S2176x512, .bf16⟩
  | .local _ .vmem, ⟨84, _⟩ => ⟨S2176x512, .bf16⟩
  | .local _ .vmem, ⟨85, _⟩ => ⟨S1024x512, .f32⟩
  | .local _ .vmem, ⟨86, _⟩ => ⟨S1024x512, .f32⟩
  | .local _ .vmem, ⟨87, _⟩ => ⟨S1024x512, .bf16⟩
  | .local _ .vmem, ⟨88, _⟩ => ⟨S1024x512, .bf16⟩
  | .local _ .vmem, ⟨89, _⟩ => ⟨S2176x1024, .bf16⟩
  | .local _ .vmem, ⟨90, _⟩ => ⟨S256x1024, .bf16⟩
  | .local _ .vmem, ⟨91, _⟩ => ⟨S256x1024, .bf16⟩
  | .local _ .vmem, ⟨92, _⟩ => ⟨S2176x256, .f32⟩
  | .local _ .vmem, ⟨93, _⟩ => ⟨S2176x256, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | _, _ => false

abbrev semScoped : Fin 0 → Bool
  | ⟨_, h⟩ => absurd h (Nat.not_lt_zero _)

abbrev dmaSemScoped : Fin 94 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | _ => false

abbrev sig : RefSig :=
  ofTc nBuf bufTy 0 94 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v12_0 : Ref sig .tc := ⟨.hbm, 23, rfl⟩
abbrev main_v12_1 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v14_0 : Ref sig .tc := ⟨.hbm, 28, rfl⟩
abbrev main_v14_1 : Ref sig .tc := ⟨.hbm, 29, rfl⟩
abbrev main_v15_0 : Ref sig .tc := ⟨.hbm, 30, rfl⟩
abbrev main_v15_1 : Ref sig .tc := ⟨.hbm, 31, rfl⟩
abbrev main_v16_0 : Ref sig .tc := ⟨.hbm, 32, rfl⟩
abbrev main_v16_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg4_1 : Ref sig .tc := ⟨.vmem, 38, rfl⟩
abbrev cc4_stg5_0 : Ref sig .tc := ⟨.vmem, 39, rfl⟩
abbrev cc4_stg5_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg3_1 : Ref sig .tc := ⟨.vmem, 48, rfl⟩
abbrev cc6_stg0_0 : Ref sig .tc := ⟨.vmem, 49, rfl⟩
abbrev cc6_stg0_1 : Ref sig .tc := ⟨.vmem, 50, rfl⟩
abbrev cc6_stg1_0 : Ref sig .tc := ⟨.vmem, 51, rfl⟩
abbrev cc6_stg2_0 : Ref sig .tc := ⟨.vmem, 52, rfl⟩
abbrev cc6_stg2_1 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg4_1 : Ref sig .tc := ⟨.vmem, 56, rfl⟩
abbrev cc6_stg5_0 : Ref sig .tc := ⟨.vmem, 57, rfl⟩
abbrev cc6_stg6_0 : Ref sig .tc := ⟨.vmem, 58, rfl⟩
abbrev cc6_stg6_1 : Ref sig .tc := ⟨.vmem, 59, rfl⟩
abbrev cc6_stg7_0 : Ref sig .tc := ⟨.vmem, 60, rfl⟩
abbrev cc6_stg7_1 : Ref sig .tc := ⟨.vmem, 61, rfl⟩
abbrev cc6_stg8_0 : Ref sig .tc := ⟨.vmem, 62, rfl⟩
abbrev cc6_stg8_1 : Ref sig .tc := ⟨.vmem, 63, rfl⟩
abbrev cc6_stg9_0 : Ref sig .tc := ⟨.vmem, 64, rfl⟩
abbrev cc7_stg0_0 : Ref sig .tc := ⟨.vmem, 65, rfl⟩
abbrev cc7_stg0_1 : Ref sig .tc := ⟨.vmem, 66, rfl⟩
abbrev cc7_stg1_0 : Ref sig .tc := ⟨.vmem, 67, rfl⟩
abbrev cc7_stg1_1 : Ref sig .tc := ⟨.vmem, 68, rfl⟩
abbrev cc7_stg2_0 : Ref sig .tc := ⟨.vmem, 69, rfl⟩
abbrev cc7_stg2_1 : Ref sig .tc := ⟨.vmem, 70, rfl⟩
abbrev cc7_stg3_0 : Ref sig .tc := ⟨.vmem, 71, rfl⟩
abbrev cc7_stg3_1 : Ref sig .tc := ⟨.vmem, 72, rfl⟩
abbrev cc8_stg0_0 : Ref sig .tc := ⟨.vmem, 73, rfl⟩
abbrev cc8_stg0_1 : Ref sig .tc := ⟨.vmem, 74, rfl⟩
abbrev cc8_stg1_0 : Ref sig .tc := ⟨.vmem, 75, rfl⟩
abbrev cc8_stg1_1 : Ref sig .tc := ⟨.vmem, 76, rfl⟩
abbrev cc8_stg2_0 : Ref sig .tc := ⟨.vmem, 77, rfl⟩
abbrev cc8_stg2_1 : Ref sig .tc := ⟨.vmem, 78, rfl⟩
abbrev cc8_stg3_0 : Ref sig .tc := ⟨.vmem, 79, rfl⟩
abbrev cc8_stg3_1 : Ref sig .tc := ⟨.vmem, 80, rfl⟩
abbrev cc9_stg0_0 : Ref sig .tc := ⟨.vmem, 81, rfl⟩
abbrev cc9_stg0_1 : Ref sig .tc := ⟨.vmem, 82, rfl⟩
abbrev cc9_stg1_0 : Ref sig .tc := ⟨.vmem, 83, rfl⟩
abbrev cc9_stg1_1 : Ref sig .tc := ⟨.vmem, 84, rfl⟩
abbrev cc9_stg2_0 : Ref sig .tc := ⟨.vmem, 85, rfl⟩
abbrev cc9_stg2_1 : Ref sig .tc := ⟨.vmem, 86, rfl⟩
abbrev cc9_stg3_0 : Ref sig .tc := ⟨.vmem, 87, rfl⟩
abbrev cc9_stg3_1 : Ref sig .tc := ⟨.vmem, 88, rfl⟩
abbrev cc10_stg0_0 : Ref sig .tc := ⟨.vmem, 89, rfl⟩
abbrev cc10_stg1_0 : Ref sig .tc := ⟨.vmem, 90, rfl⟩
abbrev cc10_stg1_1 : Ref sig .tc := ⟨.vmem, 91, rfl⟩
abbrev cc10_stg2_0 : Ref sig .tc := ⟨.vmem, 92, rfl⟩
abbrev cc10_stg2_1 : Ref sig .tc := ⟨.vmem, 93, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc3_sem0_0 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc4_sem0_0 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc4_sem4_0 : DmaSem sig := 37
abbrev cc4_sem4_1 : DmaSem sig := 38
abbrev cc4_sem5_0 : DmaSem sig := 39
abbrev cc4_sem5_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem3_1 : DmaSem sig := 48
abbrev cc6_sem0_0 : DmaSem sig := 49
abbrev cc6_sem0_1 : DmaSem sig := 50
abbrev cc6_sem1_0 : DmaSem sig := 51
abbrev cc6_sem2_0 : DmaSem sig := 52
abbrev cc6_sem2_1 : DmaSem sig := 53
abbrev cc6_sem3_0 : DmaSem sig := 54
abbrev cc6_sem4_0 : DmaSem sig := 55
abbrev cc6_sem4_1 : DmaSem sig := 56
abbrev cc6_sem5_0 : DmaSem sig := 57
abbrev cc6_sem6_0 : DmaSem sig := 58
abbrev cc6_sem6_1 : DmaSem sig := 59
abbrev cc6_sem7_0 : DmaSem sig := 60
abbrev cc6_sem7_1 : DmaSem sig := 61
abbrev cc6_sem8_0 : DmaSem sig := 62
abbrev cc6_sem8_1 : DmaSem sig := 63
abbrev cc6_sem9_0 : DmaSem sig := 64
abbrev cc7_sem0_0 : DmaSem sig := 65
abbrev cc7_sem0_1 : DmaSem sig := 66
abbrev cc7_sem1_0 : DmaSem sig := 67
abbrev cc7_sem1_1 : DmaSem sig := 68
abbrev cc7_sem2_0 : DmaSem sig := 69
abbrev cc7_sem2_1 : DmaSem sig := 70
abbrev cc7_sem3_0 : DmaSem sig := 71
abbrev cc7_sem3_1 : DmaSem sig := 72
abbrev cc8_sem0_0 : DmaSem sig := 73
abbrev cc8_sem0_1 : DmaSem sig := 74
abbrev cc8_sem1_0 : DmaSem sig := 75
abbrev cc8_sem1_1 : DmaSem sig := 76
abbrev cc8_sem2_0 : DmaSem sig := 77
abbrev cc8_sem2_1 : DmaSem sig := 78
abbrev cc8_sem3_0 : DmaSem sig := 79
abbrev cc8_sem3_1 : DmaSem sig := 80
abbrev cc9_sem0_0 : DmaSem sig := 81
abbrev cc9_sem0_1 : DmaSem sig := 82
abbrev cc9_sem1_0 : DmaSem sig := 83
abbrev cc9_sem1_1 : DmaSem sig := 84
abbrev cc9_sem2_0 : DmaSem sig := 85
abbrev cc9_sem2_1 : DmaSem sig := 86
abbrev cc9_sem3_0 : DmaSem sig := 87
abbrev cc9_sem3_1 : DmaSem sig := 88
abbrev cc10_sem0_0 : DmaSem sig := 89
abbrev cc10_sem1_0 : DmaSem sig := 90
abbrev cc10_sem1_1 : DmaSem sig := 91
abbrev cc10_sem2_0 : DmaSem sig := 92
abbrev cc10_sem2_1 : DmaSem sig := 93

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S544x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S544x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![11, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 1 → Memref sig .tc .vmem S2176x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 2 → Memref sig .tc .vmem S256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S256x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2176x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2176x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S2176x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S2176x2816 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S2816x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2176x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S2176x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![11, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 1 → Memref sig .tc .vmem S2176x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, true]

abbrev stage4_1 : Fin 2 → Memref sig .tc .vmem S256x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2176x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S2176x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S2176x256 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S2176x256 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨2, ![2, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S2176x1408 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2176x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1408x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1408x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S272x2816 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2816x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S272x2816 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S2816x1024 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S272x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S272x1024 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S272x1024 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S272x1024 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 1 → Memref sig .tc .vmem S1x1024 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev grid7 : Pipeline.Grid := ⟨2, ![2, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S2176x1408 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S2176x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1408x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev stage7_3 : Fin 2 → Memref sig .tc .vmem S1408x512 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev grid8 : Pipeline.Grid := ⟨2, ![2, 2], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S2176x1408 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S2176x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1408x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev stage8_3 : Fin 2 → Memref sig .tc .vmem S1408x512 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true]

abbrev grid9 : Pipeline.Grid := ⟨2, ![2, 2], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S2176x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S2176x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S1024x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev stage9_3 : Fin 2 → Memref sig .tc .vmem S1024x512 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true]

abbrev grid10 : Pipeline.Grid := ⟨2, ![1, 8], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 1 → Memref sig .tc .vmem S2176x1024 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true, false]

abbrev stage10_1 : Fin 2 → Memref sig .tc .vmem S256x1024 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S2176x256 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]
-- ==== ReferenceIdeal.lean ====
abbrev S2176x1024 : Shape := ⟨2, ![2176, 1024]⟩
abbrev S2176x2048 : Shape := ⟨2, ![2176, 2048]⟩
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S2176 : Shape := ⟨1, ![2176]⟩
abbrev S2176x1 : Shape := ⟨2, ![2176, 1]⟩
abbrev S2176x2816 : Shape := ⟨2, ![2176, 2816]⟩
abbrev S1024 : Shape := ⟨1, ![1024]⟩
abbrev S1024x2048 : Shape := ⟨2, ![1024, 2048]⟩

abbrev nBuf : Space → Nat
  | .hbm => 93
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x2048, .bf16⟩
  | .hbm, ⟨2, _⟩ => ⟨S2048x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2176x1024, .f32⟩
  | .hbm, ⟨8, _⟩ => ⟨S2176x2048, .f32⟩
  | .hbm, ⟨9, _⟩ => ⟨S2176x1024, .f32⟩
  | .hbm, ⟨10, _⟩ => ⟨S2176x1024, .f32⟩
  | .hbm, ⟨11, _⟩ => ⟨S2176x1024, .f32⟩
  | .hbm, ⟨12, _⟩ => ⟨S_, .f32⟩
  | .hbm, ⟨13, _⟩ => ⟨S2176, .f32⟩
  | .hbm, ⟨14, _⟩ => ⟨S2176x1, .f32⟩
  | .hbm, ⟨15, _⟩ => ⟨S_, .f32⟩
  | .hbm, ⟨16, _⟩ => ⟨S2176x1, .f32⟩
  | .hbm, ⟨17, _⟩ => ⟨S2176x1, .f32⟩
  | .hbm, ⟨18, _⟩ => ⟨S_, .f32⟩
  | .hbm, ⟨19, _⟩ => ⟨S2176x1, .f32⟩
  | .hbm, ⟨20, _⟩ => ⟨S2176x1, .f32⟩
  | .hbm, ⟨21, _⟩ => ⟨S2176x1, .f32⟩
  | .hbm, ⟨22, _⟩ => ⟨S2176x1, .f32⟩
  | .hbm, ⟨23, _⟩ => ⟨S_, .f32⟩
  | .hbm, ⟨24, _⟩ => ⟨S2176x1, .f32⟩
  | .hbm, ⟨25, _⟩ => ⟨S2176x1, .f32⟩
  | .hbm, ⟨26, _⟩ => ⟨S2176x1024, .f32⟩
  | .hbm, ⟨27, _⟩ => ⟨S2176x1024, .f32⟩
  | .hbm, ⟨28, _⟩ => ⟨S2176x1024, .f32⟩
  | .hbm, ⟨29, _⟩ => ⟨S2176x1024, .f32⟩
  | .hbm, ⟨30, _⟩ => ⟨S2176x2816, .f32⟩
  | .hbm, ⟨31, _⟩ => ⟨S2176x2816, .f32⟩
  | .hbm, ⟨32, _⟩ => ⟨S2176x2816, .f32⟩
  | .hbm, ⟨33, _⟩ => ⟨S_, .f32⟩
  | .hbm, ⟨34, _⟩ => ⟨S2176x2816, .f32⟩
  | .hbm, ⟨35, _⟩ => ⟨S2176x2816, .f32⟩
  | .hbm, ⟨36, _⟩ => ⟨S_, .f32⟩
  | .hbm, ⟨37, _⟩ => ⟨S2176x2816, .f32⟩
  | .hbm, ⟨38, _⟩ => ⟨S2176x2816, .f32⟩
  | .hbm, ⟨39, _⟩ => ⟨S_, .f32⟩
  | .hbm, ⟨40, _⟩ => ⟨S2176x2816, .f32⟩
  | .hbm, ⟨41, _⟩ => ⟨S2176x2816, .f32⟩
  | .hbm, ⟨42, _⟩ => ⟨S2176x2816, .f32⟩
  | .hbm, ⟨43, _⟩ => ⟨S2176x2816, .f32⟩
  | .hbm, ⟨44, _⟩ => ⟨S2176x2816, .f32⟩
  | .hbm, ⟨45, _⟩ => ⟨S2176x2816, .f32⟩
  | .hbm, ⟨46, _⟩ => ⟨S2176x1024, .f32⟩
  | .hbm, ⟨47, _⟩ => ⟨S2176x1024, .f32⟩
  | .hbm, ⟨48, _⟩ => ⟨S2176x1024, .f32⟩
  | .hbm, ⟨49, _⟩ => ⟨S2176x1024, .f32⟩
  | .hbm, ⟨50, _⟩ => ⟨S1024x2816, .f32⟩
  | .hbm, ⟨51, _⟩ => ⟨S2816x1024, .f32⟩
  | .hbm, ⟨52, _⟩ => ⟨S2176x2816, .f32⟩
  | .hbm, ⟨53, _⟩ => ⟨S2176x2816, .f32⟩
  | .hbm, ⟨54, _⟩ => ⟨S2176x2816, .f32⟩
  | .hbm, ⟨55, _⟩ => ⟨S2816x1024, .f32⟩
  | .hbm, ⟨56, _⟩ => ⟨S1024x2816, .f32⟩
  | .hbm, ⟨57, _⟩ => ⟨S2176x1024, .f32⟩
  | .hbm, ⟨58, _⟩ => ⟨S2176x2816, .f32⟩
  | .hbm, ⟨59, _⟩ => ⟨S2176x2816, .f32⟩
  | .hbm, ⟨60, _⟩ => ⟨S2176x2816, .f32⟩
  | .hbm, ⟨61, _⟩ => ⟨S2176x2816, .f32⟩
  | .hbm, ⟨62, _⟩ => ⟨S2816x1024, .f32⟩
  | .hbm, ⟨63, _⟩ => ⟨S1024x2816, .f32⟩
  | .hbm, ⟨64, _⟩ => ⟨S2176x1024, .f32⟩
  | .hbm, ⟨65, _⟩ => ⟨S2176x1024, .f32⟩
  | .hbm, ⟨66, _⟩ => ⟨S2176x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S2176x1024, .f32⟩
  | .hbm, ⟨71, _⟩ => ⟨S2176x1024, .f32⟩
  | .hbm, ⟨72, _⟩ => ⟨S2176x1024, .f32⟩
  | .hbm, ⟨73, _⟩ => ⟨S_, .f32⟩
  | .hbm, ⟨74, _⟩ => ⟨S2176, .f32⟩
  | .hbm, ⟨75, _⟩ => ⟨S2176x1, .f32⟩
  | .hbm, ⟨76, _⟩ => ⟨S2176x1024, .f32⟩
  | .hbm, ⟨77, _⟩ => ⟨S2176x1024, .f32⟩
  | .hbm, ⟨78, _⟩ => ⟨S2176x1024, .f32⟩
  | .hbm, ⟨79, _⟩ => ⟨S2176x1, .f32⟩
  | .hbm, ⟨80, _⟩ => ⟨S_, .f32⟩
  | .hbm, ⟨81, _⟩ => ⟨S2176x1, .f32⟩
  | .hbm, ⟨82, _⟩ => ⟨S2176x1, .f32⟩
  | .hbm, ⟨83, _⟩ => ⟨S_, .f32⟩
  | .hbm, ⟨84, _⟩ => ⟨S2176, .f32⟩
  | .hbm, ⟨85, _⟩ => ⟨S2176x1024, .f32⟩
  | .hbm, ⟨86, _⟩ => ⟨S2176x1024, .f32⟩
  | .hbm, ⟨87, _⟩ => ⟨S2176x1024, .f32⟩
  | .hbm, ⟨88, _⟩ => ⟨S2176x1024, .f32⟩
  | .hbm, ⟨89, _⟩ => ⟨S2176x1024, .f32⟩
  | .hbm, ⟨90, _⟩ => ⟨S1024x2048, .f32⟩
  | .hbm, ⟨91, _⟩ => ⟨S2048x1024, .f32⟩
  | .hbm, ⟨92, _⟩ => ⟨S2176x2048, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v19_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v19_1 : Ref sig .tc := ⟨.hbm, 42, rfl⟩
abbrev main_v19_0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_3 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_4 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_5 : Ref sig .tc := ⟨.hbm, 80, rfl⟩
abbrev main_v51 : Ref sig .tc := ⟨.hbm, 81, rfl⟩
abbrev main_v52 : Ref sig .tc := ⟨.hbm, 82, rfl⟩
abbrev main_cst_6 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== Kernel2.lean ====
abbrev S2176x1024 : Shape := ⟨2, ![2176, 1024]⟩
abbrev S1x1024 : Shape := ⟨2, ![1, 1024]⟩
abbrev S1024x4624 : Shape := ⟨2, ![1024, 4624]⟩
abbrev S2176x512 : Shape := ⟨2, ![2176, 512]⟩
abbrev S2176x128 : Shape := ⟨2, ![2176, 128]⟩
abbrev S_ : Shape := ⟨0, ![]⟩
abbrev S2176 : Shape := ⟨1, ![2176]⟩
abbrev S2176x1 : Shape := ⟨2, ![2176, 1]⟩
abbrev S1024x1024 : Shape := ⟨2, ![1024, 1024]⟩
abbrev S1024x512 : Shape := ⟨2, ![1024, 512]⟩
abbrev S512x1024 : Shape := ⟨2, ![512, 1024]⟩
abbrev S1024x16 : Shape := ⟨2, ![1024, 16]⟩
abbrev S16x1024 : Shape := ⟨2, ![16, 1024]⟩
abbrev S128x1024 : Shape := ⟨2, ![128, 1024]⟩
abbrev S512x512 : Shape := ⟨2, ![512, 512]⟩
abbrev S128x512 : Shape := ⟨2, ![128, 512]⟩
abbrev S272x1024 : Shape := ⟨2, ![272, 1024]⟩
abbrev S272x512 : Shape := ⟨2, ![272, 512]⟩
abbrev S272x128 : Shape := ⟨2, ![272, 128]⟩
abbrev S272 : Shape := ⟨1, ![272]⟩
abbrev S272x1 : Shape := ⟨2, ![272, 1]⟩
abbrev S1024 : Shape := ⟨1, ![1024]⟩

abbrev nBuf : Space → Nat
  | .hbm => 70
  | .vmem => 70
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S1024x4624, .f32⟩
  | .hbm, ⟨3, _⟩ => ⟨S2176x1024, .bf16⟩
  | .hbm, ⟨4, _⟩ => ⟨S2176x1024, .bf16⟩
  | .hbm, ⟨5, _⟩ => ⟨S2176x512, .bf16⟩
  | .hbm, ⟨6, _⟩ => ⟨S2176x128, .bf16⟩
  | .hbm, ⟨7, _⟩ => ⟨S2176x1024, .bf16⟩
  | .hbm, ⟨8, _⟩ => ⟨S2176x1024, .bf16⟩
  | .hbm, ⟨9, _⟩ => ⟨S2176x1024, .f32⟩
  | .hbm, ⟨10, _⟩ => ⟨S2176x1024, .f32⟩
  | .hbm, ⟨11, _⟩ => ⟨S_, .f32⟩
  | .hbm, ⟨12, _⟩ => ⟨S2176, .f32⟩
  | .hbm, ⟨13, _⟩ => ⟨S2176x1, .f32⟩
  | .hbm, ⟨14, _⟩ => ⟨S_, .f32⟩
  | .hbm, ⟨15, _⟩ => ⟨S2176x1, .f32⟩
  | .hbm, ⟨16, _⟩ => ⟨S2176x1, .f32⟩
  | .hbm, ⟨17, _⟩ => ⟨S_, .f32⟩
  | .hbm, ⟨18, _⟩ => ⟨S2176x1, .f32⟩
  | .hbm, ⟨19, _⟩ => ⟨S2176x1, .f32⟩
  | .hbm, ⟨20, _⟩ => ⟨S2176x1, .f32⟩
  | .hbm, ⟨21, _⟩ => ⟨S2176x1024, .f32⟩
  | .hbm, ⟨22, _⟩ => ⟨S2176x1024, .f32⟩
  | .hbm, ⟨23, _⟩ => ⟨S2176x1024, .f32⟩
  | .hbm, ⟨24, _⟩ => ⟨S2176x1024, .f32⟩
  | .hbm, ⟨25, _⟩ => ⟨S2176x1024, .bf16⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x512, .f32⟩
  | .hbm, ⟨31, _⟩ => ⟨S512x1024, .f32⟩
  | .hbm, ⟨32, _⟩ => ⟨S1024x16, .f32⟩
  | .hbm, ⟨33, _⟩ => ⟨S16x1024, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .i32⟩
  | .hbm, ⟨39, _⟩ => ⟨S_, .f32⟩
  | .hbm, ⟨40, _⟩ => ⟨S128x1024, .f32⟩
  | .hbm, ⟨41, _⟩ => ⟨S1024x1024, .bf16⟩
  | .hbm, ⟨42, _⟩ => ⟨S1024x1024, .bf16⟩
  | .hbm, ⟨43, _⟩ => ⟨S512x1024, .bf16⟩
  | .hbm, ⟨44, _⟩ => ⟨S128x1024, .bf16⟩
  | .hbm, ⟨45, _⟩ => ⟨S1024x1024, .bf16⟩
  | .hbm, ⟨46, _⟩ => ⟨S1024x1024, .bf16⟩
  | .hbm, ⟨47, _⟩ => ⟨S1024x1024, .f32⟩
  | .hbm, ⟨48, _⟩ => ⟨S1024x1024, .bf16⟩
  | .hbm, ⟨49, _⟩ => ⟨S1024x1024, .f32⟩
  | .hbm, ⟨50, _⟩ => ⟨S1024x1024, .bf16⟩
  | .hbm, ⟨51, _⟩ => ⟨S512x1024, .f32⟩
  | .hbm, ⟨52, _⟩ => ⟨S512x1024, .bf16⟩
  | .hbm, ⟨53, _⟩ => ⟨S128x1024, .f32⟩
  | .hbm, ⟨54, _⟩ => ⟨S128x1024, .bf16⟩
  | .hbm, ⟨55, _⟩ => ⟨S1024x1024, .f32⟩
  | .hbm, ⟨56, _⟩ => ⟨S1024x1024, .bf16⟩
  | .hbm, ⟨57, _⟩ => ⟨S1024x1024, .f32⟩
  | .hbm, ⟨58, _⟩ => ⟨S1024x1024, .bf16⟩
  | .hbm, ⟨59, _⟩ => ⟨S2176x1024, .f32⟩
  | .hbm, ⟨60, _⟩ => ⟨S2176x1024, .bf16⟩
  | .hbm, ⟨61, _⟩ => ⟨S1x1024, .f32⟩
  | .hbm, ⟨62, _⟩ => ⟨S16x1024, .f32⟩
  | .hbm, ⟨63, _⟩ => ⟨S1024x1024, .f32⟩
  | .hbm, ⟨64, _⟩ => ⟨S1024x1024, .f32⟩
  | .hbm, ⟨65, _⟩ => ⟨S1024x512, .f32⟩
  | .hbm, ⟨66, _⟩ => ⟨S1024x16, .f32⟩
  | .hbm, ⟨67, _⟩ => ⟨S1024x1024, .f32⟩
  | .hbm, ⟨68, _⟩ => ⟨S1024x1024, .f32⟩
  | .hbm, ⟨69, _⟩ => ⟨S1024x4624, .f32⟩
  | .local _ .vmem, ⟨0, _⟩ => ⟨S2176x1024, .bf16⟩
  | .local _ .vmem, ⟨1, _⟩ => ⟨S2176x512, .bf16⟩
  | .local _ .vmem, ⟨2, _⟩ => ⟨S2176x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | .local _ .vmem, ⟨7, _⟩ => ⟨S2176x1024, .bf16⟩
  | .local _ .vmem, ⟨8, _⟩ => ⟨S2176x512, .bf16⟩
  | .local _ .vmem, ⟨9, _⟩ => ⟨S2176x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S2176x512, .bf16⟩
  | .local _ .vmem, ⟨15, _⟩ => ⟨S2176x512, .bf16⟩
  | .local _ .vmem, ⟨16, _⟩ => ⟨S2176x512, .bf16⟩
  | .local _ .vmem, ⟨17, _⟩ => ⟨S512x512, .f32⟩
  | .local _ .vmem, ⟨18, _⟩ => ⟨S512x512, .f32⟩
  | .local _ .vmem, ⟨19, _⟩ => ⟨S512x512, .bf16⟩
  | .local _ .vmem, ⟨20, _⟩ => ⟨S512x512, .bf16⟩
  | .local _ .vmem, ⟨21, _⟩ => ⟨S2176x128, .bf16⟩
  | .local _ .vmem, ⟨22, _⟩ => ⟨S2176x512, .bf16⟩
  | .local _ .vmem, ⟨23, _⟩ => ⟨S2176x512, .bf16⟩
  | .local _ .vmem, ⟨24, _⟩ => ⟨S128x512, .f32⟩
  | .local _ .vmem, ⟨25, _⟩ => ⟨S128x512, .f32⟩
  | .local _ .vmem, ⟨26, _⟩ => ⟨S128x512, .bf16⟩
  | .local _ .vmem, ⟨27, _⟩ => ⟨S128x512, .bf16⟩
  | .local _ .vmem, ⟨28, _⟩ => ⟨S2176x1024, .bf16⟩
  | .local _ .vmem, ⟨29, _⟩ => ⟨S2176x512, .bf16⟩
  | .local _ .vmem, ⟨30, _⟩ => ⟨S2176x512, .bf16⟩
  | .local _ .vmem, ⟨31, _⟩ => ⟨S1024x512, .f32⟩
  | .local _ .vmem, ⟨32, _⟩ => ⟨S1024x512, .f32⟩
  | .local _ .vmem, ⟨33, _⟩ => ⟨S1024x512, .bf16⟩
  | .local _ .vmem, ⟨34, _⟩ => ⟨S1024x512, .bf16⟩
  | .local _ .vmem, ⟨35, _⟩ => ⟨S2176x1024, .bf16⟩
  | .local _ .vmem, ⟨36, _⟩ => ⟨S2176x512, .bf16⟩
  | .local _ .vmem, ⟨37, _⟩ => ⟨S2176x512, .bf16⟩
  | .local _ .vmem, ⟨38, _⟩ => ⟨S1024x512, .f32⟩
  | .local _ .vmem, ⟨39, _⟩ => ⟨S1024x512, .f32⟩
  | .local _ .vmem, ⟨40, _⟩ => ⟨S1024x512, .bf16⟩
  | .local _ .vmem, ⟨41, _⟩ => ⟨S1024x512, .bf16⟩
  | .local _ .vmem, ⟨42, _⟩ => ⟨S272x1024, .bf16⟩
  | .local _ .vmem, ⟨43, _⟩ => ⟨S272x1024, .bf16⟩
  | .local _ .vmem, ⟨44, _⟩ => ⟨S1024x1024, .bf16⟩
  | .local _ .vmem, ⟨45, _⟩ => ⟨S272x1024, .bf16⟩
  | .local _ .vmem, ⟨46, _⟩ => ⟨S272x1024, .bf16⟩
  | .local _ .vmem, ⟨47, _⟩ => ⟨S1024x1024, .bf16⟩
  | .local _ .vmem, ⟨48, _⟩ => ⟨S272x512, .bf16⟩
  | .local _ .vmem, ⟨49, _⟩ => ⟨S272x512, .bf16⟩
  | .local _ .vmem, ⟨50, _⟩ => ⟨S512x1024, .bf16⟩
  | .local _ .vmem, ⟨51, _⟩ => ⟨S272x128, .bf16⟩
  | .local _ .vmem, ⟨52, _⟩ => ⟨S272x128, .bf16⟩
  | .local _ .vmem, ⟨53, _⟩ => ⟨S128x1024, .bf16⟩
  | .local _ .vmem, ⟨54, _⟩ => ⟨S272x1024, .bf16⟩
  | .local _ .vmem, ⟨55, _⟩ => ⟨S272x1024, .bf16⟩
  | .local _ .vmem, ⟨56, _⟩ => ⟨S1024x1024, .bf16⟩
  | .local _ .vmem, ⟨57, _⟩ => ⟨S272x1024, .bf16⟩
  | .local _ .vmem, ⟨58, _⟩ => ⟨S272x1024, .bf16⟩
  | .local _ .vmem, ⟨59, _⟩ => ⟨S1024x1024, .bf16⟩
  | .local _ .vmem, ⟨60, _⟩ => ⟨S272x1024, .f32⟩
  | .local _ .vmem, ⟨61, _⟩ => ⟨S272x1024, .f32⟩
  | .local _ .vmem, ⟨62, _⟩ => ⟨S1x1024, .f32⟩
  | .local _ .vmem, ⟨63, _⟩ => ⟨S272x1024, .f32⟩
  | .local _ .vmem, ⟨64, _⟩ => ⟨S272x1024, .f32⟩
  | .local _ .vmem, ⟨65, _⟩ => ⟨S272x1024, .f32⟩
  | .local _ .vmem, ⟨66, _⟩ => ⟨S272x1024, .f32⟩
  | .local _ .vmem, ⟨67, _⟩ => ⟨S272x1024, .bf16⟩
  | .local _ .vmem, ⟨68, _⟩ => ⟨S272x1024, .bf16⟩
  | .local _ .vmem, ⟨69, _⟩ => ⟨S1x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v33_0 : Ref sig .tc := ⟨.hbm, 49, rfl⟩
abbrev main_v33_1 : Ref sig .tc := ⟨.hbm, 50, rfl⟩
abbrev main_v34_0 : Ref sig .tc := ⟨.hbm, 51, rfl⟩
abbrev main_v34_1 : Ref sig .tc := ⟨.hbm, 52, rfl⟩
abbrev main_v35_0 : Ref sig .tc := ⟨.hbm, 53, rfl⟩
abbrev main_v35_1 : Ref sig .tc := ⟨.hbm, 54, rfl⟩
abbrev main_v36_0 : Ref sig .tc := ⟨.hbm, 55, rfl⟩
abbrev main_v36_1 : Ref sig .tc := ⟨.hbm, 56, rfl⟩
abbrev main_v37_0 : Ref sig .tc := ⟨.hbm, 57, rfl⟩
abbrev main_v37_1 : Ref sig .tc := ⟨.hbm, 58, rfl⟩
abbrev main_v38_0 : Ref sig .tc := ⟨.hbm, 59, rfl⟩
abbrev main_v38_1 : Ref sig .tc := ⟨.hbm, 60, rfl⟩
abbrev main_v38_2 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg4_1 : Ref sig .tc := ⟨.vmem, 49, rfl⟩
abbrev cc6_stg5_0 : Ref sig .tc := ⟨.vmem, 50, rfl⟩
abbrev cc6_stg6_0 : Ref sig .tc := ⟨.vmem, 51, rfl⟩
abbrev cc6_stg6_1 : Ref sig .tc := ⟨.vmem, 52, rfl⟩
abbrev cc6_stg7_0 : Ref sig .tc := ⟨.vmem, 53, rfl⟩
abbrev cc6_stg8_0 : Ref sig .tc := ⟨.vmem, 54, rfl⟩
abbrev cc6_stg8_1 : Ref sig .tc := ⟨.vmem, 55, rfl⟩
abbrev cc6_stg9_0 : Ref sig .tc := ⟨.vmem, 56, rfl⟩
abbrev cc6_stg10_0 : Ref sig .tc := ⟨.vmem, 57, rfl⟩
abbrev cc6_stg10_1 : Ref sig .tc := ⟨.vmem, 58, rfl⟩
abbrev cc6_stg11_0 : Ref sig .tc := ⟨.vmem, 59, rfl⟩
abbrev cc6_stg12_0 : Ref sig .tc := ⟨.vmem, 60, rfl⟩
abbrev cc6_stg12_1 : Ref sig .tc := ⟨.vmem, 61, rfl⟩
abbrev cc6_stg13_0 : Ref sig .tc := ⟨.vmem, 62, rfl⟩
abbrev cc6_stg14_0 : Ref sig .tc := ⟨.vmem, 63, rfl⟩
abbrev cc6_stg14_1 : Ref sig .tc := ⟨.vmem, 64, rfl⟩
abbrev cc6_stg15_0 : Ref sig .tc := ⟨.vmem, 65, rfl⟩
abbrev cc6_stg15_1 : Ref sig .tc := ⟨.vmem, 66, rfl⟩
abbrev cc6_stg16_0 : Ref sig .tc := ⟨.vmem, 67, rfl⟩
abbrev cc6_stg16_1 : Ref sig .tc := ⟨.vmem, 68, rfl⟩
abbrev cc6_stg17_0 : Ref sig .tc := ⟨.vmem, 69, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc6_sem3_0 : DmaSem sig := 47
abbrev cc6_sem4_0 : DmaSem sig := 48
abbrev cc6_sem4_1 : DmaSem sig := 49
abbrev cc6_sem5_0 : DmaSem sig := 50
abbrev cc6_sem6_0 : DmaSem sig := 51
abbrev cc6_sem6_1 : DmaSem sig := 52
abbrev cc6_sem7_0 : DmaSem sig := 53
abbrev cc6_sem8_0 : DmaSem sig := 54
abbrev cc6_sem8_1 : DmaSem sig := 55
abbrev cc6_sem9_0 : DmaSem sig := 56
abbrev cc6_sem10_0 : DmaSem sig := 57
abbrev cc6_sem10_1 : DmaSem sig := 58
abbrev cc6_sem11_0 : DmaSem sig := 59
abbrev cc6_sem12_0 : DmaSem sig := 60
abbrev cc6_sem12_1 : DmaSem sig := 61
abbrev cc6_sem13_0 : DmaSem sig := 62
abbrev cc6_sem14_0 : DmaSem sig := 63
abbrev cc6_sem14_1 : DmaSem sig := 64
abbrev cc6_sem15_0 : DmaSem sig := 65
abbrev cc6_sem15_1 : DmaSem sig := 66
abbrev cc6_sem16_0 : DmaSem sig := 67
abbrev cc6_sem16_1 : DmaSem sig := 68
abbrev cc6_sem17_0 : DmaSem sig := 69

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2176x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S2176x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![1, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S2176x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S2176x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![1, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S2176x128 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S2176x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S128x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S128x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![1, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S2176x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S2176x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1024x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![1, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S2176x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S2176x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1024x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_11 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_13 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_14 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_15 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_16 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_17 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S272x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S272x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1024x1024 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S272x512 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S512x1024 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S272x128 .bf16 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S128x1024 .bf16 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S272x1024 .bf16 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev stage6_9 : Fin 1 → Memref sig .tc .vmem S1024x1024 .bf16 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 2 → Memref sig .tc .vmem S272x1024 .bf16 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev stage6_11 : Fin 1 → Memref sig .tc .vmem S1024x1024 .bf16 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 2 → Memref sig .tc .vmem S272x1024 .f32 := fun | 0 => Memref.whole cc6_stg12_0 | 1 => Memref.whole cc6_stg12_1 | ⟨_ + 2, h⟩ => absurd h (Nat.not_lt.2 (Nat.le_add_left _ _))
abbrev sem6_12 : Fin 2 → DmaSem sig := fun | 0 => cc6_sem12_0 | 1 => cc6_sem12_1 | ⟨_ + 2, h⟩ => absurd h (Nat.not_lt.2 (Nat.le_add_left _ _))
abbrev reads6_12 : Fin grid6.rank → Bool := ![true]

abbrev stage6_13 : Fin 1 → Memref sig .tc .vmem S1x1024 .f32 := fun | 0 => Memref.whole cc6_stg13_0 | ⟨_ + 1, h⟩ => absurd h (Nat.not_lt.2 (Nat.le_add_left _ _))
abbrev sem6_13 : Fin 1 → DmaSem sig := fun | 0 => cc6_sem13_0 | ⟨_ + 1, h⟩ => absurd h (Nat.not_lt.2 (Nat.le_add_left _ _))
abbrev reads6_13 : Fin grid6.rank → Bool := ![false]

abbrev stage6_14 : Fin 2 → Memref sig .tc .vmem S272x1024 .f32 := fun | 0 => Memref.whole cc6_stg14_0 | 1 => Memref.whole cc6_stg14_1 | ⟨_ + 2, h⟩ => absurd h (Nat.not_lt.2 (Nat.le_add_left _ _))
abbrev sem6_14 : Fin 2 → DmaSem sig := fun | 0 => cc6_sem14_0 | 1 => cc6_sem14_1 | ⟨_ + 2, h⟩ => absurd h (Nat.not_lt.2 (Nat.le_add_left _ _))
abbrev reads6_14 : Fin grid6.rank → Bool := ![true]

abbrev stage6_15 : Fin 2 → Memref sig .tc .vmem S272x1024 .f32 := fun | 0 => Memref.whole cc6_stg15_0 | 1 => Memref.whole cc6_stg15_1 | ⟨_ + 2, h⟩ => absurd h (Nat.not_lt.2 (Nat.le_add_left _ _))
abbrev sem6_15 : Fin 2 → DmaSem sig := fun | 0 => cc6_sem15_0 | 1 => cc6_sem15_1 | ⟨_ + 2, h⟩ => absurd h (Nat.not_lt.2 (Nat.le_add_left _ _))
abbrev reads6_15 : Fin grid6.rank → Bool := ![true]

abbrev stage6_16 : Fin 2 → Memref sig .tc .vmem S272x1024 .bf16 := fun | 0 => Memref.whole cc6_stg16_0 | 1 => Memref.whole cc6_stg16_1 | ⟨_ + 2, h⟩ => absurd h (Nat.not_lt.2 (Nat.le_add_left _ _))
abbrev sem6_16 : Fin 2 → DmaSem sig := fun | 0 => cc6_sem16_0 | 1 => cc6_sem16_1 | ⟨_ + 2, h⟩ => absurd h (Nat.not_lt.2 (Nat.le_add_left _ _))
abbrev reads6_16 : Fin grid6.rank → Bool := ![true]

abbrev stage6_17 : Fin 1 → Memref sig .tc .vmem S1x1024 .f32 := fun | 0 => Memref.whole cc6_stg17_0 | ⟨_ + 1, h⟩ => absurd h (Nat.not_lt.2 (Nat.le_add_left _ _))
abbrev sem6_17 : Fin 1 → DmaSem sig := fun | 0 => cc6_sem17_0 | ⟨_ + 1, h⟩ => absurd h (Nat.not_lt.2 (Nat.le_add_left _ _))
abbrev reads6_17 : Fin grid6.rank → Bool := ![false]
-- ==== Reference2Ideal.lean ====
abbrev S2176x1024 : Shape := ⟨2, ![2176, 1024]⟩
abbrev S1x1024 : Shape := ⟨2, ![1, 1024]⟩
abbrev S1024x4624 : Shape := ⟨2, ![1024, 4624]⟩
abbrev S2176x512 : Shape := ⟨2, ![2176, 512]⟩
abbrev S2176x128 : Shape := ⟨2, ![2176, 128]⟩
abbrev S_ : Shape := ⟨0, ![]⟩
abbrev S2176 : Shape := ⟨1, ![2176]⟩
abbrev S2176x1 : Shape := ⟨2, ![2176, 1]⟩
abbrev S2176x4624 : Shape := ⟨2, ![2176, 4624]⟩
abbrev S2176x1536 : Shape := ⟨2, ![2176, 1536]⟩
abbrev S2176x16 : Shape := ⟨2, ![2176, 16]⟩
abbrev S4624x1024 : Shape := ⟨2, ![4624, 1024]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S1024x4624, .f32⟩
  | .hbm, ⟨3, _⟩ => ⟨S2176x1024, .bf16⟩
  | .hbm, ⟨4, _⟩ => ⟨S2176x1024, .bf16⟩
  | .hbm, ⟨5, _⟩ => ⟨S2176x512, .bf16⟩
  | .hbm, ⟨6, _⟩ => ⟨S2176x128, .bf16⟩
  | .hbm, ⟨7, _⟩ => ⟨S2176x1024, .bf16⟩
  | .hbm, ⟨8, _⟩ => ⟨S2176x1024, .bf16⟩
  | .hbm, ⟨9, _⟩ => ⟨S2176x1024, .f32⟩
  | .hbm, ⟨10, _⟩ => ⟨S2176x1024, .f32⟩
  | .hbm, ⟨11, _⟩ => ⟨S2176x1024, .f32⟩
  | .hbm, ⟨12, _⟩ => ⟨S2176x512, .f32⟩
  | .hbm, ⟨13, _⟩ => ⟨S2176x128, .f32⟩
  | .hbm, ⟨14, _⟩ => ⟨S2176x1024, .f32⟩
  | .hbm, ⟨15, _⟩ => ⟨S2176x1024, .f32⟩
  | .hbm, ⟨16, _⟩ => ⟨S2176x1024, .f32⟩
  | .hbm, ⟨17, _⟩ => ⟨S_, .f32⟩
  | .hbm, ⟨18, _⟩ => ⟨S2176, .f32⟩
  | .hbm, ⟨19, _⟩ => ⟨S2176x1, .f32⟩
  | .hbm, ⟨20, _⟩ => ⟨S_, .f32⟩
  | .hbm, ⟨21, _⟩ => ⟨S2176x1, .f32⟩
  | .hbm, ⟨22, _⟩ => ⟨S2176x1, .f32⟩
  | .hbm, ⟨23, _⟩ => ⟨S_, .f32⟩
  | .hbm, ⟨24, _⟩ => ⟨S2176x1, .f32⟩
  | .hbm, ⟨25, _⟩ => ⟨S2176x1, .f32⟩
  | .hbm, ⟨26, _⟩ => ⟨S2176x1, .f32⟩
  | .hbm, ⟨27, _⟩ => ⟨S2176x1, .f32⟩
  | .hbm, ⟨28, _⟩ => ⟨S_, .f32⟩
  | .hbm, ⟨29, _⟩ => ⟨S2176x1, .f32⟩
  | .hbm, ⟨30, _⟩ => ⟨S2176x1, .f32⟩
  | .hbm, ⟨31, _⟩ => ⟨S2176x1024, .f32⟩
  | .hbm, ⟨32, _⟩ => ⟨S2176x1024, .f32⟩
  | .hbm, ⟨33, _⟩ => ⟨S2176x1024, .f32⟩
  | .hbm, ⟨34, _⟩ => ⟨S2176x1024, .f32⟩
  | .hbm, ⟨35, _⟩ => ⟨S2176x4624, .f32⟩
  | .hbm, ⟨36, _⟩ => ⟨S2176x1024, .f32⟩
  | .hbm, ⟨37, _⟩ => ⟨S2176x1536, .f32⟩
  | .hbm, ⟨38, _⟩ => ⟨S2176x16, .f32⟩
  | .hbm, ⟨39, _⟩ => ⟨S2176x1024, .f32⟩
  | .hbm, ⟨40, _⟩ => ⟨S2176x1024, .f32⟩
  | .hbm, ⟨41, _⟩ => ⟨S2176x1536, .f32⟩
  | .hbm, ⟨42, _⟩ => ⟨S2176x16, .f32⟩
  | .hbm, ⟨43, _⟩ => ⟨S2176x4624, .f32⟩
  | .hbm, ⟨44, _⟩ => ⟨S4624x1024, .f32⟩
  | .hbm, ⟨45, _⟩ => ⟨S1024x4624, .f32⟩
  | .hbm, ⟨46, _⟩ => ⟨S2176x1024, .f32⟩
  | .hbm, ⟨47, _⟩ => ⟨S2176x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S2176x1024, .f32⟩
  | .hbm, ⟨52, _⟩ => ⟨S2176x1024, .f32⟩
  | .hbm, ⟨53, _⟩ => ⟨S2176x1024, .f32⟩
  | .hbm, ⟨54, _⟩ => ⟨S_, .f32⟩
  | .hbm, ⟨55, _⟩ => ⟨S2176, .f32⟩
  | .hbm, ⟨56, _⟩ => ⟨S2176x1, .f32⟩
  | .hbm, ⟨57, _⟩ => ⟨S2176x1024, .f32⟩
  | .hbm, ⟨58, _⟩ => ⟨S2176x1024, .f32⟩
  | .hbm, ⟨59, _⟩ => ⟨S2176x1024, .f32⟩
  | .hbm, ⟨60, _⟩ => ⟨S2176x1, .f32⟩
  | .hbm, ⟨61, _⟩ => ⟨S_, .f32⟩
  | .hbm, ⟨62, _⟩ => ⟨S2176x1, .f32⟩
  | .hbm, ⟨63, _⟩ => ⟨S2176x1, .f32⟩
  | .hbm, ⟨64, _⟩ => ⟨S_, .f32⟩
  | .hbm, ⟨65, _⟩ => ⟨S2176, .f32⟩
  | .hbm, ⟨66, _⟩ => ⟨S2176x1024, .f32⟩
  | .hbm, ⟨67, _⟩ => ⟨S2176x1024, .f32⟩
  | .hbm, ⟨68, _⟩ => ⟨S2176x1024, .f32⟩
  | .hbm, ⟨69, _⟩ => ⟨S2176x1024, .f32⟩
  | .hbm, ⟨70, _⟩ => ⟨S2176x1024, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel3.lean ====
abbrev S2048x1024 : Shape := ⟨2, ![2048, 1024]⟩
abbrev S16x1024 : Shape := ⟨2, ![16, 1024]⟩
abbrev S2176x1024 : Shape := ⟨2, ![2176, 1024]⟩
abbrev S128x1024 : Shape := ⟨2, ![128, 1024]⟩
abbrev S112x1024 : Shape := ⟨2, ![112, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S16x1024, .f32⟩
  | .hbm, ⟨2, _⟩ => ⟨S2176x1024, .f32⟩
  | .local _ .vmem, ⟨0, _⟩ => ⟨S128x1024, .f32⟩
  | .local _ .vmem, ⟨1, _⟩ => ⟨S128x1024, .f32⟩
  | .local _ .vmem, ⟨2, _⟩ => ⟨S16x1024, .f32⟩
  | .local _ .vmem, ⟨3, _⟩ => ⟨S128x1024, .f32⟩
  | .local _ .vmem, ⟨4, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S2048x1024 : Shape := ⟨2, ![2048, 1024]⟩
abbrev S16x1024 : Shape := ⟨2, ![16, 1024]⟩
abbrev S_ : Shape := ⟨0, ![]⟩
abbrev S112x1024 : Shape := ⟨2, ![112, 1024]⟩
abbrev S2176x1024 : Shape := ⟨2, ![2176, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S16x1024, .f32⟩
  | .hbm, ⟨2, _⟩ => ⟨S_, .f32⟩
  | .hbm, ⟨3, _⟩ => ⟨S112x1024, .f32⟩
  | .hbm, ⟨4, _⟩ => ⟨S2176x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S2176x1024 : Shape := ⟨2, ![2176, 1024]⟩
abbrev S4x1024 : Shape := ⟨2, ![4, 1024]⟩
abbrev S1x1024 : Shape := ⟨2, ![1, 1024]⟩
abbrev S2176x512 : Shape := ⟨2, ![2176, 512]⟩
abbrev S4x512 : Shape := ⟨2, ![4, 512]⟩
abbrev S1x512 : Shape := ⟨2, ![1, 512]⟩
abbrev S8x512 : Shape := ⟨2, ![8, 512]⟩
abbrev S128x512 : Shape := ⟨2, ![128, 512]⟩
abbrev S136x512 : Shape := ⟨2, ![136, 512]⟩
abbrev S512 : Shape := ⟨1, ![512]⟩
abbrev S128x1 : Shape := ⟨2, ![128, 1]⟩

abbrev nBuf : Space → Nat
  | .hbm => 7
  | .vmem => 14
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S4x1024, .f32⟩
  | .hbm, ⟨3, _⟩ => ⟨S1x1024, .f32⟩
  | .hbm, ⟨4, _⟩ => ⟨S2176x1024, .bf16⟩
  | .hbm, ⟨5, _⟩ => ⟨S4x1024, .f32⟩
  | .hbm, ⟨6, _⟩ => ⟨S1x1024, .f32⟩
  | .local _ .vmem, ⟨0, _⟩ => ⟨S2176x512, .f32⟩
  | .local _ .vmem, ⟨1, _⟩ => ⟨S2176x512, .f32⟩
  | .local _ .vmem, ⟨2, _⟩ => ⟨S2176x512, .f32⟩
  | .local _ .vmem, ⟨3, _⟩ => ⟨S2176x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S2176x512, .bf16⟩
  | .local _ .vmem, ⟨9, _⟩ => ⟨S2176x512, .bf16⟩
  | .local _ .vmem, ⟨10, _⟩ => ⟨S4x512, .f32⟩
  | .local _ .vmem, ⟨11, _⟩ => ⟨S4x512, .f32⟩
  | .local _ .vmem, ⟨12, _⟩ => ⟨S1x512, .f32⟩
  | .local _ .vmem, ⟨13, _⟩ => ⟨S1x512, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S2176x1024 : Shape := ⟨2, ![2176, 1024]⟩
abbrev S4x1024 : Shape := ⟨2, ![4, 1024]⟩
abbrev S1x1024 : Shape := ⟨2, ![1, 1024]⟩
abbrev S_ : Shape := ⟨0, ![]⟩
abbrev S3x1024 : Shape := ⟨2, ![3, 1024]⟩
abbrev S2179x1024 : Shape := ⟨2, ![2179, 1024]⟩
abbrev S2176 : Shape := ⟨1, ![2176]⟩
abbrev S2176x1 : Shape := ⟨2, ![2176, 1]⟩
abbrev S1024 : Shape := ⟨1, ![1024]⟩

abbrev nBuf : Space → Nat
  | .hbm => 90
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S4x1024, .f32⟩
  | .hbm, ⟨3, _⟩ => ⟨S1x1024, .f32⟩
  | .hbm, ⟨4, _⟩ => ⟨S_, .f32⟩
  | .hbm, ⟨5, _⟩ => ⟨S3x1024, .f32⟩
  | .hbm, ⟨6, _⟩ => ⟨S2179x1024, .f32⟩
  | .hbm, ⟨7, _⟩ => ⟨S_, .f32⟩
  | .hbm, ⟨8, _⟩ => ⟨S3x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S2176x1024, .f32⟩
  | .hbm, ⟨14, _⟩ => ⟨S2176x1024, .f32⟩
  | .hbm, ⟨15, _⟩ => ⟨S2176x1024, .f32⟩
  | .hbm, ⟨16, _⟩ => ⟨S_, .f32⟩
  | .hbm, ⟨17, _⟩ => ⟨S2176x1024, .f32⟩
  | .hbm, ⟨18, _⟩ => ⟨S2176x1024, .f32⟩
  | .hbm, ⟨19, _⟩ => ⟨S2176x1024, .f32⟩
  | .hbm, ⟨20, _⟩ => ⟨S2176x1024, .f32⟩
  | .hbm, ⟨21, _⟩ => ⟨S2176x1024, .f32⟩
  | .hbm, ⟨22, _⟩ => ⟨S2176x1024, .f32⟩
  | .hbm, ⟨23, _⟩ => ⟨S2176x1024, .f32⟩
  | .hbm, ⟨24, _⟩ => ⟨S2176x1024, .f32⟩
  | .hbm, ⟨25, _⟩ => ⟨S2176x1024, .f32⟩
  | .hbm, ⟨26, _⟩ => ⟨S2176x1024, .f32⟩
  | .hbm, ⟨27, _⟩ => ⟨S2176x1024, .f32⟩
  | .hbm, ⟨28, _⟩ => ⟨S2176x1024, .f32⟩
  | .hbm, ⟨29, _⟩ => ⟨S2176x1024, .f32⟩
  | .hbm, ⟨30, _⟩ => ⟨S2176x1024, .f32⟩
  | .hbm, ⟨31, _⟩ => ⟨S2176x1024, .f32⟩
  | .hbm, ⟨32, _⟩ => ⟨S2176x1024, .f32⟩
  | .hbm, ⟨33, _⟩ => ⟨S2176, .i32⟩
  | .hbm, ⟨34, _⟩ => ⟨S2176x1, .i32⟩
  | .hbm, ⟨35, _⟩ => ⟨S_, .i32⟩
  | .hbm, ⟨36, _⟩ => ⟨S2176x1, .i32⟩
  | .hbm, ⟨37, _⟩ => ⟨S2176x1, .i1⟩
  | .hbm, ⟨38, _⟩ => ⟨S_, .f32⟩
  | .hbm, ⟨39, _⟩ => ⟨S_, .f32⟩
  | .hbm, ⟨40, _⟩ => ⟨S2176x1024, .i1⟩
  | .hbm, ⟨41, _⟩ => ⟨S2176x1024, .f32⟩
  | .hbm, ⟨42, _⟩ => ⟨S2176x1024, .f32⟩
  | .hbm, ⟨43, _⟩ => ⟨S_, .f32⟩
  | .hbm, ⟨44, _⟩ => ⟨S2176x1024, .f32⟩
  | .hbm, ⟨45, _⟩ => ⟨S_, .f32⟩
  | .hbm, ⟨46, _⟩ => ⟨S2176x1024, .f32⟩
  | .hbm, ⟨47, _⟩ => ⟨S2176x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S2176x1024, .f32⟩
  | .hbm, ⟨52, _⟩ => ⟨S2176x1024, .f32⟩
  | .hbm, ⟨53, _⟩ => ⟨S2176x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S2179x1024, .f32⟩
  | .hbm, ⟨59, _⟩ => ⟨S2176x1024, .f32⟩
  | .hbm, ⟨60, _⟩ => ⟨S2176x1024, .f32⟩
  | .hbm, ⟨61, _⟩ => ⟨S2176x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S2179x1024, .f32⟩
  | .hbm, ⟨67, _⟩ => ⟨S2179x1024, .f32⟩
  | .hbm, ⟨68, _⟩ => ⟨S2176x1024, .f32⟩
  | .hbm, ⟨69, _⟩ => ⟨S2176x1024, .f32⟩
  | .hbm, ⟨70, _⟩ => ⟨S2176x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S2179x1024, .f32⟩
  | .hbm, ⟨76, _⟩ => ⟨S2179x1024, .f32⟩
  | .hbm, ⟨77, _⟩ => ⟨S2176x1024, .f32⟩
  | .hbm, ⟨78, _⟩ => ⟨S2176x1024, .f32⟩
  | .hbm, ⟨79, _⟩ => ⟨S2176x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S_, .f32⟩
  | .hbm, ⟨84, _⟩ => ⟨S2179x1024, .f32⟩
  | .hbm, ⟨85, _⟩ => ⟨S2179x1024, .f32⟩
  | .hbm, ⟨86, _⟩ => ⟨S4x1024, .f32⟩
  | .hbm, ⟨87, _⟩ => ⟨S3x1024, .f32⟩
  | .hbm, ⟨88, _⟩ => ⟨S2176x1024, .f32⟩
  | .hbm, ⟨89, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_call0_v0 : Ref sig .tc := ⟨.hbm, 39, rfl⟩
abbrev main_v30_1 : Ref sig .tc := ⟨.hbm, 40, rfl⟩
abbrev main_call0_v2 : Ref sig .tc := ⟨.hbm, 41, rfl⟩
abbrev main_v30_0 : Ref sig .tc := ⟨.hbm, 42, rfl⟩
abbrev main_call0_cst : Ref sig .tc := ⟨.hbm, 43, rfl⟩
abbrev main_v30_2 : Ref sig .tc := ⟨.hbm, 44, rfl⟩
abbrev main_call1_cst : Ref sig .tc := ⟨.hbm, 45, rfl⟩
abbrev main_call1_v0 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]
-- ==== Proof.Spec.lean ====
/- The block as real mathematics: every array of the program, forward and backward, as a function of its
   row and column over the real numbers, and the scalar facts that relate the kernel's spelling of the gate
   and of the two normalizations to the reference's. Nothing here mentions a program. -/
module

public import Idealize.ShloMosaic.PureOps.Ideal.Laws
public import Idealize.ShloMosaic.Lib.IdealHost
public import Idealize.ShloMosaic.Lib.Pointwise

@[expose] public section

noncomputable section

namespace Cert.Block

open Idealize.ShloMosaic

/-- A real matrix as an array of extended reals. -/
def emb {a b : Nat} (f : Fin a → Fin b → ℝ) : (⟨2, ![a, b]⟩ : Shape).Idx → EReal :=
  fun i => ((f (i 0) (i 1) : ℝ) : EReal)

theorem emb_ix2 {a b : Nat} (f : Fin a → Fin b → ℝ) (i : Fin a) (j : Fin b) : emb f (ix2 i j) = ((f i j : ℝ) : EReal) := rfl

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The literals -/

theorem lit_half : Ideal.ofBits .f32 0x3F000000#32 = ((1 / 2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

theorem lit_1024 : Ideal.ofBits .f32 0x44800000#32 = ((1024 : ℝ) : EReal) := by
  simp [Ideal.ofBits, Ideal.ieee, -EReal.coe_mul]; norm_num

/-- The small number added to the mean square. -/
def eps : ℝ := 8796093 * (2 : ℝ) ^ (-43 : ℤ)

theorem eps_pos : 0 < eps := by unfold eps; positivity

theorem lit_eps : Ideal.ofBits .f32 0x358637BD#32 = ((eps : ℝ) : EReal) := by
  simp [Ideal.ofBits, Ideal.ieee, eps, -EReal.coe_mul]

/-! ## Scalar functions -/

/-- The logistic function. -/
def sg (x : ℝ) : ℝ := 1 / (1 + Real.exp (-x))

/-- The gate as the kernel spells it, by the hyperbolic tangent of half the argument. -/
theorem half_tanh (x : ℝ) : 1 / 2 * (1 + Real.tanh (1 / 2 * x)) = sg x := by
  unfold sg
  rw [Real.tanh_eq_sinh_div_cosh, Real.sinh_eq, Real.cosh_eq]
  have e : Real.exp (-x) = Real.exp (-(1 / 2 * x)) * Real.exp (-(1 / 2 * x)) := by rw [← Real.exp_add]; ring_nf
  have hm : Real.exp (1 / 2 * x) * Real.exp (-(1 / 2 * x)) = 1 := by rw [← Real.exp_add]; simp
  rw [e]
  have p := Real.exp_pos (1 / 2 * x)
  have q := Real.exp_pos (-(1 / 2 * x))
  generalize Real.exp (1 / 2 * x) = a at *
  generalize Real.exp (-(1 / 2 * x)) = b at *
  have : a = 1 / b := by field_simp; linarith
  subst this
  field_simp
  ring

/-- The gate as the reference spells it, divided out. -/
theorem one_add_exp_ne (x : ℝ) : 1 + Real.exp (-x) ≠ 0 := by have := Real.exp_pos (-x); positivity

theorem rsqrt_pos {r : ℝ} (h : 0 < r) : Ideal.rsqrt ((r : ℝ) : EReal) = (((Real.sqrt r)⁻¹ : ℝ) : EReal) := by
  rw [Ideal.rsqrt_coe, if_neg (not_lt.mpr h.le), if_neg h.ne']

theorem div_real (x : ℝ) {y : ℝ} (h : y ≠ 0) : Ideal.div ((x : ℝ) : EReal) ((y : ℝ) : EReal) = ((x / y : ℝ) : EReal) := by
  rw [Ideal.div_coe h, ← EReal.coe_mul]; congr 1; ring

/-! ## The block's arrays -/

/-- The product of two matrices. -/
def mm {m k n : Nat} (a : Fin m → Fin k → ℝ) (b : Fin k → Fin n → ℝ) (i : Fin m) (j : Fin n) : ℝ := ∑ l, a i l * b l j

/-- The product with the second matrix transposed. -/
def mmT {m k n : Nat} (a : Fin m → Fin k → ℝ) (b : Fin n → Fin k → ℝ) (i : Fin m) (j : Fin n) : ℝ := ∑ l, a i l * b j l

/-- The product with the first matrix transposed. -/
def tmm {m k n : Nat} (a : Fin k → Fin m → ℝ) (b : Fin k → Fin n → ℝ) (i : Fin m) (j : Fin n) : ℝ := ∑ l, a l i * b l j

/-- The transposed matrix. -/
def tr {m n : Nat} (a : Fin m → Fin n → ℝ) (i : Fin n) (j : Fin m) : ℝ := a j i

/-- The sum of two matrices. -/
def plus {m n : Nat} (a b : Fin m → Fin n → ℝ) (i : Fin m) (j : Fin n) : ℝ := a i j + b i j

/-- The reciprocal root mean square of a row. -/
def rs {m : Nat} (x : Fin m → Fin 1024 → ℝ) (i : Fin m) : ℝ := (Real.sqrt ((∑ j, x i j * x i j) / 1024 + eps))⁻¹

/-- The normalized rows. -/
def xhat {m : Nat} (x : Fin m → Fin 1024 → ℝ) (i : Fin m) (j : Fin 1024) : ℝ := x i j * rs x i

/-- The normalized rows with their weights. -/
def nrm {m : Nat} (x : Fin m → Fin 1024 → ℝ) (w : Fin 1 → Fin 1024 → ℝ) (i : Fin m) (j : Fin 1024) : ℝ := xhat x i j * w 0 j

/-- The gated activation. -/
def act {m n : Nat} (g p : Fin m → Fin n → ℝ) (i : Fin m) (j : Fin n) : ℝ := g i j * sg (g i j) * p i j

/-- The cotangent of the gate's pre-activation. -/
def dgate {m n : Nat} (d g p : Fin m → Fin n → ℝ) (i : Fin m) (j : Fin n) : ℝ :=
  d i j * p i j * (sg (g i j) * (1 + g i j * (1 - sg (g i j))))

/-- The cotangent of the ungated factor. -/
def dlin {m n : Nat} (d g : Fin m → Fin n → ℝ) (i : Fin m) (j : Fin n) : ℝ := d i j * (g i j * sg (g i j))

/-- The mean of a row's weighted cotangent against its normalized entries. -/
def cbar {m : Nat} (d x : Fin m → Fin 1024 → ℝ) (w : Fin 1 → Fin 1024 → ℝ) (i : Fin m) : ℝ :=
  (∑ j, d i j * w 0 j * xhat x i j) / 1024

/-- The cotangent of the normalized rows' argument, with the residual's own. -/
def dnorm {m : Nat} (g d x : Fin m → Fin 1024 → ℝ) (w : Fin 1 → Fin 1024 → ℝ) (i : Fin m) (j : Fin 1024) : ℝ :=
  g i j + rs x i * (d i j * w 0 j - xhat x i j * cbar d x w i)

/-- The cotangent of the normalization's weights. -/
def dweight {m : Nat} (d x : Fin m → Fin 1024 → ℝ) (_ : Fin 1) (j : Fin 1024) : ℝ := ∑ i, d i j * xhat x i j

theorem radicand_pos {m : Nat} (x : Fin m → Fin 1024 → ℝ) (i : Fin m) : 0 < (∑ j, x i j * x i j) / 1024 + eps := by
  have : 0 ≤ ∑ j, x i j * x i j := Finset.sum_nonneg fun j _ => mul_self_nonneg _
  have := eps_pos
  positivity

end Cert.Block

end
-- ==== Proof.Finite.lean ====
/- The precondition read back: where every argument's entries are of finite absolute value, each argument array holds a
   matrix of real numbers. -/
module

public import proofs.«01_k».proof.Defs
public import proofs.«01_k».proof.Proof.Gen.Pre_finite
public import proofs.«01_k».proof.Proof.Spec
public import Idealize.ShloMosaic.Lib.Pointwise
public import Idealize.ShloMosaic.Lib.Affine

@[expose] public section

set_option maxRecDepth 16384

noncomputable section

namespace Cert.Pre_finite.Value

open Idealize.ShloMosaic Cert.Pre_finite Cert.Pre_finite.Facts Cert.Block

/-- The bound of the comparison is the infinity. -/
theorem lit_top : Ideal.ofBits .f32 0x7F800000#32 = (⊤ : EReal) := by
  simp [Ideal.ofBits, Ideal.ieee]

/-- An extended real whose absolute value is below the infinity is a real number. -/
theorem real_of_bit (x : EReal) (h : Ideal.cmp .olt (max x (-x)) (Ideal.ofBits .f32 0x7F800000#32) = 1#1) :
    x = ((x.toReal : ℝ) : EReal) := by
  rw [lit_top] at h
  have h' : max x (-x) < ⊤ := by
    by_contra hn
    simp [Ideal.cmp, hn] at h
  refine (EReal.coe_toReal ?_ ?_).symm
  · rintro rfl
    simp at h'
  · rintro rfl
    simp at h'

/-- A conjunction over a finite family of bits that is one has every bit one. -/
theorem bit_of_fold {ι : Type} (f : ι → BitVec 1) (t : Finset ι) (h : t.fold IntOp.andi (1#1) f = 1#1) (k : ι) (hk : k ∈ t) : f k = 1#1 := by
  classical
  induction t using Finset.induction_on with
  | empty => exact absurd hk (Finset.notMem_empty k)
  | insert b t hb ih =>
    rw [Finset.fold_insert hb] at h
    obtain ⟨h1, h2⟩ := IntOp.andi_eq_one.1 h
    rcases Finset.mem_insert.1 hk with rfl | hk
    exacts [h1, ih h2 hk]

/-- A matrix whose entries all pass the comparison with the infinity holds real numbers. -/
theorem real_of_fold {m n : Nat} (x : (⟨2, ![m, n]⟩ : Shape).Idx → EReal)
    (h : Finset.fold IntOp.andi (1#1) (fun k : Fin m × Fin n => Ideal.cmp .olt (max (x (ix2 k.1 k.2)) (-(x (ix2 k.1 k.2)))) (Ideal.ofBits .f32 0x7F800000#32))
      Finset.univ = 1#1) :
    x = emb fun i j => (x (ix2 i j)).toReal := by
  funext t
  have ht : t = ix2 (t 0) (t 1) := by
    funext d
    fin_cases d <;> rfl
  exact (congrArg x ht).trans (real_of_bit _ (bit_of_fold _ _ h (t 0, t 1) (Finset.mem_univ _)))

/-- Eight bits laid end to end, all one: each is one. -/
theorem pieces_one (p0 p1 p2 p3 p4 p5 p6 p7 : IVec S1 1) (h : Shape.Concatenates [S1, S1, S1, S1, S1, S1, S1, S1] S8 0)
    (e : concatenate S8 0 [⟨S1, p0⟩, ⟨S1, p1⟩, ⟨S1, p2⟩, ⟨S1, p3⟩, ⟨S1, p4⟩, ⟨S1, p5⟩, ⟨S1, p6⟩, ⟨S1, p7⟩] h = fun _ => 1#1) :
    p0 (ix1 0) = 1#1 ∧ p1 (ix1 0) = 1#1 ∧ p2 (ix1 0) = 1#1 ∧ p3 (ix1 0) = 1#1 ∧ p4 (ix1 0) = 1#1 ∧ p5 (ix1 0) = 1#1 ∧ p6 (ix1 0) = 1#1 ∧ p7 (ix1 0) = 1#1 := by
  have key : ∀ k : Fin 8, (![p0, p1, p2, p3, p4, p5, p6, p7] k : IVec S1 1) (ix1 0) = 1#1 := fun k => by
    have e' := (concatenate_ofFn_unit_apply' (t := S8) (s₁ := S1) (N := 8) 0 ![p0, p1, p2, p3, p4, p5, p6, p7] h rfl (ix1 k)).symm.trans (congrFun e (ix1 k))
    refine Eq.trans (congrArg (![p0, p1, p2, p3, p4, p5, p6, p7] k : IVec S1 1) ?_) e'
    funext d
    fin_cases d
    rfl
  exact ⟨key 0, key 1, key 2, key 3, key 4, key 5, key 6, key 7⟩

variable [Facts]

/-- Argument 0 holds real numbers. -/
theorem real_0 (x0 : FVec Ideal S2176x1024 .f32) (x1 : FVec Ideal S2176x2048 .bf16) (x2 : FVec Ideal S2048x1024 .f32) (x3 : FVec Ideal S1x1024 .f32)
    (x4 x5 : FVec Ideal S1024x2816 .f32) (x6 : FVec Ideal S2816x1024 .f32) (x7 : FVec Ideal S2176x1024 .f32)
    (h : fn (F := Ideal) x0 x1 x2 x3 x4 x5 x6 x7 = fun _ => 1#1) :
    x0 = emb fun i j => EReal.toReal (x0 (ix2 i j)) := by
  unfold fn fn_part1 fn_part2 at h
  obtain ⟨e, -, -, -, -, -, -, -⟩ := pieces_one _ _ _ _ _ _ _ _ _ h
  simp only [pointwise] at e
  exact real_of_fold (m := 2176) (n := 1024) x0 e

/-- Argument 1 holds real numbers. -/
theorem real_1 (x0 : FVec Ideal S2176x1024 .f32) (x1 : FVec Ideal S2176x2048 .bf16) (x2 : FVec Ideal S2048x1024 .f32) (x3 : FVec Ideal S1x1024 .f32)
    (x4 x5 : FVec Ideal S1024x2816 .f32) (x6 : FVec Ideal S2816x1024 .f32) (x7 : FVec Ideal S2176x1024 .f32)
    (h : fn (F := Ideal) x0 x1 x2 x3 x4 x5 x6 x7 = fun _ => 1#1) :
    x1 = emb fun i j => EReal.toReal (x1 (ix2 i j)) := by
  unfold fn fn_part1 fn_part2 at h
  obtain ⟨-, e, -, -, -, -, -, -⟩ := pieces_one _ _ _ _ _ _ _ _ _ h
  simp only [pointwise] at e
  exact real_of_fold (m := 2176) (n := 2048) x1 e

/-- Argument 2 holds real numbers. -/
theorem real_2 (x0 : FVec Ideal S2176x1024 .f32) (x1 : FVec Ideal S2176x2048 .bf16) (x2 : FVec Ideal S2048x1024 .f32) (x3 : FVec Ideal S1x1024 .f32)
    (x4 x5 : FVec Ideal S1024x2816 .f32) (x6 : FVec Ideal S2816x1024 .f32) (x7 : FVec Ideal S2176x1024 .f32)
    (h : fn (F := Ideal) x0 x1 x2 x3 x4 x5 x6 x7 = fun _ => 1#1) :
    x2 = emb fun i j => EReal.toReal (x2 (ix2 i j)) := by
  unfold fn fn_part1 fn_part2 at h
  obtain ⟨-, -, e, -, -, -, -, -⟩ := pieces_one _ _ _ _ _ _ _ _ _ h
  simp only [pointwise] at e
  exact real_of_fold (m := 2048) (n := 1024) x2 e

/-- Argument 3 holds real numbers. -/
theorem real_3 (x0 : FVec Ideal S2176x1024 .f32) (x1 : FVec Ideal S2176x2048 .bf16) (x2 : FVec Ideal S2048x1024 .f32) (x3 : FVec Ideal S1x1024 .f32)
    (x4 x5 : FVec Ideal S1024x2816 .f32) (x6 : FVec Ideal S2816x1024 .f32) (x7 : FVec Ideal S2176x1024 .f32)
    (h : fn (F := Ideal) x0 x1 x2 x3 x4 x5 x6 x7 = fun _ => 1#1) :
    x3 = emb fun i j => EReal.toReal (x3 (ix2 i j)) := by
  unfold fn fn_part1 fn_part2 at h
  obtain ⟨-, -, -, e, -, -, -, -⟩ := pieces_one _ _ _ _ _ _ _ _ _ h
  simp only [pointwise] at e
  exact real_of_fold (m := 1) (n := 1024) x3 e

/-- Argument 4 holds real numbers. -/
theorem real_4 (x0 : FVec Ideal S2176x1024 .f32) (x1 : FVec Ideal S2176x2048 .bf16) (x2 : FVec Ideal S2048x1024 .f32) (x3 : FVec Ideal S1x1024 .f32)
    (x4 x5 : FVec Ideal S1024x2816 .f32) (x6 : FVec Ideal S2816x1024 .f32) (x7 : FVec Ideal S2176x1024 .f32)
    (h : fn (F := Ideal) x0 x1 x2 x3 x4 x5 x6 x7 = fun _ => 1#1) :
    x4 = emb fun i j => EReal.toReal (x4 (ix2 i j)) := by
  unfold fn fn_part1 fn_part2 at h
  obtain ⟨-, -, -, -, e, -, -, -⟩ := pieces_one _ _ _ _ _ _ _ _ _ h
  simp only [pointwise] at e
  exact real_of_fold (m := 1024) (n := 2816) x4 e

/-- Argument 5 holds real numbers. -/
theorem real_5 (x0 : FVec Ideal S2176x1024 .f32) (x1 : FVec Ideal S2176x2048 .bf16) (x2 : FVec Ideal S2048x1024 .f32) (x3 : FVec Ideal S1x1024 .f32)
    (x4 x5 : FVec Ideal S1024x2816 .f32) (x6 : FVec Ideal S2816x1024 .f32) (x7 : FVec Ideal S2176x1024 .f32)
    (h : fn (F := Ideal) x0 x1 x2 x3 x4 x5 x6 x7 = fun _ => 1#1) :
    x5 = emb fun i j => EReal.toReal (x5 (ix2 i j)) := by
  unfold fn fn_part1 fn_part2 at h
  obtain ⟨-, -, -, -, -, e, -, -⟩ := pieces_one _ _ _ _ _ _ _ _ _ h
  simp only [pointwise] at e
  exact real_of_fold (m := 1024) (n := 2816) x5 e

/-- Argument 6 holds real numbers. -/
theorem real_6 (x0 : FVec Ideal S2176x1024 .f32) (x1 : FVec Ideal S2176x2048 .bf16) (x2 : FVec Ideal S2048x1024 .f32) (x3 : FVec Ideal S1x1024 .f32)
    (x4 x5 : FVec Ideal S1024x2816 .f32) (x6 : FVec Ideal S2816x1024 .f32) (x7 : FVec Ideal S2176x1024 .f32)
    (h : fn (F := Ideal) x0 x1 x2 x3 x4 x5 x6 x7 = fun _ => 1#1) :
    x6 = emb fun i j => EReal.toReal (x6 (ix2 i j)) := by
  unfold fn fn_part1 fn_part2 at h
  obtain ⟨-, -, -, -, -, -, e, -⟩ := pieces_one _ _ _ _ _ _ _ _ _ h
  simp only [pointwise] at e
  exact real_of_fold (m := 2816) (n := 1024) x6 e

/-- Argument 7 holds real numbers. -/
theorem real_7 (x0 : FVec Ideal S2176x1024 .f32) (x1 : FVec Ideal S2176x2048 .bf16) (x2 : FVec Ideal S2048x1024 .f32) (x3 : FVec Ideal S1x1024 .f32)
    (x4 x5 : FVec Ideal S1024x2816 .f32) (x6 : FVec Ideal S2816x1024 .f32) (x7 : FVec Ideal S2176x1024 .f32)
    (h : fn (F := Ideal) x0 x1 x2 x3 x4 x5 x6 x7 = fun _ => 1#1) :
    x7 = emb fun i j => EReal.toReal (x7 (ix2 i j)) := by
  unfold fn fn_part1 fn_part2 at h
  obtain ⟨-, -, -, -, -, -, -, e⟩ := pieces_one _ _ _ _ _ _ _ _ _ h
  simp only [pointwise] at e
  exact real_of_fold (m := 2176) (n := 1024) x7 e

end Cert.Pre_finite.Value

end
-- ==== Proof.Values.lean ====
/- The arrays of the block over the real numbers, named: what its forward pass computes from its arguments and what
   its backward pass computes from those and the cotangent of its result. -/
module

public import proofs.«01_k».proof.Proof.Spec

@[expose] public section

noncomputable section

namespace Cert.Block

/-- The block's arguments, and the cotangent `g` of its result. -/
structure Inputs where
  x : Fin 2176 → Fin 1024 → ℝ
  y : Fin 2176 → Fin 2048 → ℝ
  wo : Fin 2048 → Fin 1024 → ℝ
  w : Fin 1 → Fin 1024 → ℝ
  wg : Fin 1024 → Fin 2816 → ℝ
  wu : Fin 1024 → Fin 2816 → ℝ
  wd : Fin 2816 → Fin 1024 → ℝ
  g : Fin 2176 → Fin 1024 → ℝ

namespace Inputs

variable (a : Inputs)

/-- The first residual sum. -/
def h1 : Fin 2176 → Fin 1024 → ℝ := plus (mm a.y a.wo) a.x
/-- Its normalized rows. -/
def u : Fin 2176 → Fin 1024 → ℝ := nrm a.h1 a.w
/-- The gate's argument. -/
def gate : Fin 2176 → Fin 2816 → ℝ := mmT a.u (tr a.wg)
/-- The linear factor. -/
def lin : Fin 2176 → Fin 2816 → ℝ := mmT a.u (tr a.wu)
/-- The gated product. -/
def prod : Fin 2176 → Fin 2816 → ℝ := act a.gate a.lin
/-- The block's result. -/
def h2 : Fin 2176 → Fin 1024 → ℝ := plus (mm a.prod a.wd) a.h1
/-- The cotangent of the gated product. -/
def dprod : Fin 2176 → Fin 2816 → ℝ := mmT a.g a.wd
/-- The cotangent of the gate's argument. -/
def dgp : Fin 2176 → Fin 2816 → ℝ := dgate a.dprod a.gate a.lin
/-- The cotangent of the linear factor. -/
def dup : Fin 2176 → Fin 2816 → ℝ := dlin a.dprod a.gate
/-- The cotangent of the normalized rows. -/
def du : Fin 2176 → Fin 1024 → ℝ := plus (mm a.dgp (tr a.wg)) (mm a.dup (tr a.wu))
/-- The cotangent of the first residual sum, which is that of the block's first argument. -/
def dh1 : Fin 2176 → Fin 1024 → ℝ := dnorm a.g a.du a.h1 a.w
/-- The cotangents of the weights and of the mixers' output. -/
def dw : Fin 1 → Fin 1024 → ℝ := dweight a.du a.h1
def dwd : Fin 2816 → Fin 1024 → ℝ := tmm a.prod a.g
def dwg : Fin 1024 → Fin 2816 → ℝ := tr (tmm a.dgp a.u)
def dwu : Fin 1024 → Fin 2816 → ℝ := tr (tmm a.dup a.u)
def dwo : Fin 2048 → Fin 1024 → ℝ := tmm a.y a.dh1
def dy : Fin 2176 → Fin 2048 → ℝ := mmT a.dh1 a.wo

end Inputs

end Cert.Block

end
-- ==== Proof.Payload.lean ====
/- What one grid point of each kernel call computes, over real matrices: a block of products, of normalized
   rows, of gated activations, of cotangents. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.Value

open Idealize.ShloMosaic Cert.KernelIdeal Cert.KernelIdeal.Gen Cert.Block

theorem pay0 (a : Fin 2176 → Fin 2048 → ℝ) (b : Fin 2048 → Fin 256 → ℝ) (h : Fin 2176 → Fin 256 → ℝ) :
    k0_pay1 (F := Ideal) (emb a) (emb b) (emb h) = emb (plus (mm a b) h) := by
  funext t
  idx_vars t
  pointwise [k0_pay1]
  simp only [emb_ix2, ← EReal.coe_mul, coe_sum, ← EReal.coe_add, ← EReal.coe_sub]
  rfl

theorem pay1 (x : Fin 544 → Fin 1024 → ℝ) (w : Fin 1 → Fin 1024 → ℝ) :
    k1_pay1 (F := Ideal) (emb x) (emb w) = emb (nrm x w) := by
  funext t
  idx_vars t
  pointwise [k1_pay1]
  simp only [emb_ix2, ← EReal.coe_mul, coe_sum, ← EReal.coe_add, ← EReal.coe_sub, lit_1024, lit_eps, div_real _ (show (1024 : ℝ) ≠ 0 by norm_num), rsqrt_pos (radicand_pos x _)]
  rfl

theorem pay2g (u : Fin 2176 → Fin 1024 → ℝ) (a : Fin 256 → Fin 1024 → ℝ) :
    k2_pay4 (F := Ideal) (emb u) (emb a) = emb (mmT u a) := by
  funext t
  idx_vars t
  pointwise [k2_pay4, k2_pay2, k2_pay1]
  simp only [emb_ix2, ← EReal.coe_mul, coe_sum, ← EReal.coe_add, ← EReal.coe_sub]
  rfl

theorem pay2u (u : Fin 2176 → Fin 1024 → ℝ) (a : Fin 256 → Fin 1024 → ℝ) :
    k2_pay5 (F := Ideal) (emb u) (emb a) = emb (mmT u a) := by
  funext t
  idx_vars t
  pointwise [k2_pay5, k2_pay3, k2_pay1]
  simp only [emb_ix2, ← EReal.coe_mul, coe_sum, ← EReal.coe_add, ← EReal.coe_sub]
  rfl

theorem pay2a (u : Fin 2176 → Fin 1024 → ℝ) (a b : Fin 256 → Fin 1024 → ℝ) :
    k2_pay6 (F := Ideal) (emb u) (emb a) (emb b) = emb (act (mmT u a) (mmT u b)) := by
  funext t
  idx_vars t
  pointwise [k2_pay6, k2_pay3, k2_pay2, k2_pay1]
  simp only [emb_ix2, ← EReal.coe_mul, coe_sum, ← EReal.coe_add, ← EReal.coe_sub, lit_half, ← EReal.coe_one, Ideal.tanh_coe, half_tanh]
  rfl

theorem pay3 (a : Fin 2176 → Fin 2816 → ℝ) (b : Fin 2816 → Fin 256 → ℝ) (h : Fin 2176 → Fin 256 → ℝ) :
    k3_pay1 (F := Ideal) (emb a) (emb b) (emb h) = emb (plus (mm a b) h) := by
  funext t
  idx_vars t
  pointwise [k3_pay1]
  simp only [emb_ix2, ← EReal.coe_mul, coe_sum, ← EReal.coe_add, ← EReal.coe_sub]
  rfl

theorem pay4g (d : Fin 2176 → Fin 1024 → ℝ) (a : Fin 256 → Fin 1024 → ℝ) (g p : Fin 2176 → Fin 256 → ℝ) :
    k4_pay3 (F := Ideal) (emb d) (emb a) (emb g) (emb p) = emb (dgate (mmT d a) g p) := by
  funext t
  idx_vars t
  pointwise [k4_pay3, k4_pay2, k4_pay1]
  simp only [emb_ix2, ← EReal.coe_mul, coe_sum, ← EReal.coe_add, ← EReal.coe_sub, lit_half, ← EReal.coe_one, Ideal.tanh_coe, half_tanh]
  rfl

theorem pay4u (d : Fin 2176 → Fin 1024 → ℝ) (a : Fin 256 → Fin 1024 → ℝ) (g : Fin 2176 → Fin 256 → ℝ) :
    k4_pay4 (F := Ideal) (emb d) (emb a) (emb g) = emb (dlin (mmT d a) g) := by
  funext t
  idx_vars t
  pointwise [k4_pay4, k4_pay2, k4_pay1]
  simp only [emb_ix2, ← EReal.coe_mul, coe_sum, ← EReal.coe_add, ← EReal.coe_sub, lit_half, ← EReal.coe_one, Ideal.tanh_coe, half_tanh]
  rfl

theorem pay5 (a : Fin 2176 → Fin 1408 → ℝ) (b : Fin 2176 → Fin 512 → ℝ) :
    k5_pay1 (F := Ideal) (emb a) (emb b) = emb (tmm a b) := by
  funext t
  idx_vars t
  pointwise [k5_pay1]
  simp only [emb_ix2, ← EReal.coe_mul, coe_sum, ← EReal.coe_add, ← EReal.coe_sub]
  rfl

theorem pay7 (a : Fin 2176 → Fin 1408 → ℝ) (b : Fin 2176 → Fin 512 → ℝ) :
    k7_pay1 (F := Ideal) (emb a) (emb b) = emb (tmm a b) := by
  funext t
  idx_vars t
  pointwise [k7_pay1]
  simp only [emb_ix2, ← EReal.coe_mul, coe_sum, ← EReal.coe_add, ← EReal.coe_sub]
  rfl

theorem pay8 (a : Fin 2176 → Fin 1408 → ℝ) (b : Fin 2176 → Fin 512 → ℝ) :
    k8_pay1 (F := Ideal) (emb a) (emb b) = emb (tmm a b) := by
  funext t
  idx_vars t
  pointwise [k8_pay1]
  simp only [emb_ix2, ← EReal.coe_mul, coe_sum, ← EReal.coe_add, ← EReal.coe_sub]
  rfl

theorem pay9 (a : Fin 2176 → Fin 1024 → ℝ) (b : Fin 2176 → Fin 512 → ℝ) :
    k9_pay1 (F := Ideal) (emb a) (emb b) = emb (tmm a b) := by
  funext t
  idx_vars t
  pointwise [k9_pay1]
  simp only [emb_ix2, ← EReal.coe_mul, coe_sum, ← EReal.coe_add, ← EReal.coe_sub]
  rfl

theorem pay10 (a : Fin 2176 → Fin 1024 → ℝ) (b : Fin 256 → Fin 1024 → ℝ) :
    k10_pay1 (F := Ideal) (emb a) (emb b) = emb (mmT a b) := by
  funext t
  idx_vars t
  pointwise [k10_pay1]
  simp only [emb_ix2, ← EReal.coe_mul, coe_sum, ← EReal.coe_add, ← EReal.coe_sub]
  rfl

theorem pay6d (a b : Fin 272 → Fin 2816 → ℝ) (v w : Fin 2816 → Fin 1024 → ℝ) :
    k6_pay5 (F := Ideal) (emb a) (emb v) (emb b) (emb w) = emb (plus (mm a v) (mm b w)) := by
  funext t
  idx_vars t
  pointwise [k6_pay5]
  simp only [emb_ix2, ← EReal.coe_mul, coe_sum, ← EReal.coe_add, ← EReal.coe_sub]
  rfl

theorem pay6x (x : Fin 272 → Fin 1024 → ℝ) :
    k6_pay8 (F := Ideal) (emb x) = emb (xhat x) := by
  funext t
  idx_vars t
  pointwise [k6_pay8, k6_pay7, k6_pay6]
  simp only [emb_ix2, ← EReal.coe_mul, coe_sum, ← EReal.coe_add, ← EReal.coe_sub, lit_1024, lit_eps, div_real _ (show (1024 : ℝ) ≠ 0 by norm_num), rsqrt_pos (radicand_pos x _)]
  rfl

theorem pay6r (x : Fin 272 → Fin 1024 → ℝ) :
    k6_pay7 (F := Ideal) (emb x) = emb (fun i (_ : Fin 1) => rs x i) := by
  funext t
  idx_vars t
  pointwise [k6_pay7, k6_pay6]
  simp only [emb_ix2, ← EReal.coe_mul, coe_sum, ← EReal.coe_add, ← EReal.coe_sub, lit_1024, lit_eps, div_real _ (show (1024 : ℝ) ≠ 0 by norm_num), rsqrt_pos (radicand_pos x _)]
  rfl

theorem pay6c (a b : Fin 272 → Fin 2816 → ℝ) (v w : Fin 2816 → Fin 1024 → ℝ) (x : Fin 272 → Fin 1024 → ℝ) (n : Fin 1 → Fin 1024 → ℝ) :
    k6_pay9 (F := Ideal) (emb a) (emb v) (emb b) (emb w) (emb x) (emb n)
      = emb (fun i j => plus (mm a v) (mm b w) i j * n 0 j - xhat x i j * cbar (plus (mm a v) (mm b w)) x n i) := by
  unfold k6_pay9
  rw [pay6d, pay6x]
  funext t
  idx_vars t
  pointwise []
  simp only [emb_ix2, ← EReal.coe_mul, coe_sum, ← EReal.coe_add, ← EReal.coe_sub, lit_1024, div_real _ (show (1024 : ℝ) ≠ 0 by norm_num)]
  rfl

theorem pay6o (r : Fin 272 → Fin 1 → ℝ) (d g : Fin 272 → Fin 1024 → ℝ) :
    k6_pay1 (F := Ideal) (emb r) (emb d) (emb g) = emb (fun i j => g i j + r i 0 * d i j) := by
  funext t
  idx_vars t
  pointwise [k6_pay1]
  simp only [emb_ix2, ← EReal.coe_mul, coe_sum, ← EReal.coe_add, ← EReal.coe_sub]

theorem pay6w (d x : Fin 272 → Fin 1024 → ℝ) (s : Fin 1 → Fin 1024 → ℝ) :
    k6_pay3 (F := Ideal) (emb d) (emb x) (emb s) = emb (fun i j => s i j + ∑ l, d l j * x l j) := by
  funext t
  idx_vars t
  pointwise [k6_pay3]
  simp only [emb_ix2, ← EReal.coe_mul, coe_sum, ← EReal.coe_add, ← EReal.coe_sub]

theorem pay6z  :
    k6_pay4 (F := Ideal) = emb (fun _ _ => 0) := by
  funext t
  idx_vars t
  pointwise [k6_pay4]
  simp only [emb_ix2, ← EReal.coe_mul, coe_sum, ← EReal.coe_add, ← EReal.coe_sub]
  rfl

end Cert.KernelIdeal.Value

end
-- ==== Proof.Blocks.lean ====
/- Blocks of a real matrix: a band of its rows, a band of its columns. The products and the row-wise functions of the
   block read through a band are the functions of the bands. -/
module

public import proofs.«01_k».proof.Proof.Payload

@[expose] public section

noncomputable section

namespace Cert.Block

open Idealize.ShloMosaic

/-- The `m` rows from row `r` on. -/
def rows {M N m : Nat} (f : Fin M → Fin N → ℝ) (r : Nat) (h : r + m ≤ M) (i : Fin m) (j : Fin N) : ℝ := f ⟨r + i.val, by omega⟩ j

/-- The `n` columns from column `c` on. -/
def cols {M N n : Nat} (f : Fin M → Fin N → ℝ) (c : Nat) (h : c + n ≤ N) (i : Fin M) (j : Fin n) : ℝ := f i ⟨c + j.val, by omega⟩

/-- An embedded matrix at an index, by the index's two coordinates. -/
theorem emb_congr {a b : Nat} (f : Fin a → Fin b → ℝ) (i : (⟨2, ![a, b]⟩ : Shape).Idx) (p : Fin a) (q : Fin b)
    (h0 : i 0 = p) (h1 : i 1 = q) : emb f i = ((f p q : ℝ) : EReal) := by subst h0 h1; rfl

section Bands
variable {A B C m n : Nat}

theorem mm_cols (a : Fin A → Fin B → ℝ) (b : Fin B → Fin C → ℝ) (c : Nat) (h : c + n ≤ C) :
    mm a (cols b c h) = cols (mm a b) c h := rfl

theorem mm_rows (a : Fin A → Fin B → ℝ) (b : Fin B → Fin C → ℝ) (r : Nat) (h : r + m ≤ A) :
    mm (rows a r h) b = rows (mm a b) r h := rfl

theorem mmT_rows (a : Fin A → Fin B → ℝ) (b : Fin C → Fin B → ℝ) (c : Nat) (h : c + n ≤ C) :
    mmT a (rows b c h) = cols (mmT a b) c h := rfl

theorem tmm_cols (a : Fin B → Fin A → ℝ) (b : Fin B → Fin C → ℝ) (r c : Nat) (hr : r + m ≤ A) (hc : c + n ≤ C) :
    tmm (cols a r hr) (cols b c hc) = cols (rows (tmm a b) r hr) c hc := rfl

theorem plus_cols (a b : Fin A → Fin C → ℝ) (c : Nat) (h : c + n ≤ C) :
    plus (cols a c h) (cols b c h) = cols (plus a b) c h := rfl

theorem plus_rows (a b : Fin A → Fin C → ℝ) (r : Nat) (h : r + m ≤ A) :
    plus (rows a r h) (rows b r h) = rows (plus a b) r h := rfl

theorem act_cols (a b : Fin A → Fin C → ℝ) (c : Nat) (h : c + n ≤ C) :
    act (cols a c h) (cols b c h) = cols (act a b) c h := rfl

theorem dgate_cols (d a b : Fin A → Fin C → ℝ) (c : Nat) (h : c + n ≤ C) :
    dgate (cols d c h) (cols a c h) (cols b c h) = cols (dgate d a b) c h := rfl

theorem dlin_cols (d a : Fin A → Fin C → ℝ) (c : Nat) (h : c + n ≤ C) :
    dlin (cols d c h) (cols a c h) = cols (dlin d a) c h := rfl

theorem nrm_rows (x : Fin A → Fin 1024 → ℝ) (w : Fin 1 → Fin 1024 → ℝ) (r : Nat) (h : r + m ≤ A) :
    nrm (rows x r h) w = rows (nrm x w) r h := rfl

theorem xhat_rows (x : Fin A → Fin 1024 → ℝ) (r : Nat) (h : r + m ≤ A) : xhat (rows x r h) = rows (xhat x) r h := rfl

end Bands

theorem hz : (![0, 0] : Fin 2 → Nat) = fun _ => 0 := funext fun a => by fin_cases a <;> rfl

end Cert.Block

end
-- ==== Proof.RegionsUp.lean ====
/- The arrays the output projection, the normalization and the two forward feed-forward calls leave: every grid point writes back its block of one matrix, and the blocks cover the array. -/
module

public import proofs.«01_k».proof.Proof.Blocks
public import proofs.«01_k».proof.Proof.Gen.KernelIdeal.Frame.Region0
public import proofs.«01_k».proof.Proof.Gen.KernelIdeal.Frame.Region1
public import proofs.«01_k».proof.Proof.Gen.KernelIdeal.Frame.Region2
public import proofs.«01_k».proof.Proof.Gen.KernelIdeal.Frame.Region3
public import Idealize.ShloMosaic.Lib.Pipeline.Value

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Block

variable (V : (c : Dev nD) → (b : Ref sig .tc) → Buf (Elt Ideal) ((c : Thread nD τ).loc b))

/-! ## `out_proj` -/

theorem index0_0 (t : Fin cfg0.N) : win0_0.index t 0 * 2176 = 0 ∧ win0_0.index t 1 * 2048 = 0 := by
  rcases fin_N0 t with rfl | rfl | rfl | rfl <;> decide +kernel

theorem read0_0 (f : Fin 2176 → Fin 2048 → ℝ) (t : Fin cfg0.N) :
    ((cfg0.win 0).blk t).view.read (Elt Ideal) (emb f) = emb (a := 2176) (b := 2048) f := by
  funext j
  rw [View.read_apply]
  refine emb_congr f _ _ _ (Fin.ext ?_) (Fin.ext ?_)
  · show win0_0.index t 0 * 2176 + 1 * (j 0).val = (j 0).val
    rw [(index0_0 t).1]; omega
  · show win0_0.index t 1 * 2048 + 1 * (j 1).val = (j 1).val
    rw [(index0_0 t).2]; omega

theorem index0_1 (t : Fin cfg0.N) : win0_1.index t 0 * 2048 = 0 ∧ win0_1.index t 1 * 256 = 256 * t.val := by
  rcases fin_N0 t with rfl | rfl | rfl | rfl <;> decide +kernel

theorem read0_1 (f : Fin 2048 → Fin 1024 → ℝ) (t : Fin cfg0.N) :
    ((cfg0.win 1).blk t).view.read (Elt Ideal) (emb f) = emb (a := 2048) (b := 256) (cols f (256 * t.val) (by have h := t.isLt; have hN : cfg0.N = 4 := N_0; omega)) := by
  funext j
  rw [View.read_apply]
  refine emb_congr f _ _ _ (Fin.ext ?_) (Fin.ext ?_)
  · show win0_1.index t 0 * 2048 + 1 * (j 0).val = (j 0).val
    rw [(index0_1 t).1]; omega
  · show win0_1.index t 1 * 256 + 1 * (j 1).val = 256 * t.val + (j 1).val
    rw [(index0_1 t).2]; omega

theorem index0_2 (t : Fin cfg0.N) : win0_2.index t 0 * 2176 = 0 ∧ win0_2.index t 1 * 256 = 256 * t.val := by
  rcases fin_N0 t with rfl | rfl | rfl | rfl <;> decide +kernel

theorem read0_2 (f : Fin 2176 → Fin 1024 → ℝ) (t : Fin cfg0.N) :
    ((cfg0.win 2).blk t).view.read (Elt Ideal) (emb f) = emb (a := 2176) (b := 256) (cols f (256 * t.val) (by have h := t.isLt; have hN : cfg0.N = 4 := N_0; omega)) := by
  funext j
  rw [View.read_apply]
  refine emb_congr f _ _ _ (Fin.ext ?_) (Fin.ext ?_)
  · show win0_2.index t 0 * 2176 + 1 * (j 0).val = (j 0).val
    rw [(index0_2 t).1]; omega
  · show win0_2.index t 1 * 256 + 1 * (j 1).val = 256 * t.val + (j 1).val
    rw [(index0_2 t).2]; omega

theorem index0_3 (t : Fin cfg0.N) : win0_3.index t 0 * 2176 = 0 ∧ win0_3.index t 1 * 256 = 256 * t.val := by
  rcases fin_N0 t with rfl | rfl | rfl | rfl <;> decide +kernel

theorem read0_3 (f : Fin 2176 → Fin 1024 → ℝ) (t : Fin cfg0.N) :
    ((cfg0.win 3).blk t).view.read (Elt Ideal) (emb f) = emb (a := 2176) (b := 256) (cols f (256 * t.val) (by have h := t.isLt; have hN : cfg0.N = 4 := N_0; omega)) := by
  funext j
  rw [View.read_apply]
  refine emb_congr f _ _ _ (Fin.ext ?_) (Fin.ext ?_)
  · show win0_3.index t 0 * 2176 + 1 * (j 0).val = (j 0).val
    rw [(index0_3 t).1]; omega
  · show win0_3.index t 1 * 256 + 1 * (j 1).val = 256 * t.val + (j 1).val
    rw [(index0_3 t).2]; omega

theorem flushed0_3 (c : Dev nD) (f0 : Fin 2176 → Fin 2048 → ℝ) (f1 : Fin 2048 → Fin 1024 → ℝ) (f2 : Fin 2176 → Fin 1024 → ℝ)
    (h0 : V c (Pipeline.arrRef spec0 0) = emb f0) (h1 : V c (Pipeline.arrRef spec0 1) = emb f1) (h2 : V c (Pipeline.arrRef spec0 2) = emb f2) (t : Fin cfg0.N) :
    (dat0 V c).flushed 3 t = ((cfg0.win 3).blk t).view.read (Elt Ideal) (emb (plus (mm f0 f1) f2)) := by
  rw [read0_3]
  show (cfg0.win 3).cut (grid0.coords t) ((dat0 V c).after 3 t) = _
  rw [after0_3]
  unfold out0_3
  rw [View.canon_unit_zero hz]
  rw [View.ld_unit_zero hz, View.ld_unit_zero hz, View.ld_unit_zero hz]
  unfold iblk0
  have e0 := (congrArg (((cfg0.win 0).blk t).view.read (Elt Ideal)) h0).trans (read0_0 f0 t)
  have e1 := (congrArg (((cfg0.win 1).blk t).view.read (Elt Ideal)) h1).trans (read0_1 f1 t)
  have e2 := (congrArg (((cfg0.win 2).blk t).view.read (Elt Ideal)) h2).trans (read0_2 f2 t)
  rw [e0, e1, e2]
  rw [pay0, mm_cols, plus_cols]
  rfl

theorem cover0_3 (i : (⟨2, ![2176, 1024]⟩ : Shape).Idx) :
    ∃ t : Fin cfg0.N, (cfg0.win 3).flush t = true ∧ i ∈ ((cfg0.win 3).blk t).view.set := by
  have h0 : (i 0 : Nat) < 2176 := (i 0).isLt
  have h1 : (i 1 : Nat) < 1024 := (i 1).isLt
  have hN : cfg0.N = 4 := N_0
  have ht : (i 1 : Nat) / 256 < cfg0.N := by omega
  refine ⟨⟨(i 1 : Nat) / 256, ht⟩, flush0_3 _, ?_⟩
  generalize htt : (⟨(i 1 : Nat) / 256, ht⟩ : Fin cfg0.N) = t
  have hv : t.val = (i 1 : Nat) / 256 := by rw [← htt]
  show i ∈ ((View.whole main_v7).slice (win0_3.rect t)).set
  rw [View.set_slice_whole, Rect.mem_set_unit]
  have e := index0_3 t
  have x : win0_3.xsize (grid0.coords t) 0 = 2176 ∧ win0_3.xsize (grid0.coords t) 1 = 256 := ⟨rfl, rfl⟩
  intro a
  match a with
  | ⟨0, _⟩ =>
    show win0_3.index t 0 * 2176 ≤ (i 0 : Nat) ∧ (i 0 : Nat) < win0_3.index t 0 * 2176 + win0_3.xsize (grid0.coords t) 0
    rw [e.1, x.1]; omega
  | ⟨1, _⟩ =>
    show win0_3.index t 1 * 256 ≤ (i 1 : Nat) ∧ (i 1 : Nat) < win0_3.index t 1 * 256 + win0_3.xsize (grid0.coords t) 1
    rw [e.2, x.2]; omega

/-- The array `out_proj`'s window 3 writes, as the region leaves it. -/
theorem final0_3 (c : Dev nD) (f0 : Fin 2176 → Fin 2048 → ℝ) (f1 : Fin 2048 → Fin 1024 → ℝ) (f2 : Fin 2176 → Fin 1024 → ℝ)
    (h0 : V c (Pipeline.arrRef spec0 0) = emb f0) (h1 : V c (Pipeline.arrRef spec0 1) = emb f1) (h2 : V c (Pipeline.arrRef spec0 2) = emb f2) :
    (dat0 V c).arrAt 3 cfg0.N = emb (plus (mm f0 f1) f2) :=
  (dat0 V c).arrAt_eq_of_cover 3 (emb (plus (mm f0 f1) f2)) (fun t _ => flushed0_3 V c f0 f1 f2 h0 h1 h2 t) cover0_3

/-! ## `norm2` -/

theorem index1_0 (t : Fin cfg1.N) : win1_0.index t 0 * 544 = 544 * t.val ∧ win1_0.index t 1 * 1024 = 0 := by
  rcases fin_N1 t with rfl | rfl | rfl | rfl <;> decide +kernel

theorem read1_0 (f : Fin 2176 → Fin 1024 → ℝ) (t : Fin cfg1.N) :
    ((cfg1.win 0).blk t).view.read (Elt Ideal) (emb f) = emb (a := 544) (b := 1024) (rows f (544 * t.val) (by have h := t.isLt; have hN : cfg1.N = 4 := N_1; omega)) := by
  funext j
  rw [View.read_apply]
  refine emb_congr f _ _ _ (Fin.ext ?_) (Fin.ext ?_)
  · show win1_0.index t 0 * 544 + 1 * (j 0).val = 544 * t.val + (j 0).val
    rw [(index1_0 t).1]; omega
  · show win1_0.index t 1 * 1024 + 1 * (j 1).val = (j 1).val
    rw [(index1_0 t).2]; omega

theorem index1_1 (t : Fin cfg1.N) : win1_1.index t 0 * 1 = 0 ∧ win1_1.index t 1 * 1024 = 0 := by
  rcases fin_N1 t with rfl | rfl | rfl | rfl <;> decide +kernel

theorem read1_1 (f : Fin 1 → Fin 1024 → ℝ) (t : Fin cfg1.N) :
    ((cfg1.win 1).blk t).view.read (Elt Ideal) (emb f) = emb (a := 1) (b := 1024) f := by
  funext j
  rw [View.read_apply]
  refine emb_congr f _ _ _ (Fin.ext ?_) (Fin.ext ?_)
  · show win1_1.index t 0 * 1 + 1 * (j 0).val = (j 0).val
    rw [(index1_1 t).1]; omega
  · show win1_1.index t 1 * 1024 + 1 * (j 1).val = (j 1).val
    rw [(index1_1 t).2]; omega

theorem index1_2 (t : Fin cfg1.N) : win1_2.index t 0 * 544 = 544 * t.val ∧ win1_2.index t 1 * 1024 = 0 := by
  rcases fin_N1 t with rfl | rfl | rfl | rfl <;> decide +kernel

theorem read1_2 (f : Fin 2176 → Fin 1024 → ℝ) (t : Fin cfg1.N) :
    ((cfg1.win 2).blk t).view.read (Elt Ideal) (emb f) = emb (a := 544) (b := 1024) (rows f (544 * t.val) (by have h := t.isLt; have hN : cfg1.N = 4 := N_1; omega)) := by
  funext j
  rw [View.read_apply]
  refine emb_congr f _ _ _ (Fin.ext ?_) (Fin.ext ?_)
  · show win1_2.index t 0 * 544 + 1 * (j 0).val = 544 * t.val + (j 0).val
    rw [(index1_2 t).1]; omega
  · show win1_2.index t 1 * 1024 + 1 * (j 1).val = (j 1).val
    rw [(index1_2 t).2]; omega

theorem flushed1_2 (c : Dev nD) (f0 : Fin 2176 → Fin 1024 → ℝ) (f1 : Fin 1 → Fin 1024 → ℝ)
    (h0 : V c (Pipeline.arrRef spec1 0) = emb f0) (h1 : V c (Pipeline.arrRef spec1 1) = emb f1) (t : Fin cfg1.N) :
    (dat1 V c).flushed 2 t = ((cfg1.win 2).blk t).view.read (Elt Ideal) (emb (nrm f0 f1)) := by
  rw [read1_2]
  show (cfg1.win 2).cut (grid1.coords t) ((dat1 V c).after 2 t) = _
  rw [after1_2]
  unfold out1_2
  rw [View.canon_unit_zero hz]
  rw [View.ld_unit_zero hz, View.ld_unit_zero hz]
  unfold iblk1
  have e0 := (congrArg (((cfg1.win 0).blk t).view.read (Elt Ideal)) h0).trans (read1_0 f0 t)
  have e1 := (congrArg (((cfg1.win 1).blk t).view.read (Elt Ideal)) h1).trans (read1_1 f1 t)
  rw [e0, e1]
  rw [pay1, nrm_rows]
  rfl

theorem cover1_2 (i : (⟨2, ![2176, 1024]⟩ : Shape).Idx) :
    ∃ t : Fin cfg1.N, (cfg1.win 2).flush t = true ∧ i ∈ ((cfg1.win 2).blk t).view.set := by
  have h0 : (i 0 : Nat) < 2176 := (i 0).isLt
  have h1 : (i 1 : Nat) < 1024 := (i 1).isLt
  have hN : cfg1.N = 4 := N_1
  have ht : (i 0 : Nat) / 544 < cfg1.N := by omega
  refine ⟨⟨(i 0 : Nat) / 544, ht⟩, flush1_2 _, ?_⟩
  generalize htt : (⟨(i 0 : Nat) / 544, ht⟩ : Fin cfg1.N) = t
  have hv : t.val = (i 0 : Nat) / 544 := by rw [← htt]
  show i ∈ ((View.whole main_v8).slice (win1_2.rect t)).set
  rw [View.set_slice_whole, Rect.mem_set_unit]
  have e := index1_2 t
  have x : win1_2.xsize (grid1.coords t) 0 = 544 ∧ win1_2.xsize (grid1.coords t) 1 = 1024 := ⟨rfl, rfl⟩
  intro a
  match a with
  | ⟨0, _⟩ =>
    show win1_2.index t 0 * 544 ≤ (i 0 : Nat) ∧ (i 0 : Nat) < win1_2.index t 0 * 544 + win1_2.xsize (grid1.coords t) 0
    rw [e.1, x.1]; omega
  | ⟨1, _⟩ =>
    show win1_2.index t 1 * 1024 ≤ (i 1 : Nat) ∧ (i 1 : Nat) < win1_2.index t 1 * 1024 + win1_2.xsize (grid1.coords t) 1
    rw [e.2, x.2]; omega

/-- The array `norm2`'s window 2 writes, as the region leaves it. -/
theorem final1_2 (c : Dev nD) (f0 : Fin 2176 → Fin 1024 → ℝ) (f1 : Fin 1 → Fin 1024 → ℝ)
    (h0 : V c (Pipeline.arrRef spec1 0) = emb f0) (h1 : V c (Pipeline.arrRef spec1 1) = emb f1) :
    (dat1 V c).arrAt 2 cfg1.N = emb (nrm f0 f1) :=
  (dat1 V c).arrAt_eq_of_cover 2 (emb (nrm f0 f1)) (fun t _ => flushed1_2 V c f0 f1 h0 h1 t) cover1_2

/-! ## `ffn_up` -/

theorem index2_0 (t : Fin cfg2.N) : win2_0.index t 0 * 2176 = 0 ∧ win2_0.index t 1 * 1024 = 0 := by
  rcases fin_N2 t with rfl | rfl | rfl | rfl | rfl | rfl | rfl | rfl | rfl | rfl | rfl <;> decide +kernel

theorem read2_0 (f : Fin 2176 → Fin 1024 → ℝ) (t : Fin cfg2.N) :
    ((cfg2.win 0).blk t).view.read (Elt Ideal) (emb f) = emb (a := 2176) (b := 1024) f := by
  funext j
  rw [View.read_apply]
  refine emb_congr f _ _ _ (Fin.ext ?_) (Fin.ext ?_)
  · show win2_0.index t 0 * 2176 + 1 * (j 0).val = (j 0).val
    rw [(index2_0 t).1]; omega
  · show win2_0.index t 1 * 1024 + 1 * (j 1).val = (j 1).val
    rw [(index2_0 t).2]; omega

theorem index2_1 (t : Fin cfg2.N) : win2_1.index t 0 * 256 = 256 * t.val ∧ win2_1.index t 1 * 1024 = 0 := by
  rcases fin_N2 t with rfl | rfl | rfl | rfl | rfl | rfl | rfl | rfl | rfl | rfl | rfl <;> decide +kernel

theorem read2_1 (f : Fin 2816 → Fin 1024 → ℝ) (t : Fin cfg2.N) :
    ((cfg2.win 1).blk t).view.read (Elt Ideal) (emb f) = emb (a := 256) (b := 1024) (rows f (256 * t.val) (by have h := t.isLt; have hN : cfg2.N = 11 := N_2; omega)) := by
  funext j
  rw [View.read_apply]
  refine emb_congr f _ _ _ (Fin.ext ?_) (Fin.ext ?_)
  · show win2_1.index t 0 * 256 + 1 * (j 0).val = 256 * t.val + (j 0).val
    rw [(index2_1 t).1]; omega
  · show win2_1.index t 1 * 1024 + 1 * (j 1).val = (j 1).val
    rw [(index2_1 t).2]; omega

theorem index2_2 (t : Fin cfg2.N) : win2_2.index t 0 * 256 = 256 * t.val ∧ win2_2.index t 1 * 1024 = 0 := by
  rcases fin_N2 t with rfl | rfl | rfl | rfl | rfl | rfl | rfl | rfl | rfl | rfl | rfl <;> decide +kernel

theorem read2_2 (f : Fin 2816 → Fin 1024 → ℝ) (t : Fin cfg2.N) :
    ((cfg2.win 2).blk t).view.read (Elt Ideal) (emb f) = emb (a := 256) (b := 1024) (rows f (256 * t.val) (by have h := t.isLt; have hN : cfg2.N = 11 := N_2; omega)) := by
  funext j
  rw [View.read_apply]
  refine emb_congr f _ _ _ (Fin.ext ?_) (Fin.ext ?_)
  · show win2_2.index t 0 * 256 + 1 * (j 0).val = 256 * t.val + (j 0).val
    rw [(index2_2 t).1]; omega
  · show win2_2.index t 1 * 1024 + 1 * (j 1).val = (j 1).val
    rw [(index2_2 t).2]; omega

theorem index2_3 (t : Fin cfg2.N) : win2_3.index t 0 * 2176 = 0 ∧ win2_3.index t 1 * 256 = 256 * t.val := by
  rcases fin_N2 t with rfl | rfl | rfl | rfl | rfl | rfl | rfl | rfl | rfl | rfl | rfl <;> decide +kernel

theorem read2_3 (f : Fin 2176 → Fin 2816 → ℝ) (t : Fin cfg2.N) :
    ((cfg2.win 3).blk t).view.read (Elt Ideal) (emb f) = emb (a := 2176) (b := 256) (cols f (256 * t.val) (by have h := t.isLt; have hN : cfg2.N = 11 := N_2; omega)) := by
  funext j
  rw [View.read_apply]
  refine emb_congr f _ _ _ (Fin.ext ?_) (Fin.ext ?_)
  · show win2_3.index t 0 * 2176 + 1 * (j 0).val = (j 0).val
    rw [(index2_3 t).1]; omega
  · show win2_3.index t 1 * 256 + 1 * (j 1).val = 256 * t.val + (j 1).val
    rw [(index2_3 t).2]; omega

theorem flushed2_3 (c : Dev nD) (f0 : Fin 2176 → Fin 1024 → ℝ) (f1 : Fin 2816 → Fin 1024 → ℝ)
    (h0 : V c (Pipeline.arrRef spec2 0) = emb f0) (h1 : V c (Pipeline.arrRef spec2 1) = emb f1) (t : Fin cfg2.N) :
    (dat2 V c).flushed 3 t = ((cfg2.win 3).blk t).view.read (Elt Ideal) (emb (mmT f0 f1)) := by
  rw [read2_3]
  show (cfg2.win 3).cut (grid2.coords t) ((dat2 V c).after 3 t) = _
  rw [after2_3]
  unfold out2_3
  rw [View.canon_unit_zero hz]
  rw [View.ld_unit_zero hz, View.ld_unit_zero hz]
  unfold iblk2
  have e0 := (congrArg (((cfg2.win 0).blk t).view.read (Elt Ideal)) h0).trans (read2_0 f0 t)
  have e1 := (congrArg (((cfg2.win 1).blk t).view.read (Elt Ideal)) h1).trans (read2_1 f1 t)
  rw [e0, e1]
  rw [pay2g, mmT_rows]
  rfl

theorem cover2_3 (i : (⟨2, ![2176, 2816]⟩ : Shape).Idx) :
    ∃ t : Fin cfg2.N, (cfg2.win 3).flush t = true ∧ i ∈ ((cfg2.win 3).blk t).view.set := by
  have h0 : (i 0 : Nat) < 2176 := (i 0).isLt
  have h1 : (i 1 : Nat) < 2816 := (i 1).isLt
  have hN : cfg2.N = 11 := N_2
  have ht : (i 1 : Nat) / 256 < cfg2.N := by omega
  refine ⟨⟨(i 1 : Nat) / 256, ht⟩, flush2_3 _, ?_⟩
  generalize htt : (⟨(i 1 : Nat) / 256, ht⟩ : Fin cfg2.N) = t
  have hv : t.val = (i 1 : Nat) / 256 := by rw [← htt]
  show i ∈ ((View.whole main_v9_0).slice (win2_3.rect t)).set
  rw [View.set_slice_whole, Rect.mem_set_unit]
  have e := index2_3 t
  have x : win2_3.xsize (grid2.coords t) 0 = 2176 ∧ win2_3.xsize (grid2.coords t) 1 = 256 := ⟨rfl, rfl⟩
  intro a
  match a with
  | ⟨0, _⟩ =>
    show win2_3.index t 0 * 2176 ≤ (i 0 : Nat) ∧ (i 0 : Nat) < win2_3.index t 0 * 2176 + win2_3.xsize (grid2.coords t) 0
    rw [e.1, x.1]; omega
  | ⟨1, _⟩ =>
    show win2_3.index t 1 * 256 ≤ (i 1 : Nat) ∧ (i 1 : Nat) < win2_3.index t 1 * 256 + win2_3.xsize (grid2.coords t) 1
    rw [e.2, x.2]; omega

/-- The array `ffn_up`'s window 3 writes, as the region leaves it. -/
theorem final2_3 (c : Dev nD) (f0 : Fin 2176 → Fin 1024 → ℝ) (f1 : Fin 2816 → Fin 1024 → ℝ)
    (h0 : V c (Pipeline.arrRef spec2 0) = emb f0) (h1 : V c (Pipeline.arrRef spec2 1) = emb f1) :
    (dat2 V c).arrAt 3 cfg2.N = emb (mmT f0 f1) :=
  (dat2 V c).arrAt_eq_of_cover 3 (emb (mmT f0 f1)) (fun t _ => flushed2_3 V c f0 f1 h0 h1 t) cover2_3

theorem index2_4 (t : Fin cfg2.N) : win2_4.index t 0 * 2176 = 0 ∧ win2_4.index t 1 * 256 = 256 * t.val := by
  rcases fin_N2 t with rfl | rfl | rfl | rfl | rfl | rfl | rfl | rfl | rfl | rfl | rfl <;> decide +kernel

theorem read2_4 (f : Fin 2176 → Fin 2816 → ℝ) (t : Fin cfg2.N) :
    ((cfg2.win 4).blk t).view.read (Elt Ideal) (emb f) = emb (a := 2176) (b := 256) (cols f (256 * t.val) (by have h := t.isLt; have hN : cfg2.N = 11 := N_2; omega)) := by
  funext j
  rw [View.read_apply]
  refine emb_congr f _ _ _ (Fin.ext ?_) (Fin.ext ?_)
  · show win2_4.index t 0 * 2176 + 1 * (j 0).val = (j 0).val
    rw [(index2_4 t).1]; omega
  · show win2_4.index t 1 * 256 + 1 * (j 1).val = 256 * t.val + (j 1).val
    rw [(index2_4 t).2]; omega

theorem flushed2_4 (c : Dev nD) (f0 : Fin 2176 → Fin 1024 → ℝ) (f2 : Fin 2816 → Fin 1024 → ℝ)
    (h0 : V c (Pipeline.arrRef spec2 0) = emb f0) (h2 : V c (Pipeline.arrRef spec2 2) = emb f2) (t : Fin cfg2.N) :
    (dat2 V c).flushed 4 t = ((cfg2.win 4).blk t).view.read (Elt Ideal) (emb (mmT f0 f2)) := by
  rw [read2_4]
  show (cfg2.win 4).cut (grid2.coords t) ((dat2 V c).after 4 t) = _
  rw [after2_4]
  unfold out2_4
  rw [View.canon_unit_zero hz]
  rw [View.ld_unit_zero hz, View.ld_unit_zero hz]
  unfold iblk2
  have e0 := (congrArg (((cfg2.win 0).blk t).view.read (Elt Ideal)) h0).trans (read2_0 f0 t)
  have e2 := (congrArg (((cfg2.win 2).blk t).view.read (Elt Ideal)) h2).trans (read2_2 f2 t)
  rw [e0, e2]
  rw [pay2u, mmT_rows]
  rfl

theorem cover2_4 (i : (⟨2, ![2176, 2816]⟩ : Shape).Idx) :
    ∃ t : Fin cfg2.N, (cfg2.win 4).flush t = true ∧ i ∈ ((cfg2.win 4).blk t).view.set := by
  have h0 : (i 0 : Nat) < 2176 := (i 0).isLt
  have h1 : (i 1 : Nat) < 2816 := (i 1).isLt
  have hN : cfg2.N = 11 := N_2
  have ht : (i 1 : Nat) / 256 < cfg2.N := by omega
  refine ⟨⟨(i 1 : Nat) / 256, ht⟩, flush2_4 _, ?_⟩
  generalize htt : (⟨(i 1 : Nat) / 256, ht⟩ : Fin cfg2.N) = t
  have hv : t.val = (i 1 : Nat) / 256 := by rw [← htt]
  show i ∈ ((View.whole main_v9_1).slice (win2_4.rect t)).set
  rw [View.set_slice_whole, Rect.mem_set_unit]
  have e := index2_4 t
  have x : win2_4.xsize (grid2.coords t) 0 = 2176 ∧ win2_4.xsize (grid2.coords t) 1 = 256 := ⟨rfl, rfl⟩
  intro a
  match a with
  | ⟨0, _⟩ =>
    show win2_4.index t 0 * 2176 ≤ (i 0 : Nat) ∧ (i 0 : Nat) < win2_4.index t 0 * 2176 + win2_4.xsize (grid2.coords t) 0
    rw [e.1, x.1]; omega
  | ⟨1, _⟩ =>
    show win2_4.index t 1 * 256 ≤ (i 1 : Nat) ∧ (i 1 : Nat) < win2_4.index t 1 * 256 + win2_4.xsize (grid2.coords t) 1
    rw [e.2, x.2]; omega

/-- The array `ffn_up`'s window 4 writes, as the region leaves it. -/
theorem final2_4 (c : Dev nD) (f0 : Fin 2176 → Fin 1024 → ℝ) (f2 : Fin 2816 → Fin 1024 → ℝ)
    (h0 : V c (Pipeline.arrRef spec2 0) = emb f0) (h2 : V c (Pipeline.arrRef spec2 2) = emb f2) :
    (dat2 V c).arrAt 4 cfg2.N = emb (mmT f0 f2) :=
  (dat2 V c).arrAt_eq_of_cover 4 (emb (mmT f0 f2)) (fun t _ => flushed2_4 V c f0 f2 h0 h2 t) cover2_4

theorem index2_5 (t : Fin cfg2.N) : win2_5.index t 0 * 2176 = 0 ∧ win2_5.index t 1 * 256 = 256 * t.val := by
  rcases fin_N2 t with rfl | rfl | rfl | rfl | rfl | rfl | rfl | rfl | rfl | rfl | rfl <;> decide +kernel

theorem read2_5 (f : Fin 2176 → Fin 2816 → ℝ) (t : Fin cfg2.N) :
    ((cfg2.win 5).blk t).view.read (Elt Ideal) (emb f) = emb (a := 2176) (b := 256) (cols f (256 * t.val) (by have h := t.isLt; have hN : cfg2.N = 11 := N_2; omega)) := by
  funext j
  rw [View.read_apply]
  refine emb_congr f _ _ _ (Fin.ext ?_) (Fin.ext ?_)
  · show win2_5.index t 0 * 2176 + 1 * (j 0).val = (j 0).val
    rw [(index2_5 t).1]; omega
  · show win2_5.index t 1 * 256 + 1 * (j 1).val = 256 * t.val + (j 1).val
    rw [(index2_5 t).2]; omega

theorem flushed2_5 (c : Dev nD) (f0 : Fin 2176 → Fin 1024 → ℝ) (f1 : Fin 2816 → Fin 1024 → ℝ) (f2 : Fin 2816 → Fin 1024 → ℝ)
    (h0 : V c (Pipeline.arrRef spec2 0) = emb f0) (h1 : V c (Pipeline.arrRef spec2 1) = emb f1) (h2 : V c (Pipeline.arrRef spec2 2) = emb f2) (t : Fin cfg2.N) :
    (dat2 V c).flushed 5 t = ((cfg2.win 5).blk t).view.read (Elt Ideal) (emb (act (mmT f0 f1) (mmT f0 f2))) := by
  rw [read2_5]
  show (cfg2.win 5).cut (grid2.coords t) ((dat2 V c).after 5 t) = _
  rw [after2_5]
  unfold out2_5
  rw [View.canon_unit_zero hz]
  rw [View.ld_unit_zero hz, View.ld_unit_zero hz, View.ld_unit_zero hz]
  unfold iblk2
  have e0 := (congrArg (((cfg2.win 0).blk t).view.read (Elt Ideal)) h0).trans (read2_0 f0 t)
  have e1 := (congrArg (((cfg2.win 1).blk t).view.read (Elt Ideal)) h1).trans (read2_1 f1 t)
  have e2 := (congrArg (((cfg2.win 2).blk t).view.read (Elt Ideal)) h2).trans (read2_2 f2 t)
  rw [e0, e1, e2]
  rw [pay2a, mmT_rows, mmT_rows, act_cols]
  rfl

theorem cover2_5 (i : (⟨2, ![2176, 2816]⟩ : Shape).Idx) :
    ∃ t : Fin cfg2.N, (cfg2.win 5).flush t = true ∧ i ∈ ((cfg2.win 5).blk t).view.set := by
  have h0 : (i 0 : Nat) < 2176 := (i 0).isLt
  have h1 : (i 1 : Nat) < 2816 := (i 1).isLt
  have hN : cfg2.N = 11 := N_2
  have ht : (i 1 : Nat) / 256 < cfg2.N := by omega
  refine ⟨⟨(i 1 : Nat) / 256, ht⟩, flush2_5 _, ?_⟩
  generalize htt : (⟨(i 1 : Nat) / 256, ht⟩ : Fin cfg2.N) = t
  have hv : t.val = (i 1 : Nat) / 256 := by rw [← htt]
  show i ∈ ((View.whole main_v9_2).slice (win2_5.rect t)).set
  rw [View.set_slice_whole, Rect.mem_set_unit]
  have e := index2_5 t
  have x : win2_5.xsize (grid2.coords t) 0 = 2176 ∧ win2_5.xsize (grid2.coords t) 1 = 256 := ⟨rfl, rfl⟩
  intro a
  match a with
  | ⟨0, _⟩ =>
    show win2_5.index t 0 * 2176 ≤ (i 0 : Nat) ∧ (i 0 : Nat) < win2_5.index t 0 * 2176 + win2_5.xsize (grid2.coords t) 0
    rw [e.1, x.1]; omega
  | ⟨1, _⟩ =>
    show win2_5.index t 1 * 256 ≤ (i 1 : Nat) ∧ (i 1 : Nat) < win2_5.index t 1 * 256 + win2_5.xsize (grid2.coords t) 1
    rw [e.2, x.2]; omega

/-- The array `ffn_up`'s window 5 writes, as the region leaves it. -/
theorem final2_5 (c : Dev nD) (f0 : Fin 2176 → Fin 1024 → ℝ) (f1 : Fin 2816 → Fin 1024 → ℝ) (f2 : Fin 2816 → Fin 1024 → ℝ)
    (h0 : V c (Pipeline.arrRef spec2 0) = emb f0) (h1 : V c (Pipeline.arrRef spec2 1) = emb f1) (h2 : V c (Pipeline.arrRef spec2 2) = emb f2) :
    (dat2 V c).arrAt 5 cfg2.N = emb (act (mmT f0 f1) (mmT f0 f2)) :=
  (dat2 V c).arrAt_eq_of_cover 5 (emb (act (mmT f0 f1) (mmT f0 f2))) (fun t _ => flushed2_5 V c f0 f1 f2 h0 h1 h2 t) cover2_5

/-! ## `ffn_down` -/

theorem index3_0 (t : Fin cfg3.N) : win3_0.index t 0 * 2176 = 0 ∧ win3_0.index t 1 * 2816 = 0 := by
  rcases fin_N3 t with rfl | rfl | rfl | rfl <;> decide +kernel

theorem read3_0 (f : Fin 2176 → Fin 2816 → ℝ) (t : Fin cfg3.N) :
    ((cfg3.win 0).blk t).view.read (Elt Ideal) (emb f) = emb (a := 2176) (b := 2816) f := by
  funext j
  rw [View.read_apply]
  refine emb_congr f _ _ _ (Fin.ext ?_) (Fin.ext ?_)
  · show win3_0.index t 0 * 2176 + 1 * (j 0).val = (j 0).val
    rw [(index3_0 t).1]; omega
  · show win3_0.index t 1 * 2816 + 1 * (j 1).val = (j 1).val
    rw [(index3_0 t).2]; omega

theorem index3_1 (t : Fin cfg3.N) : win3_1.index t 0 * 2816 = 0 ∧ win3_1.index t 1 * 256 = 256 * t.val := by
  rcases fin_N3 t with rfl | rfl | rfl | rfl <;> decide +kernel

theorem read3_1 (f : Fin 2816 → Fin 1024 → ℝ) (t : Fin cfg3.N) :
    ((cfg3.win 1).blk t).view.read (Elt Ideal) (emb f) = emb (a := 2816) (b := 256) (cols f (256 * t.val) (by have h := t.isLt; have hN : cfg3.N = 4 := N_3; omega)) := by
  funext j
  rw [View.read_apply]
  refine emb_congr f _ _ _ (Fin.ext ?_) (Fin.ext ?_)
  · show win3_1.index t 0 * 2816 + 1 * (j 0).val = (j 0).val
    rw [(index3_1 t).1]; omega
  · show win3_1.index t 1 * 256 + 1 * (j 1).val = 256 * t.val + (j 1).val
    rw [(index3_1 t).2]; omega

theorem index3_2 (t : Fin cfg3.N) : win3_2.index t 0 * 2176 = 0 ∧ win3_2.index t 1 * 256 = 256 * t.val := by
  rcases fin_N3 t with rfl | rfl | rfl | rfl <;> decide +kernel

theorem read3_2 (f : Fin 2176 → Fin 1024 → ℝ) (t : Fin cfg3.N) :
    ((cfg3.win 2).blk t).view.read (Elt Ideal) (emb f) = emb (a := 2176) (b := 256) (cols f (256 * t.val) (by have h := t.isLt; have hN : cfg3.N = 4 := N_3; omega)) := by
  funext j
  rw [View.read_apply]
  refine emb_congr f _ _ _ (Fin.ext ?_) (Fin.ext ?_)
  · show win3_2.index t 0 * 2176 + 1 * (j 0).val = (j 0).val
    rw [(index3_2 t).1]; omega
  · show win3_2.index t 1 * 256 + 1 * (j 1).val = 256 * t.val + (j 1).val
    rw [(index3_2 t).2]; omega

theorem index3_3 (t : Fin cfg3.N) : win3_3.index t 0 * 2176 = 0 ∧ win3_3.index t 1 * 256 = 256 * t.val := by
  rcases fin_N3 t with rfl | rfl | rfl | rfl <;> decide +kernel

theorem read3_3 (f : Fin 2176 → Fin 1024 → ℝ) (t : Fin cfg3.N) :
    ((cfg3.win 3).blk t).view.read (Elt Ideal) (emb f) = emb (a := 2176) (b := 256) (cols f (256 * t.val) (by have h := t.isLt; have hN : cfg3.N = 4 := N_3; omega)) := by
  funext j
  rw [View.read_apply]
  refine emb_congr f _ _ _ (Fin.ext ?_) (Fin.ext ?_)
  · show win3_3.index t 0 * 2176 + 1 * (j 0).val = (j 0).val
    rw [(index3_3 t).1]; omega
  · show win3_3.index t 1 * 256 + 1 * (j 1).val = 256 * t.val + (j 1).val
    rw [(index3_3 t).2]; omega

theorem flushed3_3 (c : Dev nD) (f0 : Fin 2176 → Fin 2816 → ℝ) (f1 : Fin 2816 → Fin 1024 → ℝ) (f2 : Fin 2176 → Fin 1024 → ℝ)
    (h0 : V c (Pipeline.arrRef spec3 0) = emb f0) (h1 : V c (Pipeline.arrRef spec3 1) = emb f1) (h2 : V c (Pipeline.arrRef spec3 2) = emb f2) (t : Fin cfg3.N) :
    (dat3 V c).flushed 3 t = ((cfg3.win 3).blk t).view.read (Elt Ideal) (emb (plus (mm f0 f1) f2)) := by
  rw [read3_3]
  show (cfg3.win 3).cut (grid3.coords t) ((dat3 V c).after 3 t) = _
  rw [after3_3]
  unfold out3_3
  rw [View.canon_unit_zero hz]
  rw [View.ld_unit_zero hz, View.ld_unit_zero hz, View.ld_unit_zero hz]
  unfold iblk3
  have e0 := (congrArg (((cfg3.win 0).blk t).view.read (Elt Ideal)) h0).trans (read3_0 f0 t)
  have e1 := (congrArg (((cfg3.win 1).blk t).view.read (Elt Ideal)) h1).trans (read3_1 f1 t)
  have e2 := (congrArg (((cfg3.win 2).blk t).view.read (Elt Ideal)) h2).trans (read3_2 f2 t)
  rw [e0, e1, e2]
  rw [pay3, mm_cols, plus_cols]
  rfl

theorem cover3_3 (i : (⟨2, ![2176, 1024]⟩ : Shape).Idx) :
    ∃ t : Fin cfg3.N, (cfg3.win 3).flush t = true ∧ i ∈ ((cfg3.win 3).blk t).view.set := by
  have h0 : (i 0 : Nat) < 2176 := (i 0).isLt
  have h1 : (i 1 : Nat) < 1024 := (i 1).isLt
  have hN : cfg3.N = 4 := N_3
  have ht : (i 1 : Nat) / 256 < cfg3.N := by omega
  refine ⟨⟨(i 1 : Nat) / 256, ht⟩, flush3_3 _, ?_⟩
  generalize htt : (⟨(i 1 : Nat) / 256, ht⟩ : Fin cfg3.N) = t
  have hv : t.val = (i 1 : Nat) / 256 := by rw [← htt]
  show i ∈ ((View.whole main_v10).slice (win3_3.rect t)).set
  rw [View.set_slice_whole, Rect.mem_set_unit]
  have e := index3_3 t
  have x : win3_3.xsize (grid3.coords t) 0 = 2176 ∧ win3_3.xsize (grid3.coords t) 1 = 256 := ⟨rfl, rfl⟩
  intro a
  match a with
  | ⟨0, _⟩ =>
    show win3_3.index t 0 * 2176 ≤ (i 0 : Nat) ∧ (i 0 : Nat) < win3_3.index t 0 * 2176 + win3_3.xsize (grid3.coords t) 0
    rw [e.1, x.1]; omega
  | ⟨1, _⟩ =>
    show win3_3.index t 1 * 256 ≤ (i 1 : Nat) ∧ (i 1 : Nat) < win3_3.index t 1 * 256 + win3_3.xsize (grid3.coords t) 1
    rw [e.2, x.2]; omega

/-- The array `ffn_down`'s window 3 writes, as the region leaves it. -/
theorem final3_3 (c : Dev nD) (f0 : Fin 2176 → Fin 2816 → ℝ) (f1 : Fin 2816 → Fin 1024 → ℝ) (f2 : Fin 2176 → Fin 1024 → ℝ)
    (h0 : V c (Pipeline.arrRef spec3 0) = emb f0) (h1 : V c (Pipeline.arrRef spec3 1) = emb f1) (h2 : V c (Pipeline.arrRef spec3 2) = emb f2) :
    (dat3 V c).arrAt 3 cfg3.N = emb (plus (mm f0 f1) f2) :=
  (dat3 V c).arrAt_eq_of_cover 3 (emb (plus (mm f0 f1) f2)) (fun t _ => flushed3_3 V c f0 f1 f2 h0 h1 h2 t) cover3_3

end Cert.KernelIdeal.Value

end
-- ==== Proof.RegionsGrad.lean ====
/- The arrays the activation's backward call and the three weight-gradient products of the feed-forward leave: every grid point writes back its block of one matrix, and the blocks cover the array. -/
module

public import proofs.«01_k».proof.Proof.Blocks
public import proofs.«01_k».proof.Proof.Gen.KernelIdeal.Frame.Region4
public import proofs.«01_k».proof.Proof.Gen.KernelIdeal.Frame.Region5
public import proofs.«01_k».proof.Proof.Gen.KernelIdeal.Frame.Region7
public import proofs.«01_k».proof.Proof.Gen.KernelIdeal.Frame.Region8
public import Idealize.ShloMosaic.Lib.Pipeline.Value

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Block

variable (V : (c : Dev nD) → (b : Ref sig .tc) → Buf (Elt Ideal) ((c : Thread nD τ).loc b))

/-! ## `ffn_bwd_act` -/

theorem index4_0 (t : Fin cfg4.N) : win4_0.index t 0 * 2176 = 0 ∧ win4_0.index t 1 * 1024 = 0 := by
  rcases fin_N4 t with rfl | rfl | rfl | rfl | rfl | rfl | rfl | rfl | rfl | rfl | rfl <;> decide +kernel

theorem read4_0 (f : Fin 2176 → Fin 1024 → ℝ) (t : Fin cfg4.N) :
    ((cfg4.win 0).blk t).view.read (Elt Ideal) (emb f) = emb (a := 2176) (b := 1024) f := by
  funext j
  rw [View.read_apply]
  refine emb_congr f _ _ _ (Fin.ext ?_) (Fin.ext ?_)
  · show win4_0.index t 0 * 2176 + 1 * (j 0).val = (j 0).val
    rw [(index4_0 t).1]; omega
  · show win4_0.index t 1 * 1024 + 1 * (j 1).val = (j 1).val
    rw [(index4_0 t).2]; omega

theorem index4_1 (t : Fin cfg4.N) : win4_1.index t 0 * 256 = 256 * t.val ∧ win4_1.index t 1 * 1024 = 0 := by
  rcases fin_N4 t with rfl | rfl | rfl | rfl | rfl | rfl | rfl | rfl | rfl | rfl | rfl <;> decide +kernel

theorem read4_1 (f : Fin 2816 → Fin 1024 → ℝ) (t : Fin cfg4.N) :
    ((cfg4.win 1).blk t).view.read (Elt Ideal) (emb f) = emb (a := 256) (b := 1024) (rows f (256 * t.val) (by have h := t.isLt; have hN : cfg4.N = 11 := N_4; omega)) := by
  funext j
  rw [View.read_apply]
  refine emb_congr f _ _ _ (Fin.ext ?_) (Fin.ext ?_)
  · show win4_1.index t 0 * 256 + 1 * (j 0).val = 256 * t.val + (j 0).val
    rw [(index4_1 t).1]; omega
  · show win4_1.index t 1 * 1024 + 1 * (j 1).val = (j 1).val
    rw [(index4_1 t).2]; omega

theorem index4_2 (t : Fin cfg4.N) : win4_2.index t 0 * 2176 = 0 ∧ win4_2.index t 1 * 256 = 256 * t.val := by
  rcases fin_N4 t with rfl | rfl | rfl | rfl | rfl | rfl | rfl | rfl | rfl | rfl | rfl <;> decide +kernel

theorem read4_2 (f : Fin 2176 → Fin 2816 → ℝ) (t : Fin cfg4.N) :
    ((cfg4.win 2).blk t).view.read (Elt Ideal) (emb f) = emb (a := 2176) (b := 256) (cols f (256 * t.val) (by have h := t.isLt; have hN : cfg4.N = 11 := N_4; omega)) := by
  funext j
  rw [View.read_apply]
  refine emb_congr f _ _ _ (Fin.ext ?_) (Fin.ext ?_)
  · show win4_2.index t 0 * 2176 + 1 * (j 0).val = (j 0).val
    rw [(index4_2 t).1]; omega
  · show win4_2.index t 1 * 256 + 1 * (j 1).val = 256 * t.val + (j 1).val
    rw [(index4_2 t).2]; omega

theorem index4_3 (t : Fin cfg4.N) : win4_3.index t 0 * 2176 = 0 ∧ win4_3.index t 1 * 256 = 256 * t.val := by
  rcases fin_N4 t with rfl | rfl | rfl | rfl | rfl | rfl | rfl | rfl | rfl | rfl | rfl <;> decide +kernel

theorem read4_3 (f : Fin 2176 → Fin 2816 → ℝ) (t : Fin cfg4.N) :
    ((cfg4.win 3).blk t).view.read (Elt Ideal) (emb f) = emb (a := 2176) (b := 256) (cols f (256 * t.val) (by have h := t.isLt; have hN : cfg4.N = 11 := N_4; omega)) := by
  funext j
  rw [View.read_apply]
  refine emb_congr f _ _ _ (Fin.ext ?_) (Fin.ext ?_)
  · show win4_3.index t 0 * 2176 + 1 * (j 0).val = (j 0).val
    rw [(index4_3 t).1]; omega
  · show win4_3.index t 1 * 256 + 1 * (j 1).val = 256 * t.val + (j 1).val
    rw [(index4_3 t).2]; omega

theorem index4_4 (t : Fin cfg4.N) : win4_4.index t 0 * 2176 = 0 ∧ win4_4.index t 1 * 256 = 256 * t.val := by
  rcases fin_N4 t with rfl | rfl | rfl | rfl | rfl | rfl | rfl | rfl | rfl | rfl | rfl <;> decide +kernel

theorem read4_4 (f : Fin 2176 → Fin 2816 → ℝ) (t : Fin cfg4.N) :
    ((cfg4.win 4).blk t).view.read (Elt Ideal) (emb f) = emb (a := 2176) (b := 256) (cols f (256 * t.val) (by have h := t.isLt; have hN : cfg4.N = 11 := N_4; omega)) := by
  funext j
  rw [View.read_apply]
  refine emb_congr f _ _ _ (Fin.ext ?_) (Fin.ext ?_)
  · show win4_4.index t 0 * 2176 + 1 * (j 0).val = (j 0).val
    rw [(index4_4 t).1]; omega
  · show win4_4.index t 1 * 256 + 1 * (j 1).val = 256 * t.val + (j 1).val
    rw [(index4_4 t).2]; omega

theorem flushed4_4 (c : Dev nD) (f0 : Fin 2176 → Fin 1024 → ℝ) (f1 : Fin 2816 → Fin 1024 → ℝ) (f2 : Fin 2176 → Fin 2816 → ℝ) (f3 : Fin 2176 → Fin 2816 → ℝ)
    (h0 : V c (Pipeline.arrRef spec4 0) = emb f0) (h1 : V c (Pipeline.arrRef spec4 1) = emb f1) (h2 : V c (Pipeline.arrRef spec4 2) = emb f2) (h3 : V c (Pipeline.arrRef spec4 3) = emb f3) (t : Fin cfg4.N) :
    (dat4 V c).flushed 4 t = ((cfg4.win 4).blk t).view.read (Elt Ideal) (emb (dgate (mmT f0 f1) f2 f3)) := by
  rw [read4_4]
  show (cfg4.win 4).cut (grid4.coords t) ((dat4 V c).after 4 t) = _
  rw [after4_4]
  unfold out4_4
  rw [View.canon_unit_zero hz]
  rw [View.ld_unit_zero hz, View.ld_unit_zero hz, View.ld_unit_zero hz, View.ld_unit_zero hz]
  unfold iblk4
  have e0 := (congrArg (((cfg4.win 0).blk t).view.read (Elt Ideal)) h0).trans (read4_0 f0 t)
  have e1 := (congrArg (((cfg4.win 1).blk t).view.read (Elt Ideal)) h1).trans (read4_1 f1 t)
  have e2 := (congrArg (((cfg4.win 2).blk t).view.read (Elt Ideal)) h2).trans (read4_2 f2 t)
  have e3 := (congrArg (((cfg4.win 3).blk t).view.read (Elt Ideal)) h3).trans (read4_3 f3 t)
  rw [e0, e1, e2, e3]
  rw [pay4g, mmT_rows, dgate_cols]
  rfl

theorem cover4_4 (i : (⟨2, ![2176, 2816]⟩ : Shape).Idx) :
    ∃ t : Fin cfg4.N, (cfg4.win 4).flush t = true ∧ i ∈ ((cfg4.win 4).blk t).view.set := by
  have h0 : (i 0 : Nat) < 2176 := (i 0).isLt
  have h1 : (i 1 : Nat) < 2816 := (i 1).isLt
  have hN : cfg4.N = 11 := N_4
  have ht : (i 1 : Nat) / 256 < cfg4.N := by omega
  refine ⟨⟨(i 1 : Nat) / 256, ht⟩, flush4_4 _, ?_⟩
  generalize htt : (⟨(i 1 : Nat) / 256, ht⟩ : Fin cfg4.N) = t
  have hv : t.val = (i 1 : Nat) / 256 := by rw [← htt]
  show i ∈ ((View.whole main_v11_0).slice (win4_4.rect t)).set
  rw [View.set_slice_whole, Rect.mem_set_unit]
  have e := index4_4 t
  have x : win4_4.xsize (grid4.coords t) 0 = 2176 ∧ win4_4.xsize (grid4.coords t) 1 = 256 := ⟨rfl, rfl⟩
  intro a
  match a with
  | ⟨0, _⟩ =>
    show win4_4.index t 0 * 2176 ≤ (i 0 : Nat) ∧ (i 0 : Nat) < win4_4.index t 0 * 2176 + win4_4.xsize (grid4.coords t) 0
    rw [e.1, x.1]; omega
  | ⟨1, _⟩ =>
    show win4_4.index t 1 * 256 ≤ (i 1 : Nat) ∧ (i 1 : Nat) < win4_4.index t 1 * 256 + win4_4.xsize (grid4.coords t) 1
    rw [e.2, x.2]; omega

/-- The array `ffn_bwd_act`'s window 4 writes, as the region leaves it. -/
theorem final4_4 (c : Dev nD) (f0 : Fin 2176 → Fin 1024 → ℝ) (f1 : Fin 2816 → Fin 1024 → ℝ) (f2 : Fin 2176 → Fin 2816 → ℝ) (f3 : Fin 2176 → Fin 2816 → ℝ)
    (h0 : V c (Pipeline.arrRef spec4 0) = emb f0) (h1 : V c (Pipeline.arrRef spec4 1) = emb f1) (h2 : V c (Pipeline.arrRef spec4 2) = emb f2) (h3 : V c (Pipeline.arrRef spec4 3) = emb f3) :
    (dat4 V c).arrAt 4 cfg4.N = emb (dgate (mmT f0 f1) f2 f3) :=
  (dat4 V c).arrAt_eq_of_cover 4 (emb (dgate (mmT f0 f1) f2 f3)) (fun t _ => flushed4_4 V c f0 f1 f2 f3 h0 h1 h2 h3 t) cover4_4

theorem index4_5 (t : Fin cfg4.N) : win4_5.index t 0 * 2176 = 0 ∧ win4_5.index t 1 * 256 = 256 * t.val := by
  rcases fin_N4 t with rfl | rfl | rfl | rfl | rfl | rfl | rfl | rfl | rfl | rfl | rfl <;> decide +kernel

theorem read4_5 (f : Fin 2176 → Fin 2816 → ℝ) (t : Fin cfg4.N) :
    ((cfg4.win 5).blk t).view.read (Elt Ideal) (emb f) = emb (a := 2176) (b := 256) (cols f (256 * t.val) (by have h := t.isLt; have hN : cfg4.N = 11 := N_4; omega)) := by
  funext j
  rw [View.read_apply]
  refine emb_congr f _ _ _ (Fin.ext ?_) (Fin.ext ?_)
  · show win4_5.index t 0 * 2176 + 1 * (j 0).val = (j 0).val
    rw [(index4_5 t).1]; omega
  · show win4_5.index t 1 * 256 + 1 * (j 1).val = 256 * t.val + (j 1).val
    rw [(index4_5 t).2]; omega

theorem flushed4_5 (c : Dev nD) (f0 : Fin 2176 → Fin 1024 → ℝ) (f1 : Fin 2816 → Fin 1024 → ℝ) (f2 : Fin 2176 → Fin 2816 → ℝ)
    (h0 : V c (Pipeline.arrRef spec4 0) = emb f0) (h1 : V c (Pipeline.arrRef spec4 1) = emb f1) (h2 : V c (Pipeline.arrRef spec4 2) = emb f2) (t : Fin cfg4.N) :
    (dat4 V c).flushed 5 t = ((cfg4.win 5).blk t).view.read (Elt Ideal) (emb (dlin (mmT f0 f1) f2)) := by
  rw [read4_5]
  show (cfg4.win 5).cut (grid4.coords t) ((dat4 V c).after 5 t) = _
  rw [after4_5]
  unfold out4_5
  rw [View.canon_unit_zero hz]
  rw [View.ld_unit_zero hz, View.ld_unit_zero hz, View.ld_unit_zero hz]
  unfold iblk4
  have e0 := (congrArg (((cfg4.win 0).blk t).view.read (Elt Ideal)) h0).trans (read4_0 f0 t)
  have e1 := (congrArg (((cfg4.win 1).blk t).view.read (Elt Ideal)) h1).trans (read4_1 f1 t)
  have e2 := (congrArg (((cfg4.win 2).blk t).view.read (Elt Ideal)) h2).trans (read4_2 f2 t)
  rw [e0, e1, e2]
  rw [pay4u, mmT_rows, dlin_cols]
  rfl

theorem cover4_5 (i : (⟨2, ![2176, 2816]⟩ : Shape).Idx) :
    ∃ t : Fin cfg4.N, (cfg4.win 5).flush t = true ∧ i ∈ ((cfg4.win 5).blk t).view.set := by
  have h0 : (i 0 : Nat) < 2176 := (i 0).isLt
  have h1 : (i 1 : Nat) < 2816 := (i 1).isLt
  have hN : cfg4.N = 11 := N_4
  have ht : (i 1 : Nat) / 256 < cfg4.N := by omega
  refine ⟨⟨(i 1 : Nat) / 256, ht⟩, flush4_5 _, ?_⟩
  generalize htt : (⟨(i 1 : Nat) / 256, ht⟩ : Fin cfg4.N) = t
  have hv : t.val = (i 1 : Nat) / 256 := by rw [← htt]
  show i ∈ ((View.whole main_v11_1).slice (win4_5.rect t)).set
  rw [View.set_slice_whole, Rect.mem_set_unit]
  have e := index4_5 t
  have x : win4_5.xsize (grid4.coords t) 0 = 2176 ∧ win4_5.xsize (grid4.coords t) 1 = 256 := ⟨rfl, rfl⟩
  intro a
  match a with
  | ⟨0, _⟩ =>
    show win4_5.index t 0 * 2176 ≤ (i 0 : Nat) ∧ (i 0 : Nat) < win4_5.index t 0 * 2176 + win4_5.xsize (grid4.coords t) 0
    rw [e.1, x.1]; omega
  | ⟨1, _⟩ =>
    show win4_5.index t 1 * 256 ≤ (i 1 : Nat) ∧ (i 1 : Nat) < win4_5.index t 1 * 256 + win4_5.xsize (grid4.coords t) 1
    rw [e.2, x.2]; omega

/-- The array `ffn_bwd_act`'s window 5 writes, as the region leaves it. -/
theorem final4_5 (c : Dev nD) (f0 : Fin 2176 → Fin 1024 → ℝ) (f1 : Fin 2816 → Fin 1024 → ℝ) (f2 : Fin 2176 → Fin 2816 → ℝ)
    (h0 : V c (Pipeline.arrRef spec4 0) = emb f0) (h1 : V c (Pipeline.arrRef spec4 1) = emb f1) (h2 : V c (Pipeline.arrRef spec4 2) = emb f2) :
    (dat4 V c).arrAt 5 cfg4.N = emb (dlin (mmT f0 f1) f2) :=
  (dat4 V c).arrAt_eq_of_cover 5 (emb (dlin (mmT f0 f1) f2)) (fun t _ => flushed4_5 V c f0 f1 f2 h0 h1 h2 t) cover4_5

/-! ## `dw_down` -/

theorem index5_0 (t : Fin cfg5.N) : win5_0.index t 0 * 2176 = 0 ∧ win5_0.index t 1 * 1408 = 1408 * (t.val / 2) := by
  rcases fin_N5 t with rfl | rfl | rfl | rfl <;> decide +kernel

theorem read5_0 (f : Fin 2176 → Fin 2816 → ℝ) (t : Fin cfg5.N) :
    ((cfg5.win 0).blk t).view.read (Elt Ideal) (emb f) = emb (a := 2176) (b := 1408) (cols f (1408 * (t.val / 2)) (by have h := t.isLt; have hN : cfg5.N = 4 := N_5; omega)) := by
  funext j
  rw [View.read_apply]
  refine emb_congr f _ _ _ (Fin.ext ?_) (Fin.ext ?_)
  · show win5_0.index t 0 * 2176 + 1 * (j 0).val = (j 0).val
    rw [(index5_0 t).1]; omega
  · show win5_0.index t 1 * 1408 + 1 * (j 1).val = 1408 * (t.val / 2) + (j 1).val
    rw [(index5_0 t).2]; omega

theorem index5_1 (t : Fin cfg5.N) : win5_1.index t 0 * 2176 = 0 ∧ win5_1.index t 1 * 512 = 512 * (t.val % 2) := by
  rcases fin_N5 t with rfl | rfl | rfl | rfl <;> decide +kernel

theorem read5_1 (f : Fin 2176 → Fin 1024 → ℝ) (t : Fin cfg5.N) :
    ((cfg5.win 1).blk t).view.read (Elt Ideal) (emb f) = emb (a := 2176) (b := 512) (cols f (512 * (t.val % 2)) (by have h := t.isLt; have hN : cfg5.N = 4 := N_5; omega)) := by
  funext j
  rw [View.read_apply]
  refine emb_congr f _ _ _ (Fin.ext ?_) (Fin.ext ?_)
  · show win5_1.index t 0 * 2176 + 1 * (j 0).val = (j 0).val
    rw [(index5_1 t).1]; omega
  · show win5_1.index t 1 * 512 + 1 * (j 1).val = 512 * (t.val % 2) + (j 1).val
    rw [(index5_1 t).2]; omega

theorem index5_2 (t : Fin cfg5.N) : win5_2.index t 0 * 1408 = 1408 * (t.val / 2) ∧ win5_2.index t 1 * 512 = 512 * (t.val % 2) := by
  rcases fin_N5 t with rfl | rfl | rfl | rfl <;> decide +kernel

theorem read5_2 (f : Fin 2816 → Fin 1024 → ℝ) (t : Fin cfg5.N) :
    ((cfg5.win 2).blk t).view.read (Elt Ideal) (emb f) = emb (a := 1408) (b := 512) (cols (rows f (1408 * (t.val / 2)) (by have h := t.isLt; have hN : cfg5.N = 4 := N_5; omega)) (512 * (t.val % 2)) (by have h := t.isLt; have hN : cfg5.N = 4 := N_5; omega)) := by
  funext j
  rw [View.read_apply]
  refine emb_congr f _ _ _ (Fin.ext ?_) (Fin.ext ?_)
  · show win5_2.index t 0 * 1408 + 1 * (j 0).val = 1408 * (t.val / 2) + (j 0).val
    rw [(index5_2 t).1]; omega
  · show win5_2.index t 1 * 512 + 1 * (j 1).val = 512 * (t.val % 2) + (j 1).val
    rw [(index5_2 t).2]; omega

theorem flushed5_2 (c : Dev nD) (f0 : Fin 2176 → Fin 2816 → ℝ) (f1 : Fin 2176 → Fin 1024 → ℝ)
    (h0 : V c (Pipeline.arrRef spec5 0) = emb f0) (h1 : V c (Pipeline.arrRef spec5 1) = emb f1) (t : Fin cfg5.N) :
    (dat5 V c).flushed 2 t = ((cfg5.win 2).blk t).view.read (Elt Ideal) (emb (tmm f0 f1)) := by
  rw [read5_2]
  show (cfg5.win 2).cut (grid5.coords t) ((dat5 V c).after 2 t) = _
  rw [after5_2]
  unfold out5_2
  rw [View.canon_unit_zero hz]
  rw [View.ld_unit_zero hz, View.ld_unit_zero hz]
  unfold iblk5
  have e0 := (congrArg (((cfg5.win 0).blk t).view.read (Elt Ideal)) h0).trans (read5_0 f0 t)
  have e1 := (congrArg (((cfg5.win 1).blk t).view.read (Elt Ideal)) h1).trans (read5_1 f1 t)
  rw [e0, e1]
  rw [pay5, tmm_cols]
  rfl

theorem cover5_2 (i : (⟨2, ![2816, 1024]⟩ : Shape).Idx) :
    ∃ t : Fin cfg5.N, (cfg5.win 2).flush t = true ∧ i ∈ ((cfg5.win 2).blk t).view.set := by
  have h0 : (i 0 : Nat) < 2816 := (i 0).isLt
  have h1 : (i 1 : Nat) < 1024 := (i 1).isLt
  have hN : cfg5.N = 4 := N_5
  have ht : (i 0 : Nat) / 1408 * 2 + (i 1 : Nat) / 512 < cfg5.N := by omega
  refine ⟨⟨(i 0 : Nat) / 1408 * 2 + (i 1 : Nat) / 512, ht⟩, flush5_2 _, ?_⟩
  generalize htt : (⟨(i 0 : Nat) / 1408 * 2 + (i 1 : Nat) / 512, ht⟩ : Fin cfg5.N) = t
  have hv : t.val = (i 0 : Nat) / 1408 * 2 + (i 1 : Nat) / 512 := by rw [← htt]
  show i ∈ ((View.whole main_v12_0).slice (win5_2.rect t)).set
  rw [View.set_slice_whole, Rect.mem_set_unit]
  have e := index5_2 t
  have x : win5_2.xsize (grid5.coords t) 0 = 1408 ∧ win5_2.xsize (grid5.coords t) 1 = 512 := ⟨rfl, rfl⟩
  intro a
  match a with
  | ⟨0, _⟩ =>
    show win5_2.index t 0 * 1408 ≤ (i 0 : Nat) ∧ (i 0 : Nat) < win5_2.index t 0 * 1408 + win5_2.xsize (grid5.coords t) 0
    rw [e.1, x.1]; omega
  | ⟨1, _⟩ =>
    show win5_2.index t 1 * 512 ≤ (i 1 : Nat) ∧ (i 1 : Nat) < win5_2.index t 1 * 512 + win5_2.xsize (grid5.coords t) 1
    rw [e.2, x.2]; omega

/-- The array `dw_down`'s window 2 writes, as the region leaves it. -/
theorem final5_2 (c : Dev nD) (f0 : Fin 2176 → Fin 2816 → ℝ) (f1 : Fin 2176 → Fin 1024 → ℝ)
    (h0 : V c (Pipeline.arrRef spec5 0) = emb f0) (h1 : V c (Pipeline.arrRef spec5 1) = emb f1) :
    (dat5 V c).arrAt 2 cfg5.N = emb (tmm f0 f1) :=
  (dat5 V c).arrAt_eq_of_cover 2 (emb (tmm f0 f1)) (fun t _ => flushed5_2 V c f0 f1 h0 h1 t) cover5_2

/-! ## `dw_gate` -/

theorem index7_0 (t : Fin cfg7.N) : win7_0.index t 0 * 2176 = 0 ∧ win7_0.index t 1 * 1408 = 1408 * (t.val / 2) := by
  rcases fin_N7 t with rfl | rfl | rfl | rfl <;> decide +kernel

theorem read7_0 (f : Fin 2176 → Fin 2816 → ℝ) (t : Fin cfg7.N) :
    ((cfg7.win 0).blk t).view.read (Elt Ideal) (emb f) = emb (a := 2176) (b := 1408) (cols f (1408 * (t.val / 2)) (by have h := t.isLt; have hN : cfg7.N = 4 := N_7; omega)) := by
  funext j
  rw [View.read_apply]
  refine emb_congr f _ _ _ (Fin.ext ?_) (Fin.ext ?_)
  · show win7_0.index t 0 * 2176 + 1 * (j 0).val = (j 0).val
    rw [(index7_0 t).1]; omega
  · show win7_0.index t 1 * 1408 + 1 * (j 1).val = 1408 * (t.val / 2) + (j 1).val
    rw [(index7_0 t).2]; omega

theorem index7_1 (t : Fin cfg7.N) : win7_1.index t 0 * 2176 = 0 ∧ win7_1.index t 1 * 512 = 512 * (t.val % 2) := by
  rcases fin_N7 t with rfl | rfl | rfl | rfl <;> decide +kernel

theorem read7_1 (f : Fin 2176 → Fin 1024 → ℝ) (t : Fin cfg7.N) :
    ((cfg7.win 1).blk t).view.read (Elt Ideal) (emb f) = emb (a := 2176) (b := 512) (cols f (512 * (t.val % 2)) (by have h := t.isLt; have hN : cfg7.N = 4 := N_7; omega)) := by
  funext j
  rw [View.read_apply]
  refine emb_congr f _ _ _ (Fin.ext ?_) (Fin.ext ?_)
  · show win7_1.index t 0 * 2176 + 1 * (j 0).val = (j 0).val
    rw [(index7_1 t).1]; omega
  · show win7_1.index t 1 * 512 + 1 * (j 1).val = 512 * (t.val % 2) + (j 1).val
    rw [(index7_1 t).2]; omega

theorem index7_2 (t : Fin cfg7.N) : win7_2.index t 0 * 1408 = 1408 * (t.val / 2) ∧ win7_2.index t 1 * 512 = 512 * (t.val % 2) := by
  rcases fin_N7 t with rfl | rfl | rfl | rfl <;> decide +kernel

theorem read7_2 (f : Fin 2816 → Fin 1024 → ℝ) (t : Fin cfg7.N) :
    ((cfg7.win 2).blk t).view.read (Elt Ideal) (emb f) = emb (a := 1408) (b := 512) (cols (rows f (1408 * (t.val / 2)) (by have h := t.isLt; have hN : cfg7.N = 4 := N_7; omega)) (512 * (t.val % 2)) (by have h := t.isLt; have hN : cfg7.N = 4 := N_7; omega)) := by
  funext j
  rw [View.read_apply]
  refine emb_congr f _ _ _ (Fin.ext ?_) (Fin.ext ?_)
  · show win7_2.index t 0 * 1408 + 1 * (j 0).val = 1408 * (t.val / 2) + (j 0).val
    rw [(index7_2 t).1]; omega
  · show win7_2.index t 1 * 512 + 1 * (j 1).val = 512 * (t.val % 2) + (j 1).val
    rw [(index7_2 t).2]; omega

theorem flushed7_2 (c : Dev nD) (f0 : Fin 2176 → Fin 2816 → ℝ) (f1 : Fin 2176 → Fin 1024 → ℝ)
    (h0 : V c (Pipeline.arrRef spec7 0) = emb f0) (h1 : V c (Pipeline.arrRef spec7 1) = emb f1) (t : Fin cfg7.N) :
    (dat7 V c).flushed 2 t = ((cfg7.win 2).blk t).view.read (Elt Ideal) (emb (tmm f0 f1)) := by
  rw [read7_2]
  show (cfg7.win 2).cut (grid7.coords t) ((dat7 V c).after 2 t) = _
  rw [after7_2]
  unfold out7_2
  rw [View.canon_unit_zero hz]
  rw [View.ld_unit_zero hz, View.ld_unit_zero hz]
  unfold iblk7
  have e0 := (congrArg (((cfg7.win 0).blk t).view.read (Elt Ideal)) h0).trans (read7_0 f0 t)
  have e1 := (congrArg (((cfg7.win 1).blk t).view.read (Elt Ideal)) h1).trans (read7_1 f1 t)
  rw [e0, e1]
  rw [pay7, tmm_cols]
  rfl

theorem cover7_2 (i : (⟨2, ![2816, 1024]⟩ : Shape).Idx) :
    ∃ t : Fin cfg7.N, (cfg7.win 2).flush t = true ∧ i ∈ ((cfg7.win 2).blk t).view.set := by
  have h0 : (i 0 : Nat) < 2816 := (i 0).isLt
  have h1 : (i 1 : Nat) < 1024 := (i 1).isLt
  have hN : cfg7.N = 4 := N_7
  have ht : (i 0 : Nat) / 1408 * 2 + (i 1 : Nat) / 512 < cfg7.N := by omega
  refine ⟨⟨(i 0 : Nat) / 1408 * 2 + (i 1 : Nat) / 512, ht⟩, flush7_2 _, ?_⟩
  generalize htt : (⟨(i 0 : Nat) / 1408 * 2 + (i 1 : Nat) / 512, ht⟩ : Fin cfg7.N) = t
  have hv : t.val = (i 0 : Nat) / 1408 * 2 + (i 1 : Nat) / 512 := by rw [← htt]
  show i ∈ ((View.whole main_v14_0).slice (win7_2.rect t)).set
  rw [View.set_slice_whole, Rect.mem_set_unit]
  have e := index7_2 t
  have x : win7_2.xsize (grid7.coords t) 0 = 1408 ∧ win7_2.xsize (grid7.coords t) 1 = 512 := ⟨rfl, rfl⟩
  intro a
  match a with
  | ⟨0, _⟩ =>
    show win7_2.index t 0 * 1408 ≤ (i 0 : Nat) ∧ (i 0 : Nat) < win7_2.index t 0 * 1408 + win7_2.xsize (grid7.coords t) 0
    rw [e.1, x.1]; omega
  | ⟨1, _⟩ =>
    show win7_2.index t 1 * 512 ≤ (i 1 : Nat) ∧ (i 1 : Nat) < win7_2.index t 1 * 512 + win7_2.xsize (grid7.coords t) 1
    rw [e.2, x.2]; omega

/-- The array `dw_gate`'s window 2 writes, as the region leaves it. -/
theorem final7_2 (c : Dev nD) (f0 : Fin 2176 → Fin 2816 → ℝ) (f1 : Fin 2176 → Fin 1024 → ℝ)
    (h0 : V c (Pipeline.arrRef spec7 0) = emb f0) (h1 : V c (Pipeline.arrRef spec7 1) = emb f1) :
    (dat7 V c).arrAt 2 cfg7.N = emb (tmm f0 f1) :=
  (dat7 V c).arrAt_eq_of_cover 2 (emb (tmm f0 f1)) (fun t _ => flushed7_2 V c f0 f1 h0 h1 t) cover7_2

/-! ## `dw_up` -/

theorem index8_0 (t : Fin cfg8.N) : win8_0.index t 0 * 2176 = 0 ∧ win8_0.index t 1 * 1408 = 1408 * (t.val / 2) := by
  rcases fin_N8 t with rfl | rfl | rfl | rfl <;> decide +kernel

theorem read8_0 (f : Fin 2176 → Fin 2816 → ℝ) (t : Fin cfg8.N) :
    ((cfg8.win 0).blk t).view.read (Elt Ideal) (emb f) = emb (a := 2176) (b := 1408) (cols f (1408 * (t.val / 2)) (by have h := t.isLt; have hN : cfg8.N = 4 := N_8; omega)) := by
  funext j
  rw [View.read_apply]
  refine emb_congr f _ _ _ (Fin.ext ?_) (Fin.ext ?_)
  · show win8_0.index t 0 * 2176 + 1 * (j 0).val = (j 0).val
    rw [(index8_0 t).1]; omega
  · show win8_0.index t 1 * 1408 + 1 * (j 1).val = 1408 * (t.val / 2) + (j 1).val
    rw [(index8_0 t).2]; omega

theorem index8_1 (t : Fin cfg8.N) : win8_1.index t 0 * 2176 = 0 ∧ win8_1.index t 1 * 512 = 512 * (t.val % 2) := by
  rcases fin_N8 t with rfl | rfl | rfl | rfl <;> decide +kernel

theorem read8_1 (f : Fin 2176 → Fin 1024 → ℝ) (t : Fin cfg8.N) :
    ((cfg8.win 1).blk t).view.read (Elt Ideal) (emb f) = emb (a := 2176) (b := 512) (cols f (512 * (t.val % 2)) (by have h := t.isLt; have hN : cfg8.N = 4 := N_8; omega)) := by
  funext j
  rw [View.read_apply]
  refine emb_congr f _ _ _ (Fin.ext ?_) (Fin.ext ?_)
  · show win8_1.index t 0 * 2176 + 1 * (j 0).val = (j 0).val
    rw [(index8_1 t).1]; omega
  · show win8_1.index t 1 * 512 + 1 * (j 1).val = 512 * (t.val % 2) + (j 1).val
    rw [(index8_1 t).2]; omega

theorem index8_2 (t : Fin cfg8.N) : win8_2.index t 0 * 1408 = 1408 * (t.val / 2) ∧ win8_2.index t 1 * 512 = 512 * (t.val % 2) := by
  rcases fin_N8 t with rfl | rfl | rfl | rfl <;> decide +kernel

theorem read8_2 (f : Fin 2816 → Fin 1024 → ℝ) (t : Fin cfg8.N) :
    ((cfg8.win 2).blk t).view.read (Elt Ideal) (emb f) = emb (a := 1408) (b := 512) (cols (rows f (1408 * (t.val / 2)) (by have h := t.isLt; have hN : cfg8.N = 4 := N_8; omega)) (512 * (t.val % 2)) (by have h := t.isLt; have hN : cfg8.N = 4 := N_8; omega)) := by
  funext j
  rw [View.read_apply]
  refine emb_congr f _ _ _ (Fin.ext ?_) (Fin.ext ?_)
  · show win8_2.index t 0 * 1408 + 1 * (j 0).val = 1408 * (t.val / 2) + (j 0).val
    rw [(index8_2 t).1]; omega
  · show win8_2.index t 1 * 512 + 1 * (j 1).val = 512 * (t.val % 2) + (j 1).val
    rw [(index8_2 t).2]; omega

theorem flushed8_2 (c : Dev nD) (f0 : Fin 2176 → Fin 2816 → ℝ) (f1 : Fin 2176 → Fin 1024 → ℝ)
    (h0 : V c (Pipeline.arrRef spec8 0) = emb f0) (h1 : V c (Pipeline.arrRef spec8 1) = emb f1) (t : Fin cfg8.N) :
    (dat8 V c).flushed 2 t = ((cfg8.win 2).blk t).view.read (Elt Ideal) (emb (tmm f0 f1)) := by
  rw [read8_2]
  show (cfg8.win 2).cut (grid8.coords t) ((dat8 V c).after 2 t) = _
  rw [after8_2]
  unfold out8_2
  rw [View.canon_unit_zero hz]
  rw [View.ld_unit_zero hz, View.ld_unit_zero hz]
  unfold iblk8
  have e0 := (congrArg (((cfg8.win 0).blk t).view.read (Elt Ideal)) h0).trans (read8_0 f0 t)
  have e1 := (congrArg (((cfg8.win 1).blk t).view.read (Elt Ideal)) h1).trans (read8_1 f1 t)
  rw [e0, e1]
  rw [pay8, tmm_cols]
  rfl

theorem cover8_2 (i : (⟨2, ![2816, 1024]⟩ : Shape).Idx) :
    ∃ t : Fin cfg8.N, (cfg8.win 2).flush t = true ∧ i ∈ ((cfg8.win 2).blk t).view.set := by
  have h0 : (i 0 : Nat) < 2816 := (i 0).isLt
  have h1 : (i 1 : Nat) < 1024 := (i 1).isLt
  have hN : cfg8.N = 4 := N_8
  have ht : (i 0 : Nat) / 1408 * 2 + (i 1 : Nat) / 512 < cfg8.N := by omega
  refine ⟨⟨(i 0 : Nat) / 1408 * 2 + (i 1 : Nat) / 512, ht⟩, flush8_2 _, ?_⟩
  generalize htt : (⟨(i 0 : Nat) / 1408 * 2 + (i 1 : Nat) / 512, ht⟩ : Fin cfg8.N) = t
  have hv : t.val = (i 0 : Nat) / 1408 * 2 + (i 1 : Nat) / 512 := by rw [← htt]
  show i ∈ ((View.whole main_v15_0).slice (win8_2.rect t)).set
  rw [View.set_slice_whole, Rect.mem_set_unit]
  have e := index8_2 t
  have x : win8_2.xsize (grid8.coords t) 0 = 1408 ∧ win8_2.xsize (grid8.coords t) 1 = 512 := ⟨rfl, rfl⟩
  intro a
  match a with
  | ⟨0, _⟩ =>
    show win8_2.index t 0 * 1408 ≤ (i 0 : Nat) ∧ (i 0 : Nat) < win8_2.index t 0 * 1408 + win8_2.xsize (grid8.coords t) 0
    rw [e.1, x.1]; omega
  | ⟨1, _⟩ =>
    show win8_2.index t 1 * 512 ≤ (i 1 : Nat) ∧ (i 1 : Nat) < win8_2.index t 1 * 512 + win8_2.xsize (grid8.coords t) 1
    rw [e.2, x.2]; omega

/-- The array `dw_up`'s window 2 writes, as the region leaves it. -/
theorem final8_2 (c : Dev nD) (f0 : Fin 2176 → Fin 2816 → ℝ) (f1 : Fin 2176 → Fin 1024 → ℝ)
    (h0 : V c (Pipeline.arrRef spec8 0) = emb f0) (h1 : V c (Pipeline.arrRef spec8 1) = emb f1) :
    (dat8 V c).arrAt 2 cfg8.N = emb (tmm f0 f1) :=
  (dat8 V c).arrAt_eq_of_cover 2 (emb (tmm f0 f1)) (fun t _ => flushed8_2 V c f0 f1 h0 h1 t) cover8_2

end Cert.KernelIdeal.Value

end
-- ==== Proof.RegionsOut.lean ====
/- The arrays the output projection's two backward calls leave: every grid point writes back its block of one matrix, and the blocks cover the array. -/
module

public import proofs.«01_k».proof.Proof.Blocks
public import proofs.«01_k».proof.Proof.Gen.KernelIdeal.Frame.Region9
public import proofs.«01_k».proof.Proof.Gen.KernelIdeal.Frame.Region10
public import Idealize.ShloMosaic.Lib.Pipeline.Value

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Block

variable (V : (c : Dev nD) → (b : Ref sig .tc) → Buf (Elt Ideal) ((c : Thread nD τ).loc b))

/-! ## `dw_out` -/

theorem index9_0 (t : Fin cfg9.N) : win9_0.index t 0 * 2176 = 0 ∧ win9_0.index t 1 * 1024 = 1024 * (t.val / 2) := by
  rcases fin_N9 t with rfl | rfl | rfl | rfl <;> decide +kernel

theorem read9_0 (f : Fin 2176 → Fin 2048 → ℝ) (t : Fin cfg9.N) :
    ((cfg9.win 0).blk t).view.read (Elt Ideal) (emb f) = emb (a := 2176) (b := 1024) (cols f (1024 * (t.val / 2)) (by have h := t.isLt; have hN : cfg9.N = 4 := N_9; omega)) := by
  funext j
  rw [View.read_apply]
  refine emb_congr f _ _ _ (Fin.ext ?_) (Fin.ext ?_)
  · show win9_0.index t 0 * 2176 + 1 * (j 0).val = (j 0).val
    rw [(index9_0 t).1]; omega
  · show win9_0.index t 1 * 1024 + 1 * (j 1).val = 1024 * (t.val / 2) + (j 1).val
    rw [(index9_0 t).2]; omega

theorem index9_1 (t : Fin cfg9.N) : win9_1.index t 0 * 2176 = 0 ∧ win9_1.index t 1 * 512 = 512 * (t.val % 2) := by
  rcases fin_N9 t with rfl | rfl | rfl | rfl <;> decide +kernel

theorem read9_1 (f : Fin 2176 → Fin 1024 → ℝ) (t : Fin cfg9.N) :
    ((cfg9.win 1).blk t).view.read (Elt Ideal) (emb f) = emb (a := 2176) (b := 512) (cols f (512 * (t.val % 2)) (by have h := t.isLt; have hN : cfg9.N = 4 := N_9; omega)) := by
  funext j
  rw [View.read_apply]
  refine emb_congr f _ _ _ (Fin.ext ?_) (Fin.ext ?_)
  · show win9_1.index t 0 * 2176 + 1 * (j 0).val = (j 0).val
    rw [(index9_1 t).1]; omega
  · show win9_1.index t 1 * 512 + 1 * (j 1).val = 512 * (t.val % 2) + (j 1).val
    rw [(index9_1 t).2]; omega

theorem index9_2 (t : Fin cfg9.N) : win9_2.index t 0 * 1024 = 1024 * (t.val / 2) ∧ win9_2.index t 1 * 512 = 512 * (t.val % 2) := by
  rcases fin_N9 t with rfl | rfl | rfl | rfl <;> decide +kernel

theorem read9_2 (f : Fin 2048 → Fin 1024 → ℝ) (t : Fin cfg9.N) :
    ((cfg9.win 2).blk t).view.read (Elt Ideal) (emb f) = emb (a := 1024) (b := 512) (cols (rows f (1024 * (t.val / 2)) (by have h := t.isLt; have hN : cfg9.N = 4 := N_9; omega)) (512 * (t.val % 2)) (by have h := t.isLt; have hN : cfg9.N = 4 := N_9; omega)) := by
  funext j
  rw [View.read_apply]
  refine emb_congr f _ _ _ (Fin.ext ?_) (Fin.ext ?_)
  · show win9_2.index t 0 * 1024 + 1 * (j 0).val = 1024 * (t.val / 2) + (j 0).val
    rw [(index9_2 t).1]; omega
  · show win9_2.index t 1 * 512 + 1 * (j 1).val = 512 * (t.val % 2) + (j 1).val
    rw [(index9_2 t).2]; omega

theorem flushed9_2 (c : Dev nD) (f0 : Fin 2176 → Fin 2048 → ℝ) (f1 : Fin 2176 → Fin 1024 → ℝ)
    (h0 : V c (Pipeline.arrRef spec9 0) = emb f0) (h1 : V c (Pipeline.arrRef spec9 1) = emb f1) (t : Fin cfg9.N) :
    (dat9 V c).flushed 2 t = ((cfg9.win 2).blk t).view.read (Elt Ideal) (emb (tmm f0 f1)) := by
  rw [read9_2]
  show (cfg9.win 2).cut (grid9.coords t) ((dat9 V c).after 2 t) = _
  rw [after9_2]
  unfold out9_2
  rw [View.canon_unit_zero hz]
  rw [View.ld_unit_zero hz, View.ld_unit_zero hz]
  unfold iblk9
  have e0 := (congrArg (((cfg9.win 0).blk t).view.read (Elt Ideal)) h0).trans (read9_0 f0 t)
  have e1 := (congrArg (((cfg9.win 1).blk t).view.read (Elt Ideal)) h1).trans (read9_1 f1 t)
  rw [e0, e1]
  rw [pay9, tmm_cols]
  rfl

theorem cover9_2 (i : (⟨2, ![2048, 1024]⟩ : Shape).Idx) :
    ∃ t : Fin cfg9.N, (cfg9.win 2).flush t = true ∧ i ∈ ((cfg9.win 2).blk t).view.set := by
  have h0 : (i 0 : Nat) < 2048 := (i 0).isLt
  have h1 : (i 1 : Nat) < 1024 := (i 1).isLt
  have hN : cfg9.N = 4 := N_9
  have ht : (i 0 : Nat) / 1024 * 2 + (i 1 : Nat) / 512 < cfg9.N := by omega
  refine ⟨⟨(i 0 : Nat) / 1024 * 2 + (i 1 : Nat) / 512, ht⟩, flush9_2 _, ?_⟩
  generalize htt : (⟨(i 0 : Nat) / 1024 * 2 + (i 1 : Nat) / 512, ht⟩ : Fin cfg9.N) = t
  have hv : t.val = (i 0 : Nat) / 1024 * 2 + (i 1 : Nat) / 512 := by rw [← htt]
  show i ∈ ((View.whole main_v16_0).slice (win9_2.rect t)).set
  rw [View.set_slice_whole, Rect.mem_set_unit]
  have e := index9_2 t
  have x : win9_2.xsize (grid9.coords t) 0 = 1024 ∧ win9_2.xsize (grid9.coords t) 1 = 512 := ⟨rfl, rfl⟩
  intro a
  match a with
  | ⟨0, _⟩ =>
    show win9_2.index t 0 * 1024 ≤ (i 0 : Nat) ∧ (i 0 : Nat) < win9_2.index t 0 * 1024 + win9_2.xsize (grid9.coords t) 0
    rw [e.1, x.1]; omega
  | ⟨1, _⟩ =>
    show win9_2.index t 1 * 512 ≤ (i 1 : Nat) ∧ (i 1 : Nat) < win9_2.index t 1 * 512 + win9_2.xsize (grid9.coords t) 1
    rw [e.2, x.2]; omega

/-- The array `dw_out`'s window 2 writes, as the region leaves it. -/
theorem final9_2 (c : Dev nD) (f0 : Fin 2176 → Fin 2048 → ℝ) (f1 : Fin 2176 → Fin 1024 → ℝ)
    (h0 : V c (Pipeline.arrRef spec9 0) = emb f0) (h1 : V c (Pipeline.arrRef spec9 1) = emb f1) :
    (dat9 V c).arrAt 2 cfg9.N = emb (tmm f0 f1) :=
  (dat9 V c).arrAt_eq_of_cover 2 (emb (tmm f0 f1)) (fun t _ => flushed9_2 V c f0 f1 h0 h1 t) cover9_2

/-! ## `out_proj_bwd` -/

theorem index10_0 (t : Fin cfg10.N) : win10_0.index t 0 * 2176 = 0 ∧ win10_0.index t 1 * 1024 = 0 := by
  rcases fin_N10 t with rfl | rfl | rfl | rfl | rfl | rfl | rfl | rfl <;> decide +kernel

theorem read10_0 (f : Fin 2176 → Fin 1024 → ℝ) (t : Fin cfg10.N) :
    ((cfg10.win 0).blk t).view.read (Elt Ideal) (emb f) = emb (a := 2176) (b := 1024) f := by
  funext j
  rw [View.read_apply]
  refine emb_congr f _ _ _ (Fin.ext ?_) (Fin.ext ?_)
  · show win10_0.index t 0 * 2176 + 1 * (j 0).val = (j 0).val
    rw [(index10_0 t).1]; omega
  · show win10_0.index t 1 * 1024 + 1 * (j 1).val = (j 1).val
    rw [(index10_0 t).2]; omega

theorem index10_1 (t : Fin cfg10.N) : win10_1.index t 0 * 256 = 256 * t.val ∧ win10_1.index t 1 * 1024 = 0 := by
  rcases fin_N10 t with rfl | rfl | rfl | rfl | rfl | rfl | rfl | rfl <;> decide +kernel

theorem read10_1 (f : Fin 2048 → Fin 1024 → ℝ) (t : Fin cfg10.N) :
    ((cfg10.win 1).blk t).view.read (Elt Ideal) (emb f) = emb (a := 256) (b := 1024) (rows f (256 * t.val) (by have h := t.isLt; have hN : cfg10.N = 8 := N_10; omega)) := by
  funext j
  rw [View.read_apply]
  refine emb_congr f _ _ _ (Fin.ext ?_) (Fin.ext ?_)
  · show win10_1.index t 0 * 256 + 1 * (j 0).val = 256 * t.val + (j 0).val
    rw [(index10_1 t).1]; omega
  · show win10_1.index t 1 * 1024 + 1 * (j 1).val = (j 1).val
    rw [(index10_1 t).2]; omega

theorem index10_2 (t : Fin cfg10.N) : win10_2.index t 0 * 2176 = 0 ∧ win10_2.index t 1 * 256 = 256 * t.val := by
  rcases fin_N10 t with rfl | rfl | rfl | rfl | rfl | rfl | rfl | rfl <;> decide +kernel

theorem read10_2 (f : Fin 2176 → Fin 2048 → ℝ) (t : Fin cfg10.N) :
    ((cfg10.win 2).blk t).view.read (Elt Ideal) (emb f) = emb (a := 2176) (b := 256) (cols f (256 * t.val) (by have h := t.isLt; have hN : cfg10.N = 8 := N_10; omega)) := by
  funext j
  rw [View.read_apply]
  refine emb_congr f _ _ _ (Fin.ext ?_) (Fin.ext ?_)
  · show win10_2.index t 0 * 2176 + 1 * (j 0).val = (j 0).val
    rw [(index10_2 t).1]; omega
  · show win10_2.index t 1 * 256 + 1 * (j 1).val = 256 * t.val + (j 1).val
    rw [(index10_2 t).2]; omega

theorem flushed10_2 (c : Dev nD) (f0 : Fin 2176 → Fin 1024 → ℝ) (f1 : Fin 2048 → Fin 1024 → ℝ)
    (h0 : V c (Pipeline.arrRef spec10 0) = emb f0) (h1 : V c (Pipeline.arrRef spec10 1) = emb f1) (t : Fin cfg10.N) :
    (dat10 V c).flushed 2 t = ((cfg10.win 2).blk t).view.read (Elt Ideal) (emb (mmT f0 f1)) := by
  rw [read10_2]
  show (cfg10.win 2).cut (grid10.coords t) ((dat10 V c).after 2 t) = _
  rw [after10_2]
  unfold out10_2
  rw [View.canon_unit_zero hz]
  rw [View.ld_unit_zero hz, View.ld_unit_zero hz]
  unfold iblk10
  have e0 := (congrArg (((cfg10.win 0).blk t).view.read (Elt Ideal)) h0).trans (read10_0 f0 t)
  have e1 := (congrArg (((cfg10.win 1).blk t).view.read (Elt Ideal)) h1).trans (read10_1 f1 t)
  rw [e0, e1]
  rw [pay10, mmT_rows]
  rfl

theorem cover10_2 (i : (⟨2, ![2176, 2048]⟩ : Shape).Idx) :
    ∃ t : Fin cfg10.N, (cfg10.win 2).flush t = true ∧ i ∈ ((cfg10.win 2).blk t).view.set := by
  have h0 : (i 0 : Nat) < 2176 := (i 0).isLt
  have h1 : (i 1 : Nat) < 2048 := (i 1).isLt
  have hN : cfg10.N = 8 := N_10
  have ht : (i 1 : Nat) / 256 < cfg10.N := by omega
  refine ⟨⟨(i 1 : Nat) / 256, ht⟩, flush10_2 _, ?_⟩
  generalize htt : (⟨(i 1 : Nat) / 256, ht⟩ : Fin cfg10.N) = t
  have hv : t.val = (i 1 : Nat) / 256 := by rw [← htt]
  show i ∈ ((View.whole main_v17).slice (win10_2.rect t)).set
  rw [View.set_slice_whole, Rect.mem_set_unit]
  have e := index10_2 t
  have x : win10_2.xsize (grid10.coords t) 0 = 2176 ∧ win10_2.xsize (grid10.coords t) 1 = 256 := ⟨rfl, rfl⟩
  intro a
  match a with
  | ⟨0, _⟩ =>
    show win10_2.index t 0 * 2176 ≤ (i 0 : Nat) ∧ (i 0 : Nat) < win10_2.index t 0 * 2176 + win10_2.xsize (grid10.coords t) 0
    rw [e.1, x.1]; omega
  | ⟨1, _⟩ =>
    show win10_2.index t 1 * 256 ≤ (i 1 : Nat) ∧ (i 1 : Nat) < win10_2.index t 1 * 256 + win10_2.xsize (grid10.coords t) 1
    rw [e.2, x.2]; omega

/-- The array `out_proj_bwd`'s window 2 writes, as the region leaves it. -/
theorem final10_2 (c : Dev nD) (f0 : Fin 2176 → Fin 1024 → ℝ) (f1 : Fin 2048 → Fin 1024 → ℝ)
    (h0 : V c (Pipeline.arrRef spec10 0) = emb f0) (h1 : V c (Pipeline.arrRef spec10 1) = emb f1) :
    (dat10 V c).arrAt 2 cfg10.N = emb (mmT f0 f1) :=
  (dat10 V c).arrAt_eq_of_cover 2 (emb (mmT f0 f1)) (fun t _ => flushed10_2 V c f0 f1 h0 h1 t) cover10_2

end Cert.KernelIdeal.Value

end
-- ==== Proof.RegionNorm.lean ====
/- What the backward call through the second normalization leaves: the cotangent of its argument block by block, and the
   weights' cotangent, which every grid point adds its rows to. -/
module

public import proofs.«01_k».proof.Proof.Blocks
public import proofs.«01_k».proof.Proof.Gen.KernelIdeal.Frame.Region6
public import Idealize.ShloMosaic.Lib.Pipeline.Value

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Block

section Body
variable {F : FTy → Type} [FloatOps F]

theorem bodyA_7 (c : Dev nD) (i : grid6.Coords) (a0 : Memref sig .tc .vmem S272x2816 .bf16) (h0 : a0.IsWhole) (a1 : Memref sig .tc .vmem S2816x1024 .bf16) (h1 : a1.IsWhole) (a2 : Memref sig .tc .vmem S272x2816 .bf16) (h2 : a2.IsWhole) (a3 : Memref sig .tc .vmem S2816x1024 .bf16) (h3 : a3.IsWhole) (a4 : Memref sig .tc .vmem S272x1024 .f32) (h4 : a4.IsWhole) (a5 : Memref sig .tc .vmem S1x1024 .f32) (h5 : a5.IsWhole) (a6 : Memref sig .tc .vmem S272x1024 .f32) (h6 : a6.IsWhole) (a7 : Memref sig .tc .vmem S272x1024 .f32) (h7 : a7.IsWhole) (a8 : Memref sig .tc .vmem S272x1024 .bf16) (h8 : a8.IsWhole) (a9 : Memref sig .tc .vmem S1x1024 .f32) (h9 : a9.IsWhole) (hc : cond6_0 i)
    (x0 : Vec F S272x2816 .bf16) (x1 : Vec F S2816x1024 .bf16) (x2 : Vec F S272x2816 .bf16) (x3 : Vec F S2816x1024 .bf16) (x4 : Vec F S272x1024 .f32) (x5 : Vec F S1x1024 .f32) (x6 : Vec F S272x1024 .f32) :
    out6_A_7 c i a0 h0 a1 h1 a2 h2 a3 h3 a4 h4 a5 h5 a6 h6 a7 h7 a8 h8 a9 h9 hc x0 x1 x2 x3 x4 x5 x6 = k6_pay1 (k6_pay7 x4) (k6_pay9 x0 x1 x2 x3 x4 x5) x6 := by
  unfold out6_A_7
  rw [View.read_writes_eq_canon _ _ _ (cover6_A_7 c i a0 h0 a1 h1 a2 h2 a3 h3 a4 h4 a5 h5 a6 h6 a7 h7 a8 h8 a9 h9 hc x0 x1 x2 x3 x4 x5 x6)]
  unfold kernelRun6_A
  dsimp only
  sl_unfold_words
  rw [View.canon_unit_zero hz]
  simp only [View.readAt_eq_ld, h0.read_unread, h1.read_unread, h2.read_unread, h3.read_unread, h4.read_unread, h5.read_unread, h6.read_unread, View.ld_unit_zero (S := S272x2816) hz, View.ld_unit_zero (S := S2816x1024) hz, View.ld_unit_zero (S := S272x1024) hz, View.ld_unit_zero (S := S1x1024) hz]

theorem bodyA_8 (c : Dev nD) (i : grid6.Coords) (a0 : Memref sig .tc .vmem S272x2816 .bf16) (h0 : a0.IsWhole) (a1 : Memref sig .tc .vmem S2816x1024 .bf16) (h1 : a1.IsWhole) (a2 : Memref sig .tc .vmem S272x2816 .bf16) (h2 : a2.IsWhole) (a3 : Memref sig .tc .vmem S2816x1024 .bf16) (h3 : a3.IsWhole) (a4 : Memref sig .tc .vmem S272x1024 .f32) (h4 : a4.IsWhole) (a5 : Memref sig .tc .vmem S1x1024 .f32) (h5 : a5.IsWhole) (a6 : Memref sig .tc .vmem S272x1024 .f32) (h6 : a6.IsWhole) (a7 : Memref sig .tc .vmem S272x1024 .f32) (h7 : a7.IsWhole) (a8 : Memref sig .tc .vmem S272x1024 .bf16) (h8 : a8.IsWhole) (a9 : Memref sig .tc .vmem S1x1024 .f32) (h9 : a9.IsWhole) (hc : cond6_0 i)
    (x0 : Vec F S272x2816 .bf16) (x1 : Vec F S2816x1024 .bf16) (x2 : Vec F S272x2816 .bf16) (x3 : Vec F S2816x1024 .bf16) (x4 : Vec F S272x1024 .f32) (x5 : Vec F S1x1024 .f32) (x6 : Vec F S272x1024 .f32) :
    out6_A_8 c i a0 h0 a1 h1 a2 h2 a3 h3 a4 h4 a5 h5 a6 h6 a7 h7 a8 h8 a9 h9 hc x0 x1 x2 x3 x4 x5 x6 = k6_pay2 (k6_pay7 x4) (k6_pay9 x0 x1 x2 x3 x4 x5) x6 := by
  unfold out6_A_8
  rw [View.read_writes_eq_canon _ _ _ (cover6_A_8 c i a0 h0 a1 h1 a2 h2 a3 h3 a4 h4 a5 h5 a6 h6 a7 h7 a8 h8 a9 h9 hc x0 x1 x2 x3 x4 x5 x6)]
  unfold kernelRun6_A
  dsimp only
  sl_unfold_words
  rw [View.canon_unit_zero hz]
  simp only [View.readAt_eq_ld, h0.read_unread, h1.read_unread, h2.read_unread, h3.read_unread, h4.read_unread, h5.read_unread, h6.read_unread, View.ld_unit_zero (S := S272x2816) hz, View.ld_unit_zero (S := S2816x1024) hz, View.ld_unit_zero (S := S272x1024) hz, View.ld_unit_zero (S := S1x1024) hz]

theorem bodyA_9 (c : Dev nD) (i : grid6.Coords) (a0 : Memref sig .tc .vmem S272x2816 .bf16) (h0 : a0.IsWhole) (a1 : Memref sig .tc .vmem S2816x1024 .bf16) (h1 : a1.IsWhole) (a2 : Memref sig .tc .vmem S272x2816 .bf16) (h2 : a2.IsWhole) (a3 : Memref sig .tc .vmem S2816x1024 .bf16) (h3 : a3.IsWhole) (a4 : Memref sig .tc .vmem S272x1024 .f32) (h4 : a4.IsWhole) (a5 : Memref sig .tc .vmem S1x1024 .f32) (h5 : a5.IsWhole) (a6 : Memref sig .tc .vmem S272x1024 .f32) (h6 : a6.IsWhole) (a7 : Memref sig .tc .vmem S272x1024 .f32) (h7 : a7.IsWhole) (a8 : Memref sig .tc .vmem S272x1024 .bf16) (h8 : a8.IsWhole) (a9 : Memref sig .tc .vmem S1x1024 .f32) (h9 : a9.IsWhole) (hc : cond6_0 i)
    (x0 : Vec F S272x2816 .bf16) (x1 : Vec F S2816x1024 .bf16) (x2 : Vec F S272x2816 .bf16) (x3 : Vec F S2816x1024 .bf16) (x4 : Vec F S272x1024 .f32) (x5 : Vec F S1x1024 .f32) (x6 : Vec F S272x1024 .f32) :
    out6_A_9 c i a0 h0 a1 h1 a2 h2 a3 h3 a4 h4 a5 h5 a6 h6 a7 h7 a8 h8 a9 h9 hc x0 x1 x2 x3 x4 x5 x6 = k6_pay3 (k6_pay5 x0 x1 x2 x3) (k6_pay8 x4) k6_pay4 := by
  unfold out6_A_9
  rw [View.read_writes_eq_canon _ _ _ (cover6_A_9 c i a0 h0 a1 h1 a2 h2 a3 h3 a4 h4 a5 h5 a6 h6 a7 h7 a8 h8 a9 h9 hc x0 x1 x2 x3 x4 x5 x6)]
  unfold kernelRun6_A
  dsimp only
  sl_unfold_words
  rw [View.canon_cons_unit_zero (S := S1x1024) hz, View.readCov_unit_zero (S := S1x1024) _ hz]
  simp only [View.readAt_eq_ld, h0.read_unread, h1.read_unread, h2.read_unread, h3.read_unread, h4.read_unread, h5.read_unread, h6.read_unread, View.ld_unit_zero (S := S272x2816) hz, View.ld_unit_zero (S := S2816x1024) hz, View.ld_unit_zero (S := S272x1024) hz, View.ld_unit_zero (S := S1x1024) hz]

theorem bodyB_7 (c : Dev nD) (i : grid6.Coords) (a0 : Memref sig .tc .vmem S272x2816 .bf16) (h0 : a0.IsWhole) (a1 : Memref sig .tc .vmem S2816x1024 .bf16) (h1 : a1.IsWhole) (a2 : Memref sig .tc .vmem S272x2816 .bf16) (h2 : a2.IsWhole) (a3 : Memref sig .tc .vmem S2816x1024 .bf16) (h3 : a3.IsWhole) (a4 : Memref sig .tc .vmem S272x1024 .f32) (h4 : a4.IsWhole) (a5 : Memref sig .tc .vmem S1x1024 .f32) (h5 : a5.IsWhole) (a6 : Memref sig .tc .vmem S272x1024 .f32) (h6 : a6.IsWhole) (a7 : Memref sig .tc .vmem S272x1024 .f32) (h7 : a7.IsWhole) (a8 : Memref sig .tc .vmem S272x1024 .bf16) (h8 : a8.IsWhole) (a9 : Memref sig .tc .vmem S1x1024 .f32) (h9 : a9.IsWhole) (hc : ¬cond6_0 i)
    (x0 : Vec F S272x2816 .bf16) (x1 : Vec F S2816x1024 .bf16) (x2 : Vec F S272x2816 .bf16) (x3 : Vec F S2816x1024 .bf16) (x4 : Vec F S272x1024 .f32) (x5 : Vec F S1x1024 .f32) (x6 : Vec F S272x1024 .f32) (xo : Vec F S1x1024 .f32) :
    out6_B_7 c i a0 h0 a1 h1 a2 h2 a3 h3 a4 h4 a5 h5 a6 h6 a7 h7 a8 h8 a9 h9 hc x0 x1 x2 x3 x4 x5 x6 xo = k6_pay1 (k6_pay7 x4) (k6_pay9 x0 x1 x2 x3 x4 x5) x6 := by
  unfold out6_B_7
  rw [View.read_writes_eq_canon _ _ _ (cover6_B_7 c i a0 h0 a1 h1 a2 h2 a3 h3 a4 h4 a5 h5 a6 h6 a7 h7 a8 h8 a9 h9 hc x0 x1 x2 x3 x4 x5 x6 xo)]
  unfold kernelRun6_B
  dsimp only
  sl_unfold_words
  rw [View.canon_unit_zero hz]
  simp only [View.readAt_eq_ld, h0.read_unread, h1.read_unread, h2.read_unread, h3.read_unread, h4.read_unread, h5.read_unread, h6.read_unread, h9.read_unread, View.ld_unit_zero (S := S272x2816) hz, View.ld_unit_zero (S := S2816x1024) hz, View.ld_unit_zero (S := S272x1024) hz, View.ld_unit_zero (S := S1x1024) hz]

theorem bodyB_8 (c : Dev nD) (i : grid6.Coords) (a0 : Memref sig .tc .vmem S272x2816 .bf16) (h0 : a0.IsWhole) (a1 : Memref sig .tc .vmem S2816x1024 .bf16) (h1 : a1.IsWhole) (a2 : Memref sig .tc .vmem S272x2816 .bf16) (h2 : a2.IsWhole) (a3 : Memref sig .tc .vmem S2816x1024 .bf16) (h3 : a3.IsWhole) (a4 : Memref sig .tc .vmem S272x1024 .f32) (h4 : a4.IsWhole) (a5 : Memref sig .tc .vmem S1x1024 .f32) (h5 : a5.IsWhole) (a6 : Memref sig .tc .vmem S272x1024 .f32) (h6 : a6.IsWhole) (a7 : Memref sig .tc .vmem S272x1024 .f32) (h7 : a7.IsWhole) (a8 : Memref sig .tc .vmem S272x1024 .bf16) (h8 : a8.IsWhole) (a9 : Memref sig .tc .vmem S1x1024 .f32) (h9 : a9.IsWhole) (hc : ¬cond6_0 i)
    (x0 : Vec F S272x2816 .bf16) (x1 : Vec F S2816x1024 .bf16) (x2 : Vec F S272x2816 .bf16) (x3 : Vec F S2816x1024 .bf16) (x4 : Vec F S272x1024 .f32) (x5 : Vec F S1x1024 .f32) (x6 : Vec F S272x1024 .f32) (xo : Vec F S1x1024 .f32) :
    out6_B_8 c i a0 h0 a1 h1 a2 h2 a3 h3 a4 h4 a5 h5 a6 h6 a7 h7 a8 h8 a9 h9 hc x0 x1 x2 x3 x4 x5 x6 xo = k6_pay2 (k6_pay7 x4) (k6_pay9 x0 x1 x2 x3 x4 x5) x6 := by
  unfold out6_B_8
  rw [View.read_writes_eq_canon _ _ _ (cover6_B_8 c i a0 h0 a1 h1 a2 h2 a3 h3 a4 h4 a5 h5 a6 h6 a7 h7 a8 h8 a9 h9 hc x0 x1 x2 x3 x4 x5 x6 xo)]
  unfold kernelRun6_B
  dsimp only
  sl_unfold_words
  rw [View.canon_unit_zero hz]
  simp only [View.readAt_eq_ld, h0.read_unread, h1.read_unread, h2.read_unread, h3.read_unread, h4.read_unread, h5.read_unread, h6.read_unread, h9.read_unread, View.ld_unit_zero (S := S272x2816) hz, View.ld_unit_zero (S := S2816x1024) hz, View.ld_unit_zero (S := S272x1024) hz, View.ld_unit_zero (S := S1x1024) hz]

theorem bodyB_9 (c : Dev nD) (i : grid6.Coords) (a0 : Memref sig .tc .vmem S272x2816 .bf16) (h0 : a0.IsWhole) (a1 : Memref sig .tc .vmem S2816x1024 .bf16) (h1 : a1.IsWhole) (a2 : Memref sig .tc .vmem S272x2816 .bf16) (h2 : a2.IsWhole) (a3 : Memref sig .tc .vmem S2816x1024 .bf16) (h3 : a3.IsWhole) (a4 : Memref sig .tc .vmem S272x1024 .f32) (h4 : a4.IsWhole) (a5 : Memref sig .tc .vmem S1x1024 .f32) (h5 : a5.IsWhole) (a6 : Memref sig .tc .vmem S272x1024 .f32) (h6 : a6.IsWhole) (a7 : Memref sig .tc .vmem S272x1024 .f32) (h7 : a7.IsWhole) (a8 : Memref sig .tc .vmem S272x1024 .bf16) (h8 : a8.IsWhole) (a9 : Memref sig .tc .vmem S1x1024 .f32) (h9 : a9.IsWhole) (hc : ¬cond6_0 i)
    (x0 : Vec F S272x2816 .bf16) (x1 : Vec F S2816x1024 .bf16) (x2 : Vec F S272x2816 .bf16) (x3 : Vec F S2816x1024 .bf16) (x4 : Vec F S272x1024 .f32) (x5 : Vec F S1x1024 .f32) (x6 : Vec F S272x1024 .f32) (xo : Vec F S1x1024 .f32) :
    out6_B_9 c i a0 h0 a1 h1 a2 h2 a3 h3 a4 h4 a5 h5 a6 h6 a7 h7 a8 h8 a9 h9 hc x0 x1 x2 x3 x4 x5 x6 xo = k6_pay3 (k6_pay5 x0 x1 x2 x3) (k6_pay8 x4) xo := by
  unfold out6_B_9
  rw [View.read_writes_eq_canon _ _ _ (cover6_B_9 c i a0 h0 a1 h1 a2 h2 a3 h3 a4 h4 a5 h5 a6 h6 a7 h7 a8 h8 a9 h9 hc x0 x1 x2 x3 x4 x5 x6 xo)]
  unfold kernelRun6_B
  dsimp only
  sl_unfold_words
  rw [View.canon_unit_zero hz]
  simp only [View.readAt_eq_ld, h0.read_unread, h1.read_unread, h2.read_unread, h3.read_unread, h4.read_unread, h5.read_unread, h6.read_unread, h9.read_unread, View.ld_unit_zero (S := S272x2816) hz, View.ld_unit_zero (S := S2816x1024) hz, View.ld_unit_zero (S := S272x1024) hz, View.ld_unit_zero (S := S1x1024) hz]

end Body

variable (V : (c : Dev nD) → (b : Ref sig .tc) → Buf (Elt Ideal) ((c : Thread nD τ).loc b))

theorem index6_0 (t : Fin cfg6.N) : win6_0.index t 0 * 272 = 272 * t.val ∧ win6_0.index t 1 * 2816 = 0 := by
  rcases fin_N6 t with rfl | rfl | rfl | rfl | rfl | rfl | rfl | rfl <;> decide +kernel

theorem read6_0 (f : Fin 2176 → Fin 2816 → ℝ) (t : Fin cfg6.N) :
    ((cfg6.win 0).blk t).view.read (Elt Ideal) (emb f) = emb (a := 272) (b := 2816) (rows f (272 * t.val) (by have h := t.isLt; have hN : cfg6.N = 8 := N_6; omega)) := by
  funext j
  rw [View.read_apply]
  refine emb_congr f _ _ _ (Fin.ext ?_) (Fin.ext ?_)
  · show win6_0.index t 0 * 272 + 1 * (j 0).val = 272 * t.val + (j 0).val
    rw [(index6_0 t).1]; omega
  · show win6_0.index t 1 * 2816 + 1 * (j 1).val = (j 1).val
    rw [(index6_0 t).2]; omega

theorem index6_1 (t : Fin cfg6.N) : win6_1.index t 0 * 2816 = 0 ∧ win6_1.index t 1 * 1024 = 0 := by
  rcases fin_N6 t with rfl | rfl | rfl | rfl | rfl | rfl | rfl | rfl <;> decide +kernel

theorem read6_1 (f : Fin 2816 → Fin 1024 → ℝ) (t : Fin cfg6.N) :
    ((cfg6.win 1).blk t).view.read (Elt Ideal) (emb f) = emb (a := 2816) (b := 1024) f := by
  funext j
  rw [View.read_apply]
  refine emb_congr f _ _ _ (Fin.ext ?_) (Fin.ext ?_)
  · show win6_1.index t 0 * 2816 + 1 * (j 0).val = (j 0).val
    rw [(index6_1 t).1]; omega
  · show win6_1.index t 1 * 1024 + 1 * (j 1).val = (j 1).val
    rw [(index6_1 t).2]; omega

theorem index6_2 (t : Fin cfg6.N) : win6_2.index t 0 * 272 = 272 * t.val ∧ win6_2.index t 1 * 2816 = 0 := by
  rcases fin_N6 t with rfl | rfl | rfl | rfl | rfl | rfl | rfl | rfl <;> decide +kernel

theorem read6_2 (f : Fin 2176 → Fin 2816 → ℝ) (t : Fin cfg6.N) :
    ((cfg6.win 2).blk t).view.read (Elt Ideal) (emb f) = emb (a := 272) (b := 2816) (rows f (272 * t.val) (by have h := t.isLt; have hN : cfg6.N = 8 := N_6; omega)) := by
  funext j
  rw [View.read_apply]
  refine emb_congr f _ _ _ (Fin.ext ?_) (Fin.ext ?_)
  · show win6_2.index t 0 * 272 + 1 * (j 0).val = 272 * t.val + (j 0).val
    rw [(index6_2 t).1]; omega
  · show win6_2.index t 1 * 2816 + 1 * (j 1).val = (j 1).val
    rw [(index6_2 t).2]; omega

theorem index6_3 (t : Fin cfg6.N) : win6_3.index t 0 * 2816 = 0 ∧ win6_3.index t 1 * 1024 = 0 := by
  rcases fin_N6 t with rfl | rfl | rfl | rfl | rfl | rfl | rfl | rfl <;> decide +kernel

theorem read6_3 (f : Fin 2816 → Fin 1024 → ℝ) (t : Fin cfg6.N) :
    ((cfg6.win 3).blk t).view.read (Elt Ideal) (emb f) = emb (a := 2816) (b := 1024) f := by
  funext j
  rw [View.read_apply]
  refine emb_congr f _ _ _ (Fin.ext ?_) (Fin.ext ?_)
  · show win6_3.index t 0 * 2816 + 1 * (j 0).val = (j 0).val
    rw [(index6_3 t).1]; omega
  · show win6_3.index t 1 * 1024 + 1 * (j 1).val = (j 1).val
    rw [(index6_3 t).2]; omega

theorem index6_4 (t : Fin cfg6.N) : win6_4.index t 0 * 272 = 272 * t.val ∧ win6_4.index t 1 * 1024 = 0 := by
  rcases fin_N6 t with rfl | rfl | rfl | rfl | rfl | rfl | rfl | rfl <;> decide +kernel

theorem read6_4 (f : Fin 2176 → Fin 1024 → ℝ) (t : Fin cfg6.N) :
    ((cfg6.win 4).blk t).view.read (Elt Ideal) (emb f) = emb (a := 272) (b := 1024) (rows f (272 * t.val) (by have h := t.isLt; have hN : cfg6.N = 8 := N_6; omega)) := by
  funext j
  rw [View.read_apply]
  refine emb_congr f _ _ _ (Fin.ext ?_) (Fin.ext ?_)
  · show win6_4.index t 0 * 272 + 1 * (j 0).val = 272 * t.val + (j 0).val
    rw [(index6_4 t).1]; omega
  · show win6_4.index t 1 * 1024 + 1 * (j 1).val = (j 1).val
    rw [(index6_4 t).2]; omega

theorem index6_5 (t : Fin cfg6.N) : win6_5.index t 0 * 1 = 0 ∧ win6_5.index t 1 * 1024 = 0 := by
  rcases fin_N6 t with rfl | rfl | rfl | rfl | rfl | rfl | rfl | rfl <;> decide +kernel

theorem read6_5 (f : Fin 1 → Fin 1024 → ℝ) (t : Fin cfg6.N) :
    ((cfg6.win 5).blk t).view.read (Elt Ideal) (emb f) = emb (a := 1) (b := 1024) f := by
  funext j
  rw [View.read_apply]
  refine emb_congr f _ _ _ (Fin.ext ?_) (Fin.ext ?_)
  · show win6_5.index t 0 * 1 + 1 * (j 0).val = (j 0).val
    rw [(index6_5 t).1]; omega
  · show win6_5.index t 1 * 1024 + 1 * (j 1).val = (j 1).val
    rw [(index6_5 t).2]; omega

theorem index6_6 (t : Fin cfg6.N) : win6_6.index t 0 * 272 = 272 * t.val ∧ win6_6.index t 1 * 1024 = 0 := by
  rcases fin_N6 t with rfl | rfl | rfl | rfl | rfl | rfl | rfl | rfl <;> decide +kernel

theorem read6_6 (f : Fin 2176 → Fin 1024 → ℝ) (t : Fin cfg6.N) :
    ((cfg6.win 6).blk t).view.read (Elt Ideal) (emb f) = emb (a := 272) (b := 1024) (rows f (272 * t.val) (by have h := t.isLt; have hN : cfg6.N = 8 := N_6; omega)) := by
  funext j
  rw [View.read_apply]
  refine emb_congr f _ _ _ (Fin.ext ?_) (Fin.ext ?_)
  · show win6_6.index t 0 * 272 + 1 * (j 0).val = 272 * t.val + (j 0).val
    rw [(index6_6 t).1]; omega
  · show win6_6.index t 1 * 1024 + 1 * (j 1).val = (j 1).val
    rw [(index6_6 t).2]; omega

theorem index6_7 (t : Fin cfg6.N) : win6_7.index t 0 * 272 = 272 * t.val ∧ win6_7.index t 1 * 1024 = 0 := by
  rcases fin_N6 t with rfl | rfl | rfl | rfl | rfl | rfl | rfl | rfl <;> decide +kernel

theorem read6_7 (f : Fin 2176 → Fin 1024 → ℝ) (t : Fin cfg6.N) :
    ((cfg6.win 7).blk t).view.read (Elt Ideal) (emb f) = emb (a := 272) (b := 1024) (rows f (272 * t.val) (by have h := t.isLt; have hN : cfg6.N = 8 := N_6; omega)) := by
  funext j
  rw [View.read_apply]
  refine emb_congr f _ _ _ (Fin.ext ?_) (Fin.ext ?_)
  · show win6_7.index t 0 * 272 + 1 * (j 0).val = 272 * t.val + (j 0).val
    rw [(index6_7 t).1]; omega
  · show win6_7.index t 1 * 1024 + 1 * (j 1).val = (j 1).val
    rw [(index6_7 t).2]; omega

theorem index6_8 (t : Fin cfg6.N) : win6_8.index t 0 * 272 = 272 * t.val ∧ win6_8.index t 1 * 1024 = 0 := by
  rcases fin_N6 t with rfl | rfl | rfl | rfl | rfl | rfl | rfl | rfl <;> decide +kernel

theorem read6_8 (f : Fin 2176 → Fin 1024 → ℝ) (t : Fin cfg6.N) :
    ((cfg6.win 8).blk t).view.read (Elt Ideal) (emb f) = emb (a := 272) (b := 1024) (rows f (272 * t.val) (by have h := t.isLt; have hN : cfg6.N = 8 := N_6; omega)) := by
  funext j
  rw [View.read_apply]
  refine emb_congr f _ _ _ (Fin.ext ?_) (Fin.ext ?_)
  · show win6_8.index t 0 * 272 + 1 * (j 0).val = 272 * t.val + (j 0).val
    rw [(index6_8 t).1]; omega
  · show win6_8.index t 1 * 1024 + 1 * (j 1).val = (j 1).val
    rw [(index6_8 t).2]; omega

theorem index6_9 (t : Fin cfg6.N) : win6_9.index t 0 * 1 = 0 ∧ win6_9.index t 1 * 1024 = 0 := by
  rcases fin_N6 t with rfl | rfl | rfl | rfl | rfl | rfl | rfl | rfl <;> decide +kernel

theorem read6_9 (f : Fin 1 → Fin 1024 → ℝ) (t : Fin cfg6.N) :
    ((cfg6.win 9).blk t).view.read (Elt Ideal) (emb f) = emb (a := 1) (b := 1024) f := by
  funext j
  rw [View.read_apply]
  refine emb_congr f _ _ _ (Fin.ext ?_) (Fin.ext ?_)
  · show win6_9.index t 0 * 1 + 1 * (j 0).val = (j 0).val
    rw [(index6_9 t).1]; omega
  · show win6_9.index t 1 * 1024 + 1 * (j 1).val = (j 1).val
    rw [(index6_9 t).2]; omega

theorem bound6 (t : Fin cfg6.N) : 272 * t.val + 272 ≤ 2176 := by
  have h := t.isLt; have hN : cfg6.N = 8 := N_6; omega

/-- The cotangent of the normalized rows, the sum of the two products. -/
abbrev drows (f0 : Fin 2176 → Fin 2816 → ℝ) (f1 : Fin 2816 → Fin 1024 → ℝ) (f2 : Fin 2176 → Fin 2816 → ℝ) (f3 : Fin 2816 → Fin 1024 → ℝ) :
    Fin 2176 → Fin 1024 → ℝ := plus (mm f0 f1) (mm f2 f3)

theorem pay6o' (r : Fin 272 → Fin 1 → ℝ) (d g : Fin 272 → Fin 1024 → ℝ) :
    k6_pay2 (F := Ideal) (emb r) (emb d) (emb g) = emb (fun i j => g i j + r i 0 * d i j) := by
  unfold k6_pay2
  rw [pay6o]
  rfl

section
variable (c : Dev nD) (f0 : Fin 2176 → Fin 2816 → ℝ) (f1 : Fin 2816 → Fin 1024 → ℝ) (f2 : Fin 2176 → Fin 2816 → ℝ) (f3 : Fin 2816 → Fin 1024 → ℝ) (f4 : Fin 2176 → Fin 1024 → ℝ) (f5 : Fin 1 → Fin 1024 → ℝ) (f6 : Fin 2176 → Fin 1024 → ℝ)
  (h0 : V c (Pipeline.arrRef spec6 0) = emb f0) (h1 : V c (Pipeline.arrRef spec6 1) = emb f1) (h2 : V c (Pipeline.arrRef spec6 2) = emb f2) (h3 : V c (Pipeline.arrRef spec6 3) = emb f3) (h4 : V c (Pipeline.arrRef spec6 4) = emb f4) (h5 : V c (Pipeline.arrRef spec6 5) = emb f5) (h6 : V c (Pipeline.arrRef spec6 6) = emb f6) (t : Fin cfg6.N)
include h0 h1 h2 h3 h4 h5 h6

omit h1 h2 h3 h4 h5 h6 in
theorem block6_0 : iblk6 V c 0 t = emb (rows f0 (272 * t.val) (bound6 t)) := by
  unfold iblk6
  exact (congrArg (((cfg6.win 0).blk t).view.read (Elt Ideal)) h0).trans (read6_0 f0 t)

omit h0 h2 h3 h4 h5 h6 in
theorem block6_1 : iblk6 V c 1 t = emb f1 := by
  unfold iblk6
  exact (congrArg (((cfg6.win 1).blk t).view.read (Elt Ideal)) h1).trans (read6_1 f1 t)

omit h0 h1 h3 h4 h5 h6 in
theorem block6_2 : iblk6 V c 2 t = emb (rows f2 (272 * t.val) (bound6 t)) := by
  unfold iblk6
  exact (congrArg (((cfg6.win 2).blk t).view.read (Elt Ideal)) h2).trans (read6_2 f2 t)

omit h0 h1 h2 h4 h5 h6 in
theorem block6_3 : iblk6 V c 3 t = emb f3 := by
  unfold iblk6
  exact (congrArg (((cfg6.win 3).blk t).view.read (Elt Ideal)) h3).trans (read6_3 f3 t)

omit h0 h1 h2 h3 h5 h6 in
theorem block6_4 : iblk6 V c 4 t = emb (rows f4 (272 * t.val) (bound6 t)) := by
  unfold iblk6
  exact (congrArg (((cfg6.win 4).blk t).view.read (Elt Ideal)) h4).trans (read6_4 f4 t)

omit h0 h1 h2 h3 h4 h6 in
theorem block6_5 : iblk6 V c 5 t = emb f5 := by
  unfold iblk6
  exact (congrArg (((cfg6.win 5).blk t).view.read (Elt Ideal)) h5).trans (read6_5 f5 t)

omit h0 h1 h2 h3 h4 h5 in
theorem block6_6 : iblk6 V c 6 t = emb (rows f6 (272 * t.val) (bound6 t)) := by
  unfold iblk6
  exact (congrArg (((cfg6.win 6).blk t).view.read (Elt Ideal)) h6).trans (read6_6 f6 t)

/-- What point `t` leaves in the weights' cotangent, over what it found there. -/
theorem weight_step (xo : Fin 1 → Fin 1024 → ℝ) :
    k6_pay3 (F := Ideal) (k6_pay5 (iblk6 V c 0 t) (iblk6 V c 1 t) (iblk6 V c 2 t) (iblk6 V c 3 t)) (k6_pay8 (iblk6 V c 4 t)) (emb xo)
      = emb (fun i j => xo i j + ∑ l : Fin 272, rows (fun p q => drows f0 f1 f2 f3 p q * xhat f4 p q) (272 * t.val) (bound6 t) l j) := by
  rw [block6_0 V c f0 h0 t, block6_1 V c f1 h1 t, block6_2 V c f2 h2 t, block6_3 V c f3 h3 t, block6_4 V c f4 h4 t, pay6d, pay6x, pay6w]
  rfl

theorem left7 : (outsAt6 V c t.val t.isLt).1 = emb (rows (dnorm f6 (drows f0 f1 f2 f3) f4 f5) (272 * t.val) (bound6 t)) := by
  by_cases hz0 : t.val % 8 = 0
  · rw [outsAt6_A V c t hz0]
    dsimp only
    rw [bodyA_7, block6_0 V c f0 h0 t, block6_1 V c f1 h1 t, block6_2 V c f2 h2 t, block6_3 V c f3 h3 t, block6_4 V c f4 h4 t, block6_5 V c f5 h5 t, block6_6 V c f6 h6 t, pay6r, pay6c, pay6o]
    rfl
  · rw [outsAt6_B V c t hz0]
    dsimp only
    rw [bodyB_7, block6_0 V c f0 h0 t, block6_1 V c f1 h1 t, block6_2 V c f2 h2 t, block6_3 V c f3 h3 t, block6_4 V c f4 h4 t, block6_5 V c f5 h5 t, block6_6 V c f6 h6 t, pay6r, pay6c, pay6o]
    rfl

theorem left8 : (outsAt6 V c t.val t.isLt).2.1 = emb (rows (dnorm f6 (drows f0 f1 f2 f3) f4 f5) (272 * t.val) (bound6 t)) := by
  by_cases hz0 : t.val % 8 = 0
  · rw [outsAt6_A V c t hz0]
    dsimp only
    rw [bodyA_8, block6_0 V c f0 h0 t, block6_1 V c f1 h1 t, block6_2 V c f2 h2 t, block6_3 V c f3 h3 t, block6_4 V c f4 h4 t, block6_5 V c f5 h5 t, block6_6 V c f6 h6 t, pay6r, pay6c, pay6o']
    rfl
  · rw [outsAt6_B V c t hz0]
    dsimp only
    rw [bodyB_8, block6_0 V c f0 h0 t, block6_1 V c f1 h1 t, block6_2 V c f2 h2 t, block6_3 V c f3 h3 t, block6_4 V c f4 h4 t, block6_5 V c f5 h5 t, block6_6 V c f6 h6 t, pay6r, pay6c, pay6o']
    rfl

end

/-- A matrix's rows over all natural numbers, zero beyond the last. -/
def ext (p : Fin 2176 → Fin 1024 → ℝ) (r : Nat) (j : Fin 1024) : ℝ := if h : r < 2176 then p ⟨r, h⟩ j else 0

theorem ext_rows (p : Fin 2176 → Fin 1024 → ℝ) (n : Nat) (hn : 272 * n + 272 ≤ 2176) (j : Fin 1024) :
    ∑ l : Fin 272, rows p (272 * n) hn l j = ∑ l ∈ Finset.range 272, ext p (272 * n + l) j := by
  rw [Finset.sum_range]
  refine Finset.sum_congr rfl fun l _ => ?_
  unfold ext rows
  rw [dif_pos (by omega)]

theorem ext_all (p : Fin 2176 → Fin 1024 → ℝ) (j : Fin 1024) : ∑ r ∈ Finset.range 2176, ext p r j = ∑ r : Fin 2176, p r j := by
  rw [Finset.sum_range]
  refine Finset.sum_congr rfl fun r _ => ?_
  unfold ext
  rw [dif_pos r.isLt]

section
variable (c : Dev nD) (f0 : Fin 2176 → Fin 2816 → ℝ) (f1 : Fin 2816 → Fin 1024 → ℝ) (f2 : Fin 2176 → Fin 2816 → ℝ) (f3 : Fin 2816 → Fin 1024 → ℝ) (f4 : Fin 2176 → Fin 1024 → ℝ) (f5 : Fin 1 → Fin 1024 → ℝ) (f6 : Fin 2176 → Fin 1024 → ℝ)
  (h0 : V c (Pipeline.arrRef spec6 0) = emb f0) (h1 : V c (Pipeline.arrRef spec6 1) = emb f1) (h2 : V c (Pipeline.arrRef spec6 2) = emb f2) (h3 : V c (Pipeline.arrRef spec6 3) = emb f3) (h4 : V c (Pipeline.arrRef spec6 4) = emb f4) (h5 : V c (Pipeline.arrRef spec6 5) = emb f5) (h6 : V c (Pipeline.arrRef spec6 6) = emb f6)
include h0 h1 h2 h3 h4 h5 h6

/-- After point `n` the weights' cotangent holds the sum over the rows of the points so far. -/
theorem left9 : ∀ (n : Nat) (hn : n < cfg6.N), (outsAt6 V c n hn).2.2
    = emb (fun (_ : Fin 1) j => ∑ r ∈ Finset.range (272 * (n + 1)), ext (fun p q => drows f0 f1 f2 f3 p q * xhat f4 p q) r j)
  | 0, hn => by
    have e := outsAt6_A V c ⟨0, hn⟩ rfl
    rw [show outsAt6 V c 0 hn = _ from e]
    dsimp only
    rw [bodyA_9, pay6z, weight_step V c f0 f1 f2 f3 f4 f5 f6 h0 h1 h2 h3 h4 h5 h6 ⟨0, hn⟩]
    congr 1
    funext i j
    rw [ext_rows]
    simp
  | n + 1, hn => by
    have hN : cfg6.N = 8 := N_6
    have hB : ¬(⟨n + 1, hn⟩ : Fin cfg6.N).val % 8 = 0 := by dsimp only; omega
    have e := outsAt6_B V c ⟨n + 1, hn⟩ hB
    rw [show outsAt6 V c (n + 1) hn = _ from e]
    dsimp only
    rw [bodyB_9]
    have ih := left9 n (Nat.lt_of_succ_lt hn)
    rw [show (outsAt6 V c (n + 1 - 1) _).2.2 = _ from ih, weight_step V c f0 f1 f2 f3 f4 f5 f6 h0 h1 h2 h3 h4 h5 h6 ⟨n + 1, hn⟩]
    congr 1
    funext i j
    rw [ext_rows]
    rw [show 272 * (n + 1 + 1) = 272 * (n + 1) + 272 from by ring, Finset.sum_range_add]

theorem flushed6_7 (t : Fin cfg6.N) : (dat6 V c).flushed 7 t = ((cfg6.win 7).blk t).view.read (Elt Ideal) (emb (dnorm f6 (drows f0 f1 f2 f3) f4 f5)) := by
  rw [read6_7]
  show (cfg6.win 7).cut (grid6.coords t) ((dat6 V c).after 7 t) = _
  rw [after6_7, left7 V c f0 f1 f2 f3 f4 f5 f6 h0 h1 h2 h3 h4 h5 h6 t]
  rfl

theorem flushed6_8 (t : Fin cfg6.N) : (dat6 V c).flushed 8 t = ((cfg6.win 8).blk t).view.read (Elt Ideal) (emb (dnorm f6 (drows f0 f1 f2 f3) f4 f5)) := by
  rw [read6_8]
  show (cfg6.win 8).cut (grid6.coords t) ((dat6 V c).after 8 t) = _
  rw [after6_8, left8 V c f0 f1 f2 f3 f4 f5 f6 h0 h1 h2 h3 h4 h5 h6 t]
  rfl

end

theorem cover6_7 (i : (⟨2, ![2176, 1024]⟩ : Shape).Idx) :
    ∃ t : Fin cfg6.N, (cfg6.win 7).flush t = true ∧ i ∈ ((cfg6.win 7).blk t).view.set := by
  have h0 : (i 0 : Nat) < 2176 := (i 0).isLt
  have h1 : (i 1 : Nat) < 1024 := (i 1).isLt
  have hN : cfg6.N = 8 := N_6
  have ht : (i 0 : Nat) / 272 < cfg6.N := by omega
  refine ⟨⟨(i 0 : Nat) / 272, ht⟩, flush6_7 _, ?_⟩
  generalize htt : (⟨(i 0 : Nat) / 272, ht⟩ : Fin cfg6.N) = t
  have hv : t.val = (i 0 : Nat) / 272 := by rw [← htt]
  show i ∈ ((View.whole main_v13_0).slice (win6_7.rect t)).set
  rw [View.set_slice_whole, Rect.mem_set_unit]
  have e := index6_7 t
  have x : win6_7.xsize (grid6.coords t) 0 = 272 ∧ win6_7.xsize (grid6.coords t) 1 = 1024 := ⟨rfl, rfl⟩
  intro a
  match a with
  | ⟨0, _⟩ =>
    show win6_7.index t 0 * 272 ≤ (i 0 : Nat) ∧ (i 0 : Nat) < win6_7.index t 0 * 272 + win6_7.xsize (grid6.coords t) 0
    rw [e.1, x.1]; omega
  | ⟨1, _⟩ =>
    show win6_7.index t 1 * 1024 ≤ (i 1 : Nat) ∧ (i 1 : Nat) < win6_7.index t 1 * 1024 + win6_7.xsize (grid6.coords t) 1
    rw [e.2, x.2]; omega

theorem cover6_8 (i : (⟨2, ![2176, 1024]⟩ : Shape).Idx) :
    ∃ t : Fin cfg6.N, (cfg6.win 8).flush t = true ∧ i ∈ ((cfg6.win 8).blk t).view.set := by
  have h0 : (i 0 : Nat) < 2176 := (i 0).isLt
  have h1 : (i 1 : Nat) < 1024 := (i 1).isLt
  have hN : cfg6.N = 8 := N_6
  have ht : (i 0 : Nat) / 272 < cfg6.N := by omega
  refine ⟨⟨(i 0 : Nat) / 272, ht⟩, flush6_8 _, ?_⟩
  generalize htt : (⟨(i 0 : Nat) / 272, ht⟩ : Fin cfg6.N) = t
  have hv : t.val = (i 0 : Nat) / 272 := by rw [← htt]
  show i ∈ ((View.whole main_v13_1).slice (win6_8.rect t)).set
  rw [View.set_slice_whole, Rect.mem_set_unit]
  have e := index6_8 t
  have x : win6_8.xsize (grid6.coords t) 0 = 272 ∧ win6_8.xsize (grid6.coords t) 1 = 1024 := ⟨rfl, rfl⟩
  intro a
  match a with
  | ⟨0, _⟩ =>
    show win6_8.index t 0 * 272 ≤ (i 0 : Nat) ∧ (i 0 : Nat) < win6_8.index t 0 * 272 + win6_8.xsize (grid6.coords t) 0
    rw [e.1, x.1]; omega
  | ⟨1, _⟩ =>
    show win6_8.index t 1 * 1024 ≤ (i 1 : Nat) ∧ (i 1 : Nat) < win6_8.index t 1 * 1024 + win6_8.xsize (grid6.coords t) 1
    rw [e.2, x.2]; omega

section
variable (c : Dev nD) (f0 : Fin 2176 → Fin 2816 → ℝ) (f1 : Fin 2816 → Fin 1024 → ℝ) (f2 : Fin 2176 → Fin 2816 → ℝ) (f3 : Fin 2816 → Fin 1024 → ℝ) (f4 : Fin 2176 → Fin 1024 → ℝ) (f5 : Fin 1 → Fin 1024 → ℝ) (f6 : Fin 2176 → Fin 1024 → ℝ)
  (h0 : V c (Pipeline.arrRef spec6 0) = emb f0) (h1 : V c (Pipeline.arrRef spec6 1) = emb f1) (h2 : V c (Pipeline.arrRef spec6 2) = emb f2) (h3 : V c (Pipeline.arrRef spec6 3) = emb f3) (h4 : V c (Pipeline.arrRef spec6 4) = emb f4) (h5 : V c (Pipeline.arrRef spec6 5) = emb f5) (h6 : V c (Pipeline.arrRef spec6 6) = emb f6)
include h0 h1 h2 h3 h4 h5 h6

theorem final6_7 : (dat6 V c).arrAt 7 cfg6.N = emb (dnorm f6 (drows f0 f1 f2 f3) f4 f5) :=
  (dat6 V c).arrAt_eq_of_cover 7 (emb (dnorm f6 (drows f0 f1 f2 f3) f4 f5)) (fun t _ => flushed6_7 V c f0 f1 f2 f3 f4 f5 f6 h0 h1 h2 h3 h4 h5 h6 t) cover6_7

theorem final6_8 : (dat6 V c).arrAt 8 cfg6.N = emb (dnorm f6 (drows f0 f1 f2 f3) f4 f5) :=
  (dat6 V c).arrAt_eq_of_cover 8 (emb (dnorm f6 (drows f0 f1 f2 f3) f4 f5)) (fun t _ => flushed6_8 V c f0 f1 f2 f3 f4 f5 f6 h0 h1 h2 h3 h4 h5 h6 t) cover6_8

theorem flushed6_9 (t : Fin cfg6.N) (hf : (cfg6.win 9).flush t = true) :
    (dat6 V c).flushed 9 t = ((cfg6.win 9).blk t).view.read (Elt Ideal) (emb (dweight (drows f0 f1 f2 f3) f4)) := by
  have hN : cfg6.N = 8 := N_6
  have h7 : t.val = 7 := by have := (flush6_9 t).mp hf; have := t.isLt; omega
  rw [read6_9]
  show (cfg6.win 9).cut (grid6.coords t) ((dat6 V c).after 9 t) = _
  rw [after6_9, left9 V c f0 f1 f2 f3 f4 f5 f6 h0 h1 h2 h3 h4 h5 h6 t.val t.isLt, h7]
  have e : (fun (_ : Fin 1) (j : Fin 1024) => ∑ r ∈ Finset.range (272 * (7 + 1)), ext (fun p q => drows f0 f1 f2 f3 p q * xhat f4 p q) r j)
      = dweight (drows f0 f1 f2 f3) f4 := by
    funext i j
    exact ext_all _ j
  rw [e]
  rfl

theorem final6_9 : (dat6 V c).arrAt 9 cfg6.N = emb (dweight (drows f0 f1 f2 f3) f4) :=
  (dat6 V c).arrAt_eq_of_cover 9 (emb (dweight (drows f0 f1 f2 f3) f4)) (flushed6_9 V c f0 f1 f2 f3 f4 f5 f6 h0 h1 h2 h3 h4 h5 h6) fun i =>
    ⟨t6_7, (flush6_9 t6_7).mpr rfl, by
      show i ∈ ((View.whole main_v13_2).slice (win6_9.rect t6_7)).set
      rw [View.set_slice_whole, Rect.mem_set_unit]
      have h0 : (i 0 : Nat) < 1 := (i 0).isLt
      have h1 : (i 1 : Nat) < 1024 := (i 1).isLt
      have e := index6_9 t6_7
      have x : win6_9.xsize (grid6.coords t6_7) 0 = 1 ∧ win6_9.xsize (grid6.coords t6_7) 1 = 1024 := ⟨rfl, rfl⟩
      intro a
      match a with
      | ⟨0, _⟩ =>
        show win6_9.index t6_7 0 * 1 ≤ (i 0 : Nat) ∧ (i 0 : Nat) < win6_9.index t6_7 0 * 1 + win6_9.xsize (grid6.coords t6_7) 0
        rw [e.1, x.1]; omega
      | ⟨1, _⟩ =>
        show win6_9.index t6_7 1 * 1024 ≤ (i 1 : Nat) ∧ (i 1 : Nat) < win6_9.index t6_7 1 * 1024 + win6_9.xsize (grid6.coords t6_7) 1
        rw [e.2, x.2]; omega⟩

end

end Cert.KernelIdeal.Value

end
-- ==== Proof.Run.lean ====
/- The run of the block's eleven calls, read at every array: the generated frame's launch, whose last state is the fold of
   the eleven regions' write-backs. -/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, and every array lying in a device's memory then holds what the fold of the regions leaves there. -/
theorem run_fold : θ_run defs (onTc (τ := τ) (main (F := F))) ⟨m, fun _ => 0, ρ⟩ (fun r => ∀ c : Dev nD,
    ∀ b ∈ Pipeline.ucRefs τ sig, r.2.mem (((c : Thread nD τ)).1, b) = W13 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ => h)

end Cert.KernelIdeal.Value

end
-- ==== Proof.Fold.lean ====
/- What the fold of the eleven regions leaves in each array, as the block's arrays over the real numbers: each region's
   output from its inputs, and every array unchanged until its last reader. -/
module

public import proofs.«01_k».proof.Proof.Values
public import proofs.«01_k».proof.Proof.RegionsUp
public import proofs.«01_k».proof.Proof.RegionsGrad
public import proofs.«01_k».proof.Proof.RegionsOut
public import proofs.«01_k».proof.Proof.RegionNorm
public import proofs.«01_k».proof.Proof.Run
public import Idealize.ShloMosaic.Lib.Claim
public import Idealize.ShloMosaic.Lib.Pointwise

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.Block

/-- Device `c`'s argument arrays hold the real matrices `a`. -/
structure Holds (m : (ℓ : Loc nD τ sig) → Buf (Elt Ideal) ℓ) (c : Dev nD) (a : Inputs) : Prop where
  x : m ((c : Thread nD τ).loc main_arg0) = emb a.x
  y : m ((c : Thread nD τ).loc main_arg1) = emb a.y
  wo : m ((c : Thread nD τ).loc main_arg2) = emb a.wo
  w : m ((c : Thread nD τ).loc main_arg3) = emb a.w
  wg : m ((c : Thread nD τ).loc main_arg4) = emb a.wg
  wu : m ((c : Thread nD τ).loc main_arg5) = emb a.wu
  wd : m ((c : Thread nD τ).loc main_arg6) = emb a.wd
  g : m ((c : Thread nD τ).loc main_arg7) = emb a.g

variable (m : (ℓ : Loc nD τ sig) → Buf (Elt Ideal) ℓ) (ρ : Dev nD → PrngReg) (c : Dev nD) {a : Inputs} (h : Holds m c a)
include h

/-! ## The arrays the host prepares: casts, which are the identity here, and two transposes -/

theorem at1_v0 : W1 m ρ c (Proc.devRef .tc main_v0) = emb a.wo := by
  unfold_abbrev_sides
  after_results
  exact h.wo

theorem at1_v1 : W1 m ρ c (Proc.devRef .tc main_v1) = emb a.wd := by
  unfold_abbrev_sides
  after_results
  exact h.wd

theorem at1_v2 : W1 m ρ c (Proc.devRef .tc main_v2) = emb a.g := by
  unfold_abbrev_sides
  after_results
  exact h.g

theorem at1_v4 : W1 m ρ c (Proc.devRef .tc main_v4) = emb (tr a.wg) := by
  unfold_abbrev_sides
  after_results
  rw [show W0 m ρ c (Proc.devRef .tc main_arg4) = emb a.wg from h.wg]
  funext t
  idx_vars t
  pointwise []
  rfl

theorem at1_v6 : W1 m ρ c (Proc.devRef .tc main_v6) = emb (tr a.wu) := by
  unfold_abbrev_sides
  after_results
  rw [show W0 m ρ c (Proc.devRef .tc main_arg5) = emb a.wu from h.wu]
  funext t
  idx_vars t
  pointwise []
  rfl

/-! ## Boundary 1 -/

/-! ## Boundary 2 -/

theorem at2_v7 : W2 m ρ c (Proc.devRef .tc main_v7) = emb a.h1 :=
  (W2_arr m ρ c 3).trans (final0_3 (V1 m ρ) c _ _ _ ((W1_args m ρ c main_arg1 (by decide)).trans h.y) (at1_v0 m ρ c h) ((W1_args m ρ c main_arg0 (by decide)).trans h.x))

theorem at2_v0 : W2 m ρ c (Proc.devRef .tc main_v0) = emb a.wo :=
  (W2_of m ρ c main_v0 (by decide +kernel)).trans (at1_v0 m ρ c h)

theorem at2_v1 : W2 m ρ c (Proc.devRef .tc main_v1) = emb a.wd :=
  (W2_of m ρ c main_v1 (by decide +kernel)).trans (at1_v1 m ρ c h)

theorem at2_v2 : W2 m ρ c (Proc.devRef .tc main_v2) = emb a.g :=
  (W2_of m ρ c main_v2 (by decide +kernel)).trans (at1_v2 m ρ c h)

theorem at2_v4 : W2 m ρ c (Proc.devRef .tc main_v4) = emb (tr a.wg) :=
  (W2_of m ρ c main_v4 (by decide +kernel)).trans (at1_v4 m ρ c h)

theorem at2_v6 : W2 m ρ c (Proc.devRef .tc main_v6) = emb (tr a.wu) :=
  (W2_of m ρ c main_v6 (by decide +kernel)).trans (at1_v6 m ρ c h)

/-! ## Boundary 3 -/

theorem at3_v8 : W3 m ρ c (Proc.devRef .tc main_v8) = emb a.u :=
  (W3_arr m ρ c 2).trans (final1_2 (V2 m ρ) c _ _ (at2_v7 m ρ c h) ((W2_args m ρ c main_arg3 (by decide)).trans h.w))

theorem at3_v0 : W3 m ρ c (Proc.devRef .tc main_v0) = emb a.wo :=
  (W3_of m ρ c main_v0 (by decide +kernel)).trans (at2_v0 m ρ c h)

theorem at3_v1 : W3 m ρ c (Proc.devRef .tc main_v1) = emb a.wd :=
  (W3_of m ρ c main_v1 (by decide +kernel)).trans (at2_v1 m ρ c h)

theorem at3_v2 : W3 m ρ c (Proc.devRef .tc main_v2) = emb a.g :=
  (W3_of m ρ c main_v2 (by decide +kernel)).trans (at2_v2 m ρ c h)

theorem at3_v4 : W3 m ρ c (Proc.devRef .tc main_v4) = emb (tr a.wg) :=
  (W3_of m ρ c main_v4 (by decide +kernel)).trans (at2_v4 m ρ c h)

theorem at3_v6 : W3 m ρ c (Proc.devRef .tc main_v6) = emb (tr a.wu) :=
  (W3_of m ρ c main_v6 (by decide +kernel)).trans (at2_v6 m ρ c h)

theorem at3_v7 : W3 m ρ c (Proc.devRef .tc main_v7) = emb a.h1 :=
  (W3_of m ρ c main_v7 (by decide +kernel)).trans (at2_v7 m ρ c h)

/-! ## Boundary 4 -/

theorem at4_v9_0 : W4 m ρ c (Proc.devRef .tc main_v9_0) = emb a.gate :=
  (W4_arr m ρ c 3).trans (final2_3 (V3 m ρ) c _ _ (at3_v8 m ρ c h) (at3_v4 m ρ c h))

theorem at4_v9_1 : W4 m ρ c (Proc.devRef .tc main_v9_1) = emb a.lin :=
  (W4_arr m ρ c 4).trans (final2_4 (V3 m ρ) c _ _ (at3_v8 m ρ c h) (at3_v6 m ρ c h))

theorem at4_v9_2 : W4 m ρ c (Proc.devRef .tc main_v9_2) = emb a.prod :=
  (W4_arr m ρ c 5).trans (final2_5 (V3 m ρ) c _ _ _ (at3_v8 m ρ c h) (at3_v4 m ρ c h) (at3_v6 m ρ c h))

theorem at4_v0 : W4 m ρ c (Proc.devRef .tc main_v0) = emb a.wo :=
  (W4_of m ρ c main_v0 (by decide +kernel)).trans (at3_v0 m ρ c h)

theorem at4_v1 : W4 m ρ c (Proc.devRef .tc main_v1) = emb a.wd :=
  (W4_of m ρ c main_v1 (by decide +kernel)).trans (at3_v1 m ρ c h)

theorem at4_v2 : W4 m ρ c (Proc.devRef .tc main_v2) = emb a.g :=
  (W4_of m ρ c main_v2 (by decide +kernel)).trans (at3_v2 m ρ c h)

theorem at4_v4 : W4 m ρ c (Proc.devRef .tc main_v4) = emb (tr a.wg) :=
  (W4_of m ρ c main_v4 (by decide +kernel)).trans (at3_v4 m ρ c h)

theorem at4_v6 : W4 m ρ c (Proc.devRef .tc main_v6) = emb (tr a.wu) :=
  (W4_of m ρ c main_v6 (by decide +kernel)).trans (at3_v6 m ρ c h)

theorem at4_v7 : W4 m ρ c (Proc.devRef .tc main_v7) = emb a.h1 :=
  (W4_of m ρ c main_v7 (by decide +kernel)).trans (at3_v7 m ρ c h)

theorem at4_v8 : W4 m ρ c (Proc.devRef .tc main_v8) = emb a.u :=
  (W4_of m ρ c main_v8 (by decide +kernel)).trans (at3_v8 m ρ c h)

/-! ## Boundary 5 -/

theorem at5_v10 : W5 m ρ c (Proc.devRef .tc main_v10) = emb a.h2 :=
  (W5_arr m ρ c 3).trans (final3_3 (V4 m ρ) c _ _ _ (at4_v9_2 m ρ c h) (at4_v1 m ρ c h) (at4_v7 m ρ c h))

theorem at5_v0 : W5 m ρ c (Proc.devRef .tc main_v0) = emb a.wo :=
  (W5_of m ρ c main_v0 (by decide +kernel)).trans (at4_v0 m ρ c h)

theorem at5_v1 : W5 m ρ c (Proc.devRef .tc main_v1) = emb a.wd :=
  (W5_of m ρ c main_v1 (by decide +kernel)).trans (at4_v1 m ρ c h)

theorem at5_v2 : W5 m ρ c (Proc.devRef .tc main_v2) = emb a.g :=
  (W5_of m ρ c main_v2 (by decide +kernel)).trans (at4_v2 m ρ c h)

theorem at5_v4 : W5 m ρ c (Proc.devRef .tc main_v4) = emb (tr a.wg) :=
  (W5_of m ρ c main_v4 (by decide +kernel)).trans (at4_v4 m ρ c h)

theorem at5_v6 : W5 m ρ c (Proc.devRef .tc main_v6) = emb (tr a.wu) :=
  (W5_of m ρ c main_v6 (by decide +kernel)).trans (at4_v6 m ρ c h)

theorem at5_v7 : W5 m ρ c (Proc.devRef .tc main_v7) = emb a.h1 :=
  (W5_of m ρ c main_v7 (by decide +kernel)).trans (at4_v7 m ρ c h)

theorem at5_v8 : W5 m ρ c (Proc.devRef .tc main_v8) = emb a.u :=
  (W5_of m ρ c main_v8 (by decide +kernel)).trans (at4_v8 m ρ c h)

theorem at5_v9_0 : W5 m ρ c (Proc.devRef .tc main_v9_0) = emb a.gate :=
  (W5_of m ρ c main_v9_0 (by decide +kernel)).trans (at4_v9_0 m ρ c h)

theorem at5_v9_1 : W5 m ρ c (Proc.devRef .tc main_v9_1) = emb a.lin :=
  (W5_of m ρ c main_v9_1 (by decide +kernel)).trans (at4_v9_1 m ρ c h)

theorem at5_v9_2 : W5 m ρ c (Proc.devRef .tc main_v9_2) = emb a.prod :=
  (W5_of m ρ c main_v9_2 (by decide +kernel)).trans (at4_v9_2 m ρ c h)

/-! ## Boundary 6 -/

theorem at6_v11_0 : W6 m ρ c (Proc.devRef .tc main_v11_0) = emb a.dgp :=
  (W6_arr m ρ c 4).trans (final4_4 (V5 m ρ) c _ _ _ _ (at5_v2 m ρ c h) (at5_v1 m ρ c h) (at5_v9_0 m ρ c h) (at5_v9_1 m ρ c h))

theorem at6_v11_1 : W6 m ρ c (Proc.devRef .tc main_v11_1) = emb a.dup :=
  (W6_arr m ρ c 5).trans (final4_5 (V5 m ρ) c _ _ _ (at5_v2 m ρ c h) (at5_v1 m ρ c h) (at5_v9_0 m ρ c h))

theorem at6_v0 : W6 m ρ c (Proc.devRef .tc main_v0) = emb a.wo :=
  (W6_of m ρ c main_v0 (by decide +kernel)).trans (at5_v0 m ρ c h)

theorem at6_v2 : W6 m ρ c (Proc.devRef .tc main_v2) = emb a.g :=
  (W6_of m ρ c main_v2 (by decide +kernel)).trans (at5_v2 m ρ c h)

theorem at6_v4 : W6 m ρ c (Proc.devRef .tc main_v4) = emb (tr a.wg) :=
  (W6_of m ρ c main_v4 (by decide +kernel)).trans (at5_v4 m ρ c h)

theorem at6_v6 : W6 m ρ c (Proc.devRef .tc main_v6) = emb (tr a.wu) :=
  (W6_of m ρ c main_v6 (by decide +kernel)).trans (at5_v6 m ρ c h)

theorem at6_v7 : W6 m ρ c (Proc.devRef .tc main_v7) = emb a.h1 :=
  (W6_of m ρ c main_v7 (by decide +kernel)).trans (at5_v7 m ρ c h)

theorem at6_v8 : W6 m ρ c (Proc.devRef .tc main_v8) = emb a.u :=
  (W6_of m ρ c main_v8 (by decide +kernel)).trans (at5_v8 m ρ c h)

theorem at6_v9_2 : W6 m ρ c (Proc.devRef .tc main_v9_2) = emb a.prod :=
  (W6_of m ρ c main_v9_2 (by decide +kernel)).trans (at5_v9_2 m ρ c h)

theorem at6_v10 : W6 m ρ c (Proc.devRef .tc main_v10) = emb a.h2 :=
  (W6_of m ρ c main_v10 (by decide +kernel)).trans (at5_v10 m ρ c h)

/-! ## Boundary 7 -/

theorem at7_v12_0 : W7 m ρ c (Proc.devRef .tc main_v12_0) = emb a.dwd :=
  (W7_arr m ρ c 2).trans (final5_2 (V6 m ρ) c _ _ (at6_v9_2 m ρ c h) (at6_v2 m ρ c h))

theorem at7_v0 : W7 m ρ c (Proc.devRef .tc main_v0) = emb a.wo :=
  (W7_of m ρ c main_v0 (by decide +kernel)).trans (at6_v0 m ρ c h)

theorem at7_v4 : W7 m ρ c (Proc.devRef .tc main_v4) = emb (tr a.wg) :=
  (W7_of m ρ c main_v4 (by decide +kernel)).trans (at6_v4 m ρ c h)

theorem at7_v6 : W7 m ρ c (Proc.devRef .tc main_v6) = emb (tr a.wu) :=
  (W7_of m ρ c main_v6 (by decide +kernel)).trans (at6_v6 m ρ c h)

theorem at7_v7 : W7 m ρ c (Proc.devRef .tc main_v7) = emb a.h1 :=
  (W7_of m ρ c main_v7 (by decide +kernel)).trans (at6_v7 m ρ c h)

theorem at7_v8 : W7 m ρ c (Proc.devRef .tc main_v8) = emb a.u :=
  (W7_of m ρ c main_v8 (by decide +kernel)).trans (at6_v8 m ρ c h)

theorem at7_v10 : W7 m ρ c (Proc.devRef .tc main_v10) = emb a.h2 :=
  (W7_of m ρ c main_v10 (by decide +kernel)).trans (at6_v10 m ρ c h)

theorem at7_v11_0 : W7 m ρ c (Proc.devRef .tc main_v11_0) = emb a.dgp :=
  (W7_of m ρ c main_v11_0 (by decide +kernel)).trans (at6_v11_0 m ρ c h)

theorem at7_v11_1 : W7 m ρ c (Proc.devRef .tc main_v11_1) = emb a.dup :=
  (W7_of m ρ c main_v11_1 (by decide +kernel)).trans (at6_v11_1 m ρ c h)

/-! ## Boundary 8 -/

theorem at8_v13_0 : W8 m ρ c (Proc.devRef .tc main_v13_0) = emb a.dh1 :=
  (W8_arr m ρ c 7).trans (final6_7 (V7 m ρ) c _ _ _ _ _ _ _ (at7_v11_0 m ρ c h) (at7_v4 m ρ c h) (at7_v11_1 m ρ c h) (at7_v6 m ρ c h) (at7_v7 m ρ c h) ((W7_args m ρ c main_arg3 (by decide)).trans h.w) ((W7_args m ρ c main_arg7 (by decide)).trans h.g))

theorem at8_v13_1 : W8 m ρ c (Proc.devRef .tc main_v13_1) = emb a.dh1 :=
  (W8_arr m ρ c 8).trans (final6_8 (V7 m ρ) c _ _ _ _ _ _ _ (at7_v11_0 m ρ c h) (at7_v4 m ρ c h) (at7_v11_1 m ρ c h) (at7_v6 m ρ c h) (at7_v7 m ρ c h) ((W7_args m ρ c main_arg3 (by decide)).trans h.w) ((W7_args m ρ c main_arg7 (by decide)).trans h.g))

theorem at8_v13_2 : W8 m ρ c (Proc.devRef .tc main_v13_2) = emb a.dw :=
  (W8_arr m ρ c 9).trans (final6_9 (V7 m ρ) c _ _ _ _ _ _ _ (at7_v11_0 m ρ c h) (at7_v4 m ρ c h) (at7_v11_1 m ρ c h) (at7_v6 m ρ c h) (at7_v7 m ρ c h) ((W7_args m ρ c main_arg3 (by decide)).trans h.w) ((W7_args m ρ c main_arg7 (by decide)).trans h.g))

theorem at8_v0 : W8 m ρ c (Proc.devRef .tc main_v0) = emb a.wo :=
  (W8_of m ρ c main_v0 (by decide +kernel)).trans (at7_v0 m ρ c h)

theorem at8_v8 : W8 m ρ c (Proc.devRef .tc main_v8) = emb a.u :=
  (W8_of m ρ c main_v8 (by decide +kernel)).trans (at7_v8 m ρ c h)

theorem at8_v10 : W8 m ρ c (Proc.devRef .tc main_v10) = emb a.h2 :=
  (W8_of m ρ c main_v10 (by decide +kernel)).trans (at7_v10 m ρ c h)

theorem at8_v11_0 : W8 m ρ c (Proc.devRef .tc main_v11_0) = emb a.dgp :=
  (W8_of m ρ c main_v11_0 (by decide +kernel)).trans (at7_v11_0 m ρ c h)

theorem at8_v11_1 : W8 m ρ c (Proc.devRef .tc main_v11_1) = emb a.dup :=
  (W8_of m ρ c main_v11_1 (by decide +kernel)).trans (at7_v11_1 m ρ c h)

theorem at8_v12_0 : W8 m ρ c (Proc.devRef .tc main_v12_0) = emb a.dwd :=
  (W8_of m ρ c main_v12_0 (by decide +kernel)).trans (at7_v12_0 m ρ c h)

/-! ## Boundary 9 -/

theorem at9_v14_0 : W9 m ρ c (Proc.devRef .tc main_v14_0) = emb (tmm a.dgp a.u) :=
  (W9_arr m ρ c 2).trans (final7_2 (V8 m ρ) c _ _ (at8_v11_0 m ρ c h) (at8_v8 m ρ c h))

theorem at9_v0 : W9 m ρ c (Proc.devRef .tc main_v0) = emb a.wo :=
  (W9_of m ρ c main_v0 (by decide +kernel)).trans (at8_v0 m ρ c h)

theorem at9_v8 : W9 m ρ c (Proc.devRef .tc main_v8) = emb a.u :=
  (W9_of m ρ c main_v8 (by decide +kernel)).trans (at8_v8 m ρ c h)

theorem at9_v10 : W9 m ρ c (Proc.devRef .tc main_v10) = emb a.h2 :=
  (W9_of m ρ c main_v10 (by decide +kernel)).trans (at8_v10 m ρ c h)

theorem at9_v11_1 : W9 m ρ c (Proc.devRef .tc main_v11_1) = emb a.dup :=
  (W9_of m ρ c main_v11_1 (by decide +kernel)).trans (at8_v11_1 m ρ c h)

theorem at9_v12_0 : W9 m ρ c (Proc.devRef .tc main_v12_0) = emb a.dwd :=
  (W9_of m ρ c main_v12_0 (by decide +kernel)).trans (at8_v12_0 m ρ c h)

theorem at9_v13_0 : W9 m ρ c (Proc.devRef .tc main_v13_0) = emb a.dh1 :=
  (W9_of m ρ c main_v13_0 (by decide +kernel)).trans (at8_v13_0 m ρ c h)

theorem at9_v13_1 : W9 m ρ c (Proc.devRef .tc main_v13_1) = emb a.dh1 :=
  (W9_of m ρ c main_v13_1 (by decide +kernel)).trans (at8_v13_1 m ρ c h)

theorem at9_v13_2 : W9 m ρ c (Proc.devRef .tc main_v13_2) = emb a.dw :=
  (W9_of m ρ c main_v13_2 (by decide +kernel)).trans (at8_v13_2 m ρ c h)

/-! ## Boundary 10 -/

theorem at10_v15_0 : W10 m ρ c (Proc.devRef .tc main_v15_0) = emb (tmm a.dup a.u) :=
  (W10_arr m ρ c 2).trans (final8_2 (V9 m ρ) c _ _ (at9_v11_1 m ρ c h) (at9_v8 m ρ c h))

theorem at10_v0 : W10 m ρ c (Proc.devRef .tc main_v0) = emb a.wo :=
  (W10_of m ρ c main_v0 (by decide +kernel)).trans (at9_v0 m ρ c h)

theorem at10_v10 : W10 m ρ c (Proc.devRef .tc main_v10) = emb a.h2 :=
  (W10_of m ρ c main_v10 (by decide +kernel)).trans (at9_v10 m ρ c h)

theorem at10_v12_0 : W10 m ρ c (Proc.devRef .tc main_v12_0) = emb a.dwd :=
  (W10_of m ρ c main_v12_0 (by decide +kernel)).trans (at9_v12_0 m ρ c h)

theorem at10_v13_0 : W10 m ρ c (Proc.devRef .tc main_v13_0) = emb a.dh1 :=
  (W10_of m ρ c main_v13_0 (by decide +kernel)).trans (at9_v13_0 m ρ c h)

theorem at10_v13_1 : W10 m ρ c (Proc.devRef .tc main_v13_1) = emb a.dh1 :=
  (W10_of m ρ c main_v13_1 (by decide +kernel)).trans (at9_v13_1 m ρ c h)

theorem at10_v13_2 : W10 m ρ c (Proc.devRef .tc main_v13_2) = emb a.dw :=
  (W10_of m ρ c main_v13_2 (by decide +kernel)).trans (at9_v13_2 m ρ c h)

theorem at10_v14_0 : W10 m ρ c (Proc.devRef .tc main_v14_0) = emb (tmm a.dgp a.u) :=
  (W10_of m ρ c main_v14_0 (by decide +kernel)).trans (at9_v14_0 m ρ c h)

/-! ## Boundary 11 -/

theorem at11_v16_0 : W11 m ρ c (Proc.devRef .tc main_v16_0) = emb a.dwo :=
  (W11_arr m ρ c 2).trans (final9_2 (V10 m ρ) c _ _ ((W10_args m ρ c main_arg1 (by decide)).trans h.y) (at10_v13_1 m ρ c h))

theorem at11_v0 : W11 m ρ c (Proc.devRef .tc main_v0) = emb a.wo :=
  (W11_of m ρ c main_v0 (by decide +kernel)).trans (at10_v0 m ρ c h)

theorem at11_v10 : W11 m ρ c (Proc.devRef .tc main_v10) = emb a.h2 :=
  (W11_of m ρ c main_v10 (by decide +kernel)).trans (at10_v10 m ρ c h)

theorem at11_v12_0 : W11 m ρ c (Proc.devRef .tc main_v12_0) = emb a.dwd :=
  (W11_of m ρ c main_v12_0 (by decide +kernel)).trans (at10_v12_0 m ρ c h)

theorem at11_v13_0 : W11 m ρ c (Proc.devRef .tc main_v13_0) = emb a.dh1 :=
  (W11_of m ρ c main_v13_0 (by decide +kernel)).trans (at10_v13_0 m ρ c h)

theorem at11_v13_1 : W11 m ρ c (Proc.devRef .tc main_v13_1) = emb a.dh1 :=
  (W11_of m ρ c main_v13_1 (by decide +kernel)).trans (at10_v13_1 m ρ c h)

theorem at11_v13_2 : W11 m ρ c (Proc.devRef .tc main_v13_2) = emb a.dw :=
  (W11_of m ρ c main_v13_2 (by decide +kernel)).trans (at10_v13_2 m ρ c h)

theorem at11_v14_0 : W11 m ρ c (Proc.devRef .tc main_v14_0) = emb (tmm a.dgp a.u) :=
  (W11_of m ρ c main_v14_0 (by decide +kernel)).trans (at10_v14_0 m ρ c h)

theorem at11_v15_0 : W11 m ρ c (Proc.devRef .tc main_v15_0) = emb (tmm a.dup a.u) :=
  (W11_of m ρ c main_v15_0 (by decide +kernel)).trans (at10_v15_0 m ρ c h)

/-! ## Boundary 12 -/

theorem at12_v17 : W12 m ρ c (Proc.devRef .tc main_v17) = emb a.dy :=
  (W12_arr m ρ c 2).trans (final10_2 (V11 m ρ) c _ _ (at11_v13_1 m ρ c h) (at11_v0 m ρ c h))

theorem at12_v10 : W12 m ρ c (Proc.devRef .tc main_v10) = emb a.h2 :=
  (W12_of m ρ c main_v10 (by decide +kernel)).trans (at11_v10 m ρ c h)

theorem at12_v12_0 : W12 m ρ c (Proc.devRef .tc main_v12_0) = emb a.dwd :=
  (W12_of m ρ c main_v12_0 (by decide +kernel)).trans (at11_v12_0 m ρ c h)

theorem at12_v13_0 : W12 m ρ c (Proc.devRef .tc main_v13_0) = emb a.dh1 :=
  (W12_of m ρ c main_v13_0 (by decide +kernel)).trans (at11_v13_0 m ρ c h)

theorem at12_v13_2 : W12 m ρ c (Proc.devRef .tc main_v13_2) = emb a.dw :=
  (W12_of m ρ c main_v13_2 (by decide +kernel)).trans (at11_v13_2 m ρ c h)

theorem at12_v14_0 : W12 m ρ c (Proc.devRef .tc main_v14_0) = emb (tmm a.dgp a.u) :=
  (W12_of m ρ c main_v14_0 (by decide +kernel)).trans (at11_v14_0 m ρ c h)

theorem at12_v15_0 : W12 m ρ c (Proc.devRef .tc main_v15_0) = emb (tmm a.dup a.u) :=
  (W12_of m ρ c main_v15_0 (by decide +kernel)).trans (at11_v15_0 m ρ c h)

theorem at12_v16_0 : W12 m ρ c (Proc.devRef .tc main_v16_0) = emb a.dwo :=
  (W12_of m ρ c main_v16_0 (by decide +kernel)).trans (at11_v16_0 m ρ c h)

/-! ## Boundary 13 -/

theorem at13_v18 : W13 m ρ c (Proc.devRef .tc main_v18) = emb a.dwg := by
  unfold_abbrev_sides
  after_results
  rw [show W12 m ρ c (Proc.devRef .tc main_v14_0) = _ from at12_v14_0 m ρ c h]
  funext t
  idx_vars t
  pointwise []
  rfl

theorem at13_v19 : W13 m ρ c (Proc.devRef .tc main_v19) = emb a.dwu := by
  unfold_abbrev_sides
  after_results
  rw [show W12 m ρ c (Proc.devRef .tc main_v15_0) = _ from at12_v15_0 m ρ c h]
  funext t
  idx_vars t
  pointwise []
  rfl

theorem at13_v10 : W13 m ρ c (Proc.devRef .tc main_v10) = emb a.h2 :=
  (W13_of m ρ c main_v10 (by decide)).trans (at12_v10 m ρ c h)

theorem at13_v12_0 : W13 m ρ c (Proc.devRef .tc main_v12_0) = emb a.dwd :=
  (W13_of m ρ c main_v12_0 (by decide)).trans (at12_v12_0 m ρ c h)

theorem at13_v13_0 : W13 m ρ c (Proc.devRef .tc main_v13_0) = emb a.dh1 :=
  (W13_of m ρ c main_v13_0 (by decide)).trans (at12_v13_0 m ρ c h)

theorem at13_v13_2 : W13 m ρ c (Proc.devRef .tc main_v13_2) = emb a.dw :=
  (W13_of m ρ c main_v13_2 (by decide)).trans (at12_v13_2 m ρ c h)

theorem at13_v16_0 : W13 m ρ c (Proc.devRef .tc main_v16_0) = emb a.dwo :=
  (W13_of m ρ c main_v16_0 (by decide)).trans (at12_v16_0 m ρ c h)

theorem at13_v17 : W13 m ρ c (Proc.devRef .tc main_v17) = emb a.dy :=
  (W13_of m ρ c main_v17 (by decide)).trans (at12_v17 m ρ c h)

end Cert.KernelIdeal.Value

end
-- ==== Proof.ReferenceRun.lean ====
/- The reference's run: a straight line of host operations in which every array is written once, so that at its end
   each array is its operation's value of the arrays that operation reads. -/
module

public import proofs.«01_k».proof.Proof.Gen.ReferenceIdeal
public import Idealize.ShloMosaic.Lib.StableHlo.RunRead
public import Idealize.ShloMosaic.Lib.StableHlo.RunHlo
public import Idealize.ShloMosaic.Lib.Claim
public import Idealize.ShloMosaic.Lib.Pointwise

@[expose] public section

set_option maxRecDepth 16384

noncomputable section

namespace Cert.ReferenceIdeal.Value

open Idealize.ShloMosaic Idealize.ShloMosaic.TcCoe Idealize.ShloMosaic.Tactic Idealize.ShloMosaic.StableHlo Idealize.SL.Sem
open Cert.ReferenceIdeal Cert.ReferenceIdeal.Facts₀ Cert.ReferenceIdeal.Facts

/-! ## Lines in which every array is written once -/

section Line

variable {τ : Topo} {sig : RefSig} {Val : EltTy → Type} {l : List (HloOp τ sig Val)} {W : List (Ref sig .tc)}
  (hW : l.map HloOp.writes = W.map fun r => {Proc.devRef (τ := τ) .tc r}) (V : Valuation τ sig Val)
include hW

/-- What an array holds before operation `i` it holds at the end, if none from `i` on writes it. -/
theorem before_eq_end (i : Nat) {r : Ref sig .tc} (hr : r ∉ W.drop i) :
    upto l V i (Proc.devRef .tc r) = after l V (Proc.devRef .tc r) := by
  have e : after l V = after (l.drop i) (upto l V i) := by
    have app : ∀ (l₁ l₂ : List (HloOp τ sig Val)) (V : Valuation τ sig Val), after (l₁ ++ l₂) V = after l₂ (after l₁ V) := by
      intro l₁
      induction l₁ with
      | nil => intro _ _; rfl
      | cons op l₁ ih => intro l₂ V; exact ih l₂ _
    unfold upto
    rw [← app, List.take_append_drop]
  rw [e]
  exact (after_unwritten (W.drop i) (by rw [List.map_drop, List.map_drop, hW]) hr _).symm

variable (i : Nat) {op : HloOp τ sig Val} {rest : List (HloOp τ sig Val)}

theorem end_of_op (hs : l.drop i = op :: rest) {r : Ref sig .tc} (hr : r ∉ W.drop (i + 1)) :
    after l V (Proc.devRef .tc r) = op.result (upto l V i) (Proc.devRef .tc r) :=
  after_last_write (W.drop (i + 1)) hs (by
    rw [List.map_drop, ← hW, ← List.map_drop, ← List.tail_drop, hs]
    rfl) hr V

theorem end_nullary {y : Ref sig .tc} {v : y.ty.Contents Val} {hy} (hs : l.drop i = nullary y v hy :: rest)
    (hr : y ∉ W.drop (i + 1)) : after l V (Proc.devRef .tc y) = v :=
  (end_of_op hW V i hs hr).trans (nullary_result y v hy _)

theorem end_unary {x y : Ref sig .tc} {f : x.ty.Contents Val → y.ty.Contents Val} {hx hy}
    (hs : l.drop i = unary x y f hx hy :: rest) (hr : y ∉ W.drop (i + 1)) (hx' : x ∉ W.drop i) :
    after l V (Proc.devRef .tc y) = f (after l V (Proc.devRef .tc x)) := by
  rw [end_of_op hW V i hs hr, unary_result', before_eq_end hW V i hx']

theorem end_binary {x x' y : Ref sig .tc} {f : x.ty.Contents Val → x'.ty.Contents Val → y.ty.Contents Val} {hx hx1 hy}
    (hs : l.drop i = binary x x' y f hx hx1 hy :: rest) (hr : y ∉ W.drop (i + 1)) (hx' : x ∉ W.drop i) (hx2 : x' ∉ W.drop i) :
    after l V (Proc.devRef .tc y) = f (after l V (Proc.devRef .tc x)) (after l V (Proc.devRef .tc x')) := by
  rw [end_of_op hW V i hs hr, binary_result', before_eq_end hW V i hx', before_eq_end hW V i hx2]

theorem end_reshape {x y : Ref sig .tc} {he hn hx hy}
    (hs : l.drop i = reshape x y he hn hx hy :: rest) (hr : y ∉ W.drop (i + 1)) (hx' : x ∉ W.drop i) :
    after l V (Proc.devRef .tc y) = fun j => he ▸ shapeCast y.ty.shape (after l V (Proc.devRef .tc x)) hn j := by
  rw [end_of_op hW V i hs hr, reshape_result', before_eq_end hW V i hx']

end Line

/-! ## The reference's line -/

variable {F : FTy → Type} [FloatOps F]

/-- The reference's operations in order. -/
abbrev ops : List (HloOp τ sig (Elt F)) :=
  [ StableHlo.unary main_arg1 main_v0 ((extf .f32 · bitsLt_bf16_f32) : (⟨S2176x2048, .bf16⟩ : BufTy).Contents (Elt F) → (⟨S2176x2048, .f32⟩ : BufTy).Contents (Elt F)),
    StableHlo.binary main_v0 main_arg2 main_v1 ((fun l r => Host.dotGeneral dot_S2176x2048_S2048x1024_S2176x1024_1_0_0_1_n_n none l r) : (⟨S2176x2048, .f32⟩ : BufTy).Contents (Elt F) → (⟨S2048x1024, .f32⟩ : BufTy).Contents (Elt F) → (⟨S2176x1024, .f32⟩ : BufTy).Contents (Elt F)),
    StableHlo.binary main_arg0 main_v1 main_v2 (addf : (⟨S2176x1024, .f32⟩ : BufTy).Contents (Elt F) → (⟨S2176x1024, .f32⟩ : BufTy).Contents (Elt F) → (⟨S2176x1024, .f32⟩ : BufTy).Contents (Elt F)),
    StableHlo.binary main_v2 main_v2 main_v3 (mulf : (⟨S2176x1024, .f32⟩ : BufTy).Contents (Elt F) → (⟨S2176x1024, .f32⟩ : BufTy).Contents (Elt F) → (⟨S2176x1024, .f32⟩ : BufTy).Contents (Elt F)),
    StableHlo.nullary main_cst (constant S_ .f32 0x00000000#32),
    StableHlo.binary main_v3 main_cst main_v4 ((fun x v => Host.reduceAdd x v reducesTo_S2176x1024_S2176_d1 h_S_) : (⟨S2176x1024, .f32⟩ : BufTy).Contents (Elt F) → (⟨S_, .f32⟩ : BufTy).Contents (Elt F) → (⟨S2176, .f32⟩ : BufTy).Contents (Elt F)),
    StableHlo.unary main_v4 main_v5 (broadcastInDim S2176x1 ![0] bcast_S2176_S2176x1_0 : (⟨S2176, .f32⟩ : BufTy).Contents (Elt F) → (⟨S2176x1, .f32⟩ : BufTy).Contents (Elt F)),
    StableHlo.nullary main_cst_0 (constant S_ .f32 0x44800000#32),
    StableHlo.unary main_cst_0 main_v6 (broadcastInDim S2176x1 ![] bcast_S_S2176x1 : (⟨S_, .f32⟩ : BufTy).Contents (Elt F) → (⟨S2176x1, .f32⟩ : BufTy).Contents (Elt F)),
    StableHlo.binary main_v5 main_v6 main_v7 (Host.divf : (⟨S2176x1, .f32⟩ : BufTy).Contents (Elt F) → (⟨S2176x1, .f32⟩ : BufTy).Contents (Elt F) → (⟨S2176x1, .f32⟩ : BufTy).Contents (Elt F)),
    StableHlo.nullary main_cst_1 (constant S_ .f32 0x358637BD#32),
    StableHlo.unary main_cst_1 main_v8 (broadcastInDim S2176x1 ![] bcast_S_S2176x1 : (⟨S_, .f32⟩ : BufTy).Contents (Elt F) → (⟨S2176x1, .f32⟩ : BufTy).Contents (Elt F)),
    StableHlo.binary main_v7 main_v8 main_v9 (addf : (⟨S2176x1, .f32⟩ : BufTy).Contents (Elt F) → (⟨S2176x1, .f32⟩ : BufTy).Contents (Elt F) → (⟨S2176x1, .f32⟩ : BufTy).Contents (Elt F)),
    StableHlo.unary main_v9 main_v10 (Host.rsqrt : (⟨S2176x1, .f32⟩ : BufTy).Contents (Elt F) → (⟨S2176x1, .f32⟩ : BufTy).Contents (Elt F)),
    StableHlo.binary main_v10 main_v9 main_v11 (Host.divf : (⟨S2176x1, .f32⟩ : BufTy).Contents (Elt F) → (⟨S2176x1, .f32⟩ : BufTy).Contents (Elt F) → (⟨S2176x1, .f32⟩ : BufTy).Contents (Elt F)),
    StableHlo.nullary main_cst_2 (constant S_ .f32 0xBF000000#32),
    StableHlo.unary main_cst_2 main_v12 (broadcastInDim S2176x1 ![] bcast_S_S2176x1 : (⟨S_, .f32⟩ : BufTy).Contents (Elt F) → (⟨S2176x1, .f32⟩ : BufTy).Contents (Elt F)),
    StableHlo.binary main_v12 main_v11 main_v13 (mulf : (⟨S2176x1, .f32⟩ : BufTy).Contents (Elt F) → (⟨S2176x1, .f32⟩ : BufTy).Contents (Elt F) → (⟨S2176x1, .f32⟩ : BufTy).Contents (Elt F)),
    StableHlo.unary main_v10 main_v14 (broadcastInDim S2176x1024 ![0, 1] bcast_S2176x1_S2176x1024_0_1 : (⟨S2176x1, .f32⟩ : BufTy).Contents (Elt F) → (⟨S2176x1024, .f32⟩ : BufTy).Contents (Elt F)),
    StableHlo.binary main_v2 main_v14 main_v15 (mulf : (⟨S2176x1024, .f32⟩ : BufTy).Contents (Elt F) → (⟨S2176x1024, .f32⟩ : BufTy).Contents (Elt F) → (⟨S2176x1024, .f32⟩ : BufTy).Contents (Elt F)),
    StableHlo.unary main_arg3 main_v16 (broadcastInDim S2176x1024 ![0, 1] bcast_S1x1024_S2176x1024_0_1 : (⟨S1x1024, .f32⟩ : BufTy).Contents (Elt F) → (⟨S2176x1024, .f32⟩ : BufTy).Contents (Elt F)),
    StableHlo.binary main_v15 main_v16 main_v17 (mulf : (⟨S2176x1024, .f32⟩ : BufTy).Contents (Elt F) → (⟨S2176x1024, .f32⟩ : BufTy).Contents (Elt F) → (⟨S2176x1024, .f32⟩ : BufTy).Contents (Elt F)),
    StableHlo.binary main_v17 main_arg4 main_v18 ((fun l r => Host.dotGeneral dot_S2176x1024_S1024x2816_S2176x2816_1_0_0_1_n_n none l r) : (⟨S2176x1024, .f32⟩ : BufTy).Contents (Elt F) → (⟨S1024x2816, .f32⟩ : BufTy).Contents (Elt F) → (⟨S2176x2816, .f32⟩ : BufTy).Contents (Elt F)),
    StableHlo.TRef.unary (.of main_v18) (.of main_call0_v0) Host.negf,
    StableHlo.TRef.unary (.of main_call0_v0) (.of main_call0_v1) Host.exp,
    StableHlo.TRef.nullary (.of main_call0_cst) (constant S_ .f32 0x3F800000#32),
    StableHlo.TRef.unary (.of main_call0_cst) (.of main_call0_v2) (broadcastInDim S2176x2816 ![] bcast_S_S2176x2816),
    StableHlo.TRef.binary (.of main_call0_v2) (.of main_call0_v1) (.of main_call0_v3) addf,
    StableHlo.TRef.nullary (.of main_call0_cst_0) (constant S_ .f32 0x3F800000#32),
    StableHlo.TRef.unary (.of main_call0_cst_0) (.of main_call0_v4) (broadcastInDim S2176x2816 ![] bcast_S_S2176x2816),
    StableHlo.TRef.binary (.of main_call0_v4) (.of main_call0_v3) (.of main_v19_2) Host.divf,
    StableHlo.TRef.nullary (.of main_call0_cst_1) (constant S_ .f32 0x3F800000#32),
    StableHlo.TRef.unary (.of main_call0_cst_1) (.of main_call0_v6) (broadcastInDim S2176x2816 ![] bcast_S_S2176x2816),
    StableHlo.TRef.binary (.of main_call0_v6) (.of main_v19_2) (.of main_call0_v7) subf,
    StableHlo.TRef.binary (.of main_v19_2) (.of main_call0_v7) (.of main_v19_1) mulf,
    StableHlo.TRef.binary (.of main_v18) (.of main_v19_2) (.of main_v19_0) mulf,
    StableHlo.binary main_v17 main_arg5 main_v20 ((fun l r => Host.dotGeneral dot_S2176x1024_S1024x2816_S2176x2816_1_0_0_1_n_n none l r) : (⟨S2176x1024, .f32⟩ : BufTy).Contents (Elt F) → (⟨S1024x2816, .f32⟩ : BufTy).Contents (Elt F) → (⟨S2176x2816, .f32⟩ : BufTy).Contents (Elt F)),
    StableHlo.binary main_v19_0 main_v20 main_v21 (mulf : (⟨S2176x2816, .f32⟩ : BufTy).Contents (Elt F) → (⟨S2176x2816, .f32⟩ : BufTy).Contents (Elt F) → (⟨S2176x2816, .f32⟩ : BufTy).Contents (Elt F)),
    StableHlo.binary main_v21 main_arg6 main_v22 ((fun l r => Host.dotGeneral dot_S2176x2816_S2816x1024_S2176x1024_1_0_0_1_n_n none l r) : (⟨S2176x2816, .f32⟩ : BufTy).Contents (Elt F) → (⟨S2816x1024, .f32⟩ : BufTy).Contents (Elt F) → (⟨S2176x1024, .f32⟩ : BufTy).Contents (Elt F)),
    StableHlo.binary main_v2 main_v22 main_v23 (addf : (⟨S2176x1024, .f32⟩ : BufTy).Contents (Elt F) → (⟨S2176x1024, .f32⟩ : BufTy).Contents (Elt F) → (⟨S2176x1024, .f32⟩ : BufTy).Contents (Elt F)),
    StableHlo.reshape main_arg7 main_v24 (rfl : (.f32 : EltTy) = .f32) shapeCasts_S2176x1024_S2176x1024,
    StableHlo.reshape main_arg7 main_v25 (rfl : (.f32 : EltTy) = .f32) shapeCasts_S2176x1024_S2176x1024,
    StableHlo.binary main_v25 main_v21 main_v26 ((fun l r => Host.dotGeneral dot_S2176x1024_S2176x2816_S1024x2816_0_0_1_1_n_n none l r) : (⟨S2176x1024, .f32⟩ : BufTy).Contents (Elt F) → (⟨S2176x2816, .f32⟩ : BufTy).Contents (Elt F) → (⟨S1024x2816, .f32⟩ : BufTy).Contents (Elt F)),
    StableHlo.unary main_v26 main_v27 ((transpose S2816x1024 [1, 0] · transposes_S1024x2816_S2816x1024_1_0) : (⟨S1024x2816, .f32⟩ : BufTy).Contents (Elt F) → (⟨S2816x1024, .f32⟩ : BufTy).Contents (Elt F)),
    StableHlo.binary main_v25 main_arg6 main_v28 ((fun l r => Host.dotGeneral dot_S2176x1024_S2816x1024_S2176x2816_1_1_0_0_n_n none l r) : (⟨S2176x1024, .f32⟩ : BufTy).Contents (Elt F) → (⟨S2816x1024, .f32⟩ : BufTy).Contents (Elt F) → (⟨S2176x2816, .f32⟩ : BufTy).Contents (Elt F)),
    StableHlo.binary main_v19_0 main_v28 main_v29 (mulf : (⟨S2176x2816, .f32⟩ : BufTy).Contents (Elt F) → (⟨S2176x2816, .f32⟩ : BufTy).Contents (Elt F) → (⟨S2176x2816, .f32⟩ : BufTy).Contents (Elt F)),
    StableHlo.binary main_v28 main_v20 main_v30 (mulf : (⟨S2176x2816, .f32⟩ : BufTy).Contents (Elt F) → (⟨S2176x2816, .f32⟩ : BufTy).Contents (Elt F) → (⟨S2176x2816, .f32⟩ : BufTy).Contents (Elt F)),
    StableHlo.binary main_v29 main_v17 main_v31 ((fun l r => Host.dotGeneral dot_S2176x2816_S2176x1024_S2816x1024_0_0_1_1_n_n none l r) : (⟨S2176x2816, .f32⟩ : BufTy).Contents (Elt F) → (⟨S2176x1024, .f32⟩ : BufTy).Contents (Elt F) → (⟨S2816x1024, .f32⟩ : BufTy).Contents (Elt F)),
    StableHlo.unary main_v31 main_v32 ((transpose S1024x2816 [1, 0] · transposes_S2816x1024_S1024x2816_1_0) : (⟨S2816x1024, .f32⟩ : BufTy).Contents (Elt F) → (⟨S1024x2816, .f32⟩ : BufTy).Contents (Elt F)),
    StableHlo.binary main_v29 main_arg5 main_v33 ((fun l r => Host.dotGeneral dot_S2176x2816_S1024x2816_S2176x1024_1_1_0_0_n_n none l r) : (⟨S2176x2816, .f32⟩ : BufTy).Contents (Elt F) → (⟨S1024x2816, .f32⟩ : BufTy).Contents (Elt F) → (⟨S2176x1024, .f32⟩ : BufTy).Contents (Elt F)),
    StableHlo.TRef.binary (.of main_v18) (.of main_v30) (.of main_call1_v0) mulf,
    StableHlo.TRef.binary (.of main_v30) (.of main_v19_2) (.of main_call1_v1) mulf,
    StableHlo.TRef.binary (.of main_call1_v0) (.of main_v19_1) (.of main_call1_v2) mulf,
    StableHlo.TRef.binary (.of main_call1_v1) (.of main_call1_v2) (.of main_v34) addf,
    StableHlo.binary main_v34 main_v17 main_v35 ((fun l r => Host.dotGeneral dot_S2176x2816_S2176x1024_S2816x1024_0_0_1_1_n_n none l r) : (⟨S2176x2816, .f32⟩ : BufTy).Contents (Elt F) → (⟨S2176x1024, .f32⟩ : BufTy).Contents (Elt F) → (⟨S2816x1024, .f32⟩ : BufTy).Contents (Elt F)),
    StableHlo.unary main_v35 main_v36 ((transpose S1024x2816 [1, 0] · transposes_S2816x1024_S1024x2816_1_0) : (⟨S2816x1024, .f32⟩ : BufTy).Contents (Elt F) → (⟨S1024x2816, .f32⟩ : BufTy).Contents (Elt F)),
    StableHlo.binary main_v34 main_arg4 main_v37 ((fun l r => Host.dotGeneral dot_S2176x2816_S1024x2816_S2176x1024_1_1_0_0_n_n none l r) : (⟨S2176x2816, .f32⟩ : BufTy).Contents (Elt F) → (⟨S1024x2816, .f32⟩ : BufTy).Contents (Elt F) → (⟨S2176x1024, .f32⟩ : BufTy).Contents (Elt F)),
    StableHlo.binary main_v33 main_v37 main_v38 (addf : (⟨S2176x1024, .f32⟩ : BufTy).Contents (Elt F) → (⟨S2176x1024, .f32⟩ : BufTy).Contents (Elt F) → (⟨S2176x1024, .f32⟩ : BufTy).Contents (Elt F)),
    StableHlo.binary main_v15 main_v38 main_v39 (mulf : (⟨S2176x1024, .f32⟩ : BufTy).Contents (Elt F) → (⟨S2176x1024, .f32⟩ : BufTy).Contents (Elt F) → (⟨S2176x1024, .f32⟩ : BufTy).Contents (Elt F)),
    StableHlo.nullary main_cst_3 (constant S_ .f32 0x00000000#32),
    StableHlo.binary main_v39 main_cst_3 main_v40 ((fun x v => Host.reduceAdd x v reducesTo_S2176x1024_S1024_d0 h_S_) : (⟨S2176x1024, .f32⟩ : BufTy).Contents (Elt F) → (⟨S_, .f32⟩ : BufTy).Contents (Elt F) → (⟨S1024, .f32⟩ : BufTy).Contents (Elt F)),
    StableHlo.reshape main_v40 main_v41 (rfl : (.f32 : EltTy) = .f32) shapeCasts_S1024_S1x1024,
    StableHlo.unary main_arg3 main_v42 (broadcastInDim S2176x1024 ![0, 1] bcast_S1x1024_S2176x1024_0_1 : (⟨S1x1024, .f32⟩ : BufTy).Contents (Elt F) → (⟨S2176x1024, .f32⟩ : BufTy).Contents (Elt F)),
    StableHlo.binary main_v38 main_v42 main_v43 (mulf : (⟨S2176x1024, .f32⟩ : BufTy).Contents (Elt F) → (⟨S2176x1024, .f32⟩ : BufTy).Contents (Elt F) → (⟨S2176x1024, .f32⟩ : BufTy).Contents (Elt F)),
    StableHlo.binary main_v2 main_v43 main_v44 (mulf : (⟨S2176x1024, .f32⟩ : BufTy).Contents (Elt F) → (⟨S2176x1024, .f32⟩ : BufTy).Contents (Elt F) → (⟨S2176x1024, .f32⟩ : BufTy).Contents (Elt F)),
    StableHlo.nullary main_cst_4 (constant S_ .f32 0x00000000#32),
    StableHlo.binary main_v44 main_cst_4 main_v45 ((fun x v => Host.reduceAdd x v reducesTo_S2176x1024_S2176_d1 h_S_) : (⟨S2176x1024, .f32⟩ : BufTy).Contents (Elt F) → (⟨S_, .f32⟩ : BufTy).Contents (Elt F) → (⟨S2176, .f32⟩ : BufTy).Contents (Elt F)),
    StableHlo.reshape main_v45 main_v46 (rfl : (.f32 : EltTy) = .f32) shapeCasts_S2176_S2176x1,
    StableHlo.unary main_v10 main_v47 (broadcastInDim S2176x1024 ![0, 1] bcast_S2176x1_S2176x1024_0_1 : (⟨S2176x1, .f32⟩ : BufTy).Contents (Elt F) → (⟨S2176x1024, .f32⟩ : BufTy).Contents (Elt F)),
    StableHlo.binary main_v43 main_v47 main_v48 (mulf : (⟨S2176x1024, .f32⟩ : BufTy).Contents (Elt F) → (⟨S2176x1024, .f32⟩ : BufTy).Contents (Elt F) → (⟨S2176x1024, .f32⟩ : BufTy).Contents (Elt F)),
    StableHlo.binary main_v24 main_v48 main_v49 (addf : (⟨S2176x1024, .f32⟩ : BufTy).Contents (Elt F) → (⟨S2176x1024, .f32⟩ : BufTy).Contents (Elt F) → (⟨S2176x1024, .f32⟩ : BufTy).Contents (Elt F)),
    StableHlo.binary main_v46 main_v13 main_v50 (mulf : (⟨S2176x1, .f32⟩ : BufTy).Contents (Elt F) → (⟨S2176x1, .f32⟩ : BufTy).Contents (Elt F) → (⟨S2176x1, .f32⟩ : BufTy).Contents (Elt F)),
    StableHlo.nullary main_cst_5 (constant S_ .f32 0x44800000#32),
    StableHlo.unary main_cst_5 main_v51 (broadcastInDim S2176x1 ![] bcast_S_S2176x1 : (⟨S_, .f32⟩ : BufTy).Contents (Elt F) → (⟨S2176x1, .f32⟩ : BufTy).Contents (Elt F)),
    StableHlo.binary main_v50 main_v51 main_v52 (Host.divf : (⟨S2176x1, .f32⟩ : BufTy).Contents (Elt F) → (⟨S2176x1, .f32⟩ : BufTy).Contents (Elt F) → (⟨S2176x1, .f32⟩ : BufTy).Contents (Elt F)),
    StableHlo.nullary main_cst_6 (constant S_ .f32 0x00000000#32),
    StableHlo.binary main_v52 main_cst_6 main_v53 ((fun x v => Host.reduceAdd x v reducesTo_S2176x1_S2176_d1 h_S_) : (⟨S2176x1, .f32⟩ : BufTy).Contents (Elt F) → (⟨S_, .f32⟩ : BufTy).Contents (Elt F) → (⟨S2176, .f32⟩ : BufTy).Contents (Elt F)),
    StableHlo.unary main_v53 main_v54 (broadcastInDim S2176x1024 ![0] bcast_S2176_S2176x1024_0 : (⟨S2176, .f32⟩ : BufTy).Contents (Elt F) → (⟨S2176x1024, .f32⟩ : BufTy).Contents (Elt F)),
    StableHlo.binary main_v2 main_v54 main_v55 (mulf : (⟨S2176x1024, .f32⟩ : BufTy).Contents (Elt F) → (⟨S2176x1024, .f32⟩ : BufTy).Contents (Elt F) → (⟨S2176x1024, .f32⟩ : BufTy).Contents (Elt F)),
    StableHlo.binary main_v49 main_v55 main_v56 (addf : (⟨S2176x1024, .f32⟩ : BufTy).Contents (Elt F) → (⟨S2176x1024, .f32⟩ : BufTy).Contents (Elt F) → (⟨S2176x1024, .f32⟩ : BufTy).Contents (Elt F)),
    StableHlo.binary main_v54 main_v2 main_v57 (mulf : (⟨S2176x1024, .f32⟩ : BufTy).Contents (Elt F) → (⟨S2176x1024, .f32⟩ : BufTy).Contents (Elt F) → (⟨S2176x1024, .f32⟩ : BufTy).Contents (Elt F)),
    StableHlo.binary main_v56 main_v57 main_v58 (addf : (⟨S2176x1024, .f32⟩ : BufTy).Contents (Elt F) → (⟨S2176x1024, .f32⟩ : BufTy).Contents (Elt F) → (⟨S2176x1024, .f32⟩ : BufTy).Contents (Elt F)),
    StableHlo.binary main_v58 main_v0 main_v59 ((fun l r => Host.dotGeneral dot_S2176x1024_S2176x2048_S1024x2048_0_0_1_1_n_n none l r) : (⟨S2176x1024, .f32⟩ : BufTy).Contents (Elt F) → (⟨S2176x2048, .f32⟩ : BufTy).Contents (Elt F) → (⟨S1024x2048, .f32⟩ : BufTy).Contents (Elt F)),
    StableHlo.unary main_v59 main_v60 ((transpose S2048x1024 [1, 0] · transposes_S1024x2048_S2048x1024_1_0) : (⟨S1024x2048, .f32⟩ : BufTy).Contents (Elt F) → (⟨S2048x1024, .f32⟩ : BufTy).Contents (Elt F)),
    StableHlo.binary main_v58 main_arg2 main_v61 ((fun l r => Host.dotGeneral dot_S2176x1024_S2048x1024_S2176x2048_1_1_0_0_n_n none l r) : (⟨S2176x1024, .f32⟩ : BufTy).Contents (Elt F) → (⟨S2048x1024, .f32⟩ : BufTy).Contents (Elt F) → (⟨S2176x2048, .f32⟩ : BufTy).Contents (Elt F)) ]

/-- What each writes. -/
abbrev wrote : List (Ref sig .tc) :=
  [main_v0, main_v1, main_v2, main_v3, main_cst, main_v4, main_v5, main_cst_0, main_v6, main_v7, main_cst_1, main_v8, main_v9, main_v10, main_v11, main_cst_2, main_v12, main_v13, main_v14, main_v15, main_v16, main_v17, main_v18, main_call0_v0, main_call0_v1, main_call0_cst, main_call0_v2, main_call0_v3, main_call0_cst_0, main_call0_v4, main_v19_2, main_call0_cst_1, main_call0_v6, main_call0_v7, main_v19_1, main_v19_0, main_v20, main_v21, main_v22, main_v23, main_v24, main_v25, main_v26, main_v27, main_v28, main_v29, main_v30, main_v31, main_v32, main_v33, main_call1_v0, main_call1_v1, main_call1_v2, main_v34, main_v35, main_v36, main_v37, main_v38, main_v39, main_cst_3, main_v40, main_v41, main_v42, main_v43, main_v44, main_cst_4, main_v45, main_v46, main_v47, main_v48, main_v49, main_v50, main_cst_5, main_v51, main_v52, main_cst_6, main_v53, main_v54, main_v55, main_v56, main_v57, main_v58, main_v59, main_v60, main_v61]

theorem ops_wrote : (ops (F := F)).map HloOp.writes = wrote.map fun r => {Proc.devRef (τ := τ) .tc r} := rfl

set_option maxHeartbeats 4000000 in
theorem main_eq (c : Dev nD) : main (F := F) c = seq ops := by chain_rfl

theorem ops_sub : (ops (F := F)).Forall fun op => op.bufs ⊆ tcRefs τ sig :=
  ⟨unary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., binary_bufs_sub .., reshape_bufs_sub .., reshape_bufs_sub .., binary_bufs_sub .., unary_bufs_sub .., binary_bufs_sub .., binary_bufs_sub .., binary_bufs_sub .., binary_bufs_sub .., unary_bufs_sub .., binary_bufs_sub .., binary_bufs_sub .., binary_bufs_sub .., binary_bufs_sub .., binary_bufs_sub .., binary_bufs_sub .., unary_bufs_sub .., binary_bufs_sub .., binary_bufs_sub .., binary_bufs_sub .., nullary_bufs_sub .., binary_bufs_sub .., reshape_bufs_sub .., unary_bufs_sub .., binary_bufs_sub .., binary_bufs_sub .., nullary_bufs_sub .., binary_bufs_sub .., reshape_bufs_sub .., unary_bufs_sub .., binary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub .., binary_bufs_sub .., unary_bufs_sub .., binary_bufs_sub ..⟩

variable (m : (ℓ : Loc nD τ sig) → Buf (Elt F) ℓ) (ρ : Dev nD → PrngReg)

/-- The contents of device `c`'s arrays when the line ends. -/
abbrev fin (c : Dev nD) : Valuation τ sig (Elt F) := after ops (launchContents m c)

theorem run_fin : θ_run defs (onTc (τ := τ) (main (F := F))) ⟨m, fun _ => 0, ρ⟩ fun r =>
    ∀ (c : Dev nD) (b : Ref sig .tc), r.2.mem ((c.tc : Thread nD τ).loc b) = fin m c (Proc.devRef .tc b) :=
  run_seq (by decide) (by decide) defs main (fun _ => ops) main_eq (fun _ => ops_sub) m ρ

theorem fin_arg0 (c : Dev nD) : fin m c (Proc.devRef .tc main_arg0) = m ((c.tc : Thread nD τ).loc main_arg0) :=
  after_unwritten wrote ops_wrote (by decide) _

theorem fin_arg1 (c : Dev nD) : fin m c (Proc.devRef .tc main_arg1) = m ((c.tc : Thread nD τ).loc main_arg1) :=
  after_unwritten wrote ops_wrote (by decide) _

theorem fin_arg2 (c : Dev nD) : fin m c (Proc.devRef .tc main_arg2) = m ((c.tc : Thread nD τ).loc main_arg2) :=
  after_unwritten wrote ops_wrote (by decide) _

theorem fin_arg3 (c : Dev nD) : fin m c (Proc.devRef .tc main_arg3) = m ((c.tc : Thread nD τ).loc main_arg3) :=
  after_unwritten wrote ops_wrote (by decide) _

theorem fin_arg4 (c : Dev nD) : fin m c (Proc.devRef .tc main_arg4) = m ((c.tc : Thread nD τ).loc main_arg4) :=
  after_unwritten wrote ops_wrote (by decide) _

theorem fin_arg5 (c : Dev nD) : fin m c (Proc.devRef .tc main_arg5) = m ((c.tc : Thread nD τ).loc main_arg5) :=
  after_unwritten wrote ops_wrote (by decide) _

theorem fin_arg6 (c : Dev nD) : fin m c (Proc.devRef .tc main_arg6) = m ((c.tc : Thread nD τ).loc main_arg6) :=
  after_unwritten wrote ops_wrote (by decide) _

theorem fin_arg7 (c : Dev nD) : fin m c (Proc.devRef .tc main_arg7) = m ((c.tc : Thread nD τ).loc main_arg7) :=
  after_unwritten wrote ops_wrote (by decide) _

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_mono (run_fin m ρ) fun r h => ⟨fun c => ⟨(h c main_arg0).trans (fin_arg0 m c), (h c main_arg1).trans (fin_arg1 m c), (h c main_arg2).trans (fin_arg2 m c), (h c main_arg3).trans (fin_arg3 m c), (h c main_arg4).trans (fin_arg4 m c), (h c main_arg5).trans (fin_arg5 m c), (h c main_arg6).trans (fin_arg6 m c), (h c main_arg7).trans (fin_arg7 m c)⟩,
    Idealize.ShloMosaic.sem_eq_zero_of_no_sems (by decide) r.2⟩

/-! ## Each array as its operation's value -/

variable (c : Dev nD)

theorem eq_v0 : fin m c (Proc.devRef .tc main_v0) = (((extf .f32 · bitsLt_bf16_f32) : (⟨S2176x2048, .bf16⟩ : BufTy).Contents (Elt F) → (⟨S2176x2048, .f32⟩ : BufTy).Contents (Elt F))) (fin m c (Proc.devRef .tc main_arg1)) :=
  end_unary ops_wrote (launchContents m c) 0 rfl (by decide) (by decide)

theorem eq_v1 : fin m c (Proc.devRef .tc main_v1) = (((fun l r => Host.dotGeneral dot_S2176x2048_S2048x1024_S2176x1024_1_0_0_1_n_n none l r) : (⟨S2176x2048, .f32⟩ : BufTy).Contents (Elt F) → (⟨S2048x1024, .f32⟩ : BufTy).Contents (Elt F) → (⟨S2176x1024, .f32⟩ : BufTy).Contents (Elt F))) (fin m c (Proc.devRef .tc main_v0)) (fin m c (Proc.devRef .tc main_arg2)) :=
  end_binary ops_wrote (launchContents m c) 1 rfl (by decide) (by decide) (by decide)

theorem eq_v2 : fin m c (Proc.devRef .tc main_v2) = ((addf : (⟨S2176x1024, .f32⟩ : BufTy).Contents (Elt F) → (⟨S2176x1024, .f32⟩ : BufTy).Contents (Elt F) → (⟨S2176x1024, .f32⟩ : BufTy).Contents (Elt F))) (fin m c (Proc.devRef .tc main_arg0)) (fin m c (Proc.devRef .tc main_v1)) :=
  end_binary ops_wrote (launchContents m c) 2 rfl (by decide) (by decide) (by decide)

theorem eq_v3 : fin m c (Proc.devRef .tc main_v3) = ((mulf : (⟨S2176x1024, .f32⟩ : BufTy).Contents (Elt F) → (⟨S2176x1024, .f32⟩ : BufTy).Contents (Elt F) → (⟨S2176x1024, .f32⟩ : BufTy).Contents (Elt F))) (fin m c (Proc.devRef .tc main_v2)) (fin m c (Proc.devRef .tc main_v2)) :=
  end_binary ops_wrote (launchContents m c) 3 rfl (by decide) (by decide) (by decide)

theorem eq_cst : fin m c (Proc.devRef .tc main_cst) = (constant S_ .f32 0x00000000#32) :=
  end_nullary ops_wrote (launchContents m c) 4 rfl (by decide)

theorem eq_v4 : fin m c (Proc.devRef .tc main_v4) = (((fun x v => Host.reduceAdd x v reducesTo_S2176x1024_S2176_d1 h_S_) : (⟨S2176x1024, .f32⟩ : BufTy).Contents (Elt F) → (⟨S_, .f32⟩ : BufTy).Contents (Elt F) → (⟨S2176, .f32⟩ : BufTy).Contents (Elt F))) (fin m c (Proc.devRef .tc main_v3)) (fin m c (Proc.devRef .tc main_cst)) :=
  end_binary ops_wrote (launchContents m c) 5 rfl (by decide) (by decide) (by decide)

theorem eq_v5 : fin m c (Proc.devRef .tc main_v5) = ((broadcastInDim S2176x1 ![0] bcast_S2176_S2176x1_0 : (⟨S2176, .f32⟩ : BufTy).Contents (Elt F) → (⟨S2176x1, .f32⟩ : BufTy).Contents (Elt F))) (fin m c (Proc.devRef .tc main_v4)) :=
  end_unary ops_wrote (launchContents m c) 6 rfl (by decide) (by decide)

theorem eq_cst_0 : fin m c (Proc.devRef .tc main_cst_0) = (constant S_ .f32 0x44800000#32) :=
  end_nullary ops_wrote (launchContents m c) 7 rfl (by decide)

theorem eq_v6 : fin m c (Proc.devRef .tc main_v6) = ((broadcastInDim S2176x1 ![] bcast_S_S2176x1 : (⟨S_, .f32⟩ : BufTy).Contents (Elt F) → (⟨S2176x1, .f32⟩ : BufTy).Contents (Elt F))) (fin m c (Proc.devRef .tc main_cst_0)) :=
  end_unary ops_wrote (launchContents m c) 8 rfl (by decide) (by decide)

theorem eq_v7 : fin m c (Proc.devRef .tc main_v7) = ((Host.divf : (⟨S2176x1, .f32⟩ : BufTy).Contents (Elt F) → (⟨S2176x1, .f32⟩ : BufTy).Contents (Elt F) → (⟨S2176x1, .f32⟩ : BufTy).Contents (Elt F))) (fin m c (Proc.devRef .tc main_v5)) (fin m c (Proc.devRef .tc main_v6)) :=
  end_binary ops_wrote (launchContents m c) 9 rfl (by decide) (by decide) (by decide)

theorem eq_cst_1 : fin m c (Proc.devRef .tc main_cst_1) = (constant S_ .f32 0x358637BD#32) :=
  end_nullary ops_wrote (launchContents m c) 10 rfl (by decide)

theorem eq_v8 : fin m c (Proc.devRef .tc main_v8) = ((broadcastInDim S2176x1 ![] bcast_S_S2176x1 : (⟨S_, .f32⟩ : BufTy).Contents (Elt F) → (⟨S2176x1, .f32⟩ : BufTy).Contents (Elt F))) (fin m c (Proc.devRef .tc main_cst_1)) :=
  end_unary ops_wrote (launchContents m c) 11 rfl (by decide) (by decide)

theorem eq_v9 : fin m c (Proc.devRef .tc main_v9) = ((addf : (⟨S2176x1, .f32⟩ : BufTy).Contents (Elt F) → (⟨S2176x1, .f32⟩ : BufTy).Contents (Elt F) → (⟨S2176x1, .f32⟩ : BufTy).Contents (Elt F))) (fin m c (Proc.devRef .tc main_v7)) (fin m c (Proc.devRef .tc main_v8)) :=
  end_binary ops_wrote (launchContents m c) 12 rfl (by decide) (by decide) (by decide)

theorem eq_v10 : fin m c (Proc.devRef .tc main_v10) = ((Host.rsqrt : (⟨S2176x1, .f32⟩ : BufTy).Contents (Elt F) → (⟨S2176x1, .f32⟩ : BufTy).Contents (Elt F))) (fin m c (Proc.devRef .tc main_v9)) :=
  end_unary ops_wrote (launchContents m c) 13 rfl (by decide) (by decide)

theorem eq_v11 : fin m c (Proc.devRef .tc main_v11) = ((Host.divf : (⟨S2176x1, .f32⟩ : BufTy).Contents (Elt F) → (⟨S2176x1, .f32⟩ : BufTy).Contents (Elt F) → (⟨S2176x1, .f32⟩ : BufTy).Contents (Elt F))) (fin m c (Proc.devRef .tc main_v10)) (fin m c (Proc.devRef .tc main_v9)) :=
  end_binary ops_wrote (launchContents m c) 14 rfl (by decide) (by decide) (by decide)

theorem eq_cst_2 : fin m c (Proc.devRef .tc main_cst_2) = (constant S_ .f32 0xBF000000#32) :=
  end_nullary ops_wrote (launchContents m c) 15 rfl (by decide)

theorem eq_v12 : fin m c (Proc.devRef .tc main_v12) = ((broadcastInDim S2176x1 ![] bcast_S_S2176x1 : (⟨S_, .f32⟩ : BufTy).Contents (Elt F) → (⟨S2176x1, .f32⟩ : BufTy).Contents (Elt F))) (fin m c (Proc.devRef .tc main_cst_2)) :=
  end_unary ops_wrote (launchContents m c) 16 rfl (by decide) (by decide)

theorem eq_v13 : fin m c (Proc.devRef .tc main_v13) = ((mulf : (⟨S2176x1, .f32⟩ : BufTy).Contents (Elt F) → (⟨S2176x1, .f32⟩ : BufTy).Contents (Elt F) → (⟨S2176x1, .f32⟩ : BufTy).Contents (Elt F))) (fin m c (Proc.devRef .tc main_v12)) (fin m c (Proc.devRef .tc main_v11)) :=
  end_binary ops_wrote (launchContents m c) 17 rfl (by decide) (by decide) (by decide)

theorem eq_v14 : fin m c (Proc.devRef .tc main_v14) = ((broadcastInDim S2176x1024 ![0, 1] bcast_S2176x1_S2176x1024_0_1 : (⟨S2176x1, .f32⟩ : BufTy).Contents (Elt F) → (⟨S2176x1024, .f32⟩ : BufTy).Contents (Elt F))) (fin m c (Proc.devRef .tc main_v10)) :=
  end_unary ops_wrote (launchContents m c) 18 rfl (by decide) (by decide)

theorem eq_v15 : fin m c (Proc.devRef .tc main_v15) = ((mulf : (⟨S2176x1024, .f32⟩ : BufTy).Contents (Elt F) → (⟨S2176x1024, .f32⟩ : BufTy).Contents (Elt F) → (⟨S2176x1024, .f32⟩ : BufTy).Contents (Elt F))) (fin m c (Proc.devRef .tc main_v2)) (fin m c (Proc.devRef .tc main_v14)) :=
  end_binary ops_wrote (launchContents m c) 19 rfl (by decide) (by decide) (by decide)

theorem eq_v16 : fin m c (Proc.devRef .tc main_v16) = ((broadcastInDim S2176x1024 ![0, 1] bcast_S1x1024_S2176x1024_0_1 : (⟨S1x1024, .f32⟩ : BufTy).Contents (Elt F) → (⟨S2176x1024, .f32⟩ : BufTy).Contents (Elt F))) (fin m c (Proc.devRef .tc main_arg3)) :=
  end_unary ops_wrote (launchContents m c) 20 rfl (by decide) (by decide)

theorem eq_v17 : fin m c (Proc.devRef .tc main_v17) = ((mulf : (⟨S2176x1024, .f32⟩ : BufTy).Contents (Elt F) → (⟨S2176x1024, .f32⟩ : BufTy).Contents (Elt F) → (⟨S2176x1024, .f32⟩ : BufTy).Contents (Elt F))) (fin m c (Proc.devRef .tc main_v15)) (fin m c (Proc.devRef .tc main_v16)) :=
  end_binary ops_wrote (launchContents m c) 21 rfl (by decide) (by decide) (by decide)

theorem eq_v18 : fin m c (Proc.devRef .tc main_v18) = (((fun l r => Host.dotGeneral dot_S2176x1024_S1024x2816_S2176x2816_1_0_0_1_n_n none l r) : (⟨S2176x1024, .f32⟩ : BufTy).Contents (Elt F) → (⟨S1024x2816, .f32⟩ : BufTy).Contents (Elt F) → (⟨S2176x2816, .f32⟩ : BufTy).Contents (Elt F))) (fin m c (Proc.devRef .tc main_v17)) (fin m c (Proc.devRef .tc main_arg4)) :=
  end_binary ops_wrote (launchContents m c) 22 rfl (by decide) (by decide) (by decide)

theorem eq_call0_v0 : fin m c (Proc.devRef .tc main_call0_v0) = (Host.negf) (fin m c (Proc.devRef .tc main_v18)) :=
  end_unary ops_wrote (launchContents m c) 23 rfl (by decide) (by decide)

theorem eq_call0_v1 : fin m c (Proc.devRef .tc main_call0_v1) = (Host.exp) (fin m c (Proc.devRef .tc main_call0_v0)) :=
  end_unary ops_wrote (launchContents m c) 24 rfl (by decide) (by decide)

theorem eq_call0_cst : fin m c (Proc.devRef .tc main_call0_cst) = (constant S_ .f32 0x3F800000#32) :=
  end_nullary ops_wrote (launchContents m c) 25 rfl (by decide)

theorem eq_call0_v2 : fin m c (Proc.devRef .tc main_call0_v2) = ((broadcastInDim S2176x2816 ![] bcast_S_S2176x2816)) (fin m c (Proc.devRef .tc main_call0_cst)) :=
  end_unary ops_wrote (launchContents m c) 26 rfl (by decide) (by decide)

theorem eq_call0_v3 : fin m c (Proc.devRef .tc main_call0_v3) = (addf) (fin m c (Proc.devRef .tc main_call0_v2)) (fin m c (Proc.devRef .tc main_call0_v1)) :=
  end_binary ops_wrote (launchContents m c) 27 rfl (by decide) (by decide) (by decide)

theorem eq_call0_cst_0 : fin m c (Proc.devRef .tc main_call0_cst_0) = (constant S_ .f32 0x3F800000#32) :=
  end_nullary ops_wrote (launchContents m c) 28 rfl (by decide)

theorem eq_call0_v4 : fin m c (Proc.devRef .tc main_call0_v4) = ((broadcastInDim S2176x2816 ![] bcast_S_S2176x2816)) (fin m c (Proc.devRef .tc main_call0_cst_0)) :=
  end_unary ops_wrote (launchContents m c) 29 rfl (by decide) (by decide)

theorem eq_v19_2 : fin m c (Proc.devRef .tc main_v19_2) = (Host.divf) (fin m c (Proc.devRef .tc main_call0_v4)) (fin m c (Proc.devRef .tc main_call0_v3)) :=
  end_binary ops_wrote (launchContents m c) 30 rfl (by decide) (by decide) (by decide)

theorem eq_call0_cst_1 : fin m c (Proc.devRef .tc main_call0_cst_1) = (constant S_ .f32 0x3F800000#32) :=
  end_nullary ops_wrote (launchContents m c) 31 rfl (by decide)

theorem eq_call0_v6 : fin m c (Proc.devRef .tc main_call0_v6) = ((broadcastInDim S2176x2816 ![] bcast_S_S2176x2816)) (fin m c (Proc.devRef .tc main_call0_cst_1)) :=
  end_unary ops_wrote (launchContents m c) 32 rfl (by decide) (by decide)

theorem eq_call0_v7 : fin m c (Proc.devRef .tc main_call0_v7) = (subf) (fin m c (Proc.devRef .tc main_call0_v6)) (fin m c (Proc.devRef .tc main_v19_2)) :=
  end_binary ops_wrote (launchContents m c) 33 rfl (by decide) (by decide) (by decide)

theorem eq_v19_1 : fin m c (Proc.devRef .tc main_v19_1) = (mulf) (fin m c (Proc.devRef .tc main_v19_2)) (fin m c (Proc.devRef .tc main_call0_v7)) :=
  end_binary ops_wrote (launchContents m c) 34 rfl (by decide) (by decide) (by decide)

theorem eq_v19_0 : fin m c (Proc.devRef .tc main_v19_0) = (mulf) (fin m c (Proc.devRef .tc main_v18)) (fin m c (Proc.devRef .tc main_v19_2)) :=
  end_binary ops_wrote (launchContents m c) 35 rfl (by decide) (by decide) (by decide)

theorem eq_v20 : fin m c (Proc.devRef .tc main_v20) = (((fun l r => Host.dotGeneral dot_S2176x1024_S1024x2816_S2176x2816_1_0_0_1_n_n none l r) : (⟨S2176x1024, .f32⟩ : BufTy).Contents (Elt F) → (⟨S1024x2816, .f32⟩ : BufTy).Contents (Elt F) → (⟨S2176x2816, .f32⟩ : BufTy).Contents (Elt F))) (fin m c (Proc.devRef .tc main_v17)) (fin m c (Proc.devRef .tc main_arg5)) :=
  end_binary ops_wrote (launchContents m c) 36 rfl (by decide) (by decide) (by decide)

theorem eq_v21 : fin m c (Proc.devRef .tc main_v21) = ((mulf : (⟨S2176x2816, .f32⟩ : BufTy).Contents (Elt F) → (⟨S2176x2816, .f32⟩ : BufTy).Contents (Elt F) → (⟨S2176x2816, .f32⟩ : BufTy).Contents (Elt F))) (fin m c (Proc.devRef .tc main_v19_0)) (fin m c (Proc.devRef .tc main_v20)) :=
  end_binary ops_wrote (launchContents m c) 37 rfl (by decide) (by decide) (by decide)

theorem eq_v22 : fin m c (Proc.devRef .tc main_v22) = (((fun l r => Host.dotGeneral dot_S2176x2816_S2816x1024_S2176x1024_1_0_0_1_n_n none l r) : (⟨S2176x2816, .f32⟩ : BufTy).Contents (Elt F) → (⟨S2816x1024, .f32⟩ : BufTy).Contents (Elt F) → (⟨S2176x1024, .f32⟩ : BufTy).Contents (Elt F))) (fin m c (Proc.devRef .tc main_v21)) (fin m c (Proc.devRef .tc main_arg6)) :=
  end_binary ops_wrote (launchContents m c) 38 rfl (by decide) (by decide) (by decide)

theorem eq_v23 : fin m c (Proc.devRef .tc main_v23) = ((addf : (⟨S2176x1024, .f32⟩ : BufTy).Contents (Elt F) → (⟨S2176x1024, .f32⟩ : BufTy).Contents (Elt F) → (⟨S2176x1024, .f32⟩ : BufTy).Contents (Elt F))) (fin m c (Proc.devRef .tc main_v2)) (fin m c (Proc.devRef .tc main_v22)) :=
  end_binary ops_wrote (launchContents m c) 39 rfl (by decide) (by decide) (by decide)

theorem eq_v24 : fin m c (Proc.devRef .tc main_v24) = fin m c (Proc.devRef .tc main_arg7) := by
  refine (end_reshape ops_wrote (launchContents m c) (x := main_arg7) (y := main_v24) 40 rfl (by decide) (by decide)).trans ?_
  dsimp only
  exact shapeCast_id _ _

theorem eq_v25 : fin m c (Proc.devRef .tc main_v25) = fin m c (Proc.devRef .tc main_arg7) := by
  refine (end_reshape ops_wrote (launchContents m c) (x := main_arg7) (y := main_v25) 41 rfl (by decide) (by decide)).trans ?_
  dsimp only
  exact shapeCast_id _ _

theorem eq_v26 : fin m c (Proc.devRef .tc main_v26) = (((fun l r => Host.dotGeneral dot_S2176x1024_S2176x2816_S1024x2816_0_0_1_1_n_n none l r) : (⟨S2176x1024, .f32⟩ : BufTy).Contents (Elt F) → (⟨S2176x2816, .f32⟩ : BufTy).Contents (Elt F) → (⟨S1024x2816, .f32⟩ : BufTy).Contents (Elt F))) (fin m c (Proc.devRef .tc main_v25)) (fin m c (Proc.devRef .tc main_v21)) :=
  end_binary ops_wrote (launchContents m c) 42 rfl (by decide) (by decide) (by decide)

theorem eq_v27 : fin m c (Proc.devRef .tc main_v27) = (((transpose S2816x1024 [1, 0] · transposes_S1024x2816_S2816x1024_1_0) : (⟨S1024x2816, .f32⟩ : BufTy).Contents (Elt F) → (⟨S2816x1024, .f32⟩ : BufTy).Contents (Elt F))) (fin m c (Proc.devRef .tc main_v26)) :=
  end_unary ops_wrote (launchContents m c) 43 rfl (by decide) (by decide)

theorem eq_v28 : fin m c (Proc.devRef .tc main_v28) = (((fun l r => Host.dotGeneral dot_S2176x1024_S2816x1024_S2176x2816_1_1_0_0_n_n none l r) : (⟨S2176x1024, .f32⟩ : BufTy).Contents (Elt F) → (⟨S2816x1024, .f32⟩ : BufTy).Contents (Elt F) → (⟨S2176x2816, .f32⟩ : BufTy).Contents (Elt F))) (fin m c (Proc.devRef .tc main_v25)) (fin m c (Proc.devRef .tc main_arg6)) :=
  end_binary ops_wrote (launchContents m c) 44 rfl (by decide) (by decide) (by decide)

theorem eq_v29 : fin m c (Proc.devRef .tc main_v29) = ((mulf : (⟨S2176x2816, .f32⟩ : BufTy).Contents (Elt F) → (⟨S2176x2816, .f32⟩ : BufTy).Contents (Elt F) → (⟨S2176x2816, .f32⟩ : BufTy).Contents (Elt F))) (fin m c (Proc.devRef .tc main_v19_0)) (fin m c (Proc.devRef .tc main_v28)) :=
  end_binary ops_wrote (launchContents m c) 45 rfl (by decide) (by decide) (by decide)

theorem eq_v30 : fin m c (Proc.devRef .tc main_v30) = ((mulf : (⟨S2176x2816, .f32⟩ : BufTy).Contents (Elt F) → (⟨S2176x2816, .f32⟩ : BufTy).Contents (Elt F) → (⟨S2176x2816, .f32⟩ : BufTy).Contents (Elt F))) (fin m c (Proc.devRef .tc main_v28)) (fin m c (Proc.devRef .tc main_v20)) :=
  end_binary ops_wrote (launchContents m c) 46 rfl (by decide) (by decide) (by decide)

theorem eq_v31 : fin m c (Proc.devRef .tc main_v31) = (((fun l r => Host.dotGeneral dot_S2176x2816_S2176x1024_S2816x1024_0_0_1_1_n_n none l r) : (⟨S2176x2816, .f32⟩ : BufTy).Contents (Elt F) → (⟨S2176x1024, .f32⟩ : BufTy).Contents (Elt F) → (⟨S2816x1024, .f32⟩ : BufTy).Contents (Elt F))) (fin m c (Proc.devRef .tc main_v29)) (fin m c (Proc.devRef .tc main_v17)) :=
  end_binary ops_wrote (launchContents m c) 47 rfl (by decide) (by decide) (by decide)

theorem eq_v32 : fin m c (Proc.devRef .tc main_v32) = (((transpose S1024x2816 [1, 0] · transposes_S2816x1024_S1024x2816_1_0) : (⟨S2816x1024, .f32⟩ : BufTy).Contents (Elt F) → (⟨S1024x2816, .f32⟩ : BufTy).Contents (Elt F))) (fin m c (Proc.devRef .tc main_v31)) :=
  end_unary ops_wrote (launchContents m c) 48 rfl (by decide) (by decide)

theorem eq_v33 : fin m c (Proc.devRef .tc main_v33) = (((fun l r => Host.dotGeneral dot_S2176x2816_S1024x2816_S2176x1024_1_1_0_0_n_n none l r) : (⟨S2176x2816, .f32⟩ : BufTy).Contents (Elt F) → (⟨S1024x2816, .f32⟩ : BufTy).Contents (Elt F) → (⟨S2176x1024, .f32⟩ : BufTy).Contents (Elt F))) (fin m c (Proc.devRef .tc main_v29)) (fin m c (Proc.devRef .tc main_arg5)) :=
  end_binary ops_wrote (launchContents m c) 49 rfl (by decide) (by decide) (by decide)

theorem eq_call1_v0 : fin m c (Proc.devRef .tc main_call1_v0) = (mulf) (fin m c (Proc.devRef .tc main_v18)) (fin m c (Proc.devRef .tc main_v30)) :=
  end_binary ops_wrote (launchContents m c) 50 rfl (by decide) (by decide) (by decide)

theorem eq_call1_v1 : fin m c (Proc.devRef .tc main_call1_v1) = (mulf) (fin m c (Proc.devRef .tc main_v30)) (fin m c (Proc.devRef .tc main_v19_2)) :=
  end_binary ops_wrote (launchContents m c) 51 rfl (by decide) (by decide) (by decide)

theorem eq_call1_v2 : fin m c (Proc.devRef .tc main_call1_v2) = (mulf) (fin m c (Proc.devRef .tc main_call1_v0)) (fin m c (Proc.devRef .tc main_v19_1)) :=
  end_binary ops_wrote (launchContents m c) 52 rfl (by decide) (by decide) (by decide)

theorem eq_v34 : fin m c (Proc.devRef .tc main_v34) = (addf) (fin m c (Proc.devRef .tc main_call1_v1)) (fin m c (Proc.devRef .tc main_call1_v2)) :=
  end_binary ops_wrote (launchContents m c) 53 rfl (by decide) (by decide) (by decide)

theorem eq_v35 : fin m c (Proc.devRef .tc main_v35) = (((fun l r => Host.dotGeneral dot_S2176x2816_S2176x1024_S2816x1024_0_0_1_1_n_n none l r) : (⟨S2176x2816, .f32⟩ : BufTy).Contents (Elt F) → (⟨S2176x1024, .f32⟩ : BufTy).Contents (Elt F) → (⟨S2816x1024, .f32⟩ : BufTy).Contents (Elt F))) (fin m c (Proc.devRef .tc main_v34)) (fin m c (Proc.devRef .tc main_v17)) :=
  end_binary ops_wrote (launchContents m c) 54 rfl (by decide) (by decide) (by decide)

theorem eq_v36 : fin m c (Proc.devRef .tc main_v36) = (((transpose S1024x2816 [1, 0] · transposes_S2816x1024_S1024x2816_1_0) : (⟨S2816x1024, .f32⟩ : BufTy).Contents (Elt F) → (⟨S1024x2816, .f32⟩ : BufTy).Contents (Elt F))) (fin m c (Proc.devRef .tc main_v35)) :=
  end_unary ops_wrote (launchContents m c) 55 rfl (by decide) (by decide)

theorem eq_v37 : fin m c (Proc.devRef .tc main_v37) = (((fun l r => Host.dotGeneral dot_S2176x2816_S1024x2816_S2176x1024_1_1_0_0_n_n none l r) : (⟨S2176x2816, .f32⟩ : BufTy).Contents (Elt F) → (⟨S1024x2816, .f32⟩ : BufTy).Contents (Elt F) → (⟨S2176x1024, .f32⟩ : BufTy).Contents (Elt F))) (fin m c (Proc.devRef .tc main_v34)) (fin m c (Proc.devRef .tc main_arg4)) :=
  end_binary ops_wrote (launchContents m c) 56 rfl (by decide) (by decide) (by decide)

theorem eq_v38 : fin m c (Proc.devRef .tc main_v38) = ((addf : (⟨S2176x1024, .f32⟩ : BufTy).Contents (Elt F) → (⟨S2176x1024, .f32⟩ : BufTy).Contents (Elt F) → (⟨S2176x1024, .f32⟩ : BufTy).Contents (Elt F))) (fin m c (Proc.devRef .tc main_v33)) (fin m c (Proc.devRef .tc main_v37)) :=
  end_binary ops_wrote (launchContents m c) 57 rfl (by decide) (by decide) (by decide)

theorem eq_v39 : fin m c (Proc.devRef .tc main_v39) = ((mulf : (⟨S2176x1024, .f32⟩ : BufTy).Contents (Elt F) → (⟨S2176x1024, .f32⟩ : BufTy).Contents (Elt F) → (⟨S2176x1024, .f32⟩ : BufTy).Contents (Elt F))) (fin m c (Proc.devRef .tc main_v15)) (fin m c (Proc.devRef .tc main_v38)) :=
  end_binary ops_wrote (launchContents m c) 58 rfl (by decide) (by decide) (by decide)

theorem eq_cst_3 : fin m c (Proc.devRef .tc main_cst_3) = (constant S_ .f32 0x00000000#32) :=
  end_nullary ops_wrote (launchContents m c) 59 rfl (by decide)

theorem eq_v40 : fin m c (Proc.devRef .tc main_v40) = (((fun x v => Host.reduceAdd x v reducesTo_S2176x1024_S1024_d0 h_S_) : (⟨S2176x1024, .f32⟩ : BufTy).Contents (Elt F) → (⟨S_, .f32⟩ : BufTy).Contents (Elt F) → (⟨S1024, .f32⟩ : BufTy).Contents (Elt F))) (fin m c (Proc.devRef .tc main_v39)) (fin m c (Proc.devRef .tc main_cst_3)) :=
  end_binary ops_wrote (launchContents m c) 60 rfl (by decide) (by decide) (by decide)

theorem eq_v41 : fin m c (Proc.devRef .tc main_v41) = (shapeCast S1x1024 · shapeCasts_S1024_S1x1024) (fin m c (Proc.devRef .tc main_v40)) :=
  end_reshape ops_wrote (launchContents m c) 61 rfl (by decide) (by decide)

theorem eq_v42 : fin m c (Proc.devRef .tc main_v42) = ((broadcastInDim S2176x1024 ![0, 1] bcast_S1x1024_S2176x1024_0_1 : (⟨S1x1024, .f32⟩ : BufTy).Contents (Elt F) → (⟨S2176x1024, .f32⟩ : BufTy).Contents (Elt F))) (fin m c (Proc.devRef .tc main_arg3)) :=
  end_unary ops_wrote (launchContents m c) 62 rfl (by decide) (by decide)

theorem eq_v43 : fin m c (Proc.devRef .tc main_v43) = ((mulf : (⟨S2176x1024, .f32⟩ : BufTy).Contents (Elt F) → (⟨S2176x1024, .f32⟩ : BufTy).Contents (Elt F) → (⟨S2176x1024, .f32⟩ : BufTy).Contents (Elt F))) (fin m c (Proc.devRef .tc main_v38)) (fin m c (Proc.devRef .tc main_v42)) :=
  end_binary ops_wrote (launchContents m c) 63 rfl (by decide) (by decide) (by decide)

theorem eq_v44 : fin m c (Proc.devRef .tc main_v44) = ((mulf : (⟨S2176x1024, .f32⟩ : BufTy).Contents (Elt F) → (⟨S2176x1024, .f32⟩ : BufTy).Contents (Elt F) → (⟨S2176x1024, .f32⟩ : BufTy).Contents (Elt F))) (fin m c (Proc.devRef .tc main_v2)) (fin m c (Proc.devRef .tc main_v43)) :=
  end_binary ops_wrote (launchContents m c) 64 rfl (by decide) (by decide) (by decide)

theorem eq_cst_4 : fin m c (Proc.devRef .tc main_cst_4) = (constant S_ .f32 0x00000000#32) :=
  end_nullary ops_wrote (launchContents m c) 65 rfl (by decide)

theorem eq_v45 : fin m c (Proc.devRef .tc main_v45) = (((fun x v => Host.reduceAdd x v reducesTo_S2176x1024_S2176_d1 h_S_) : (⟨S2176x1024, .f32⟩ : BufTy).Contents (Elt F) → (⟨S_, .f32⟩ : BufTy).Contents (Elt F) → (⟨S2176, .f32⟩ : BufTy).Contents (Elt F))) (fin m c (Proc.devRef .tc main_v44)) (fin m c (Proc.devRef .tc main_cst_4)) :=
  end_binary ops_wrote (launchContents m c) 66 rfl (by decide) (by decide) (by decide)

theorem eq_v46 : fin m c (Proc.devRef .tc main_v46) = (shapeCast S2176x1 · shapeCasts_S2176_S2176x1) (fin m c (Proc.devRef .tc main_v45)) :=
  end_reshape ops_wrote (launchContents m c) 67 rfl (by decide) (by decide)

theorem eq_v47 : fin m c (Proc.devRef .tc main_v47) = ((broadcastInDim S2176x1024 ![0, 1] bcast_S2176x1_S2176x1024_0_1 : (⟨S2176x1, .f32⟩ : BufTy).Contents (Elt F) → (⟨S2176x1024, .f32⟩ : BufTy).Contents (Elt F))) (fin m c (Proc.devRef .tc main_v10)) :=
  end_unary ops_wrote (launchContents m c) 68 rfl (by decide) (by decide)

theorem eq_v48 : fin m c (Proc.devRef .tc main_v48) = ((mulf : (⟨S2176x1024, .f32⟩ : BufTy).Contents (Elt F) → (⟨S2176x1024, .f32⟩ : BufTy).Contents (Elt F) → (⟨S2176x1024, .f32⟩ : BufTy).Contents (Elt F))) (fin m c (Proc.devRef .tc main_v43)) (fin m c (Proc.devRef .tc main_v47)) :=
  end_binary ops_wrote (launchContents m c) 69 rfl (by decide) (by decide) (by decide)

theorem eq_v49 : fin m c (Proc.devRef .tc main_v49) = ((addf : (⟨S2176x1024, .f32⟩ : BufTy).Contents (Elt F) → (⟨S2176x1024, .f32⟩ : BufTy).Contents (Elt F) → (⟨S2176x1024, .f32⟩ : BufTy).Contents (Elt F))) (fin m c (Proc.devRef .tc main_v24)) (fin m c (Proc.devRef .tc main_v48)) :=
  end_binary ops_wrote (launchContents m c) 70 rfl (by decide) (by decide) (by decide)

theorem eq_v50 : fin m c (Proc.devRef .tc main_v50) = ((mulf : (⟨S2176x1, .f32⟩ : BufTy).Contents (Elt F) → (⟨S2176x1, .f32⟩ : BufTy).Contents (Elt F) → (⟨S2176x1, .f32⟩ : BufTy).Contents (Elt F))) (fin m c (Proc.devRef .tc main_v46)) (fin m c (Proc.devRef .tc main_v13)) :=
  end_binary ops_wrote (launchContents m c) 71 rfl (by decide) (by decide) (by decide)

theorem eq_cst_5 : fin m c (Proc.devRef .tc main_cst_5) = (constant S_ .f32 0x44800000#32) :=
  end_nullary ops_wrote (launchContents m c) 72 rfl (by decide)

theorem eq_v51 : fin m c (Proc.devRef .tc main_v51) = ((broadcastInDim S2176x1 ![] bcast_S_S2176x1 : (⟨S_, .f32⟩ : BufTy).Contents (Elt F) → (⟨S2176x1, .f32⟩ : BufTy).Contents (Elt F))) (fin m c (Proc.devRef .tc main_cst_5)) :=
  end_unary ops_wrote (launchContents m c) 73 rfl (by decide) (by decide)

theorem eq_v52 : fin m c (Proc.devRef .tc main_v52) = ((Host.divf : (⟨S2176x1, .f32⟩ : BufTy).Contents (Elt F) → (⟨S2176x1, .f32⟩ : BufTy).Contents (Elt F) → (⟨S2176x1, .f32⟩ : BufTy).Contents (Elt F))) (fin m c (Proc.devRef .tc main_v50)) (fin m c (Proc.devRef .tc main_v51)) :=
  end_binary ops_wrote (launchContents m c) 74 rfl (by decide) (by decide) (by decide)

theorem eq_cst_6 : fin m c (Proc.devRef .tc main_cst_6) = (constant S_ .f32 0x00000000#32) :=
  end_nullary ops_wrote (launchContents m c) 75 rfl (by decide)

theorem eq_v53 : fin m c (Proc.devRef .tc main_v53) = (((fun x v => Host.reduceAdd x v reducesTo_S2176x1_S2176_d1 h_S_) : (⟨S2176x1, .f32⟩ : BufTy).Contents (Elt F) → (⟨S_, .f32⟩ : BufTy).Contents (Elt F) → (⟨S2176, .f32⟩ : BufTy).Contents (Elt F))) (fin m c (Proc.devRef .tc main_v52)) (fin m c (Proc.devRef .tc main_cst_6)) :=
  end_binary ops_wrote (launchContents m c) 76 rfl (by decide) (by decide) (by decide)

theorem eq_v54 : fin m c (Proc.devRef .tc main_v54) = ((broadcastInDim S2176x1024 ![0] bcast_S2176_S2176x1024_0 : (⟨S2176, .f32⟩ : BufTy).Contents (Elt F) → (⟨S2176x1024, .f32⟩ : BufTy).Contents (Elt F))) (fin m c (Proc.devRef .tc main_v53)) :=
  end_unary ops_wrote (launchContents m c) 77 rfl (by decide) (by decide)

theorem eq_v55 : fin m c (Proc.devRef .tc main_v55) = ((mulf : (⟨S2176x1024, .f32⟩ : BufTy).Contents (Elt F) → (⟨S2176x1024, .f32⟩ : BufTy).Contents (Elt F) → (⟨S2176x1024, .f32⟩ : BufTy).Contents (Elt F))) (fin m c (Proc.devRef .tc main_v2)) (fin m c (Proc.devRef .tc main_v54)) :=
  end_binary ops_wrote (launchContents m c) 78 rfl (by decide) (by decide) (by decide)

theorem eq_v56 : fin m c (Proc.devRef .tc main_v56) = ((addf : (⟨S2176x1024, .f32⟩ : BufTy).Contents (Elt F) → (⟨S2176x1024, .f32⟩ : BufTy).Contents (Elt F) → (⟨S2176x1024, .f32⟩ : BufTy).Contents (Elt F))) (fin m c (Proc.devRef .tc main_v49)) (fin m c (Proc.devRef .tc main_v55)) :=
  end_binary ops_wrote (launchContents m c) 79 rfl (by decide) (by decide) (by decide)

theorem eq_v57 : fin m c (Proc.devRef .tc main_v57) = ((mulf : (⟨S2176x1024, .f32⟩ : BufTy).Contents (Elt F) → (⟨S2176x1024, .f32⟩ : BufTy).Contents (Elt F) → (⟨S2176x1024, .f32⟩ : BufTy).Contents (Elt F))) (fin m c (Proc.devRef .tc main_v54)) (fin m c (Proc.devRef .tc main_v2)) :=
  end_binary ops_wrote (launchContents m c) 80 rfl (by decide) (by decide) (by decide)

theorem eq_v58 : fin m c (Proc.devRef .tc main_v58) = ((addf : (⟨S2176x1024, .f32⟩ : BufTy).Contents (Elt F) → (⟨S2176x1024, .f32⟩ : BufTy).Contents (Elt F) → (⟨S2176x1024, .f32⟩ : BufTy).Contents (Elt F))) (fin m c (Proc.devRef .tc main_v56)) (fin m c (Proc.devRef .tc main_v57)) :=
  end_binary ops_wrote (launchContents m c) 81 rfl (by decide) (by decide) (by decide)

theorem eq_v59 : fin m c (Proc.devRef .tc main_v59) = (((fun l r => Host.dotGeneral dot_S2176x1024_S2176x2048_S1024x2048_0_0_1_1_n_n none l r) : (⟨S2176x1024, .f32⟩ : BufTy).Contents (Elt F) → (⟨S2176x2048, .f32⟩ : BufTy).Contents (Elt F) → (⟨S1024x2048, .f32⟩ : BufTy).Contents (Elt F))) (fin m c (Proc.devRef .tc main_v58)) (fin m c (Proc.devRef .tc main_v0)) :=
  end_binary ops_wrote (launchContents m c) 82 rfl (by decide) (by decide) (by decide)

theorem eq_v60 : fin m c (Proc.devRef .tc main_v60) = (((transpose S2048x1024 [1, 0] · transposes_S1024x2048_S2048x1024_1_0) : (⟨S1024x2048, .f32⟩ : BufTy).Contents (Elt F) → (⟨S2048x1024, .f32⟩ : BufTy).Contents (Elt F))) (fin m c (Proc.devRef .tc main_v59)) :=
  end_unary ops_wrote (launchContents m c) 83 rfl (by decide) (by decide)

theorem eq_v61 : fin m c (Proc.devRef .tc main_v61) = (((fun l r => Host.dotGeneral dot_S2176x1024_S2048x1024_S2176x2048_1_1_0_0_n_n none l r) : (⟨S2176x1024, .f32⟩ : BufTy).Contents (Elt F) → (⟨S2048x1024, .f32⟩ : BufTy).Contents (Elt F) → (⟨S2176x2048, .f32⟩ : BufTy).Contents (Elt F))) (fin m c (Proc.devRef .tc main_v58)) (fin m c (Proc.devRef .tc main_arg2)) :=
  end_binary ops_wrote (launchContents m c) 84 rfl (by decide) (by decide) (by decide)

end Cert.ReferenceIdeal.Value

end
-- ==== Proof.ReferenceOps.lean ====
/- The reference's operations over real matrices, and the real identities that relate the derivative it takes to the
   kernels' formulas. -/
module

public import proofs.«01_k».proof.Proof.Values
public import proofs.«01_k».proof.Proof.Gen.ReferenceIdeal
public import Idealize.ShloMosaic.Lib.Pointwise

@[expose] public section

set_option maxRecDepth 16384

noncomputable section

namespace Cert.ReferenceIdeal.Value

open Idealize.ShloMosaic Cert.ReferenceIdeal Cert.ReferenceIdeal.Facts₀ Cert.ReferenceIdeal.Facts Cert.Block

/-! ## Products -/

theorem dotA (f : Fin 2176 → Fin 2048 → ℝ) (g : Fin 2048 → Fin 1024 → ℝ) :
    Host.dotGeneral (F := Ideal) (φ₁ := .f32) (φ₂ := .f32) dot_S2176x2048_S2048x1024_S2176x1024_1_0_0_1_n_n none (emb f) (emb g) = emb (mm f g) := by
  funext t
  idx_vars t
  pointwise []
  simp only [emb_ix2, ← EReal.coe_mul, coe_sum, ← EReal.coe_add, ← EReal.coe_sub]
  rfl

theorem dotB (f : Fin 2176 → Fin 1024 → ℝ) (g : Fin 1024 → Fin 2816 → ℝ) :
    Host.dotGeneral (F := Ideal) (φ₁ := .f32) (φ₂ := .f32) dot_S2176x1024_S1024x2816_S2176x2816_1_0_0_1_n_n none (emb f) (emb g) = emb (mm f g) := by
  funext t
  idx_vars t
  pointwise []
  simp only [emb_ix2, ← EReal.coe_mul, coe_sum, ← EReal.coe_add, ← EReal.coe_sub]
  rfl

theorem dotC (f : Fin 2176 → Fin 2816 → ℝ) (g : Fin 2816 → Fin 1024 → ℝ) :
    Host.dotGeneral (F := Ideal) (φ₁ := .f32) (φ₂ := .f32) dot_S2176x2816_S2816x1024_S2176x1024_1_0_0_1_n_n none (emb f) (emb g) = emb (mm f g) := by
  funext t
  idx_vars t
  pointwise []
  simp only [emb_ix2, ← EReal.coe_mul, coe_sum, ← EReal.coe_add, ← EReal.coe_sub]
  rfl

theorem dotD (f : Fin 2176 → Fin 1024 → ℝ) (g : Fin 2176 → Fin 2816 → ℝ) :
    Host.dotGeneral (F := Ideal) (φ₁ := .f32) (φ₂ := .f32) dot_S2176x1024_S2176x2816_S1024x2816_0_0_1_1_n_n none (emb f) (emb g) = emb (tmm f g) := by
  funext t
  idx_vars t
  pointwise []
  simp only [emb_ix2, ← EReal.coe_mul, coe_sum, ← EReal.coe_add, ← EReal.coe_sub]
  rfl

theorem dotE (f : Fin 2176 → Fin 1024 → ℝ) (g : Fin 2816 → Fin 1024 → ℝ) :
    Host.dotGeneral (F := Ideal) (φ₁ := .f32) (φ₂ := .f32) dot_S2176x1024_S2816x1024_S2176x2816_1_1_0_0_n_n none (emb f) (emb g) = emb (mmT f g) := by
  funext t
  idx_vars t
  pointwise []
  simp only [emb_ix2, ← EReal.coe_mul, coe_sum, ← EReal.coe_add, ← EReal.coe_sub]
  rfl

theorem dotF (f : Fin 2176 → Fin 2816 → ℝ) (g : Fin 2176 → Fin 1024 → ℝ) :
    Host.dotGeneral (F := Ideal) (φ₁ := .f32) (φ₂ := .f32) dot_S2176x2816_S2176x1024_S2816x1024_0_0_1_1_n_n none (emb f) (emb g) = emb (tmm f g) := by
  funext t
  idx_vars t
  pointwise []
  simp only [emb_ix2, ← EReal.coe_mul, coe_sum, ← EReal.coe_add, ← EReal.coe_sub]
  rfl

theorem dotG (f : Fin 2176 → Fin 2816 → ℝ) (g : Fin 1024 → Fin 2816 → ℝ) :
    Host.dotGeneral (F := Ideal) (φ₁ := .f32) (φ₂ := .f32) dot_S2176x2816_S1024x2816_S2176x1024_1_1_0_0_n_n none (emb f) (emb g) = emb (mmT f g) := by
  funext t
  idx_vars t
  pointwise []
  simp only [emb_ix2, ← EReal.coe_mul, coe_sum, ← EReal.coe_add, ← EReal.coe_sub]
  rfl

theorem dotH (f : Fin 2176 → Fin 1024 → ℝ) (g : Fin 2176 → Fin 2048 → ℝ) :
    Host.dotGeneral (F := Ideal) (φ₁ := .f32) (φ₂ := .f32) dot_S2176x1024_S2176x2048_S1024x2048_0_0_1_1_n_n none (emb f) (emb g) = emb (tmm f g) := by
  funext t
  idx_vars t
  pointwise []
  simp only [emb_ix2, ← EReal.coe_mul, coe_sum, ← EReal.coe_add, ← EReal.coe_sub]
  rfl

theorem dotI (f : Fin 2176 → Fin 1024 → ℝ) (g : Fin 2048 → Fin 1024 → ℝ) :
    Host.dotGeneral (F := Ideal) (φ₁ := .f32) (φ₂ := .f32) dot_S2176x1024_S2048x1024_S2176x2048_1_1_0_0_n_n none (emb f) (emb g) = emb (mmT f g) := by
  funext t
  idx_vars t
  pointwise []
  simp only [emb_ix2, ← EReal.coe_mul, coe_sum, ← EReal.coe_add, ← EReal.coe_sub]
  rfl

/-! ## Entry by entry -/

section
variable {a b : Nat} (f g : Fin a → Fin b → ℝ)

theorem add_emb : addf (F := Ideal) (φ := .f32) (s := ⟨2, ![a, b]⟩) (emb f) (emb g) = emb (fun i j => f i j + g i j) := by
  funext t
  exact (EReal.coe_add _ _).symm

theorem sub_emb : subf (F := Ideal) (φ := .f32) (s := ⟨2, ![a, b]⟩) (emb f) (emb g) = emb (fun i j => f i j - g i j) := by
  funext t
  exact (EReal.coe_sub _ _).symm

theorem mul_emb : mulf (F := Ideal) (φ := .f32) (s := ⟨2, ![a, b]⟩) (emb f) (emb g) = emb (fun i j => f i j * g i j) := by
  funext t
  exact (EReal.coe_mul _ _).symm

theorem div_emb (h : ∀ i j, g i j ≠ 0) :
    Host.divf (F := Ideal) (φ := .f32) (s := ⟨2, ![a, b]⟩) (emb f) (emb g) = emb (fun i j => f i j / g i j) := by
  funext t
  exact div_real _ (h _ _)

theorem rsqrt_emb (h : ∀ i j, 0 < f i j) :
    Host.rsqrt (F := Ideal) (φ := .f32) (s := ⟨2, ![a, b]⟩) (emb f) = emb (fun i j => (Real.sqrt (f i j))⁻¹) := by
  funext t
  exact rsqrt_pos (h _ _)

theorem neg_emb : Host.negf (F := Ideal) (φ := .f32) (s := ⟨2, ![a, b]⟩) (emb f) = emb (fun i j => -f i j) := by
  funext t
  exact (EReal.coe_neg _).symm

theorem exp_emb : Host.exp (F := Ideal) (φ := .f32) (s := ⟨2, ![a, b]⟩) (emb f) = emb (fun i j => Real.exp (f i j)) := by
  funext t
  exact Ideal.exp_coe _

end

/-! ## Layout -/

theorem lit_zero_bits : Ideal.ofBits .f32 0x00000000#32 = ((0 : ℝ) : EReal) := by
  simp [Ideal.ofBits, Ideal.ieee, -EReal.coe_mul]

theorem tr_S1024x2816 (f : Fin 1024 → Fin 2816 → ℝ) :
    transpose S2816x1024 [1, 0] (emb f) transposes_S1024x2816_S2816x1024_1_0 = emb (tr f) := by
  funext t
  idx_vars t
  pointwise []
  rfl

theorem tr_S2816x1024 (f : Fin 2816 → Fin 1024 → ℝ) :
    transpose S1024x2816 [1, 0] (emb f) transposes_S2816x1024_S1024x2816_1_0 = emb (tr f) := by
  funext t
  idx_vars t
  pointwise []
  rfl

theorem tr_S1024x2048 (f : Fin 1024 → Fin 2048 → ℝ) :
    transpose S2048x1024 [1, 0] (emb f) transposes_S1024x2048_S2048x1024_1_0 = emb (tr f) := by
  funext t
  idx_vars t
  pointwise []
  rfl

theorem cast_y (f : Fin 2176 → Fin 2048 → ℝ) : extf (F := Ideal) .f32 (φ := .bf16) (s := S2176x2048) (emb f) bitsLt_bf16_f32 = emb f := by
  funext t
  rfl

theorem lit_col_1024 : broadcastInDim S2176x1 ![] bcast_S_S2176x1 (constant (F := Ideal) S_ .f32 0x44800000#32) = emb (fun _ _ => 1024) := by
  funext t
  idx_vars t
  pointwise []
  exact lit_1024

theorem lit_col_eps : broadcastInDim S2176x1 ![] bcast_S_S2176x1 (constant (F := Ideal) S_ .f32 0x358637BD#32) = emb (fun _ _ => eps) := by
  funext t
  idx_vars t
  pointwise []
  exact lit_eps

theorem lit_col_half : broadcastInDim S2176x1 ![] bcast_S_S2176x1 (constant (F := Ideal) S_ .f32 0xBF000000#32) = emb (fun _ _ => -(1 / 2)) := by
  funext t
  idx_vars t
  pointwise []
  exact lit_neg_half

theorem lit_one : broadcastInDim S2176x2816 ![] bcast_S_S2176x2816 (constant (F := Ideal) S_ .f32 0x3F800000#32) = emb (fun _ _ => 1) := by
  funext t
  idx_vars t
  pointwise []
  exact EReal.coe_one.symm

theorem spread_col (f : Fin 2176 → Fin 1 → ℝ) :
    broadcastInDim S2176x1024 ![0, 1] bcast_S2176x1_S2176x1024_0_1 (emb f) = emb (fun i _ => f i 0) := by
  funext t
  idx_vars t
  pointwise []
  rfl

theorem spread_row (f : Fin 1 → Fin 1024 → ℝ) :
    broadcastInDim S2176x1024 ![0, 1] bcast_S1x1024_S2176x1024_0_1 (emb f) = emb (fun _ j => f 0 j) := by
  funext t
  idx_vars t
  pointwise []
  rfl

/-- Row sums, set as a column. -/
theorem row_sums (f : Fin 2176 → Fin 1024 → ℝ) :
    broadcastInDim S2176x1 ![0] bcast_S2176_S2176x1_0 (Host.reduceAdd (F := Ideal) (φ := .f32) (emb f) (constant (F := Ideal) S_ .f32 0x00000000#32) reducesTo_S2176x1024_S2176_d1 h_S_)
      = emb (fun i _ => ∑ j, f i j) := by
  funext t
  idx_vars t
  pointwise []
  simp only [emb_ix2, coe_sum, lit_zero_bits, ← EReal.coe_add, zero_add]

theorem row_sums' (f : Fin 2176 → Fin 1024 → ℝ) :
    shapeCast S2176x1 (Host.reduceAdd (F := Ideal) (φ := .f32) (emb f) (constant (F := Ideal) S_ .f32 0x00000000#32) reducesTo_S2176x1024_S2176_d1 h_S_) shapeCasts_S2176_S2176x1
      = emb (fun i _ => ∑ j, f i j) := by
  funext t
  idx_vars t
  pointwise []
  simp only [emb_ix2, coe_sum, lit_zero_bits, ← EReal.coe_add, zero_add]

theorem col_sums (f : Fin 2176 → Fin 1024 → ℝ) :
    shapeCast S1x1024 (Host.reduceAdd (F := Ideal) (φ := .f32) (emb f) (constant (F := Ideal) S_ .f32 0x00000000#32) reducesTo_S2176x1024_S1024_d0 h_S_) shapeCasts_S1024_S1x1024
      = emb (fun _ j => ∑ i, f i j) := by
  funext t
  idx_vars t
  pointwise []
  simp only [emb_ix2, coe_sum, lit_zero_bits, ← EReal.coe_add, zero_add]

theorem unit_sums (f : Fin 2176 → Fin 1 → ℝ) :
    broadcastInDim S2176x1024 ![0] bcast_S2176_S2176x1024_0 (Host.reduceAdd (F := Ideal) (φ := .f32) (emb f) (constant (F := Ideal) S_ .f32 0x00000000#32) reducesTo_S2176x1_S2176_d1 h_S_)
      = emb (fun i _ => f i 0) := by
  funext t
  idx_vars t
  pointwise []
  simp only [emb_ix2, coe_sum, lit_zero_bits, ← EReal.coe_add, zero_add, Fin.sum_univ_one]

/-! ## The derivatives -/

/-- The gate's derivative as the reference takes it, by the product rule. -/
theorem gate_rule (d p x : ℝ) : d * p * sg x + x * (d * p) * (sg x * (1 - sg x)) = d * p * (sg x * (1 + x * (1 - sg x))) := by ring

/-- The reciprocal root's derivative: `r / q` is `r³` where `r² q = 1`. -/
theorem root_rule {q : ℝ} (hq : 0 < q) : (Real.sqrt q)⁻¹ / q = (Real.sqrt q)⁻¹ * ((Real.sqrt q)⁻¹ * (Real.sqrt q)⁻¹) := by
  have h : Real.sqrt q * Real.sqrt q = q := Real.mul_self_sqrt hq.le
  have h0 : Real.sqrt q ≠ 0 := (Real.sqrt_pos.mpr hq).ne'
  rw [← mul_inv, h, div_eq_mul_inv]

/-- The normalization's derivative as the reference takes it, through the mean square and the reciprocal root. -/
theorem norm_rule (g d x : Fin 2176 → Fin 1024 → ℝ) (w : Fin 1 → Fin 1024 → ℝ) (i : Fin 2176) (j : Fin 1024) (t : ℝ)
    (ht : t = (∑ l, x i l * (d i l * w 0 l)) * (-(1 / 2) * (rs x i / ((∑ l, x i l * x i l) / 1024 + eps))) / 1024) :
    g i j + d i j * w 0 j * rs x i + x i j * t + t * x i j = dnorm g d x w i j := by
  have hs : ∑ l, d i l * w 0 l * xhat x i l = (∑ l, x i l * (d i l * w 0 l)) * rs x i := by
    rw [Finset.sum_mul]
    refine Finset.sum_congr rfl fun l _ => ?_
    unfold xhat
    ring
  have hr : rs x i / ((∑ l, x i l * x i l) / 1024 + eps) = rs x i * (rs x i * rs x i) := root_rule (radicand_pos x i)
  unfold dnorm cbar
  rw [ht, hs, hr]
  unfold xhat
  ring

end Cert.ReferenceIdeal.Value

end
-- ==== Proof.Reference.lean ====
/- Every array of the reference's run over the real numbers: its results are the arrays of the block, forward and
   backward. -/
module

public import proofs.«01_k».proof.Proof.ReferenceRun
public import proofs.«01_k».proof.Proof.ReferenceOps

@[expose] public section

set_option maxRecDepth 16384

noncomputable section

namespace Cert.ReferenceIdeal.Value

open Idealize.ShloMosaic Idealize.ShloMosaic.TcCoe Idealize.ShloMosaic.StableHlo
open Cert.ReferenceIdeal Cert.ReferenceIdeal.Facts₀ Cert.ReferenceIdeal.Facts Cert.Block

/-- The transpose of a product over the rows is the product with its factors exchanged. -/
theorem tr_tmm {m k n : Nat} (x : Fin k → Fin m → ℝ) (y : Fin k → Fin n → ℝ) : tr (tmm x y) = tmm y x := by
  funext i j
  unfold tr tmm
  exact Finset.sum_congr rfl fun l _ => mul_comm (G := ℝ) _ _

/-- Device `c`'s argument arrays hold the real matrices `a`. -/
structure Holds (m : (ℓ : Loc nD τ sig) → Buf (Elt Ideal) ℓ) (c : Dev nD) (a : Inputs) : Prop where
  x : m ((c.tc : Thread nD τ).loc main_arg0) = emb a.x
  y : m ((c.tc : Thread nD τ).loc main_arg1) = emb a.y
  wo : m ((c.tc : Thread nD τ).loc main_arg2) = emb a.wo
  w : m ((c.tc : Thread nD τ).loc main_arg3) = emb a.w
  wg : m ((c.tc : Thread nD τ).loc main_arg4) = emb a.wg
  wu : m ((c.tc : Thread nD τ).loc main_arg5) = emb a.wu
  wd : m ((c.tc : Thread nD τ).loc main_arg6) = emb a.wd
  g : m ((c.tc : Thread nD τ).loc main_arg7) = emb a.g

variable (m : (ℓ : Loc nD τ sig) → Buf (Elt Ideal) ℓ) (c : Dev nD) {a : Inputs} (h : Holds m c a)
include h

theorem val_arg0 : fin m c (Proc.devRef .tc main_arg0) = emb a.x := (fin_arg0 m c).trans h.x

theorem val_arg1 : fin m c (Proc.devRef .tc main_arg1) = emb a.y := (fin_arg1 m c).trans h.y

theorem val_arg2 : fin m c (Proc.devRef .tc main_arg2) = emb a.wo := (fin_arg2 m c).trans h.wo

theorem val_arg3 : fin m c (Proc.devRef .tc main_arg3) = emb a.w := (fin_arg3 m c).trans h.w

theorem val_arg4 : fin m c (Proc.devRef .tc main_arg4) = emb a.wg := (fin_arg4 m c).trans h.wg

theorem val_arg5 : fin m c (Proc.devRef .tc main_arg5) = emb a.wu := (fin_arg5 m c).trans h.wu

theorem val_arg6 : fin m c (Proc.devRef .tc main_arg6) = emb a.wd := (fin_arg6 m c).trans h.wd

theorem val_arg7 : fin m c (Proc.devRef .tc main_arg7) = emb a.g := (fin_arg7 m c).trans h.g

theorem val_v0 : fin m c (Proc.devRef .tc main_v0) = emb (a.y) := by
  rw [eq_v0 m c, val_arg1 m c h]
  exact cast_y _

theorem val_v1 : fin m c (Proc.devRef .tc main_v1) = emb (mm a.y a.wo) := by
  rw [eq_v1 m c, val_v0 m c h, val_arg2 m c h]
  exact dotA _ _

theorem val_v2 : fin m c (Proc.devRef .tc main_v2) = emb (a.h1) := by
  rw [eq_v2 m c, val_v1 m c h, val_arg0 m c h]
  refine (add_emb _ _).trans (congrArg emb ?_)
  funext i j
  exact add_comm _ _

/-- The mean square of each row, with the small number added. -/
abbrev rad (x : Fin 2176 → Fin 1024 → ℝ) (i : Fin 2176) (_ : Fin 1) : ℝ := (∑ j, x i j * x i j) / 1024 + eps

theorem val_v3 : fin m c (Proc.devRef .tc main_v3) = emb (fun i j => a.h1 i j * a.h1 i j) := by
  rw [eq_v3 m c, val_v2 m c h]
  exact mul_emb _ _

theorem val_v5 : fin m c (Proc.devRef .tc main_v5) = emb (fun i _ => ∑ j, a.h1 i j * a.h1 i j) := by
  rw [eq_v5 m c, eq_v4 m c, val_v3 m c h, eq_cst m c]
  exact row_sums _

theorem val_v6 : fin m c (Proc.devRef .tc main_v6) = emb (fun _ _ => 1024) := by
  rw [eq_v6 m c, eq_cst_0 m c]
  exact lit_col_1024

theorem val_v7 : fin m c (Proc.devRef .tc main_v7) = emb (fun i _ => (∑ j, a.h1 i j * a.h1 i j) / 1024) := by
  rw [eq_v7 m c, val_v5 m c h, val_v6 m c h]
  exact div_emb _ _ fun _ _ => by norm_num

theorem val_v8 : fin m c (Proc.devRef .tc main_v8) = emb (fun _ _ => eps) := by
  rw [eq_v8 m c, eq_cst_1 m c]
  exact lit_col_eps

theorem val_v9 : fin m c (Proc.devRef .tc main_v9) = emb (rad a.h1) := by
  rw [eq_v9 m c, val_v7 m c h, val_v8 m c h]
  exact add_emb _ _

theorem val_v10 : fin m c (Proc.devRef .tc main_v10) = emb (fun i _ => rs a.h1 i) := by
  rw [eq_v10 m c, val_v9 m c h]
  exact rsqrt_emb _ fun i _ => radicand_pos a.h1 i

theorem val_v11 : fin m c (Proc.devRef .tc main_v11) = emb (fun i k => rs a.h1 i / rad a.h1 i k) := by
  rw [eq_v11 m c, val_v10 m c h, val_v9 m c h]
  exact div_emb _ _ fun i _ => (radicand_pos a.h1 i).ne'

theorem val_v12 : fin m c (Proc.devRef .tc main_v12) = emb (fun _ _ => -(1 / 2)) := by
  rw [eq_v12 m c, eq_cst_2 m c]
  exact lit_col_half

theorem val_v13 : fin m c (Proc.devRef .tc main_v13) = emb (fun i k => -(1 / 2) * (rs a.h1 i / rad a.h1 i k)) := by
  rw [eq_v13 m c, val_v12 m c h, val_v11 m c h]
  exact mul_emb _ _

theorem val_v14 : fin m c (Proc.devRef .tc main_v14) = emb (fun i _ => rs a.h1 i) := by
  rw [eq_v14 m c, val_v10 m c h]
  exact spread_col _

theorem val_v15 : fin m c (Proc.devRef .tc main_v15) = emb (xhat a.h1) := by
  rw [eq_v15 m c, val_v2 m c h, val_v14 m c h]
  exact mul_emb _ _

theorem val_v16 : fin m c (Proc.devRef .tc main_v16) = emb (fun _ j => a.w 0 j) := by
  rw [eq_v16 m c, val_arg3 m c h]
  exact spread_row _

theorem val_v17 : fin m c (Proc.devRef .tc main_v17) = emb (a.u) := by
  rw [eq_v17 m c, val_v15 m c h, val_v16 m c h]
  exact mul_emb _ _

theorem val_v18 : fin m c (Proc.devRef .tc main_v18) = emb (a.gate) := by
  rw [eq_v18 m c, val_v17 m c h, val_arg4 m c h]
  exact dotB _ _

theorem val_call0_v0 : fin m c (Proc.devRef .tc main_call0_v0) = emb (fun i j => -a.gate i j) := by
  rw [eq_call0_v0 m c, val_v18 m c h]
  exact neg_emb _

theorem val_call0_v1 : fin m c (Proc.devRef .tc main_call0_v1) = emb (fun i j => Real.exp (-a.gate i j)) := by
  rw [eq_call0_v1 m c, val_call0_v0 m c h]
  exact exp_emb _

theorem val_call0_v2 : fin m c (Proc.devRef .tc main_call0_v2) = emb (fun _ _ => 1) := by
  rw [eq_call0_v2 m c, eq_call0_cst m c]
  exact lit_one

theorem val_call0_v3 : fin m c (Proc.devRef .tc main_call0_v3) = emb (fun i j => 1 + Real.exp (-a.gate i j)) := by
  rw [eq_call0_v3 m c, val_call0_v2 m c h, val_call0_v1 m c h]
  exact add_emb _ _

theorem val_call0_v4 : fin m c (Proc.devRef .tc main_call0_v4) = emb (fun _ _ => 1) := by
  rw [eq_call0_v4 m c, eq_call0_cst_0 m c]
  exact lit_one

theorem val_v19_2 : fin m c (Proc.devRef .tc main_v19_2) = emb (fun i j => sg (a.gate i j)) := by
  rw [eq_v19_2 m c, val_call0_v4 m c h, val_call0_v3 m c h]
  exact div_emb _ _ fun i j => (add_pos one_pos (Real.exp_pos _)).ne'

theorem val_call0_v6 : fin m c (Proc.devRef .tc main_call0_v6) = emb (fun _ _ => 1) := by
  rw [eq_call0_v6 m c, eq_call0_cst_1 m c]
  exact lit_one

theorem val_call0_v7 : fin m c (Proc.devRef .tc main_call0_v7) = emb (fun i j => 1 - sg (a.gate i j)) := by
  rw [eq_call0_v7 m c, val_call0_v6 m c h, val_v19_2 m c h]
  exact sub_emb _ _

theorem val_v19_1 : fin m c (Proc.devRef .tc main_v19_1) = emb (fun i j => sg (a.gate i j) * (1 - sg (a.gate i j))) := by
  rw [eq_v19_1 m c, val_v19_2 m c h, val_call0_v7 m c h]
  exact mul_emb _ _

theorem val_v19_0 : fin m c (Proc.devRef .tc main_v19_0) = emb (fun i j => a.gate i j * sg (a.gate i j)) := by
  rw [eq_v19_0 m c, val_v18 m c h, val_v19_2 m c h]
  exact mul_emb _ _

theorem val_v20 : fin m c (Proc.devRef .tc main_v20) = emb (a.lin) := by
  rw [eq_v20 m c, val_v17 m c h, val_arg5 m c h]
  exact dotB _ _

theorem val_v21 : fin m c (Proc.devRef .tc main_v21) = emb (a.prod) := by
  rw [eq_v21 m c, val_v19_0 m c h, val_v20 m c h]
  exact mul_emb _ _

theorem val_v22 : fin m c (Proc.devRef .tc main_v22) = emb (mm a.prod a.wd) := by
  rw [eq_v22 m c, val_v21 m c h, val_arg6 m c h]
  exact dotC _ _

/-- The block's result. -/
theorem val_v23 : fin m c (Proc.devRef .tc main_v23) = emb (a.h2) := by
  rw [eq_v23 m c, val_v2 m c h, val_v22 m c h]
  refine (add_emb _ _).trans (congrArg emb ?_)
  funext i j
  exact add_comm _ _

theorem val_v24 : fin m c (Proc.devRef .tc main_v24) = emb (a.g) := by
  rw [eq_v24 m c, val_arg7 m c h]

theorem val_v25 : fin m c (Proc.devRef .tc main_v25) = emb (a.g) := by
  rw [eq_v25 m c, val_arg7 m c h]

theorem val_v26 : fin m c (Proc.devRef .tc main_v26) = emb (tmm a.g a.prod) := by
  rw [eq_v26 m c, val_v25 m c h, val_v21 m c h]
  exact dotD _ _

theorem val_v27 : fin m c (Proc.devRef .tc main_v27) = emb (a.dwd) := by
  rw [eq_v27 m c, val_v26 m c h]
  refine (tr_S1024x2816 _).trans (congrArg emb ?_)
  exact tr_tmm _ _

theorem val_v28 : fin m c (Proc.devRef .tc main_v28) = emb (a.dprod) := by
  rw [eq_v28 m c, val_v25 m c h, val_arg6 m c h]
  exact dotE _ _

theorem val_v29 : fin m c (Proc.devRef .tc main_v29) = emb (a.dup) := by
  rw [eq_v29 m c, val_v19_0 m c h, val_v28 m c h]
  refine (mul_emb _ _).trans (congrArg emb ?_)
  funext i j
  exact mul_comm _ _

theorem val_v30 : fin m c (Proc.devRef .tc main_v30) = emb (fun i j => a.dprod i j * a.lin i j) := by
  rw [eq_v30 m c, val_v28 m c h, val_v20 m c h]
  exact mul_emb _ _

theorem val_v31 : fin m c (Proc.devRef .tc main_v31) = emb (tmm a.dup a.u) := by
  rw [eq_v31 m c, val_v29 m c h, val_v17 m c h]
  exact dotF _ _

theorem val_v32 : fin m c (Proc.devRef .tc main_v32) = emb (a.dwu) := by
  rw [eq_v32 m c, val_v31 m c h]
  exact tr_S2816x1024 _

theorem val_v33 : fin m c (Proc.devRef .tc main_v33) = emb (mmT a.dup a.wu) := by
  rw [eq_v33 m c, val_v29 m c h, val_arg5 m c h]
  exact dotG _ _

theorem val_call1_v0 : fin m c (Proc.devRef .tc main_call1_v0) = emb (fun i j => a.gate i j * (a.dprod i j * a.lin i j)) := by
  rw [eq_call1_v0 m c, val_v18 m c h, val_v30 m c h]
  exact mul_emb _ _

theorem val_call1_v1 : fin m c (Proc.devRef .tc main_call1_v1) = emb (fun i j => a.dprod i j * a.lin i j * sg (a.gate i j)) := by
  rw [eq_call1_v1 m c, val_v30 m c h, val_v19_2 m c h]
  exact mul_emb _ _

theorem val_call1_v2 : fin m c (Proc.devRef .tc main_call1_v2) = emb (fun i j => a.gate i j * (a.dprod i j * a.lin i j) * (sg (a.gate i j) * (1 - sg (a.gate i j)))) := by
  rw [eq_call1_v2 m c, val_call1_v0 m c h, val_v19_1 m c h]
  exact mul_emb _ _

theorem val_v34 : fin m c (Proc.devRef .tc main_v34) = emb (a.dgp) := by
  rw [eq_v34 m c, val_call1_v1 m c h, val_call1_v2 m c h]
  refine (add_emb _ _).trans (congrArg emb ?_)
  funext i j
  exact gate_rule _ _ _

theorem val_v35 : fin m c (Proc.devRef .tc main_v35) = emb (tmm a.dgp a.u) := by
  rw [eq_v35 m c, val_v34 m c h, val_v17 m c h]
  exact dotF _ _

theorem val_v36 : fin m c (Proc.devRef .tc main_v36) = emb (a.dwg) := by
  rw [eq_v36 m c, val_v35 m c h]
  exact tr_S2816x1024 _

theorem val_v37 : fin m c (Proc.devRef .tc main_v37) = emb (mmT a.dgp a.wg) := by
  rw [eq_v37 m c, val_v34 m c h, val_arg4 m c h]
  exact dotG _ _

theorem val_v38 : fin m c (Proc.devRef .tc main_v38) = emb (a.du) := by
  rw [eq_v38 m c, val_v33 m c h, val_v37 m c h]
  refine (add_emb _ _).trans (congrArg emb ?_)
  funext i j
  exact add_comm _ _

theorem val_v39 : fin m c (Proc.devRef .tc main_v39) = emb (fun i j => xhat a.h1 i j * a.du i j) := by
  rw [eq_v39 m c, val_v15 m c h, val_v38 m c h]
  exact mul_emb _ _

theorem val_v41 : fin m c (Proc.devRef .tc main_v41) = emb (a.dw) := by
  rw [eq_v41 m c, eq_v40 m c, val_v39 m c h, eq_cst_3 m c]
  refine (col_sums _).trans (congrArg emb ?_)
  funext i j
  exact Finset.sum_congr rfl fun l _ => mul_comm (G := ℝ) _ _

theorem val_v42 : fin m c (Proc.devRef .tc main_v42) = emb (fun _ j => a.w 0 j) := by
  rw [eq_v42 m c, val_arg3 m c h]
  exact spread_row _

theorem val_v43 : fin m c (Proc.devRef .tc main_v43) = emb (fun i j => a.du i j * a.w 0 j) := by
  rw [eq_v43 m c, val_v38 m c h, val_v42 m c h]
  exact mul_emb _ _

theorem val_v44 : fin m c (Proc.devRef .tc main_v44) = emb (fun i j => a.h1 i j * (a.du i j * a.w 0 j)) := by
  rw [eq_v44 m c, val_v2 m c h, val_v43 m c h]
  exact mul_emb _ _

theorem val_v46 : fin m c (Proc.devRef .tc main_v46) = emb (fun i _ => ∑ j, a.h1 i j * (a.du i j * a.w 0 j)) := by
  rw [eq_v46 m c, eq_v45 m c, val_v44 m c h, eq_cst_4 m c]
  exact row_sums' _

theorem val_v47 : fin m c (Proc.devRef .tc main_v47) = emb (fun i _ => rs a.h1 i) := by
  rw [eq_v47 m c, val_v10 m c h]
  exact spread_col _

theorem val_v48 : fin m c (Proc.devRef .tc main_v48) = emb (fun i j => a.du i j * a.w 0 j * rs a.h1 i) := by
  rw [eq_v48 m c, val_v43 m c h, val_v47 m c h]
  exact mul_emb _ _

theorem val_v49 : fin m c (Proc.devRef .tc main_v49) = emb (fun i j => a.g i j + a.du i j * a.w 0 j * rs a.h1 i) := by
  rw [eq_v49 m c, val_v24 m c h, val_v48 m c h]
  exact add_emb _ _

theorem val_v50 : fin m c (Proc.devRef .tc main_v50) = emb (fun i k => (∑ j, a.h1 i j * (a.du i j * a.w 0 j)) * (-(1 / 2) * (rs a.h1 i / rad a.h1 i k))) := by
  rw [eq_v50 m c, val_v46 m c h, val_v13 m c h]
  exact mul_emb _ _

theorem val_v51 : fin m c (Proc.devRef .tc main_v51) = emb (fun _ _ => 1024) := by
  rw [eq_v51 m c, eq_cst_5 m c]
  exact lit_col_1024

/-- The mean square's cotangent, over the row's length. -/
abbrev slope (a : Inputs) (i : Fin 2176) : ℝ :=
  (∑ j, a.h1 i j * (a.du i j * a.w 0 j)) * (-(1 / 2) * (rs a.h1 i / rad a.h1 i 0)) / 1024

theorem val_v52 : fin m c (Proc.devRef .tc main_v52) = emb (fun i k => (∑ j, a.h1 i j * (a.du i j * a.w 0 j)) * (-(1 / 2) * (rs a.h1 i / rad a.h1 i k)) / 1024) := by
  rw [eq_v52 m c, val_v50 m c h, val_v51 m c h]
  exact div_emb _ _ fun _ _ => by norm_num

theorem val_v54 : fin m c (Proc.devRef .tc main_v54) = emb (fun i _ => slope a i) := by
  rw [eq_v54 m c, eq_v53 m c, val_v52 m c h, eq_cst_6 m c]
  exact unit_sums _

theorem val_v55 : fin m c (Proc.devRef .tc main_v55) = emb (fun i j => a.h1 i j * slope a i) := by
  rw [eq_v55 m c, val_v2 m c h, val_v54 m c h]
  exact mul_emb _ _

theorem val_v56 : fin m c (Proc.devRef .tc main_v56) = emb (fun i j => a.g i j + a.du i j * a.w 0 j * rs a.h1 i + a.h1 i j * slope a i) := by
  rw [eq_v56 m c, val_v49 m c h, val_v55 m c h]
  exact add_emb _ _

theorem val_v57 : fin m c (Proc.devRef .tc main_v57) = emb (fun i j => slope a i * a.h1 i j) := by
  rw [eq_v57 m c, val_v54 m c h, val_v2 m c h]
  exact mul_emb _ _

theorem val_v58 : fin m c (Proc.devRef .tc main_v58) = emb (a.dh1) := by
  rw [eq_v58 m c, val_v56 m c h, val_v57 m c h]
  refine (add_emb _ _).trans (congrArg emb ?_)
  funext i j
  exact norm_rule _ _ _ _ _ _ _ rfl

theorem val_v59 : fin m c (Proc.devRef .tc main_v59) = emb (tmm a.dh1 a.y) := by
  rw [eq_v59 m c, val_v58 m c h, val_v0 m c h]
  exact dotH _ _

theorem val_v60 : fin m c (Proc.devRef .tc main_v60) = emb (a.dwo) := by
  rw [eq_v60 m c, val_v59 m c h]
  refine (tr_S1024x2048 _).trans (congrArg emb ?_)
  exact tr_tmm _ _

theorem val_v61 : fin m c (Proc.devRef .tc main_v61) = emb (a.dy) := by
  rw [eq_v61 m c, val_v58 m c h, val_arg2 m c h]
  exact dotI _ _

end Cert.ReferenceIdeal.Value

end
-- ==== Proof.Claims.lean ====
/- The value claim: from arguments that hold real numbers the kernels and the reference both end with the arrays of the
   one block, so their results are equal. -/
module

public import proofs.«01_k».proof.Defs
public import proofs.«01_k».proof.Proof.Finite
public import proofs.«01_k».proof.Proof.Fold
public import proofs.«01_k».proof.Proof.Reference

@[expose] public section

set_option maxRecDepth 16384

noncomputable section

namespace Cert.Block

open Idealize.ShloMosaic Idealize.ShloMosaic.TcCoe Idealize.SL.Sem

/-- The real matrices device `c`'s argument arrays hold. -/
def inputs (m : (ℓ : Loc Cert.KernelIdeal.nD Cert.KernelIdeal.τ Cert.KernelIdeal.sig) → Buf (Elt Ideal) ℓ) (c : Dev Cert.KernelIdeal.nD) : Inputs where
  x := fun i j => EReal.toReal (m ((c.tc : Thread Cert.KernelIdeal.nD Cert.KernelIdeal.τ).loc Cert.KernelIdeal.main_arg0) (ix2 i j))
  y := fun i j => EReal.toReal (m ((c.tc : Thread Cert.KernelIdeal.nD Cert.KernelIdeal.τ).loc Cert.KernelIdeal.main_arg1) (ix2 i j))
  wo := fun i j => EReal.toReal (m ((c.tc : Thread Cert.KernelIdeal.nD Cert.KernelIdeal.τ).loc Cert.KernelIdeal.main_arg2) (ix2 i j))
  w := fun i j => EReal.toReal (m ((c.tc : Thread Cert.KernelIdeal.nD Cert.KernelIdeal.τ).loc Cert.KernelIdeal.main_arg3) (ix2 i j))
  wg := fun i j => EReal.toReal (m ((c.tc : Thread Cert.KernelIdeal.nD Cert.KernelIdeal.τ).loc Cert.KernelIdeal.main_arg4) (ix2 i j))
  wu := fun i j => EReal.toReal (m ((c.tc : Thread Cert.KernelIdeal.nD Cert.KernelIdeal.τ).loc Cert.KernelIdeal.main_arg5) (ix2 i j))
  wd := fun i j => EReal.toReal (m ((c.tc : Thread Cert.KernelIdeal.nD Cert.KernelIdeal.τ).loc Cert.KernelIdeal.main_arg6) (ix2 i j))
  g := fun i j => EReal.toReal (m ((c.tc : Thread Cert.KernelIdeal.nD Cert.KernelIdeal.τ).loc Cert.KernelIdeal.main_arg7) (ix2 i j))

theorem kernel_holds {m : (ℓ : Loc Cert.KernelIdeal.nD Cert.KernelIdeal.τ Cert.KernelIdeal.sig) → Buf (Elt Ideal) ℓ}
    (hp : Cert.Pre_KernelIdeal_finite m) (c : Dev Cert.KernelIdeal.nD) : Cert.KernelIdeal.Value.Holds m c (inputs m c) where
  x := Cert.Pre_finite.Value.real_0 _ _ _ _ _ _ _ _ (hp c)
  y := Cert.Pre_finite.Value.real_1 _ _ _ _ _ _ _ _ (hp c)
  wo := Cert.Pre_finite.Value.real_2 _ _ _ _ _ _ _ _ (hp c)
  w := Cert.Pre_finite.Value.real_3 _ _ _ _ _ _ _ _ (hp c)
  wg := Cert.Pre_finite.Value.real_4 _ _ _ _ _ _ _ _ (hp c)
  wu := Cert.Pre_finite.Value.real_5 _ _ _ _ _ _ _ _ (hp c)
  wd := Cert.Pre_finite.Value.real_6 _ _ _ _ _ _ _ _ (hp c)
  g := Cert.Pre_finite.Value.real_7 _ _ _ _ _ _ _ _ (hp c)

/-- From memories that agree on the arguments, both programs end with equal results and unchanged arguments. -/
theorem algebraic : Cert.algebraic_KernelIdeal_ReferenceIdeal_pre_finite := by
  intro m g m' g' hp hm
  have hk := fun c => kernel_holds hp c
  have hr : ∀ c, Cert.ReferenceIdeal.Value.Holds m' c (inputs m c) := fun c => by
    obtain ⟨h0, h1, h2, h3, h4, h5, h6, h7⟩ := hm c
    have k := hk c
    exact ⟨h0.trans k.x, h1.trans k.y, h2.trans k.wo, h3.trans k.w, h4.trans k.wg, h5.trans k.wu, h6.trans k.wd, h7.trans k.g⟩
  refine ⟨fun c => emb (inputs m c).h2, fun c => emb (inputs m c).dh1, fun c => emb (inputs m c).dy, fun c => emb (inputs m c).dwo, fun c => emb (inputs m c).dw, fun c => emb (inputs m c).dwg, fun c => emb (inputs m c).dwu, fun c => emb (inputs m c).dwd, ?_, ?_⟩
  · refine θ_run_mono (Cert.KernelIdeal.Value.run_fold m g) fun r h c => ⟨(h c _ (Cert.KernelIdeal.Gen.mem_uc Cert.KernelIdeal.main_v10 (by decide))).trans (Cert.KernelIdeal.Value.at13_v10 m g c (hk c)),
      (h c _ (Cert.KernelIdeal.Gen.mem_uc Cert.KernelIdeal.main_v13_0 (by decide))).trans (Cert.KernelIdeal.Value.at13_v13_0 m g c (hk c)),
      (h c _ (Cert.KernelIdeal.Gen.mem_uc Cert.KernelIdeal.main_v17 (by decide))).trans (Cert.KernelIdeal.Value.at13_v17 m g c (hk c)),
      (h c _ (Cert.KernelIdeal.Gen.mem_uc Cert.KernelIdeal.main_v16_0 (by decide))).trans (Cert.KernelIdeal.Value.at13_v16_0 m g c (hk c)),
      (h c _ (Cert.KernelIdeal.Gen.mem_uc Cert.KernelIdeal.main_v13_2 (by decide))).trans (Cert.KernelIdeal.Value.at13_v13_2 m g c (hk c)),
      (h c _ (Cert.KernelIdeal.Gen.mem_uc Cert.KernelIdeal.main_v18 (by decide))).trans (Cert.KernelIdeal.Value.at13_v18 m g c (hk c)),
      (h c _ (Cert.KernelIdeal.Gen.mem_uc Cert.KernelIdeal.main_v19 (by decide))).trans (Cert.KernelIdeal.Value.at13_v19 m g c (hk c)),
      (h c _ (Cert.KernelIdeal.Gen.mem_uc Cert.KernelIdeal.main_v12_0 (by decide))).trans (Cert.KernelIdeal.Value.at13_v12_0 m g c (hk c)),
      (h c _ (Cert.KernelIdeal.Gen.mem_uc Cert.KernelIdeal.main_arg0 (by decide))).trans (Cert.KernelIdeal.Gen.W13_main_arg0 m g c),
      (h c _ (Cert.KernelIdeal.Gen.mem_uc Cert.KernelIdeal.main_arg1 (by decide))).trans (Cert.KernelIdeal.Gen.W13_main_arg1 m g c),
      (h c _ (Cert.KernelIdeal.Gen.mem_uc Cert.KernelIdeal.main_arg2 (by decide))).trans (Cert.KernelIdeal.Gen.W13_main_arg2 m g c),
      (h c _ (Cert.KernelIdeal.Gen.mem_uc Cert.KernelIdeal.main_arg3 (by decide))).trans (Cert.KernelIdeal.Gen.W13_main_arg3 m g c),
      (h c _ (Cert.KernelIdeal.Gen.mem_uc Cert.KernelIdeal.main_arg4 (by decide))).trans (Cert.KernelIdeal.Gen.W13_main_arg4 m g c),
      (h c _ (Cert.KernelIdeal.Gen.mem_uc Cert.KernelIdeal.main_arg5 (by decide))).trans (Cert.KernelIdeal.Gen.W13_main_arg5 m g c),
      (h c _ (Cert.KernelIdeal.Gen.mem_uc Cert.KernelIdeal.main_arg6 (by decide))).trans (Cert.KernelIdeal.Gen.W13_main_arg6 m g c),
      (h c _ (Cert.KernelIdeal.Gen.mem_uc Cert.KernelIdeal.main_arg7 (by decide))).trans (Cert.KernelIdeal.Gen.W13_main_arg7 m g c)⟩
  · refine θ_run_mono (Cert.ReferenceIdeal.Value.run_fin m' g') fun r h c => ⟨(h c Cert.ReferenceIdeal.main_v23).trans (Cert.ReferenceIdeal.Value.val_v23 m' c (hr c)),
      (h c Cert.ReferenceIdeal.main_v58).trans (Cert.ReferenceIdeal.Value.val_v58 m' c (hr c)),
      (h c Cert.ReferenceIdeal.main_v61).trans (Cert.ReferenceIdeal.Value.val_v61 m' c (hr c)),
      (h c Cert.ReferenceIdeal.main_v60).trans (Cert.ReferenceIdeal.Value.val_v60 m' c (hr c)),
      (h c Cert.ReferenceIdeal.main_v41).trans (Cert.ReferenceIdeal.Value.val_v41 m' c (hr c)),
      (h c Cert.ReferenceIdeal.main_v36).trans (Cert.ReferenceIdeal.Value.val_v36 m' c (hr c)),
      (h c Cert.ReferenceIdeal.main_v32).trans (Cert.ReferenceIdeal.Value.val_v32 m' c (hr c)),
      (h c Cert.ReferenceIdeal.main_v27).trans (Cert.ReferenceIdeal.Value.val_v27 m' c (hr c)),
      (h c Cert.ReferenceIdeal.main_arg0).trans (Cert.ReferenceIdeal.Value.fin_arg0 m' c),
      (h c Cert.ReferenceIdeal.main_arg1).trans (Cert.ReferenceIdeal.Value.fin_arg1 m' c),
      (h c Cert.ReferenceIdeal.main_arg2).trans (Cert.ReferenceIdeal.Value.fin_arg2 m' c),
      (h c Cert.ReferenceIdeal.main_arg3).trans (Cert.ReferenceIdeal.Value.fin_arg3 m' c),
      (h c Cert.ReferenceIdeal.main_arg4).trans (Cert.ReferenceIdeal.Value.fin_arg4 m' c),
      (h c Cert.ReferenceIdeal.main_arg5).trans (Cert.ReferenceIdeal.Value.fin_arg5 m' c),
      (h c Cert.ReferenceIdeal.main_arg6).trans (Cert.ReferenceIdeal.Value.fin_arg6 m' c),
      (h c Cert.ReferenceIdeal.main_arg7).trans (Cert.ReferenceIdeal.Value.fin_arg7 m' c)⟩

end Cert.Block

end
-- ==== Proof.Wide.lean ====
/- The normalization and the products of the input projection's backward pass over the extended reals, and the identity that
   relates the kernel's spelling of the normalization's derivative to the reference's at every argument, finite or not.
   Nothing here mentions a program. -/
module

public import proofs.«01_k».proof.Proof.Spec

@[expose] public section

noncomputable section

namespace Cert.Wide

open Idealize.ShloMosaic
open Cert.Block (eps eps_pos rsqrt_pos div_real)

/-- A matrix of extended reals as an array. -/
def emb {a b : Nat} (f : Fin a → Fin b → EReal) : (⟨2, ![a, b]⟩ : Shape).Idx → EReal := fun i => f (i 0) (i 1)

theorem emb_ix2 {a b : Nat} (f : Fin a → Fin b → EReal) (i : Fin a) (j : Fin b) : emb f (ix2 i j) = f i j := rfl

/-- An array's matrix. -/
def mat {a b : Nat} (t : (⟨2, ![a, b]⟩ : Shape).Idx → EReal) (i : Fin a) (j : Fin b) : EReal := t (ix2 i j)

theorem emb_mat {a b : Nat} (t : (⟨2, ![a, b]⟩ : Shape).Idx → EReal) : t = emb (mat t) := by
  funext i
  exact congrArg t (funext fun d => by fin_cases d <;> rfl)

/-- An array at an index, by the index's two coordinates. -/
theorem emb_congr {a b : Nat} (f : Fin a → Fin b → EReal) (i : (⟨2, ![a, b]⟩ : Shape).Idx) (p : Fin a) (q : Fin b)
    (h0 : i 0 = p) (h1 : i 1 = q) : emb f i = f p q := by subst h0 h1; rfl

/-! ## The arrays -/

/-- The product of two matrices. -/
def mm {m k n : Nat} (a : Fin m → Fin k → EReal) (b : Fin k → Fin n → EReal) (i : Fin m) (j : Fin n) : EReal := ∑ l, a i l * b l j

/-- The product with the second matrix transposed. -/
def mmT {m k n : Nat} (a : Fin m → Fin k → EReal) (b : Fin n → Fin k → EReal) (i : Fin m) (j : Fin n) : EReal := ∑ l, a i l * b j l

/-- The product with the first matrix transposed. -/
def tmm {m k n : Nat} (a : Fin k → Fin m → EReal) (b : Fin k → Fin n → EReal) (i : Fin m) (j : Fin n) : EReal := ∑ l, a l i * b l j

/-- The transposed matrix. -/
def tr {m n : Nat} (a : Fin m → Fin n → EReal) (i : Fin n) (j : Fin m) : EReal := a j i

/-- The sum of two matrices. -/
def plus {m n : Nat} (a b : Fin m → Fin n → EReal) (i : Fin m) (j : Fin n) : EReal := a i j + b i j

/-- The `m` rows from row `r` on. -/
def rows {M N m : Nat} (f : Fin M → Fin N → EReal) (r : Nat) (h : r + m ≤ M) (i : Fin m) (j : Fin N) : EReal := f ⟨r + i.val, by omega⟩ j

/-- The `n` columns from column `c` on. -/
def cols {M N n : Nat} (f : Fin M → Fin N → EReal) (c : Nat) (h : c + n ≤ N) (i : Fin M) (j : Fin n) : EReal := f i ⟨c + j.val, by omega⟩

theorem tmm_right {A B C n : Nat} (a : Fin B → Fin A → EReal) (b : Fin B → Fin C → EReal) (c : Nat) (h : c + n ≤ C) :
    tmm a (cols b c h) = cols (tmm a b) c h := rfl

/-- The mean square of a row, with the small number added. -/
def ms {m : Nat} (x : Fin m → Fin 1024 → EReal) (i : Fin m) : EReal :=
  Ideal.div (∑ j, x i j * x i j) ((1024 : ℝ) : EReal) + ((eps : ℝ) : EReal)

/-- The reciprocal root mean square of a row. -/
def rs {m : Nat} (x : Fin m → Fin 1024 → EReal) (i : Fin m) : EReal := Ideal.rsqrt (ms x i)

/-- The normalized rows. -/
def xhat {m : Nat} (x : Fin m → Fin 1024 → EReal) (i : Fin m) (j : Fin 1024) : EReal := x i j * rs x i

/-- The normalized rows with their weights. -/
def nrm {m : Nat} (x : Fin m → Fin 1024 → EReal) (w : Fin 1 → Fin 1024 → EReal) (i : Fin m) (j : Fin 1024) : EReal := xhat x i j * w 0 j

/-- The mean of a row's weighted cotangent against its normalized entries. -/
def cbar {m : Nat} (d x : Fin m → Fin 1024 → EReal) (w : Fin 1 → Fin 1024 → EReal) (i : Fin m) : EReal :=
  Ideal.div (∑ j, d i j * w 0 j * xhat x i j) ((1024 : ℝ) : EReal)

/-- The cotangent of the normalized rows' argument, with the residual's own. -/
def dnorm {m : Nat} (g d x : Fin m → Fin 1024 → EReal) (w : Fin 1 → Fin 1024 → EReal) (i : Fin m) (j : Fin 1024) : EReal :=
  g i j + rs x i * (d i j * w 0 j - xhat x i j * cbar d x w i)

/-- The cotangent of the normalization's weights. -/
def dweight {m : Nat} (d x : Fin m → Fin 1024 → EReal) (_ : Fin 1) (j : Fin 1024) : EReal := ∑ i, d i j * xhat x i j

/-! ## Rows over all natural numbers -/

/-- A matrix's rows over all natural numbers, zero beyond the last. -/
def ext (p : Fin 2176 → Fin 1024 → EReal) (r : Nat) (j : Fin 1024) : EReal := if h : r < 2176 then p ⟨r, h⟩ j else 0

theorem ext_rows (p : Fin 2176 → Fin 1024 → EReal) (n : Nat) (hn : 272 * n + 272 ≤ 2176) (j : Fin 1024) :
    ∑ l : Fin 272, rows p (272 * n) hn l j = ∑ l ∈ Finset.range 272, ext p (272 * n + l) j := by
  rw [Finset.sum_range]
  refine Finset.sum_congr rfl fun l _ => ?_
  unfold ext rows
  rw [dif_pos (by omega)]

theorem ext_all (p : Fin 2176 → Fin 1024 → EReal) (j : Fin 1024) : ∑ r ∈ Finset.range 2176, ext p r j = ∑ r : Fin 2176, p r j := by
  rw [Finset.sum_range]
  refine Finset.sum_congr rfl fun r _ => ?_
  unfold ext
  rw [dif_pos r.isLt]

/-! ## The normalization's derivative -/

theorem self_mul_nonneg (x : EReal) : 0 ≤ x * x := by
  induction x with
  | bot => simp
  | top => simp
  | coe r => rw [← EReal.coe_mul]; exact_mod_cast mul_self_nonneg r

/-- A row holds real numbers, or its sum of squares is infinite. -/
theorem row_cases {n : Nat} (x : Fin n → EReal) : (∃ r : Fin n → ℝ, x = fun j => ((r j : ℝ) : EReal)) ∨ ∑ j, x j * x j = ⊤ := by
  by_cases h : ∀ j, x j ≠ ⊤ ∧ x j ≠ ⊥
  · exact .inl ⟨fun j => (x j).toReal, funext fun j => (EReal.coe_toReal (h j).1 (h j).2).symm⟩
  · refine .inr ?_
    push Not at h
    obtain ⟨j, hj⟩ := h
    have e : x j * x j = ⊤ := by
      by_cases ht : x j = ⊤
      · simp [ht]
      · simp [hj ht]
    have le := Finset.single_le_sum (f := fun j => x j * x j) (fun i _ => self_mul_nonneg (x i)) (Finset.mem_univ j)
    rw [e] at le
    exact top_le_iff.mp le

/-- A real factor that is not negative passes into a sum of extended reals. -/
theorem scale_sum {ι : Type} (s : Finset ι) (f : ι → EReal) {r : ℝ} (hr : 0 ≤ r) :
    ((r : ℝ) : EReal) * ∑ i ∈ s, f i = ∑ i ∈ s, ((r : ℝ) : EReal) * f i := by
  classical
  induction s using Finset.induction_on with
  | empty => simp
  | insert a s ha ih =>
    rw [Finset.sum_insert ha, Finset.sum_insert ha, ← ih,
      EReal.left_distrib_of_nonneg_of_ne_top (EReal.coe_nonneg.mpr hr) (EReal.coe_ne_top r)]

/-- Twice a real multiple of an extended real. -/
theorem twice (t : EReal) (a : ℝ) : t * ((a : ℝ) : EReal) + t * ((a : ℝ) : EReal) = t * ((2 * a : ℝ) : EReal) := by
  rcases lt_trichotomy a 0 with h | h | h
  · have h2 : 2 * a < 0 := by linarith
    induction t with
    | bot => rw [EReal.bot_mul_coe_of_neg h, EReal.bot_mul_coe_of_neg h2]; rfl
    | top => rw [EReal.top_mul_coe_of_neg h, EReal.top_mul_coe_of_neg h2]; rfl
    | coe r => rw [← EReal.coe_mul, ← EReal.coe_mul, ← EReal.coe_add]; congr 1; ring
  · subst h; simp
  · have h2 : 0 < 2 * a := by linarith
    induction t with
    | bot => rw [EReal.bot_mul_coe_of_pos h, EReal.bot_mul_coe_of_pos h2]; rfl
    | top => rw [EReal.top_mul_coe_of_pos h, EReal.top_mul_coe_of_pos h2]; rfl
    | coe r => rw [← EReal.coe_mul, ← EReal.coe_mul, ← EReal.coe_add]; congr 1; ring

/-- One entry of the derivative in a row of real numbers: `r` the entry, `ρ` the reciprocal root of `σ`, `y` the weighted
    cotangent and `t` its sum against the row, which may be infinite. -/
theorem entry_rule (g y t : EReal) (r ρ σ : ℝ) (hρ : 0 < ρ) (hσ : σ ≠ 0) (h : ρ / σ = ρ * (ρ * ρ)) :
    g + y * (ρ : EReal) + (r : EReal) * Ideal.div (t * (((-(1 / 2) : ℝ) : EReal) * Ideal.div (ρ : EReal) (σ : EReal))) ((1024 : ℝ) : EReal)
        + Ideal.div (t * (((-(1 / 2) : ℝ) : EReal) * Ideal.div (ρ : EReal) (σ : EReal))) ((1024 : ℝ) : EReal) * (r : EReal)
      = g + (ρ : EReal) * (y - (r : EReal) * (ρ : EReal) * Ideal.div ((ρ : EReal) * t) ((1024 : ℝ) : EReal)) := by
  have e : Ideal.div (t * (((-(1 / 2) : ℝ) : EReal) * Ideal.div (ρ : EReal) (σ : EReal))) ((1024 : ℝ) : EReal) * (r : EReal)
      = t * ((-(1 / 2) * (ρ / σ) / 1024 * r : ℝ) : EReal) := by
    rw [div_real _ hσ, Ideal.div_coe (by norm_num : (1024 : ℝ) ≠ 0), ← EReal.coe_mul, mul_assoc, mul_assoc, ← EReal.coe_mul, ← EReal.coe_mul]
    congr 2
    ring
  have e' : (r : EReal) * (ρ : EReal) * Ideal.div ((ρ : EReal) * t) ((1024 : ℝ) : EReal) = t * ((r * ρ * ρ / 1024 : ℝ) : EReal) := by
    rw [Ideal.div_coe (by norm_num : (1024 : ℝ) ≠ 0), mul_comm (ρ : EReal) t, mul_assoc t, ← EReal.coe_mul, ← EReal.coe_mul, mul_left_comm,
      ← EReal.coe_mul]
    congr 2
    ring
  rw [mul_comm (r : EReal), e, e', add_assoc (g + _), twice, sub_eq_add_neg,
    EReal.left_distrib_of_nonneg_of_ne_top (EReal.coe_nonneg.mpr hρ.le) (EReal.coe_ne_top ρ), mul_comm y, add_assoc, ← mul_neg, ← EReal.coe_neg,
    mul_left_comm (ρ : EReal) t, ← EReal.coe_mul]
  congr 4
  rw [h]
  ring

/-- The normalization's derivative as the reference takes it, through the mean square and the reciprocal root, is the
    kernel's formula: in a row of real numbers by the distributive law for a positive real factor, and in any other row
    because the reciprocal root is zero. -/
theorem norm_rule {m : Nat} (g d x : Fin m → Fin 1024 → EReal) (w : Fin 1 → Fin 1024 → EReal) (i : Fin m) (j : Fin 1024) (t : EReal)
    (ht : t = Ideal.div ((∑ l, x i l * (d i l * w 0 l)) * (((-(1 / 2) : ℝ) : EReal) * Ideal.div (rs x i) (ms x i))) ((1024 : ℝ) : EReal)) :
    g i j + d i j * w 0 j * rs x i + x i j * t + t * x i j = dnorm g d x w i j := by
  unfold dnorm cbar
  rcases row_cases (x i) with ⟨r, hr⟩ | htop
  · have q : (0 : ℝ) < (∑ l, r l * r l) / 1024 + eps := by
      have : 0 ≤ ∑ l, r l * r l := Finset.sum_nonneg fun l _ => mul_self_nonneg _
      have := eps_pos
      positivity
    have hms : ms x i = (((∑ l, r l * r l) / 1024 + eps : ℝ) : EReal) := by
      unfold ms
      rw [hr]
      simp only [← EReal.coe_mul, Cert.Block.coe_sum]
      rw [div_real _ (by norm_num : (1024 : ℝ) ≠ 0), ← EReal.coe_add]
    have hrs : rs x i = (((Real.sqrt ((∑ l, r l * r l) / 1024 + eps))⁻¹ : ℝ) : EReal) := by
      unfold rs
      rw [hms, rsqrt_pos q]
    generalize (∑ l, r l * r l) / 1024 + eps = σ at q hms hrs
    have hs : Real.sqrt σ * Real.sqrt σ = σ := Real.mul_self_sqrt q.le
    have h0 : 0 < (Real.sqrt σ)⁻¹ := inv_pos.mpr (Real.sqrt_pos.mpr q)
    have h3 : (Real.sqrt σ)⁻¹ / σ = (Real.sqrt σ)⁻¹ * ((Real.sqrt σ)⁻¹ * (Real.sqrt σ)⁻¹) := by
      rw [← mul_inv, hs, div_eq_mul_inv]
    have hsum : ∑ l, d i l * w 0 l * xhat x i l = rs x i * ∑ l, x i l * (d i l * w 0 l) := by
      rw [hrs, scale_sum _ _ h0.le]
      refine Finset.sum_congr rfl fun l _ => ?_
      unfold xhat
      rw [hrs, ← mul_assoc, mul_comm, mul_comm (d i l * w 0 l)]
    rw [ht, hsum]
    unfold xhat
    rw [hrs, hms, show x i j = ((r j : ℝ) : EReal) from congrFun hr j]
    exact entry_rule _ _ _ _ _ _ h0 q.ne' h3
  · have hms : ms x i = ⊤ := by
      unfold ms
      rw [htop, Ideal.div_coe (by norm_num : (1024 : ℝ) ≠ 0), EReal.top_mul_coe_of_pos (by norm_num)]
      rfl
    have hrs : rs x i = 0 := by
      unfold rs
      rw [hms, Ideal.rsqrt_top]
    have h0 : t = 0 := by
      rw [ht, hrs, hms, Ideal.div_coe (by norm_num : (1024 : ℝ) ≠ 0)]
      simp [Ideal.div]
    rw [h0, hrs]
    simp

end Cert.Wide

end
-- ==== Proof.Payload2.lean ====
/- What one grid point of the input projection's backward calls computes, over matrices of extended reals: a block of a weight gradient,
   the six products' sum, and the normalization's cotangents. -/
module

public import proofs.«01_k».proof.Proof.Wide
public import proofs.«01_k».proof.Proof.Gen.Kernel2Ideal.Skeleton
public import Idealize.ShloMosaic.Lib.Pointwise

@[expose] public section

set_option maxRecDepth 16384

noncomputable section

namespace Cert.Kernel2Ideal.Value

open Idealize.ShloMosaic Cert.Kernel2Ideal Cert.Kernel2Ideal.Gen Cert.Wide

theorem pay0 (a : Fin 2176 → Fin 1024 → EReal) (b : Fin 2176 → Fin 512 → EReal) :
    k0_pay1 (F := Ideal) (emb a) (emb b) = emb (tmm a b) := by
  funext t
  idx_vars t
  pointwise [k0_pay1]
  simp only [emb_ix2]
  rfl

theorem pay1 (a : Fin 2176 → Fin 1024 → EReal) (b : Fin 2176 → Fin 512 → EReal) :
    k1_pay1 (F := Ideal) (emb a) (emb b) = emb (tmm a b) := by
  funext t
  idx_vars t
  pointwise [k1_pay1]
  simp only [emb_ix2]
  rfl

theorem pay2 (a : Fin 2176 → Fin 512 → EReal) (b : Fin 2176 → Fin 512 → EReal) :
    k2_pay1 (F := Ideal) (emb a) (emb b) = emb (tmm a b) := by
  funext t
  idx_vars t
  pointwise [k2_pay1]
  simp only [emb_ix2]
  rfl

theorem pay3 (a : Fin 2176 → Fin 128 → EReal) (b : Fin 2176 → Fin 512 → EReal) :
    k3_pay1 (F := Ideal) (emb a) (emb b) = emb (tmm a b) := by
  funext t
  idx_vars t
  pointwise [k3_pay1]
  simp only [emb_ix2]
  rfl

theorem pay4 (a : Fin 2176 → Fin 1024 → EReal) (b : Fin 2176 → Fin 512 → EReal) :
    k4_pay1 (F := Ideal) (emb a) (emb b) = emb (tmm a b) := by
  funext t
  idx_vars t
  pointwise [k4_pay1]
  simp only [emb_ix2]
  rfl

theorem pay5 (a : Fin 2176 → Fin 1024 → EReal) (b : Fin 2176 → Fin 512 → EReal) :
    k5_pay1 (F := Ideal) (emb a) (emb b) = emb (tmm a b) := by
  funext t
  idx_vars t
  pointwise [k5_pay1]
  simp only [emb_ix2]
  rfl

/-- The sum of the six sections' products. -/
def six {m : Nat} (a0 : Fin m → Fin 1024 → EReal) (b0 : Fin 1024 → Fin 1024 → EReal) (a1 : Fin m → Fin 1024 → EReal) (b1 : Fin 1024 → Fin 1024 → EReal)
    (a2 : Fin m → Fin 512 → EReal) (b2 : Fin 512 → Fin 1024 → EReal) (a3 : Fin m → Fin 128 → EReal) (b3 : Fin 128 → Fin 1024 → EReal)
    (a4 : Fin m → Fin 1024 → EReal) (b4 : Fin 1024 → Fin 1024 → EReal) (a5 : Fin m → Fin 1024 → EReal) (b5 : Fin 1024 → Fin 1024 → EReal) :
    Fin m → Fin 1024 → EReal :=
  plus (plus (plus (plus (plus (mm a0 b0) (mm a1 b1)) (mm a2 b2)) (mm a3 b3)) (mm a4 b4)) (mm a5 b5)

theorem pay6d (a0 : Fin 272 → Fin 1024 → EReal) (b0 : Fin 1024 → Fin 1024 → EReal) (a1 : Fin 272 → Fin 1024 → EReal) (b1 : Fin 1024 → Fin 1024 → EReal)
    (a2 : Fin 272 → Fin 512 → EReal) (b2 : Fin 512 → Fin 1024 → EReal) (a3 : Fin 272 → Fin 128 → EReal) (b3 : Fin 128 → Fin 1024 → EReal)
    (a4 : Fin 272 → Fin 1024 → EReal) (b4 : Fin 1024 → Fin 1024 → EReal) (a5 : Fin 272 → Fin 1024 → EReal) (b5 : Fin 1024 → Fin 1024 → EReal) :
    k6_pay4 (F := Ideal) (k6_pay3 (emb a0) (emb b0) (emb a1) (emb b1) (emb a2) (emb b2) (emb a3) (emb b3) (emb a4) (emb b4)) (emb a5) (emb b5)
      = emb (six a0 b0 a1 b1 a2 b2 a3 b3 a4 b4 a5 b5) := by
  funext t
  idx_vars t
  pointwise [k6_pay4, k6_pay3]
  simp only [emb_ix2]
  rfl

theorem pay6x (x : Fin 272 → Fin 1024 → EReal) :
    k6_pay6 (F := Ideal) (emb x) = emb (xhat x) := by
  funext t
  idx_vars t
  pointwise [k6_pay6, k6_pay5]
  simp only [emb_ix2, Cert.Block.lit_1024, Cert.Block.lit_eps]
  rfl

theorem pay6r (x : Fin 272 → Fin 1024 → EReal) :
    k6_pay5 (F := Ideal) (emb x) = emb (fun i (_ : Fin 1) => rs x i) := by
  funext t
  idx_vars t
  pointwise [k6_pay5]
  simp only [emb_ix2, Cert.Block.lit_1024, Cert.Block.lit_eps]
  rfl

/-- The argument's cotangent, over what the six products sum to. -/
theorem pay6o (u : FVec Ideal S272x1024 .f32) (v : Vec Ideal S272x1024 .bf16) (w : Vec Ideal S1024x1024 .bf16)
    (d x g : Fin 272 → Fin 1024 → EReal) (n : Fin 1 → Fin 1024 → EReal) (h : k6_pay4 (F := Ideal) u v w = emb d) :
    k6_pay7 (F := Ideal) u v w (emb x) (emb n) (emb g) = emb (dnorm g d x n) := by
  unfold k6_pay7
  rw [h, pay6x, pay6r]
  funext t
  idx_vars t
  pointwise []
  simp only [emb_ix2, Cert.Block.lit_1024, Cert.Block.lit_eps]
  rfl

/-- The rows' contribution to the weights' cotangent, over what was there. -/
theorem pay6w (u : FVec Ideal S272x1024 .f32) (v : Vec Ideal S272x1024 .bf16) (w : Vec Ideal S1024x1024 .bf16)
    (d x : Fin 272 → Fin 1024 → EReal) (s : Fin 1 → Fin 1024 → EReal) (h : k6_pay4 (F := Ideal) u v w = emb d) :
    k6_pay1 (F := Ideal) (k6_pay9 (emb s)) (k6_pay10 u v w (emb x)) = emb (fun i j => s i j + ∑ l, d l j * xhat x l j) := by
  unfold k6_pay10
  rw [h, pay6x]
  funext t
  idx_vars t
  pointwise [k6_pay1, k6_pay9]
  simp only [emb_ix2]

theorem pay6z : k6_pay2 (F := Ideal) = emb (fun _ _ => 0) := by
  funext t
  idx_vars t
  pointwise [k6_pay2]
  rfl

end Cert.Kernel2Ideal.Value

end
-- ==== Proof.Values2.lean ====
/- The backward pass of the input projection over the extended reals: the cotangent of the projection's result as one
   matrix, its six sections side by side, and what the pass computes from it. The kernels work section by section, on
   the sections' columns of the weights; a sum over all the columns is the sum of the sections' sums. -/
module

public import proofs.«01_k».proof.Proof.Payload2
public import Idealize.ShloMosaic.Lib.Pointwise
public import Idealize.ShloMosaic.Lib.KernelVsHost

@[expose] public section

noncomputable section

namespace Cert.Wide

open Idealize.ShloMosaic
open Cert.Kernel2Ideal.Value (six)

/-- The arguments: the block's input, the normalization's weights, the projection's weights, the cotangents of the
    projection's six sections — the fourth of 16 columns, stored with 112 further ones that are not read — and the
    cotangent `g` of the block's input through the residual. -/
structure Inputs2 where
  x : Fin 2176 → Fin 1024 → EReal
  w : Fin 1 → Fin 1024 → EReal
  win : Fin 1024 → Fin 4624 → EReal
  dz : Fin 2176 → Fin 1024 → EReal
  dxs : Fin 2176 → Fin 1024 → EReal
  dbc : Fin 2176 → Fin 512 → EReal
  ddt : Fin 2176 → Fin 128 → EReal
  dg : Fin 2176 → Fin 1024 → EReal
  dx : Fin 2176 → Fin 1024 → EReal
  g : Fin 2176 → Fin 1024 → EReal

namespace Inputs2

variable (a : Inputs2)

/-- The cotangent of the projection's result. -/
def d (i : Fin 2176) (j : Fin 4624) : EReal :=
  if h0 : j.val < 1024 then a.dz i ⟨j.val, h0⟩
  else if h1 : j.val < 2048 then a.dxs i ⟨j.val - 1024, by omega⟩
  else if h2 : j.val < 2560 then a.dbc i ⟨j.val - 2048, by omega⟩
  else if h3 : j.val < 2576 then a.ddt i ⟨j.val - 2560, by omega⟩
  else if h4 : j.val < 3600 then a.dg i ⟨j.val - 2576, by omega⟩
  else a.dx i ⟨j.val - 3600, by omega⟩

/-- The normalized rows. -/
def u : Fin 2176 → Fin 1024 → EReal := nrm a.x a.w
/-- The cotangent of the projection's weights. -/
def dw : Fin 1024 → Fin 4624 → EReal := tr (tmm a.d a.u)
/-- The cotangent of the normalized rows. -/
def du : Fin 2176 → Fin 1024 → EReal := mmT a.d a.win
/-- The cotangent of the block's input. -/
def dx0 : Fin 2176 → Fin 1024 → EReal := dnorm a.g a.du a.x a.w
/-- The cotangent of the normalization's weights. -/
def dwn : Fin 1 → Fin 1024 → EReal := dweight a.du a.x

theorem d_dz : cols (n := 1024) a.d 0 (by decide) = a.dz := by
  funext i j
  have hj := j.isLt
  show a.d i _ = a.dz i j
  unfold d
  rw [dif_pos (by dsimp only; omega)]
  exact congrArg (a.dz i) (Fin.ext (by dsimp only; omega))

theorem d_dxs : cols (n := 1024) a.d 1024 (by decide) = a.dxs := by
  funext i j
  have hj := j.isLt
  show a.d i _ = a.dxs i j
  unfold d
  rw [dif_neg (by dsimp only; omega)]
  rw [dif_pos (by dsimp only; omega)]
  exact congrArg (a.dxs i) (Fin.ext (by dsimp only; omega))

theorem d_dbc : cols (n := 512) a.d 2048 (by decide) = a.dbc := by
  funext i j
  have hj := j.isLt
  show a.d i _ = a.dbc i j
  unfold d
  rw [dif_neg (by dsimp only; omega)]
  rw [dif_neg (by dsimp only; omega)]
  rw [dif_pos (by dsimp only; omega)]
  exact congrArg (a.dbc i) (Fin.ext (by dsimp only; omega))

theorem d_ddt : cols (n := 16) a.d 2560 (by decide) = cols a.ddt 0 (by decide) := by
  funext i j
  have hj := j.isLt
  show a.d i _ = a.ddt i _
  unfold d
  rw [dif_neg (by dsimp only; omega)]
  rw [dif_neg (by dsimp only; omega)]
  rw [dif_neg (by dsimp only; omega)]
  rw [dif_pos (by dsimp only; omega)]
  exact congrArg (a.ddt i) (Fin.ext (by dsimp only; omega))

theorem d_dg : cols (n := 1024) a.d 2576 (by decide) = a.dg := by
  funext i j
  have hj := j.isLt
  show a.d i _ = a.dg i j
  unfold d
  rw [dif_neg (by dsimp only; omega)]
  rw [dif_neg (by dsimp only; omega)]
  rw [dif_neg (by dsimp only; omega)]
  rw [dif_neg (by dsimp only; omega)]
  rw [dif_pos (by dsimp only; omega)]
  exact congrArg (a.dg i) (Fin.ext (by dsimp only; omega))

theorem d_dx : cols (n := 1024) a.d 3600 (by decide) = a.dx := by
  funext i j
  have hj := j.isLt
  show a.d i _ = a.dx i j
  unfold d
  rw [dif_neg (by dsimp only; omega)]
  rw [dif_neg (by dsimp only; omega)]
  rw [dif_neg (by dsimp only; omega)]
  rw [dif_neg (by dsimp only; omega)]
  rw [dif_neg (by dsimp only; omega)]
  exact congrArg (a.dx i) (Fin.ext (by dsimp only; omega))

/-- The sections of the weights' cotangent. -/
theorem dw_dz : tr (tmm a.dz a.u) = cols a.dw 0 (by decide) := by rw [← a.d_dz]; rfl
theorem dw_dxs : tr (tmm a.dxs a.u) = cols a.dw 1024 (by decide) := by rw [← a.d_dxs]; rfl
theorem dw_dbc : tr (tmm a.dbc a.u) = cols a.dw 2048 (by decide) := by rw [← a.d_dbc]; rfl
theorem dw_dg : tr (tmm a.dg a.u) = cols a.dw 2576 (by decide) := by rw [← a.d_dg]; rfl
theorem dw_dx : tr (tmm a.dx a.u) = cols a.dw 3600 (by decide) := by rw [← a.d_dx]; rfl
theorem dw_ddt : tr (rows (m := 16) (tmm a.ddt a.u) 0 (by decide)) = cols a.dw 2560 (by decide) := by
  refine Eq.trans (b := tr (tmm (cols a.ddt 0 (by decide)) a.u)) rfl ?_
  rw [← a.d_ddt]
  rfl

end Inputs2

/-! ## Sums section by section -/

/-- A finite family over all natural numbers, zero beyond its last. -/
def along {N : Nat} (f : Fin N → EReal) (l : Nat) : EReal := if h : l < N then f ⟨l, h⟩ else 0

theorem sum_along {N : Nat} (f : Fin N → EReal) : ∑ l, f l = ∑ l ∈ Finset.range N, along f l := by
  rw [Finset.sum_range]
  refine Finset.sum_congr rfl fun l _ => ?_
  unfold along
  rw [dif_pos l.isLt]

theorem sum_band {N n : Nat} (f : Fin N → EReal) (c : Nat) (h : c + n ≤ N) :
    ∑ l : Fin n, f ⟨c + l.val, by omega⟩ = ∑ l ∈ Finset.range n, along f (c + l) := by
  rw [Finset.sum_range]
  refine Finset.sum_congr rfl fun l _ => ?_
  unfold along
  rw [dif_pos (by omega)]

theorem sum_six (F : Nat → EReal) (a b c d e f : Nat) :
    ∑ l ∈ Finset.range (a + b + c + d + e + f), F l
      = ∑ l ∈ Finset.range a, F (0 + l) + ∑ l ∈ Finset.range b, F (a + l) + ∑ l ∈ Finset.range c, F (a + b + l)
        + ∑ l ∈ Finset.range d, F (a + b + c + l) + ∑ l ∈ Finset.range e, F (a + b + c + d + l)
        + ∑ l ∈ Finset.range f, F (a + b + c + d + e + l) := by
  simp only [Finset.sum_range_add, zero_add]

/-- The weights' 16 columns of the fourth section as rows, and 112 rows of zeros. -/
def padded (w : Fin 1024 → Fin 4624 → EReal) (l : Fin 128) (j : Fin 1024) : EReal :=
  if h : l.val < 16 then w j ⟨2560 + l.val, by omega⟩ else 0

/-- The rows of zeros meet the columns that are not read. -/
theorem mm_padded (t : Fin 2176 → Fin 128 → EReal) (w : Fin 1024 → Fin 4624 → EReal) :
    mm t (padded w) = mm (cols t 0 (by decide)) (tr (cols (n := 16) w 2560 (by decide))) := by
  funext i j
  refine (Fin.sum_univ_add (a := 16) (b := 112) fun l : Fin (16 + 112) => t i l * padded w l j).trans ?_
  rw [Finset.sum_eq_zero (s := (Finset.univ : Finset (Fin 112))) fun l _ => ?_, add_zero]
  · refine Finset.sum_congr rfl fun l _ => ?_
    have e : padded w (Fin.castAdd 112 l) j = w j ⟨2560 + l.val, by omega⟩ := dif_pos l.isLt
    rw [e]
    exact congrArg (· * _) (congrArg (t i) (Fin.ext (zero_add _).symm))
  · have e : padded w (Fin.natAdd 16 l) j = 0 := dif_neg (by show ¬ 16 + l.val < 16; omega)
    rw [e, mul_zero]

/-- The six sections' products sum to the product over all the columns. -/
theorem six_eq (a : Inputs2) :
    six a.dz (tr (cols a.win 0 (by decide))) a.dxs (tr (cols a.win 1024 (by decide))) a.dbc (tr (cols a.win 2048 (by decide)))
      a.ddt (padded a.win) a.dg (tr (cols a.win 2576 (by decide))) a.dx (tr (cols a.win 3600 (by decide))) = a.du := by
  unfold six
  rw [mm_padded, ← a.d_dz, ← a.d_dxs, ← a.d_dbc, ← a.d_ddt, ← a.d_dg, ← a.d_dx]
  funext i j
  have e := (sum_along fun l => a.d i l * a.win j l).trans (sum_six (along fun l => a.d i l * a.win j l) 1024 1024 512 16 1024 1024)
  refine Eq.trans ?_ e.symm
  have b := fun {n : Nat} (c : Nat) (h : c + n ≤ 4624) => sum_band (fun l => a.d i l * a.win j l) c h
  exact congrArg₂ (· + ·) (congrArg₂ (· + ·) (congrArg₂ (· + ·) (congrArg₂ (· + ·) (congrArg₂ (· + ·)
    (b 0 (by decide)) (b 1024 (by decide))) (b 2048 (by decide))) (b 2560 (by decide))) (b 2576 (by decide))) (b 3600 (by decide))

/-! ## Layout -/

/-- A concatenation along the columns, read where one piece lies, is the matrix whose columns the piece holds. -/
theorem concat_cols {A N n : Nat} (D : Fin A → Fin N → EReal) (c : Nat) (hc : c + n ≤ N)
    (xs : List ((s : Shape) × (s.Idx → EReal))) (h : Shape.Concatenates (xs.map (·.1)) ⟨2, ![A, N]⟩ 1)
    (k : Nat) (hk : k < xs.length) (hx : xs[k] = ⟨⟨2, ![A, n]⟩, emb (cols D c hc)⟩)
    (hp : (((xs.take k).map (·.1)).map fun s : Shape => if e : s.rank = 2 then s.size ((1 : Fin 2).cast e.symm) else 0).sum = c)
    (t : (⟨2, ![A, N]⟩ : Shape).Idx) (h1 : c ≤ (t 1).val) (h2 : (t 1).val < c + n) :
    concatenate ⟨2, ![A, N]⟩ 1 xs h t = emb D t := by
  refine (concatenate_apply_piece (t := ⟨2, ![A, N]⟩) 1 xs h t k hk _ _ hx rfl c hp (ix2 (t 0) ⟨(t 1).val - c, by omega⟩)
    (fun b hb => ?_) ?_).trans ?_
  · match b with
    | ⟨0, _⟩ => rfl
    | ⟨1, _⟩ => exact absurd rfl hb
  · show c + ((t 1).val - c) = (t 1).val
    omega
  · show D (t 0) ⟨c + ((t 1).val - c), by omega⟩ = D (t 0) (t 1)
    refine congrArg (fun q => D (t 0) q) (Fin.ext ?_)
    show c + ((t 1).val - c) = (t 1).val
    omega

/-- The six sections of the weights' cotangent, side by side. -/
theorem join_six (D : Fin 1024 → Fin 4624 → EReal)
    (x0 : (⟨2, ![1024, 1024]⟩ : Shape).Idx → EReal)
    (x1 : (⟨2, ![1024, 1024]⟩ : Shape).Idx → EReal)
    (x2 : (⟨2, ![1024, 512]⟩ : Shape).Idx → EReal)
    (x3 : (⟨2, ![1024, 16]⟩ : Shape).Idx → EReal)
    (x4 : (⟨2, ![1024, 1024]⟩ : Shape).Idx → EReal)
    (x5 : (⟨2, ![1024, 1024]⟩ : Shape).Idx → EReal)
    (h : Shape.Concatenates [(⟨2, ![1024, 1024]⟩ : Shape), (⟨2, ![1024, 1024]⟩ : Shape), (⟨2, ![1024, 512]⟩ : Shape), (⟨2, ![1024, 16]⟩ : Shape), (⟨2, ![1024, 1024]⟩ : Shape), (⟨2, ![1024, 1024]⟩ : Shape)] ⟨2, ![1024, 4624]⟩ 1)
    (h0 : x0 = emb (cols D 0 (by decide)))
    (h1 : x1 = emb (cols D 1024 (by decide)))
    (h2 : x2 = emb (cols D 2048 (by decide)))
    (h3 : x3 = emb (cols D 2560 (by decide)))
    (h4 : x4 = emb (cols D 2576 (by decide)))
    (h5 : x5 = emb (cols D 3600 (by decide))) :
    concatenate ⟨2, ![1024, 4624]⟩ 1 [⟨⟨2, ![1024, 1024]⟩, x0⟩, ⟨⟨2, ![1024, 1024]⟩, x1⟩, ⟨⟨2, ![1024, 512]⟩, x2⟩, ⟨⟨2, ![1024, 16]⟩, x3⟩, ⟨⟨2, ![1024, 1024]⟩, x4⟩, ⟨⟨2, ![1024, 1024]⟩, x5⟩] h = emb D := by
  subst h0 h1 h2 h3 h4 h5
  funext t
  have ht : (t 1).val < 4624 := (t 1).isLt
  by_cases e0 : (t 1).val < 1024
  · refine concat_cols (n := 1024) D 0 (by decide) _ _ 0 ?_ ?_ ?_ t ?_ ?_ <;> first | rfl | omega | simp
  by_cases e1 : (t 1).val < 2048
  · refine concat_cols (n := 1024) D 1024 (by decide) _ _ 1 ?_ ?_ ?_ t ?_ ?_ <;> first | rfl | omega | simp
  by_cases e2 : (t 1).val < 2560
  · refine concat_cols (n := 512) D 2048 (by decide) _ _ 2 ?_ ?_ ?_ t ?_ ?_ <;> first | rfl | omega | simp
  by_cases e3 : (t 1).val < 2576
  · refine concat_cols (n := 16) D 2560 (by decide) _ _ 3 ?_ ?_ ?_ t ?_ ?_ <;> first | rfl | omega | simp
  by_cases e4 : (t 1).val < 3600
  · refine concat_cols (n := 1024) D 2576 (by decide) _ _ 4 ?_ ?_ ?_ t ?_ ?_ <;> first | rfl | omega | simp
  refine concat_cols (n := 1024) D 3600 (by decide) _ _ 5 ?_ ?_ ?_ t ?_ ?_ <;> first | rfl | omega | simp

/-- The sections of the cotangent of the projection, side by side, the second and third as one. -/
theorem join_five (D : Fin 2176 → Fin 4624 → EReal)
    (x0 : (⟨2, ![2176, 1024]⟩ : Shape).Idx → EReal)
    (x1 : (⟨2, ![2176, 1536]⟩ : Shape).Idx → EReal)
    (x2 : (⟨2, ![2176, 16]⟩ : Shape).Idx → EReal)
    (x3 : (⟨2, ![2176, 1024]⟩ : Shape).Idx → EReal)
    (x4 : (⟨2, ![2176, 1024]⟩ : Shape).Idx → EReal)
    (h : Shape.Concatenates [(⟨2, ![2176, 1024]⟩ : Shape), (⟨2, ![2176, 1536]⟩ : Shape), (⟨2, ![2176, 16]⟩ : Shape), (⟨2, ![2176, 1024]⟩ : Shape), (⟨2, ![2176, 1024]⟩ : Shape)] ⟨2, ![2176, 4624]⟩ 1)
    (h0 : x0 = emb (cols D 0 (by decide)))
    (h1 : x1 = emb (cols D 1024 (by decide)))
    (h2 : x2 = emb (cols D 2560 (by decide)))
    (h3 : x3 = emb (cols D 2576 (by decide)))
    (h4 : x4 = emb (cols D 3600 (by decide))) :
    concatenate ⟨2, ![2176, 4624]⟩ 1 [⟨⟨2, ![2176, 1024]⟩, x0⟩, ⟨⟨2, ![2176, 1536]⟩, x1⟩, ⟨⟨2, ![2176, 16]⟩, x2⟩, ⟨⟨2, ![2176, 1024]⟩, x3⟩, ⟨⟨2, ![2176, 1024]⟩, x4⟩] h = emb D := by
  subst h0 h1 h2 h3 h4
  funext t
  have ht : (t 1).val < 4624 := (t 1).isLt
  by_cases e0 : (t 1).val < 1024
  · refine concat_cols (n := 1024) D 0 (by decide) _ _ 0 ?_ ?_ ?_ t ?_ ?_ <;> first | rfl | omega | simp
  by_cases e1 : (t 1).val < 2560
  · refine concat_cols (n := 1536) D 1024 (by decide) _ _ 1 ?_ ?_ ?_ t ?_ ?_ <;> first | rfl | omega | simp
  by_cases e2 : (t 1).val < 2576
  · refine concat_cols (n := 16) D 2560 (by decide) _ _ 2 ?_ ?_ ?_ t ?_ ?_ <;> first | rfl | omega | simp
  by_cases e3 : (t 1).val < 3600
  · refine concat_cols (n := 1024) D 2576 (by decide) _ _ 3 ?_ ?_ ?_ t ?_ ?_ <;> first | rfl | omega | simp
  refine concat_cols (n := 1024) D 3600 (by decide) _ _ 4 ?_ ?_ ?_ t ?_ ?_ <;> first | rfl | omega | simp

/-- The second and the third section side by side. -/
theorem join_two (D : Fin 2176 → Fin 1536 → EReal)
    (x0 : (⟨2, ![2176, 1024]⟩ : Shape).Idx → EReal)
    (x1 : (⟨2, ![2176, 512]⟩ : Shape).Idx → EReal)
    (h : Shape.Concatenates [(⟨2, ![2176, 1024]⟩ : Shape), (⟨2, ![2176, 512]⟩ : Shape)] ⟨2, ![2176, 1536]⟩ 1)
    (h0 : x0 = emb (cols D 0 (by decide)))
    (h1 : x1 = emb (cols D 1024 (by decide))) :
    concatenate ⟨2, ![2176, 1536]⟩ 1 [⟨⟨2, ![2176, 1024]⟩, x0⟩, ⟨⟨2, ![2176, 512]⟩, x1⟩] h = emb D := by
  subst h0 h1
  funext t
  have ht : (t 1).val < 1536 := (t 1).isLt
  by_cases e0 : (t 1).val < 1024
  · refine concat_cols (n := 1024) D 0 (by decide) _ _ 0 ?_ ?_ ?_ t ?_ ?_ <;> first | rfl | omega | simp
  refine concat_cols (n := 512) D 1024 (by decide) _ _ 1 ?_ ?_ ?_ t ?_ ?_ <;> first | rfl | omega | simp

/-- The transposed array of an embedded matrix. -/
theorem tr_emb {m n : Nat} (f : Fin m → Fin n → EReal) (h : (⟨2, ![m, n]⟩ : Shape).Transposes [1, 0] ⟨2, ![n, m]⟩) :
    transpose ⟨2, ![n, m]⟩ [1, 0] (emb f) h = emb (tr f) := by
  funext t
  obtain ⟨i, j, rfl⟩ : ∃ i j, t = ix2 i j := ⟨t 0, t 1, funext fun d => by fin_cases d <;> rfl⟩
  pointwise []
  rfl

/-- A slice of an embedded matrix that keeps its rows. -/
theorem slice_cols {m n k : Nat} (f : Fin m → Fin n → EReal) (c : Nat) (hc : c + k ≤ n)
    (h : (⟨2, ![m, n]⟩ : Shape).Slices ![0, c] ⟨2, ![m, k]⟩) :
    extractStridedSlice ⟨2, ![m, k]⟩ ![0, c] (emb f) h = emb (cols f c hc) := by
  funext t
  obtain ⟨i, j, rfl⟩ : ∃ i j, t = ix2 i j := ⟨t 0, t 1, funext fun d => by fin_cases d <;> rfl⟩
  refine emb_congr f _ _ _ (Fin.ext ?_) (Fin.ext ?_)
  · simp [pointwise]
  · simp [pointwise]

/-- A slice of an embedded matrix that keeps its columns. -/
theorem slice_rows {m n k : Nat} (f : Fin m → Fin n → EReal) (hc : 0 + k ≤ m)
    (h : (⟨2, ![m, n]⟩ : Shape).Slices ![0, 0] ⟨2, ![k, n]⟩) :
    extractStridedSlice ⟨2, ![k, n]⟩ ![0, 0] (emb f) h = emb (rows f 0 hc) := by
  funext t
  obtain ⟨i, j, rfl⟩ : ∃ i j, t = ix2 i j := ⟨t 0, t 1, funext fun d => by fin_cases d <;> rfl⟩
  refine emb_congr f _ _ _ (Fin.ext ?_) (Fin.ext ?_)
  · simp [pointwise]
  · simp [pointwise]

/-- The columns of a section of the weights, as rows. -/
theorem section_rows {m n k : Nat} (f : Fin m → Fin n → EReal) (c : Nat) (hc : c + k ≤ n)
    (h : (⟨2, ![m, n]⟩ : Shape).Slices ![0, c] ⟨2, ![m, k]⟩) (h' : (⟨2, ![m, k]⟩ : Shape).Transposes [1, 0] ⟨2, ![k, m]⟩) :
    transpose ⟨2, ![k, m]⟩ [1, 0] (extractStridedSlice ⟨2, ![m, k]⟩ ![0, c] (emb f) h) h' = emb (tr (cols f c hc)) := by
  rw [slice_cols f c hc]
  exact tr_emb _ _

/-- The first rows, as columns. -/
theorem first_rows {m n k : Nat} (f : Fin m → Fin n → EReal) (hc : 0 + k ≤ m)
    (h : (⟨2, ![m, n]⟩ : Shape).Slices ![0, 0] ⟨2, ![k, n]⟩) (h' : (⟨2, ![k, n]⟩ : Shape).Transposes [1, 0] ⟨2, ![n, k]⟩) :
    transpose ⟨2, ![n, k]⟩ [1, 0] (extractStridedSlice ⟨2, ![k, n]⟩ ![0, 0] (emb f) h) h' = emb (tr (rows f 0 hc)) := by
  rw [slice_rows f hc]
  exact tr_emb _ _

/-- The fourth section's weights with rows of zeros added. -/
theorem pad_rows (w : Fin 1024 → Fin 4624 → EReal) (v : (⟨0, ![]⟩ : Shape).Idx → EReal) (hv : ∀ i, v i = 0)
    (h : (⟨2, ![16, 1024]⟩ : Shape).Pads ![0, 0] ![112, 0] ![0, 0] ⟨2, ![128, 1024]⟩) (hu : 0 < (⟨0, ![]⟩ : Shape).numel) :
    pad ⟨2, ![128, 1024]⟩ ![0, 0] ![112, 0] ![0, 0] (emb (tr (cols (n := 16) w 2560 (by decide)))) v h hu = emb (padded w) := by
  funext t
  by_cases ht : (t 0).val < 16
  · refine (pad_apply_of_inside _ _ _ _ v h hu t (ix2 ⟨(t 0).val, ht⟩ (t 1)) fun b => ?_).trans ?_
    · match b with
      | ⟨0, _⟩ => show (t 0).val = 0 + (t 0).val * (0 + 1); omega
      | ⟨1, _⟩ => show (t 1).val = 0 + (t 1).val * (0 + 1); omega
    · exact (show padded w (t 0) (t 1) = _ from dif_pos ht).symm
  · refine (pad_apply_of_not_inside _ _ _ _ v h hu t 0 fun e => ht ?_).trans ?_
    · have e2 : ((t 0).val - 0) / (0 + 1) < 16 := e.2.2
      omega
    · rw [hv]
      exact (show padded w (t 0) (t 1) = 0 from dif_neg ht).symm

end Cert.Wide

end
-- ==== Proof.WideOps.lean ====
/- The host operations of the input projection's pass over matrices of extended reals. -/
module

public import proofs.«01_k».proof.Proof.Wide
public import proofs.«01_k».proof.Proof.Gen.ReferenceIdeal
public import Idealize.ShloMosaic.Lib.Pointwise

@[expose] public section

set_option maxRecDepth 16384

noncomputable section

namespace Cert.Wide

open Idealize.ShloMosaic Cert.ReferenceIdeal Cert.ReferenceIdeal.Facts₀ Cert.ReferenceIdeal.Facts
open Cert.Block (lit_1024 lit_eps lit_neg_half eps)

/-! ## Entry by entry -/

section
variable {a b : Nat} (f g : Fin a → Fin b → EReal)

theorem add_emb : addf (F := Ideal) (φ := .f32) (s := ⟨2, ![a, b]⟩) (emb f) (emb g) = emb (fun i j => f i j + g i j) := rfl

theorem mul_emb : mulf (F := Ideal) (φ := .f32) (s := ⟨2, ![a, b]⟩) (emb f) (emb g) = emb (fun i j => f i j * g i j) := rfl

theorem div_emb : Host.divf (F := Ideal) (φ := .f32) (s := ⟨2, ![a, b]⟩) (emb f) (emb g) = emb (fun i j => Ideal.div (f i j) (g i j)) := rfl

theorem rsqrt_emb : Host.rsqrt (F := Ideal) (φ := .f32) (s := ⟨2, ![a, b]⟩) (emb f) = emb (fun i j => Ideal.rsqrt (f i j)) := rfl

theorem cast_emb (h : FTy.bits .bf16 < FTy.bits .f32) :
    extf (F := Ideal) .f32 (φ := .bf16) (s := ⟨2, ![a, b]⟩) (emb f) h = emb f := rfl

end

/-! ## Layout -/

theorem lit_zero_bits : Ideal.ofBits .f32 0x00000000#32 = (0 : EReal) := by
  simp [Ideal.ofBits, Ideal.ieee]

theorem lit_col_1024 : broadcastInDim S2176x1 ![] bcast_S_S2176x1 (constant (F := Ideal) S_ .f32 0x44800000#32) = emb (fun _ _ => ((1024 : ℝ) : EReal)) := by
  funext t
  idx_vars t
  pointwise []
  exact lit_1024

theorem lit_col_eps : broadcastInDim S2176x1 ![] bcast_S_S2176x1 (constant (F := Ideal) S_ .f32 0x358637BD#32) = emb (fun _ _ => ((eps : ℝ) : EReal)) := by
  funext t
  idx_vars t
  pointwise []
  exact lit_eps

theorem lit_col_half : broadcastInDim S2176x1 ![] bcast_S_S2176x1 (constant (F := Ideal) S_ .f32 0xBF000000#32) = emb (fun _ _ => ((-(1 / 2) : ℝ) : EReal)) := by
  funext t
  idx_vars t
  pointwise []
  exact lit_neg_half

theorem spread_col (f : Fin 2176 → Fin 1 → EReal) :
    broadcastInDim S2176x1024 ![0, 1] bcast_S2176x1_S2176x1024_0_1 (emb f) = emb (fun i _ => f i 0) := by
  funext t
  idx_vars t
  pointwise []
  rfl

theorem spread_row (f : Fin 1 → Fin 1024 → EReal) :
    broadcastInDim S2176x1024 ![0, 1] bcast_S1x1024_S2176x1024_0_1 (emb f) = emb (fun _ j => f 0 j) := by
  funext t
  idx_vars t
  pointwise []
  rfl

/-- Row sums, set as a column. -/
theorem row_sums (f : Fin 2176 → Fin 1024 → EReal) :
    broadcastInDim S2176x1 ![0] bcast_S2176_S2176x1_0 (Host.reduceAdd (F := Ideal) (φ := .f32) (emb f) (constant (F := Ideal) S_ .f32 0x00000000#32) reducesTo_S2176x1024_S2176_d1 h_S_)
      = emb (fun i _ => ∑ j, f i j) := by
  funext t
  idx_vars t
  pointwise []
  simp only [emb_ix2, lit_zero_bits, zero_add]

theorem row_sums' (f : Fin 2176 → Fin 1024 → EReal) :
    shapeCast S2176x1 (Host.reduceAdd (F := Ideal) (φ := .f32) (emb f) (constant (F := Ideal) S_ .f32 0x00000000#32) reducesTo_S2176x1024_S2176_d1 h_S_) shapeCasts_S2176_S2176x1
      = emb (fun i _ => ∑ j, f i j) := by
  funext t
  idx_vars t
  pointwise []
  simp only [emb_ix2, lit_zero_bits, zero_add]

theorem col_sums (f : Fin 2176 → Fin 1024 → EReal) :
    shapeCast S1x1024 (Host.reduceAdd (F := Ideal) (φ := .f32) (emb f) (constant (F := Ideal) S_ .f32 0x00000000#32) reducesTo_S2176x1024_S1024_d0 h_S_) shapeCasts_S1024_S1x1024
      = emb (fun _ j => ∑ i, f i j) := by
  funext t
  idx_vars t
  pointwise []
  simp only [emb_ix2, lit_zero_bits, zero_add]

theorem unit_sums (f : Fin 2176 → Fin 1 → EReal) :
    broadcastInDim S2176x1024 ![0] bcast_S2176_S2176x1024_0 (Host.reduceAdd (F := Ideal) (φ := .f32) (emb f) (constant (F := Ideal) S_ .f32 0x00000000#32) reducesTo_S2176x1_S2176_d1 h_S_)
      = emb (fun i _ => f i 0) := by
  funext t
  idx_vars t
  pointwise []
  simp only [emb_ix2, lit_zero_bits, zero_add, Fin.sum_univ_one]

/-- The normalization written in host operations. -/
theorem nrm_host (x : Fin 2176 → Fin 1024 → EReal) (w : Fin 1 → Fin 1024 → EReal) :
    mulf (F := Ideal) (φ := .f32) (mulf (emb x) (broadcastInDim S2176x1024 ![0, 1] bcast_S2176x1_S2176x1024_0_1
      (Host.rsqrt (F := Ideal) (φ := .f32) (addf (Host.divf (broadcastInDim S2176x1 ![0] bcast_S2176_S2176x1_0
        (Host.reduceAdd (F := Ideal) (φ := .f32) (mulf (F := Ideal) (φ := .f32) (s := ⟨2, ![2176, 1024]⟩) (emb x) (emb x)) (constant (F := Ideal) S_ .f32 0x00000000#32)
          reducesTo_S2176x1024_S2176_d1 h_S_))
        (broadcastInDim S2176x1 ![] bcast_S_S2176x1 (constant (F := Ideal) S_ .f32 0x44800000#32)))
        (broadcastInDim S2176x1 ![] bcast_S_S2176x1 (constant (F := Ideal) S_ .f32 0x358637BD#32))))))
      (broadcastInDim S2176x1024 ![0, 1] bcast_S1x1024_S2176x1024_0_1 (emb w)) = emb (nrm x w) := by
  rw [mul_emb, row_sums, lit_col_1024, div_emb, lit_col_eps, add_emb,
    rsqrt_emb, spread_col, mul_emb, spread_row, mul_emb]
  rfl

end Cert.Wide

end
-- ==== Proof.RegionsIn.lean ====
/- The arrays the weight-gradient products of the input projection's six sections leave: every grid point writes back
   its band of columns of one matrix, and the bands cover the array. -/
module

public import proofs.«01_k».proof.Proof.Blocks
public import proofs.«01_k».proof.Proof.Payload2
public import proofs.«01_k».proof.Proof.Gen.Kernel2Ideal.Frame.Region0
public import proofs.«01_k».proof.Proof.Gen.Kernel2Ideal.Frame.Region1
public import proofs.«01_k».proof.Proof.Gen.Kernel2Ideal.Frame.Region2
public import proofs.«01_k».proof.Proof.Gen.Kernel2Ideal.Frame.Region3
public import proofs.«01_k».proof.Proof.Gen.Kernel2Ideal.Frame.Region4
public import proofs.«01_k».proof.Proof.Gen.Kernel2Ideal.Frame.Region5
public import Idealize.ShloMosaic.Lib.Pipeline.Value

@[expose] public section

set_option maxRecDepth 16384

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen Cert.Wide
open Cert.Block (hz)

variable (V : (c : Dev nD) → (b : Ref sig .tc) → Buf (Elt Ideal) ((c : Thread nD τ).loc b))

/-! ## `dw_in_z` -/

theorem index0_0 (t : Fin cfg0.N) : win0_0.index t 0 * 2176 = 0 ∧ win0_0.index t 1 * 1024 = 0 := by
  rcases fin_N0 t with rfl | rfl <;> decide +kernel

theorem read0_0 (f : Fin 2176 → Fin 1024 → EReal) (t : Fin cfg0.N) :
    ((cfg0.win 0).blk t).view.read (Elt Ideal) (emb f) = emb (a := 2176) (b := 1024) f := by
  funext j
  rw [View.read_apply]
  refine emb_congr f _ _ _ (Fin.ext ?_) (Fin.ext ?_)
  · show win0_0.index t 0 * 2176 + 1 * (j 0).val = (j 0).val
    rw [(index0_0 t).1]; omega
  · show win0_0.index t 1 * 1024 + 1 * (j 1).val = (j 1).val
    rw [(index0_0 t).2]; omega

theorem index0_1 (t : Fin cfg0.N) : win0_1.index t 0 * 2176 = 0 ∧ win0_1.index t 1 * 512 = 512 * t.val := by
  rcases fin_N0 t with rfl | rfl <;> decide +kernel

theorem read0_1 (f : Fin 2176 → Fin 1024 → EReal) (t : Fin cfg0.N) :
    ((cfg0.win 1).blk t).view.read (Elt Ideal) (emb f) = emb (a := 2176) (b := 512) (cols f (512 * t.val) (by have h := t.isLt; have hN : cfg0.N = 2 := N_0; omega)) := by
  funext j
  rw [View.read_apply]
  refine emb_congr f _ _ _ (Fin.ext ?_) (Fin.ext ?_)
  · show win0_1.index t 0 * 2176 + 1 * (j 0).val = (j 0).val
    rw [(index0_1 t).1]; omega
  · show win0_1.index t 1 * 512 + 1 * (j 1).val = 512 * t.val + (j 1).val
    rw [(index0_1 t).2]; omega

theorem index0_2 (t : Fin cfg0.N) : win0_2.index t 0 * 1024 = 0 ∧ win0_2.index t 1 * 512 = 512 * t.val := by
  rcases fin_N0 t with rfl | rfl <;> decide +kernel

theorem read0_2 (f : Fin 1024 → Fin 1024 → EReal) (t : Fin cfg0.N) :
    ((cfg0.win 2).blk t).view.read (Elt Ideal) (emb f) = emb (a := 1024) (b := 512) (cols f (512 * t.val) (by have h := t.isLt; have hN : cfg0.N = 2 := N_0; omega)) := by
  funext j
  rw [View.read_apply]
  refine emb_congr f _ _ _ (Fin.ext ?_) (Fin.ext ?_)
  · show win0_2.index t 0 * 1024 + 1 * (j 0).val = (j 0).val
    rw [(index0_2 t).1]; omega
  · show win0_2.index t 1 * 512 + 1 * (j 1).val = 512 * t.val + (j 1).val
    rw [(index0_2 t).2]; omega

theorem flushed0_2 (c : Dev nD) (f0 : Fin 2176 → Fin 1024 → EReal) (f1 : Fin 2176 → Fin 1024 → EReal)
    (h0 : V c (Pipeline.arrRef spec0 0) = emb f0) (h1 : V c (Pipeline.arrRef spec0 1) = emb f1) (t : Fin cfg0.N) :
    (dat0 V c).flushed 2 t = ((cfg0.win 2).blk t).view.read (Elt Ideal) (emb (tmm f0 f1)) := by
  rw [read0_2]
  show (cfg0.win 2).cut (grid0.coords t) ((dat0 V c).after 2 t) = _
  rw [after0_2]
  unfold out0_2
  rw [View.canon_unit_zero hz]
  rw [View.ld_unit_zero hz, View.ld_unit_zero hz]
  unfold iblk0
  have e0 := (congrArg (((cfg0.win 0).blk t).view.read (Elt Ideal)) h0).trans (read0_0 f0 t)
  have e1 := (congrArg (((cfg0.win 1).blk t).view.read (Elt Ideal)) h1).trans (read0_1 f1 t)
  rw [e0, e1]
  rw [pay0, tmm_right]
  rfl

theorem cover0_2 (i : (⟨2, ![1024, 1024]⟩ : Shape).Idx) :
    ∃ t : Fin cfg0.N, (cfg0.win 2).flush t = true ∧ i ∈ ((cfg0.win 2).blk t).view.set := by
  have h0 : (i 0 : Nat) < 1024 := (i 0).isLt
  have h1 : (i 1 : Nat) < 1024 := (i 1).isLt
  have hN : cfg0.N = 2 := N_0
  have ht : (i 1 : Nat) / 512 < cfg0.N := by omega
  refine ⟨⟨(i 1 : Nat) / 512, ht⟩, flush0_2 _, ?_⟩
  generalize htt : (⟨(i 1 : Nat) / 512, ht⟩ : Fin cfg0.N) = t
  have hv : t.val = (i 1 : Nat) / 512 := by rw [← htt]
  show i ∈ ((View.whole main_v32_0).slice (win0_2.rect t)).set
  rw [View.set_slice_whole, Rect.mem_set_unit]
  have e := index0_2 t
  have x : win0_2.xsize (grid0.coords t) 0 = 1024 ∧ win0_2.xsize (grid0.coords t) 1 = 512 := ⟨rfl, rfl⟩
  intro a
  match a with
  | ⟨0, _⟩ =>
    show win0_2.index t 0 * 1024 ≤ (i 0 : Nat) ∧ (i 0 : Nat) < win0_2.index t 0 * 1024 + win0_2.xsize (grid0.coords t) 0
    rw [e.1, x.1]; omega
  | ⟨1, _⟩ =>
    show win0_2.index t 1 * 512 ≤ (i 1 : Nat) ∧ (i 1 : Nat) < win0_2.index t 1 * 512 + win0_2.xsize (grid0.coords t) 1
    rw [e.2, x.2]; omega

/-- The array `dw_in_z`'s window 2 writes, as the region leaves it. -/
theorem final0_2 (c : Dev nD) (f0 : Fin 2176 → Fin 1024 → EReal) (f1 : Fin 2176 → Fin 1024 → EReal)
    (h0 : V c (Pipeline.arrRef spec0 0) = emb f0) (h1 : V c (Pipeline.arrRef spec0 1) = emb f1) :
    (dat0 V c).arrAt 2 cfg0.N = emb (tmm f0 f1) :=
  (dat0 V c).arrAt_eq_of_cover 2 (emb (tmm f0 f1)) (fun t _ => flushed0_2 V c f0 f1 h0 h1 t) cover0_2

/-! ## `dw_in_xs` -/

theorem index1_0 (t : Fin cfg1.N) : win1_0.index t 0 * 2176 = 0 ∧ win1_0.index t 1 * 1024 = 0 := by
  rcases fin_N1 t with rfl | rfl <;> decide +kernel

theorem read1_0 (f : Fin 2176 → Fin 1024 → EReal) (t : Fin cfg1.N) :
    ((cfg1.win 0).blk t).view.read (Elt Ideal) (emb f) = emb (a := 2176) (b := 1024) f := by
  funext j
  rw [View.read_apply]
  refine emb_congr f _ _ _ (Fin.ext ?_) (Fin.ext ?_)
  · show win1_0.index t 0 * 2176 + 1 * (j 0).val = (j 0).val
    rw [(index1_0 t).1]; omega
  · show win1_0.index t 1 * 1024 + 1 * (j 1).val = (j 1).val
    rw [(index1_0 t).2]; omega

theorem index1_1 (t : Fin cfg1.N) : win1_1.index t 0 * 2176 = 0 ∧ win1_1.index t 1 * 512 = 512 * t.val := by
  rcases fin_N1 t with rfl | rfl <;> decide +kernel

theorem read1_1 (f : Fin 2176 → Fin 1024 → EReal) (t : Fin cfg1.N) :
    ((cfg1.win 1).blk t).view.read (Elt Ideal) (emb f) = emb (a := 2176) (b := 512) (cols f (512 * t.val) (by have h := t.isLt; have hN : cfg1.N = 2 := N_1; omega)) := by
  funext j
  rw [View.read_apply]
  refine emb_congr f _ _ _ (Fin.ext ?_) (Fin.ext ?_)
  · show win1_1.index t 0 * 2176 + 1 * (j 0).val = (j 0).val
    rw [(index1_1 t).1]; omega
  · show win1_1.index t 1 * 512 + 1 * (j 1).val = 512 * t.val + (j 1).val
    rw [(index1_1 t).2]; omega

theorem index1_2 (t : Fin cfg1.N) : win1_2.index t 0 * 1024 = 0 ∧ win1_2.index t 1 * 512 = 512 * t.val := by
  rcases fin_N1 t with rfl | rfl <;> decide +kernel

theorem read1_2 (f : Fin 1024 → Fin 1024 → EReal) (t : Fin cfg1.N) :
    ((cfg1.win 2).blk t).view.read (Elt Ideal) (emb f) = emb (a := 1024) (b := 512) (cols f (512 * t.val) (by have h := t.isLt; have hN : cfg1.N = 2 := N_1; omega)) := by
  funext j
  rw [View.read_apply]
  refine emb_congr f _ _ _ (Fin.ext ?_) (Fin.ext ?_)
  · show win1_2.index t 0 * 1024 + 1 * (j 0).val = (j 0).val
    rw [(index1_2 t).1]; omega
  · show win1_2.index t 1 * 512 + 1 * (j 1).val = 512 * t.val + (j 1).val
    rw [(index1_2 t).2]; omega

theorem flushed1_2 (c : Dev nD) (f0 : Fin 2176 → Fin 1024 → EReal) (f1 : Fin 2176 → Fin 1024 → EReal)
    (h0 : V c (Pipeline.arrRef spec1 0) = emb f0) (h1 : V c (Pipeline.arrRef spec1 1) = emb f1) (t : Fin cfg1.N) :
    (dat1 V c).flushed 2 t = ((cfg1.win 2).blk t).view.read (Elt Ideal) (emb (tmm f0 f1)) := by
  rw [read1_2]
  show (cfg1.win 2).cut (grid1.coords t) ((dat1 V c).after 2 t) = _
  rw [after1_2]
  unfold out1_2
  rw [View.canon_unit_zero hz]
  rw [View.ld_unit_zero hz, View.ld_unit_zero hz]
  unfold iblk1
  have e0 := (congrArg (((cfg1.win 0).blk t).view.read (Elt Ideal)) h0).trans (read1_0 f0 t)
  have e1 := (congrArg (((cfg1.win 1).blk t).view.read (Elt Ideal)) h1).trans (read1_1 f1 t)
  rw [e0, e1]
  rw [pay1, tmm_right]
  rfl

theorem cover1_2 (i : (⟨2, ![1024, 1024]⟩ : Shape).Idx) :
    ∃ t : Fin cfg1.N, (cfg1.win 2).flush t = true ∧ i ∈ ((cfg1.win 2).blk t).view.set := by
  have h0 : (i 0 : Nat) < 1024 := (i 0).isLt
  have h1 : (i 1 : Nat) < 1024 := (i 1).isLt
  have hN : cfg1.N = 2 := N_1
  have ht : (i 1 : Nat) / 512 < cfg1.N := by omega
  refine ⟨⟨(i 1 : Nat) / 512, ht⟩, flush1_2 _, ?_⟩
  generalize htt : (⟨(i 1 : Nat) / 512, ht⟩ : Fin cfg1.N) = t
  have hv : t.val = (i 1 : Nat) / 512 := by rw [← htt]
  show i ∈ ((View.whole main_v33_0).slice (win1_2.rect t)).set
  rw [View.set_slice_whole, Rect.mem_set_unit]
  have e := index1_2 t
  have x : win1_2.xsize (grid1.coords t) 0 = 1024 ∧ win1_2.xsize (grid1.coords t) 1 = 512 := ⟨rfl, rfl⟩
  intro a
  match a with
  | ⟨0, _⟩ =>
    show win1_2.index t 0 * 1024 ≤ (i 0 : Nat) ∧ (i 0 : Nat) < win1_2.index t 0 * 1024 + win1_2.xsize (grid1.coords t) 0
    rw [e.1, x.1]; omega
  | ⟨1, _⟩ =>
    show win1_2.index t 1 * 512 ≤ (i 1 : Nat) ∧ (i 1 : Nat) < win1_2.index t 1 * 512 + win1_2.xsize (grid1.coords t) 1
    rw [e.2, x.2]; omega

/-- The array `dw_in_xs`'s window 2 writes, as the region leaves it. -/
theorem final1_2 (c : Dev nD) (f0 : Fin 2176 → Fin 1024 → EReal) (f1 : Fin 2176 → Fin 1024 → EReal)
    (h0 : V c (Pipeline.arrRef spec1 0) = emb f0) (h1 : V c (Pipeline.arrRef spec1 1) = emb f1) :
    (dat1 V c).arrAt 2 cfg1.N = emb (tmm f0 f1) :=
  (dat1 V c).arrAt_eq_of_cover 2 (emb (tmm f0 f1)) (fun t _ => flushed1_2 V c f0 f1 h0 h1 t) cover1_2

/-! ## `dw_in_bc` -/

theorem index2_0 (t : Fin cfg2.N) : win2_0.index t 0 * 2176 = 0 ∧ win2_0.index t 1 * 512 = 0 := by
  rcases fin_N2 t with rfl | rfl <;> decide +kernel

theorem read2_0 (f : Fin 2176 → Fin 512 → EReal) (t : Fin cfg2.N) :
    ((cfg2.win 0).blk t).view.read (Elt Ideal) (emb f) = emb (a := 2176) (b := 512) f := by
  funext j
  rw [View.read_apply]
  refine emb_congr f _ _ _ (Fin.ext ?_) (Fin.ext ?_)
  · show win2_0.index t 0 * 2176 + 1 * (j 0).val = (j 0).val
    rw [(index2_0 t).1]; omega
  · show win2_0.index t 1 * 512 + 1 * (j 1).val = (j 1).val
    rw [(index2_0 t).2]; omega

theorem index2_1 (t : Fin cfg2.N) : win2_1.index t 0 * 2176 = 0 ∧ win2_1.index t 1 * 512 = 512 * t.val := by
  rcases fin_N2 t with rfl | rfl <;> decide +kernel

theorem read2_1 (f : Fin 2176 → Fin 1024 → EReal) (t : Fin cfg2.N) :
    ((cfg2.win 1).blk t).view.read (Elt Ideal) (emb f) = emb (a := 2176) (b := 512) (cols f (512 * t.val) (by have h := t.isLt; have hN : cfg2.N = 2 := N_2; omega)) := by
  funext j
  rw [View.read_apply]
  refine emb_congr f _ _ _ (Fin.ext ?_) (Fin.ext ?_)
  · show win2_1.index t 0 * 2176 + 1 * (j 0).val = (j 0).val
    rw [(index2_1 t).1]; omega
  · show win2_1.index t 1 * 512 + 1 * (j 1).val = 512 * t.val + (j 1).val
    rw [(index2_1 t).2]; omega

theorem index2_2 (t : Fin cfg2.N) : win2_2.index t 0 * 512 = 0 ∧ win2_2.index t 1 * 512 = 512 * t.val := by
  rcases fin_N2 t with rfl | rfl <;> decide +kernel

theorem read2_2 (f : Fin 512 → Fin 1024 → EReal) (t : Fin cfg2.N) :
    ((cfg2.win 2).blk t).view.read (Elt Ideal) (emb f) = emb (a := 512) (b := 512) (cols f (512 * t.val) (by have h := t.isLt; have hN : cfg2.N = 2 := N_2; omega)) := by
  funext j
  rw [View.read_apply]
  refine emb_congr f _ _ _ (Fin.ext ?_) (Fin.ext ?_)
  · show win2_2.index t 0 * 512 + 1 * (j 0).val = (j 0).val
    rw [(index2_2 t).1]; omega
  · show win2_2.index t 1 * 512 + 1 * (j 1).val = 512 * t.val + (j 1).val
    rw [(index2_2 t).2]; omega

theorem flushed2_2 (c : Dev nD) (f0 : Fin 2176 → Fin 512 → EReal) (f1 : Fin 2176 → Fin 1024 → EReal)
    (h0 : V c (Pipeline.arrRef spec2 0) = emb f0) (h1 : V c (Pipeline.arrRef spec2 1) = emb f1) (t : Fin cfg2.N) :
    (dat2 V c).flushed 2 t = ((cfg2.win 2).blk t).view.read (Elt Ideal) (emb (tmm f0 f1)) := by
  rw [read2_2]
  show (cfg2.win 2).cut (grid2.coords t) ((dat2 V c).after 2 t) = _
  rw [after2_2]
  unfold out2_2
  rw [View.canon_unit_zero hz]
  rw [View.ld_unit_zero hz, View.ld_unit_zero hz]
  unfold iblk2
  have e0 := (congrArg (((cfg2.win 0).blk t).view.read (Elt Ideal)) h0).trans (read2_0 f0 t)
  have e1 := (congrArg (((cfg2.win 1).blk t).view.read (Elt Ideal)) h1).trans (read2_1 f1 t)
  rw [e0, e1]
  rw [pay2, tmm_right]
  rfl

theorem cover2_2 (i : (⟨2, ![512, 1024]⟩ : Shape).Idx) :
    ∃ t : Fin cfg2.N, (cfg2.win 2).flush t = true ∧ i ∈ ((cfg2.win 2).blk t).view.set := by
  have h0 : (i 0 : Nat) < 512 := (i 0).isLt
  have h1 : (i 1 : Nat) < 1024 := (i 1).isLt
  have hN : cfg2.N = 2 := N_2
  have ht : (i 1 : Nat) / 512 < cfg2.N := by omega
  refine ⟨⟨(i 1 : Nat) / 512, ht⟩, flush2_2 _, ?_⟩
  generalize htt : (⟨(i 1 : Nat) / 512, ht⟩ : Fin cfg2.N) = t
  have hv : t.val = (i 1 : Nat) / 512 := by rw [← htt]
  show i ∈ ((View.whole main_v34_0).slice (win2_2.rect t)).set
  rw [View.set_slice_whole, Rect.mem_set_unit]
  have e := index2_2 t
  have x : win2_2.xsize (grid2.coords t) 0 = 512 ∧ win2_2.xsize (grid2.coords t) 1 = 512 := ⟨rfl, rfl⟩
  intro a
  match a with
  | ⟨0, _⟩ =>
    show win2_2.index t 0 * 512 ≤ (i 0 : Nat) ∧ (i 0 : Nat) < win2_2.index t 0 * 512 + win2_2.xsize (grid2.coords t) 0
    rw [e.1, x.1]; omega
  | ⟨1, _⟩ =>
    show win2_2.index t 1 * 512 ≤ (i 1 : Nat) ∧ (i 1 : Nat) < win2_2.index t 1 * 512 + win2_2.xsize (grid2.coords t) 1
    rw [e.2, x.2]; omega

/-- The array `dw_in_bc`'s window 2 writes, as the region leaves it. -/
theorem final2_2 (c : Dev nD) (f0 : Fin 2176 → Fin 512 → EReal) (f1 : Fin 2176 → Fin 1024 → EReal)
    (h0 : V c (Pipeline.arrRef spec2 0) = emb f0) (h1 : V c (Pipeline.arrRef spec2 1) = emb f1) :
    (dat2 V c).arrAt 2 cfg2.N = emb (tmm f0 f1) :=
  (dat2 V c).arrAt_eq_of_cover 2 (emb (tmm f0 f1)) (fun t _ => flushed2_2 V c f0 f1 h0 h1 t) cover2_2

/-! ## `dw_in_dt` -/

theorem index3_0 (t : Fin cfg3.N) : win3_0.index t 0 * 2176 = 0 ∧ win3_0.index t 1 * 128 = 0 := by
  rcases fin_N3 t with rfl | rfl <;> decide +kernel

theorem read3_0 (f : Fin 2176 → Fin 128 → EReal) (t : Fin cfg3.N) :
    ((cfg3.win 0).blk t).view.read (Elt Ideal) (emb f) = emb (a := 2176) (b := 128) f := by
  funext j
  rw [View.read_apply]
  refine emb_congr f _ _ _ (Fin.ext ?_) (Fin.ext ?_)
  · show win3_0.index t 0 * 2176 + 1 * (j 0).val = (j 0).val
    rw [(index3_0 t).1]; omega
  · show win3_0.index t 1 * 128 + 1 * (j 1).val = (j 1).val
    rw [(index3_0 t).2]; omega

theorem index3_1 (t : Fin cfg3.N) : win3_1.index t 0 * 2176 = 0 ∧ win3_1.index t 1 * 512 = 512 * t.val := by
  rcases fin_N3 t with rfl | rfl <;> decide +kernel

theorem read3_1 (f : Fin 2176 → Fin 1024 → EReal) (t : Fin cfg3.N) :
    ((cfg3.win 1).blk t).view.read (Elt Ideal) (emb f) = emb (a := 2176) (b := 512) (cols f (512 * t.val) (by have h := t.isLt; have hN : cfg3.N = 2 := N_3; omega)) := by
  funext j
  rw [View.read_apply]
  refine emb_congr f _ _ _ (Fin.ext ?_) (Fin.ext ?_)
  · show win3_1.index t 0 * 2176 + 1 * (j 0).val = (j 0).val
    rw [(index3_1 t).1]; omega
  · show win3_1.index t 1 * 512 + 1 * (j 1).val = 512 * t.val + (j 1).val
    rw [(index3_1 t).2]; omega

theorem index3_2 (t : Fin cfg3.N) : win3_2.index t 0 * 128 = 0 ∧ win3_2.index t 1 * 512 = 512 * t.val := by
  rcases fin_N3 t with rfl | rfl <;> decide +kernel

theorem read3_2 (f : Fin 128 → Fin 1024 → EReal) (t : Fin cfg3.N) :
    ((cfg3.win 2).blk t).view.read (Elt Ideal) (emb f) = emb (a := 128) (b := 512) (cols f (512 * t.val) (by have h := t.isLt; have hN : cfg3.N = 2 := N_3; omega)) := by
  funext j
  rw [View.read_apply]
  refine emb_congr f _ _ _ (Fin.ext ?_) (Fin.ext ?_)
  · show win3_2.index t 0 * 128 + 1 * (j 0).val = (j 0).val
    rw [(index3_2 t).1]; omega
  · show win3_2.index t 1 * 512 + 1 * (j 1).val = 512 * t.val + (j 1).val
    rw [(index3_2 t).2]; omega

theorem flushed3_2 (c : Dev nD) (f0 : Fin 2176 → Fin 128 → EReal) (f1 : Fin 2176 → Fin 1024 → EReal)
    (h0 : V c (Pipeline.arrRef spec3 0) = emb f0) (h1 : V c (Pipeline.arrRef spec3 1) = emb f1) (t : Fin cfg3.N) :
    (dat3 V c).flushed 2 t = ((cfg3.win 2).blk t).view.read (Elt Ideal) (emb (tmm f0 f1)) := by
  rw [read3_2]
  show (cfg3.win 2).cut (grid3.coords t) ((dat3 V c).after 2 t) = _
  rw [after3_2]
  unfold out3_2
  rw [View.canon_unit_zero hz]
  rw [View.ld_unit_zero hz, View.ld_unit_zero hz]
  unfold iblk3
  have e0 := (congrArg (((cfg3.win 0).blk t).view.read (Elt Ideal)) h0).trans (read3_0 f0 t)
  have e1 := (congrArg (((cfg3.win 1).blk t).view.read (Elt Ideal)) h1).trans (read3_1 f1 t)
  rw [e0, e1]
  rw [pay3, tmm_right]
  rfl

theorem cover3_2 (i : (⟨2, ![128, 1024]⟩ : Shape).Idx) :
    ∃ t : Fin cfg3.N, (cfg3.win 2).flush t = true ∧ i ∈ ((cfg3.win 2).blk t).view.set := by
  have h0 : (i 0 : Nat) < 128 := (i 0).isLt
  have h1 : (i 1 : Nat) < 1024 := (i 1).isLt
  have hN : cfg3.N = 2 := N_3
  have ht : (i 1 : Nat) / 512 < cfg3.N := by omega
  refine ⟨⟨(i 1 : Nat) / 512, ht⟩, flush3_2 _, ?_⟩
  generalize htt : (⟨(i 1 : Nat) / 512, ht⟩ : Fin cfg3.N) = t
  have hv : t.val = (i 1 : Nat) / 512 := by rw [← htt]
  show i ∈ ((View.whole main_v35_0).slice (win3_2.rect t)).set
  rw [View.set_slice_whole, Rect.mem_set_unit]
  have e := index3_2 t
  have x : win3_2.xsize (grid3.coords t) 0 = 128 ∧ win3_2.xsize (grid3.coords t) 1 = 512 := ⟨rfl, rfl⟩
  intro a
  match a with
  | ⟨0, _⟩ =>
    show win3_2.index t 0 * 128 ≤ (i 0 : Nat) ∧ (i 0 : Nat) < win3_2.index t 0 * 128 + win3_2.xsize (grid3.coords t) 0
    rw [e.1, x.1]; omega
  | ⟨1, _⟩ =>
    show win3_2.index t 1 * 512 ≤ (i 1 : Nat) ∧ (i 1 : Nat) < win3_2.index t 1 * 512 + win3_2.xsize (grid3.coords t) 1
    rw [e.2, x.2]; omega

/-- The array `dw_in_dt`'s window 2 writes, as the region leaves it. -/
theorem final3_2 (c : Dev nD) (f0 : Fin 2176 → Fin 128 → EReal) (f1 : Fin 2176 → Fin 1024 → EReal)
    (h0 : V c (Pipeline.arrRef spec3 0) = emb f0) (h1 : V c (Pipeline.arrRef spec3 1) = emb f1) :
    (dat3 V c).arrAt 2 cfg3.N = emb (tmm f0 f1) :=
  (dat3 V c).arrAt_eq_of_cover 2 (emb (tmm f0 f1)) (fun t _ => flushed3_2 V c f0 f1 h0 h1 t) cover3_2

/-! ## `dw_in_g` -/

theorem index4_0 (t : Fin cfg4.N) : win4_0.index t 0 * 2176 = 0 ∧ win4_0.index t 1 * 1024 = 0 := by
  rcases fin_N4 t with rfl | rfl <;> decide +kernel

theorem read4_0 (f : Fin 2176 → Fin 1024 → EReal) (t : Fin cfg4.N) :
    ((cfg4.win 0).blk t).view.read (Elt Ideal) (emb f) = emb (a := 2176) (b := 1024) f := by
  funext j
  rw [View.read_apply]
  refine emb_congr f _ _ _ (Fin.ext ?_) (Fin.ext ?_)
  · show win4_0.index t 0 * 2176 + 1 * (j 0).val = (j 0).val
    rw [(index4_0 t).1]; omega
  · show win4_0.index t 1 * 1024 + 1 * (j 1).val = (j 1).val
    rw [(index4_0 t).2]; omega

theorem index4_1 (t : Fin cfg4.N) : win4_1.index t 0 * 2176 = 0 ∧ win4_1.index t 1 * 512 = 512 * t.val := by
  rcases fin_N4 t with rfl | rfl <;> decide +kernel

theorem read4_1 (f : Fin 2176 → Fin 1024 → EReal) (t : Fin cfg4.N) :
    ((cfg4.win 1).blk t).view.read (Elt Ideal) (emb f) = emb (a := 2176) (b := 512) (cols f (512 * t.val) (by have h := t.isLt; have hN : cfg4.N = 2 := N_4; omega)) := by
  funext j
  rw [View.read_apply]
  refine emb_congr f _ _ _ (Fin.ext ?_) (Fin.ext ?_)
  · show win4_1.index t 0 * 2176 + 1 * (j 0).val = (j 0).val
    rw [(index4_1 t).1]; omega
  · show win4_1.index t 1 * 512 + 1 * (j 1).val = 512 * t.val + (j 1).val
    rw [(index4_1 t).2]; omega

theorem index4_2 (t : Fin cfg4.N) : win4_2.index t 0 * 1024 = 0 ∧ win4_2.index t 1 * 512 = 512 * t.val := by
  rcases fin_N4 t with rfl | rfl <;> decide +kernel

theorem read4_2 (f : Fin 1024 → Fin 1024 → EReal) (t : Fin cfg4.N) :
    ((cfg4.win 2).blk t).view.read (Elt Ideal) (emb f) = emb (a := 1024) (b := 512) (cols f (512 * t.val) (by have h := t.isLt; have hN : cfg4.N = 2 := N_4; omega)) := by
  funext j
  rw [View.read_apply]
  refine emb_congr f _ _ _ (Fin.ext ?_) (Fin.ext ?_)
  · show win4_2.index t 0 * 1024 + 1 * (j 0).val = (j 0).val
    rw [(index4_2 t).1]; omega
  · show win4_2.index t 1 * 512 + 1 * (j 1).val = 512 * t.val + (j 1).val
    rw [(index4_2 t).2]; omega

theorem flushed4_2 (c : Dev nD) (f0 : Fin 2176 → Fin 1024 → EReal) (f1 : Fin 2176 → Fin 1024 → EReal)
    (h0 : V c (Pipeline.arrRef spec4 0) = emb f0) (h1 : V c (Pipeline.arrRef spec4 1) = emb f1) (t : Fin cfg4.N) :
    (dat4 V c).flushed 2 t = ((cfg4.win 2).blk t).view.read (Elt Ideal) (emb (tmm f0 f1)) := by
  rw [read4_2]
  show (cfg4.win 2).cut (grid4.coords t) ((dat4 V c).after 2 t) = _
  rw [after4_2]
  unfold out4_2
  rw [View.canon_unit_zero hz]
  rw [View.ld_unit_zero hz, View.ld_unit_zero hz]
  unfold iblk4
  have e0 := (congrArg (((cfg4.win 0).blk t).view.read (Elt Ideal)) h0).trans (read4_0 f0 t)
  have e1 := (congrArg (((cfg4.win 1).blk t).view.read (Elt Ideal)) h1).trans (read4_1 f1 t)
  rw [e0, e1]
  rw [pay4, tmm_right]
  rfl

theorem cover4_2 (i : (⟨2, ![1024, 1024]⟩ : Shape).Idx) :
    ∃ t : Fin cfg4.N, (cfg4.win 2).flush t = true ∧ i ∈ ((cfg4.win 2).blk t).view.set := by
  have h0 : (i 0 : Nat) < 1024 := (i 0).isLt
  have h1 : (i 1 : Nat) < 1024 := (i 1).isLt
  have hN : cfg4.N = 2 := N_4
  have ht : (i 1 : Nat) / 512 < cfg4.N := by omega
  refine ⟨⟨(i 1 : Nat) / 512, ht⟩, flush4_2 _, ?_⟩
  generalize htt : (⟨(i 1 : Nat) / 512, ht⟩ : Fin cfg4.N) = t
  have hv : t.val = (i 1 : Nat) / 512 := by rw [← htt]
  show i ∈ ((View.whole main_v36_0).slice (win4_2.rect t)).set
  rw [View.set_slice_whole, Rect.mem_set_unit]
  have e := index4_2 t
  have x : win4_2.xsize (grid4.coords t) 0 = 1024 ∧ win4_2.xsize (grid4.coords t) 1 = 512 := ⟨rfl, rfl⟩
  intro a
  match a with
  | ⟨0, _⟩ =>
    show win4_2.index t 0 * 1024 ≤ (i 0 : Nat) ∧ (i 0 : Nat) < win4_2.index t 0 * 1024 + win4_2.xsize (grid4.coords t) 0
    rw [e.1, x.1]; omega
  | ⟨1, _⟩ =>
    show win4_2.index t 1 * 512 ≤ (i 1 : Nat) ∧ (i 1 : Nat) < win4_2.index t 1 * 512 + win4_2.xsize (grid4.coords t) 1
    rw [e.2, x.2]; omega

/-- The array `dw_in_g`'s window 2 writes, as the region leaves it. -/
theorem final4_2 (c : Dev nD) (f0 : Fin 2176 → Fin 1024 → EReal) (f1 : Fin 2176 → Fin 1024 → EReal)
    (h0 : V c (Pipeline.arrRef spec4 0) = emb f0) (h1 : V c (Pipeline.arrRef spec4 1) = emb f1) :
    (dat4 V c).arrAt 2 cfg4.N = emb (tmm f0 f1) :=
  (dat4 V c).arrAt_eq_of_cover 2 (emb (tmm f0 f1)) (fun t _ => flushed4_2 V c f0 f1 h0 h1 t) cover4_2

/-! ## `dw_in_x` -/

theorem index5_0 (t : Fin cfg5.N) : win5_0.index t 0 * 2176 = 0 ∧ win5_0.index t 1 * 1024 = 0 := by
  rcases fin_N5 t with rfl | rfl <;> decide +kernel

theorem read5_0 (f : Fin 2176 → Fin 1024 → EReal) (t : Fin cfg5.N) :
    ((cfg5.win 0).blk t).view.read (Elt Ideal) (emb f) = emb (a := 2176) (b := 1024) f := by
  funext j
  rw [View.read_apply]
  refine emb_congr f _ _ _ (Fin.ext ?_) (Fin.ext ?_)
  · show win5_0.index t 0 * 2176 + 1 * (j 0).val = (j 0).val
    rw [(index5_0 t).1]; omega
  · show win5_0.index t 1 * 1024 + 1 * (j 1).val = (j 1).val
    rw [(index5_0 t).2]; omega

theorem index5_1 (t : Fin cfg5.N) : win5_1.index t 0 * 2176 = 0 ∧ win5_1.index t 1 * 512 = 512 * t.val := by
  rcases fin_N5 t with rfl | rfl <;> decide +kernel

theorem read5_1 (f : Fin 2176 → Fin 1024 → EReal) (t : Fin cfg5.N) :
    ((cfg5.win 1).blk t).view.read (Elt Ideal) (emb f) = emb (a := 2176) (b := 512) (cols f (512 * t.val) (by have h := t.isLt; have hN : cfg5.N = 2 := N_5; omega)) := by
  funext j
  rw [View.read_apply]
  refine emb_congr f _ _ _ (Fin.ext ?_) (Fin.ext ?_)
  · show win5_1.index t 0 * 2176 + 1 * (j 0).val = (j 0).val
    rw [(index5_1 t).1]; omega
  · show win5_1.index t 1 * 512 + 1 * (j 1).val = 512 * t.val + (j 1).val
    rw [(index5_1 t).2]; omega

theorem index5_2 (t : Fin cfg5.N) : win5_2.index t 0 * 1024 = 0 ∧ win5_2.index t 1 * 512 = 512 * t.val := by
  rcases fin_N5 t with rfl | rfl <;> decide +kernel

theorem read5_2 (f : Fin 1024 → Fin 1024 → EReal) (t : Fin cfg5.N) :
    ((cfg5.win 2).blk t).view.read (Elt Ideal) (emb f) = emb (a := 1024) (b := 512) (cols f (512 * t.val) (by have h := t.isLt; have hN : cfg5.N = 2 := N_5; omega)) := by
  funext j
  rw [View.read_apply]
  refine emb_congr f _ _ _ (Fin.ext ?_) (Fin.ext ?_)
  · show win5_2.index t 0 * 1024 + 1 * (j 0).val = (j 0).val
    rw [(index5_2 t).1]; omega
  · show win5_2.index t 1 * 512 + 1 * (j 1).val = 512 * t.val + (j 1).val
    rw [(index5_2 t).2]; omega

theorem flushed5_2 (c : Dev nD) (f0 : Fin 2176 → Fin 1024 → EReal) (f1 : Fin 2176 → Fin 1024 → EReal)
    (h0 : V c (Pipeline.arrRef spec5 0) = emb f0) (h1 : V c (Pipeline.arrRef spec5 1) = emb f1) (t : Fin cfg5.N) :
    (dat5 V c).flushed 2 t = ((cfg5.win 2).blk t).view.read (Elt Ideal) (emb (tmm f0 f1)) := by
  rw [read5_2]
  show (cfg5.win 2).cut (grid5.coords t) ((dat5 V c).after 2 t) = _
  rw [after5_2]
  unfold out5_2
  rw [View.canon_unit_zero hz]
  rw [View.ld_unit_zero hz, View.ld_unit_zero hz]
  unfold iblk5
  have e0 := (congrArg (((cfg5.win 0).blk t).view.read (Elt Ideal)) h0).trans (read5_0 f0 t)
  have e1 := (congrArg (((cfg5.win 1).blk t).view.read (Elt Ideal)) h1).trans (read5_1 f1 t)
  rw [e0, e1]
  rw [pay5, tmm_right]
  rfl

theorem cover5_2 (i : (⟨2, ![1024, 1024]⟩ : Shape).Idx) :
    ∃ t : Fin cfg5.N, (cfg5.win 2).flush t = true ∧ i ∈ ((cfg5.win 2).blk t).view.set := by
  have h0 : (i 0 : Nat) < 1024 := (i 0).isLt
  have h1 : (i 1 : Nat) < 1024 := (i 1).isLt
  have hN : cfg5.N = 2 := N_5
  have ht : (i 1 : Nat) / 512 < cfg5.N := by omega
  refine ⟨⟨(i 1 : Nat) / 512, ht⟩, flush5_2 _, ?_⟩
  generalize htt : (⟨(i 1 : Nat) / 512, ht⟩ : Fin cfg5.N) = t
  have hv : t.val = (i 1 : Nat) / 512 := by rw [← htt]
  show i ∈ ((View.whole main_v37_0).slice (win5_2.rect t)).set
  rw [View.set_slice_whole, Rect.mem_set_unit]
  have e := index5_2 t
  have x : win5_2.xsize (grid5.coords t) 0 = 1024 ∧ win5_2.xsize (grid5.coords t) 1 = 512 := ⟨rfl, rfl⟩
  intro a
  match a with
  | ⟨0, _⟩ =>
    show win5_2.index t 0 * 1024 ≤ (i 0 : Nat) ∧ (i 0 : Nat) < win5_2.index t 0 * 1024 + win5_2.xsize (grid5.coords t) 0
    rw [e.1, x.1]; omega
  | ⟨1, _⟩ =>
    show win5_2.index t 1 * 512 ≤ (i 1 : Nat) ∧ (i 1 : Nat) < win5_2.index t 1 * 512 + win5_2.xsize (grid5.coords t) 1
    rw [e.2, x.2]; omega

/-- The array `dw_in_x`'s window 2 writes, as the region leaves it. -/
theorem final5_2 (c : Dev nD) (f0 : Fin 2176 → Fin 1024 → EReal) (f1 : Fin 2176 → Fin 1024 → EReal)
    (h0 : V c (Pipeline.arrRef spec5 0) = emb f0) (h1 : V c (Pipeline.arrRef spec5 1) = emb f1) :
    (dat5 V c).arrAt 2 cfg5.N = emb (tmm f0 f1) :=
  (dat5 V c).arrAt_eq_of_cover 2 (emb (tmm f0 f1)) (fun t _ => flushed5_2 V c f0 f1 h0 h1 t) cover5_2

end Cert.Kernel2Ideal.Value

end
-- ==== Proof.RegionNorm1.lean ====
/- What the backward call through the first normalization leaves: the cotangent of its argument block by block, and the
   weights' cotangent, which every grid point adds its rows to. -/
module

public import proofs.«01_k».proof.Proof.Blocks
public import proofs.«01_k».proof.Proof.Payload2
public import proofs.«01_k».proof.Proof.Gen.Kernel2Ideal.Frame.Region6
public import Idealize.ShloMosaic.Lib.Pipeline.Value

@[expose] public section

set_option maxRecDepth 16384

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen Cert.Wide
open Cert.Block (hz)

section Body
variable {F : FTy → Type} [FloatOps F]

theorem bodyA_15 (c : Dev nD) (i : grid6.Coords) (a0 : Memref sig .tc .vmem S272x1024 .bf16) (h0 : a0.IsWhole) (a1 : Memref sig .tc .vmem S1024x1024 .bf16) (h1 : a1.IsWhole) (a2 : Memref sig .tc .vmem S272x1024 .bf16) (h2 : a2.IsWhole) (a3 : Memref sig .tc .vmem S1024x1024 .bf16) (h3 : a3.IsWhole) (a4 : Memref sig .tc .vmem S272x512 .bf16) (h4 : a4.IsWhole) (a5 : Memref sig .tc .vmem S512x1024 .bf16) (h5 : a5.IsWhole) (a6 : Memref sig .tc .vmem S272x128 .bf16) (h6 : a6.IsWhole) (a7 : Memref sig .tc .vmem S128x1024 .bf16) (h7 : a7.IsWhole) (a8 : Memref sig .tc .vmem S272x1024 .bf16) (h8 : a8.IsWhole) (a9 : Memref sig .tc .vmem S1024x1024 .bf16) (h9 : a9.IsWhole) (a10 : Memref sig .tc .vmem S272x1024 .bf16) (h10 : a10.IsWhole) (a11 : Memref sig .tc .vmem S1024x1024 .bf16) (h11 : a11.IsWhole) (a12 : Memref sig .tc .vmem S272x1024 .f32) (h12 : a12.IsWhole) (a13 : Memref sig .tc .vmem S1x1024 .f32) (h13 : a13.IsWhole) (a14 : Memref sig .tc .vmem S272x1024 .f32) (h14 : a14.IsWhole) (a15 : Memref sig .tc .vmem S272x1024 .f32) (h15 : a15.IsWhole) (a16 : Memref sig .tc .vmem S272x1024 .bf16) (h16 : a16.IsWhole) (a17 : Memref sig .tc .vmem S1x1024 .f32) (h17 : a17.IsWhole) (hc : cond6_0 i)
    (x0 : Vec F S272x1024 .bf16) (x1 : Vec F S1024x1024 .bf16) (x2 : Vec F S272x1024 .bf16) (x3 : Vec F S1024x1024 .bf16) (x4 : Vec F S272x512 .bf16) (x5 : Vec F S512x1024 .bf16) (x6 : Vec F S272x128 .bf16) (x7 : Vec F S128x1024 .bf16) (x8 : Vec F S272x1024 .bf16) (x9 : Vec F S1024x1024 .bf16) (x10 : Vec F S272x1024 .bf16) (x11 : Vec F S1024x1024 .bf16) (x12 : Vec F S272x1024 .f32) (x13 : Vec F S1x1024 .f32) (x14 : Vec F S272x1024 .f32) :
    out6_A_15 c i a0 h0 a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 x14 = k6_pay7 (k6_pay3 x0 x1 x2 x3 x4 x5 x6 x7 x8 x9) x10 x11 x12 x13 x14 := by
  unfold out6_A_15
  rw [View.read_writes_eq_canon _ _ _ (cover6_A_15 c i a0 h0 a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 x14)]
  unfold kernelRun6_A
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S272x1024) hz, View.ld_unit_zero (S := S1024x1024) hz, View.ld_unit_zero (S := S272x512) hz, View.ld_unit_zero (S := S512x1024) hz, View.ld_unit_zero (S := S272x128) hz, View.ld_unit_zero (S := S128x1024) hz, View.ld_unit_zero (S := S1x1024) hz]

theorem bodyA_17 (c : Dev nD) (i : grid6.Coords) (a0 : Memref sig .tc .vmem S272x1024 .bf16) (h0 : a0.IsWhole) (a1 : Memref sig .tc .vmem S1024x1024 .bf16) (h1 : a1.IsWhole) (a2 : Memref sig .tc .vmem S272x1024 .bf16) (h2 : a2.IsWhole) (a3 : Memref sig .tc .vmem S1024x1024 .bf16) (h3 : a3.IsWhole) (a4 : Memref sig .tc .vmem S272x512 .bf16) (h4 : a4.IsWhole) (a5 : Memref sig .tc .vmem S512x1024 .bf16) (h5 : a5.IsWhole) (a6 : Memref sig .tc .vmem S272x128 .bf16) (h6 : a6.IsWhole) (a7 : Memref sig .tc .vmem S128x1024 .bf16) (h7 : a7.IsWhole) (a8 : Memref sig .tc .vmem S272x1024 .bf16) (h8 : a8.IsWhole) (a9 : Memref sig .tc .vmem S1024x1024 .bf16) (h9 : a9.IsWhole) (a10 : Memref sig .tc .vmem S272x1024 .bf16) (h10 : a10.IsWhole) (a11 : Memref sig .tc .vmem S1024x1024 .bf16) (h11 : a11.IsWhole) (a12 : Memref sig .tc .vmem S272x1024 .f32) (h12 : a12.IsWhole) (a13 : Memref sig .tc .vmem S1x1024 .f32) (h13 : a13.IsWhole) (a14 : Memref sig .tc .vmem S272x1024 .f32) (h14 : a14.IsWhole) (a15 : Memref sig .tc .vmem S272x1024 .f32) (h15 : a15.IsWhole) (a16 : Memref sig .tc .vmem S272x1024 .bf16) (h16 : a16.IsWhole) (a17 : Memref sig .tc .vmem S1x1024 .f32) (h17 : a17.IsWhole) (hc : cond6_0 i)
    (x0 : Vec F S272x1024 .bf16) (x1 : Vec F S1024x1024 .bf16) (x2 : Vec F S272x1024 .bf16) (x3 : Vec F S1024x1024 .bf16) (x4 : Vec F S272x512 .bf16) (x5 : Vec F S512x1024 .bf16) (x6 : Vec F S272x128 .bf16) (x7 : Vec F S128x1024 .bf16) (x8 : Vec F S272x1024 .bf16) (x9 : Vec F S1024x1024 .bf16) (x10 : Vec F S272x1024 .bf16) (x11 : Vec F S1024x1024 .bf16) (x12 : Vec F S272x1024 .f32) (x13 : Vec F S1x1024 .f32) (x14 : Vec F S272x1024 .f32) :
    out6_A_17 c i a0 h0 a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 x14 = k6_pay1 (k6_pay9 k6_pay2) (k6_pay10 (k6_pay3 x0 x1 x2 x3 x4 x5 x6 x7 x8 x9) x10 x11 x12) := by
  unfold out6_A_17
  rw [View.read_writes_eq_canon _ _ _ (cover6_A_17 c i a0 h0 a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 x14)]
  unfold kernelRun6_A
  dsimp only
  sl_unfold_words
  rw [View.canon_cons_unit_zero (S := S1x1024) hz, View.readCov_unit_zero (S := S1x1024) _ hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S272x1024) hz, View.ld_unit_zero (S := S1024x1024) hz, View.ld_unit_zero (S := S272x512) hz, View.ld_unit_zero (S := S512x1024) hz, View.ld_unit_zero (S := S272x128) hz, View.ld_unit_zero (S := S128x1024) hz, View.ld_unit_zero (S := S1x1024) hz]

theorem bodyB_15 (c : Dev nD) (i : grid6.Coords) (a0 : Memref sig .tc .vmem S272x1024 .bf16) (h0 : a0.IsWhole) (a1 : Memref sig .tc .vmem S1024x1024 .bf16) (h1 : a1.IsWhole) (a2 : Memref sig .tc .vmem S272x1024 .bf16) (h2 : a2.IsWhole) (a3 : Memref sig .tc .vmem S1024x1024 .bf16) (h3 : a3.IsWhole) (a4 : Memref sig .tc .vmem S272x512 .bf16) (h4 : a4.IsWhole) (a5 : Memref sig .tc .vmem S512x1024 .bf16) (h5 : a5.IsWhole) (a6 : Memref sig .tc .vmem S272x128 .bf16) (h6 : a6.IsWhole) (a7 : Memref sig .tc .vmem S128x1024 .bf16) (h7 : a7.IsWhole) (a8 : Memref sig .tc .vmem S272x1024 .bf16) (h8 : a8.IsWhole) (a9 : Memref sig .tc .vmem S1024x1024 .bf16) (h9 : a9.IsWhole) (a10 : Memref sig .tc .vmem S272x1024 .bf16) (h10 : a10.IsWhole) (a11 : Memref sig .tc .vmem S1024x1024 .bf16) (h11 : a11.IsWhole) (a12 : Memref sig .tc .vmem S272x1024 .f32) (h12 : a12.IsWhole) (a13 : Memref sig .tc .vmem S1x1024 .f32) (h13 : a13.IsWhole) (a14 : Memref sig .tc .vmem S272x1024 .f32) (h14 : a14.IsWhole) (a15 : Memref sig .tc .vmem S272x1024 .f32) (h15 : a15.IsWhole) (a16 : Memref sig .tc .vmem S272x1024 .bf16) (h16 : a16.IsWhole) (a17 : Memref sig .tc .vmem S1x1024 .f32) (h17 : a17.IsWhole) (hc : ¬cond6_0 i)
    (x0 : Vec F S272x1024 .bf16) (x1 : Vec F S1024x1024 .bf16) (x2 : Vec F S272x1024 .bf16) (x3 : Vec F S1024x1024 .bf16) (x4 : Vec F S272x512 .bf16) (x5 : Vec F S512x1024 .bf16) (x6 : Vec F S272x128 .bf16) (x7 : Vec F S128x1024 .bf16) (x8 : Vec F S272x1024 .bf16) (x9 : Vec F S1024x1024 .bf16) (x10 : Vec F S272x1024 .bf16) (x11 : Vec F S1024x1024 .bf16) (x12 : Vec F S272x1024 .f32) (x13 : Vec F S1x1024 .f32) (x14 : Vec F S272x1024 .f32) (xo : Vec F S1x1024 .f32) :
    out6_B_15 c i a0 h0 a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 x14 xo = k6_pay7 (k6_pay3 x0 x1 x2 x3 x4 x5 x6 x7 x8 x9) x10 x11 x12 x13 x14 := by
  unfold out6_B_15
  rw [View.read_writes_eq_canon _ _ _ (cover6_B_15 c i a0 h0 a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 x14 xo)]
  unfold kernelRun6_B
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h17.read_unread, View.ld_unit_zero (S := S272x1024) hz, View.ld_unit_zero (S := S1024x1024) hz, View.ld_unit_zero (S := S272x512) hz, View.ld_unit_zero (S := S512x1024) hz, View.ld_unit_zero (S := S272x128) hz, View.ld_unit_zero (S := S128x1024) hz, View.ld_unit_zero (S := S1x1024) hz]

theorem bodyB_17 (c : Dev nD) (i : grid6.Coords) (a0 : Memref sig .tc .vmem S272x1024 .bf16) (h0 : a0.IsWhole) (a1 : Memref sig .tc .vmem S1024x1024 .bf16) (h1 : a1.IsWhole) (a2 : Memref sig .tc .vmem S272x1024 .bf16) (h2 : a2.IsWhole) (a3 : Memref sig .tc .vmem S1024x1024 .bf16) (h3 : a3.IsWhole) (a4 : Memref sig .tc .vmem S272x512 .bf16) (h4 : a4.IsWhole) (a5 : Memref sig .tc .vmem S512x1024 .bf16) (h5 : a5.IsWhole) (a6 : Memref sig .tc .vmem S272x128 .bf16) (h6 : a6.IsWhole) (a7 : Memref sig .tc .vmem S128x1024 .bf16) (h7 : a7.IsWhole) (a8 : Memref sig .tc .vmem S272x1024 .bf16) (h8 : a8.IsWhole) (a9 : Memref sig .tc .vmem S1024x1024 .bf16) (h9 : a9.IsWhole) (a10 : Memref sig .tc .vmem S272x1024 .bf16) (h10 : a10.IsWhole) (a11 : Memref sig .tc .vmem S1024x1024 .bf16) (h11 : a11.IsWhole) (a12 : Memref sig .tc .vmem S272x1024 .f32) (h12 : a12.IsWhole) (a13 : Memref sig .tc .vmem S1x1024 .f32) (h13 : a13.IsWhole) (a14 : Memref sig .tc .vmem S272x1024 .f32) (h14 : a14.IsWhole) (a15 : Memref sig .tc .vmem S272x1024 .f32) (h15 : a15.IsWhole) (a16 : Memref sig .tc .vmem S272x1024 .bf16) (h16 : a16.IsWhole) (a17 : Memref sig .tc .vmem S1x1024 .f32) (h17 : a17.IsWhole) (hc : ¬cond6_0 i)
    (x0 : Vec F S272x1024 .bf16) (x1 : Vec F S1024x1024 .bf16) (x2 : Vec F S272x1024 .bf16) (x3 : Vec F S1024x1024 .bf16) (x4 : Vec F S272x512 .bf16) (x5 : Vec F S512x1024 .bf16) (x6 : Vec F S272x128 .bf16) (x7 : Vec F S128x1024 .bf16) (x8 : Vec F S272x1024 .bf16) (x9 : Vec F S1024x1024 .bf16) (x10 : Vec F S272x1024 .bf16) (x11 : Vec F S1024x1024 .bf16) (x12 : Vec F S272x1024 .f32) (x13 : Vec F S1x1024 .f32) (x14 : Vec F S272x1024 .f32) (xo : Vec F S1x1024 .f32) :
    out6_B_17 c i a0 h0 a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 x14 xo = k6_pay1 (k6_pay9 xo) (k6_pay10 (k6_pay3 x0 x1 x2 x3 x4 x5 x6 x7 x8 x9) x10 x11 x12) := by
  unfold out6_B_17
  rw [View.read_writes_eq_canon _ _ _ (cover6_B_17 c i a0 h0 a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 x14 xo)]
  unfold kernelRun6_B
  dsimp only
  sl_unfold_words
  rw [View.canon_unit_zero hz]
  simp only [View.readAt_eq_ld, h0.read_unread, h1.read_unread, h2.read_unread, h3.read_unread, h4.read_unread, h5.read_unread, h6.read_unread, h7.read_unread, h8.read_unread, h9.read_unread, h10.read_unread, h11.read_unread, h12.read_unread, h13.read_unread, h14.read_unread, h17.read_unread, View.ld_unit_zero (S := S272x1024) hz, View.ld_unit_zero (S := S1024x1024) hz, View.ld_unit_zero (S := S272x512) hz, View.ld_unit_zero (S := S512x1024) hz, View.ld_unit_zero (S := S272x128) hz, View.ld_unit_zero (S := S128x1024) hz, View.ld_unit_zero (S := S1x1024) hz]

end Body

variable (V : (c : Dev nD) → (b : Ref sig .tc) → Buf (Elt Ideal) ((c : Thread nD τ).loc b))

theorem index6_0 (t : Fin cfg6.N) : win6_0.index t 0 * 272 = 272 * t.val ∧ win6_0.index t 1 * 1024 = 0 := by
  rcases fin_N6 t with rfl | rfl | rfl | rfl | rfl | rfl | rfl | rfl <;> decide +kernel

theorem read6_0 (f : Fin 2176 → Fin 1024 → EReal) (t : Fin cfg6.N) :
    ((cfg6.win 0).blk t).view.read (Elt Ideal) (emb f) = emb (a := 272) (b := 1024) (rows f (272 * t.val) (by have h := t.isLt; have hN : cfg6.N = 8 := N_6; omega)) := by
  funext j
  rw [View.read_apply]
  refine emb_congr f _ _ _ (Fin.ext ?_) (Fin.ext ?_)
  · show win6_0.index t 0 * 272 + 1 * (j 0).val = 272 * t.val + (j 0).val
    rw [(index6_0 t).1]; omega
  · show win6_0.index t 1 * 1024 + 1 * (j 1).val = (j 1).val
    rw [(index6_0 t).2]; omega

theorem index6_1 (t : Fin cfg6.N) : win6_1.index t 0 * 1024 = 0 ∧ win6_1.index t 1 * 1024 = 0 := by
  rcases fin_N6 t with rfl | rfl | rfl | rfl | rfl | rfl | rfl | rfl <;> decide +kernel

theorem read6_1 (f : Fin 1024 → Fin 1024 → EReal) (t : Fin cfg6.N) :
    ((cfg6.win 1).blk t).view.read (Elt Ideal) (emb f) = emb (a := 1024) (b := 1024) f := by
  funext j
  rw [View.read_apply]
  refine emb_congr f _ _ _ (Fin.ext ?_) (Fin.ext ?_)
  · show win6_1.index t 0 * 1024 + 1 * (j 0).val = (j 0).val
    rw [(index6_1 t).1]; omega
  · show win6_1.index t 1 * 1024 + 1 * (j 1).val = (j 1).val
    rw [(index6_1 t).2]; omega

theorem index6_2 (t : Fin cfg6.N) : win6_2.index t 0 * 272 = 272 * t.val ∧ win6_2.index t 1 * 1024 = 0 := by
  rcases fin_N6 t with rfl | rfl | rfl | rfl | rfl | rfl | rfl | rfl <;> decide +kernel

theorem read6_2 (f : Fin 2176 → Fin 1024 → EReal) (t : Fin cfg6.N) :
    ((cfg6.win 2).blk t).view.read (Elt Ideal) (emb f) = emb (a := 272) (b := 1024) (rows f (272 * t.val) (by have h := t.isLt; have hN : cfg6.N = 8 := N_6; omega)) := by
  funext j
  rw [View.read_apply]
  refine emb_congr f _ _ _ (Fin.ext ?_) (Fin.ext ?_)
  · show win6_2.index t 0 * 272 + 1 * (j 0).val = 272 * t.val + (j 0).val
    rw [(index6_2 t).1]; omega
  · show win6_2.index t 1 * 1024 + 1 * (j 1).val = (j 1).val
    rw [(index6_2 t).2]; omega

theorem index6_3 (t : Fin cfg6.N) : win6_3.index t 0 * 1024 = 0 ∧ win6_3.index t 1 * 1024 = 0 := by
  rcases fin_N6 t with rfl | rfl | rfl | rfl | rfl | rfl | rfl | rfl <;> decide +kernel

theorem read6_3 (f : Fin 1024 → Fin 1024 → EReal) (t : Fin cfg6.N) :
    ((cfg6.win 3).blk t).view.read (Elt Ideal) (emb f) = emb (a := 1024) (b := 1024) f := by
  funext j
  rw [View.read_apply]
  refine emb_congr f _ _ _ (Fin.ext ?_) (Fin.ext ?_)
  · show win6_3.index t 0 * 1024 + 1 * (j 0).val = (j 0).val
    rw [(index6_3 t).1]; omega
  · show win6_3.index t 1 * 1024 + 1 * (j 1).val = (j 1).val
    rw [(index6_3 t).2]; omega

theorem index6_4 (t : Fin cfg6.N) : win6_4.index t 0 * 272 = 272 * t.val ∧ win6_4.index t 1 * 512 = 0 := by
  rcases fin_N6 t with rfl | rfl | rfl | rfl | rfl | rfl | rfl | rfl <;> decide +kernel

theorem read6_4 (f : Fin 2176 → Fin 512 → EReal) (t : Fin cfg6.N) :
    ((cfg6.win 4).blk t).view.read (Elt Ideal) (emb f) = emb (a := 272) (b := 512) (rows f (272 * t.val) (by have h := t.isLt; have hN : cfg6.N = 8 := N_6; omega)) := by
  funext j
  rw [View.read_apply]
  refine emb_congr f _ _ _ (Fin.ext ?_) (Fin.ext ?_)
  · show win6_4.index t 0 * 272 + 1 * (j 0).val = 272 * t.val + (j 0).val
    rw [(index6_4 t).1]; omega
  · show win6_4.index t 1 * 512 + 1 * (j 1).val = (j 1).val
    rw [(index6_4 t).2]; omega

theorem index6_5 (t : Fin cfg6.N) : win6_5.index t 0 * 512 = 0 ∧ win6_5.index t 1 * 1024 = 0 := by
  rcases fin_N6 t with rfl | rfl | rfl | rfl | rfl | rfl | rfl | rfl <;> decide +kernel

theorem read6_5 (f : Fin 512 → Fin 1024 → EReal) (t : Fin cfg6.N) :
    ((cfg6.win 5).blk t).view.read (Elt Ideal) (emb f) = emb (a := 512) (b := 1024) f := by
  funext j
  rw [View.read_apply]
  refine emb_congr f _ _ _ (Fin.ext ?_) (Fin.ext ?_)
  · show win6_5.index t 0 * 512 + 1 * (j 0).val = (j 0).val
    rw [(index6_5 t).1]; omega
  · show win6_5.index t 1 * 1024 + 1 * (j 1).val = (j 1).val
    rw [(index6_5 t).2]; omega

theorem index6_6 (t : Fin cfg6.N) : win6_6.index t 0 * 272 = 272 * t.val ∧ win6_6.index t 1 * 128 = 0 := by
  rcases fin_N6 t with rfl | rfl | rfl | rfl | rfl | rfl | rfl | rfl <;> decide +kernel

theorem read6_6 (f : Fin 2176 → Fin 128 → EReal) (t : Fin cfg6.N) :
    ((cfg6.win 6).blk t).view.read (Elt Ideal) (emb f) = emb (a := 272) (b := 128) (rows f (272 * t.val) (by have h := t.isLt; have hN : cfg6.N = 8 := N_6; omega)) := by
  funext j
  rw [View.read_apply]
  refine emb_congr f _ _ _ (Fin.ext ?_) (Fin.ext ?_)
  · show win6_6.index t 0 * 272 + 1 * (j 0).val = 272 * t.val + (j 0).val
    rw [(index6_6 t).1]; omega
  · show win6_6.index t 1 * 128 + 1 * (j 1).val = (j 1).val
    rw [(index6_6 t).2]; omega

theorem index6_7 (t : Fin cfg6.N) : win6_7.index t 0 * 128 = 0 ∧ win6_7.index t 1 * 1024 = 0 := by
  rcases fin_N6 t with rfl | rfl | rfl | rfl | rfl | rfl | rfl | rfl <;> decide +kernel

theorem read6_7 (f : Fin 128 → Fin 1024 → EReal) (t : Fin cfg6.N) :
    ((cfg6.win 7).blk t).view.read (Elt Ideal) (emb f) = emb (a := 128) (b := 1024) f := by
  funext j
  rw [View.read_apply]
  refine emb_congr f _ _ _ (Fin.ext ?_) (Fin.ext ?_)
  · show win6_7.index t 0 * 128 + 1 * (j 0).val = (j 0).val
    rw [(index6_7 t).1]; omega
  · show win6_7.index t 1 * 1024 + 1 * (j 1).val = (j 1).val
    rw [(index6_7 t).2]; omega

theorem index6_8 (t : Fin cfg6.N) : win6_8.index t 0 * 272 = 272 * t.val ∧ win6_8.index t 1 * 1024 = 0 := by
  rcases fin_N6 t with rfl | rfl | rfl | rfl | rfl | rfl | rfl | rfl <;> decide +kernel

theorem read6_8 (f : Fin 2176 → Fin 1024 → EReal) (t : Fin cfg6.N) :
    ((cfg6.win 8).blk t).view.read (Elt Ideal) (emb f) = emb (a := 272) (b := 1024) (rows f (272 * t.val) (by have h := t.isLt; have hN : cfg6.N = 8 := N_6; omega)) := by
  funext j
  rw [View.read_apply]
  refine emb_congr f _ _ _ (Fin.ext ?_) (Fin.ext ?_)
  · show win6_8.index t 0 * 272 + 1 * (j 0).val = 272 * t.val + (j 0).val
    rw [(index6_8 t).1]; omega
  · show win6_8.index t 1 * 1024 + 1 * (j 1).val = (j 1).val
    rw [(index6_8 t).2]; omega

theorem index6_9 (t : Fin cfg6.N) : win6_9.index t 0 * 1024 = 0 ∧ win6_9.index t 1 * 1024 = 0 := by
  rcases fin_N6 t with rfl | rfl | rfl | rfl | rfl | rfl | rfl | rfl <;> decide +kernel

theorem read6_9 (f : Fin 1024 → Fin 1024 → EReal) (t : Fin cfg6.N) :
    ((cfg6.win 9).blk t).view.read (Elt Ideal) (emb f) = emb (a := 1024) (b := 1024) f := by
  funext j
  rw [View.read_apply]
  refine emb_congr f _ _ _ (Fin.ext ?_) (Fin.ext ?_)
  · show win6_9.index t 0 * 1024 + 1 * (j 0).val = (j 0).val
    rw [(index6_9 t).1]; omega
  · show win6_9.index t 1 * 1024 + 1 * (j 1).val = (j 1).val
    rw [(index6_9 t).2]; omega

theorem index6_10 (t : Fin cfg6.N) : win6_10.index t 0 * 272 = 272 * t.val ∧ win6_10.index t 1 * 1024 = 0 := by
  rcases fin_N6 t with rfl | rfl | rfl | rfl | rfl | rfl | rfl | rfl <;> decide +kernel

theorem read6_10 (f : Fin 2176 → Fin 1024 → EReal) (t : Fin cfg6.N) :
    ((cfg6.win 10).blk t).view.read (Elt Ideal) (emb f) = emb (a := 272) (b := 1024) (rows f (272 * t.val) (by have h := t.isLt; have hN : cfg6.N = 8 := N_6; omega)) := by
  funext j
  rw [View.read_apply]
  refine emb_congr f _ _ _ (Fin.ext ?_) (Fin.ext ?_)
  · show win6_10.index t 0 * 272 + 1 * (j 0).val = 272 * t.val + (j 0).val
    rw [(index6_10 t).1]; omega
  · show win6_10.index t 1 * 1024 + 1 * (j 1).val = (j 1).val
    rw [(index6_10 t).2]; omega

theorem index6_11 (t : Fin cfg6.N) : win6_11.index t 0 * 1024 = 0 ∧ win6_11.index t 1 * 1024 = 0 := by
  rcases fin_N6 t with rfl | rfl | rfl | rfl | rfl | rfl | rfl | rfl <;> decide +kernel

theorem read6_11 (f : Fin 1024 → Fin 1024 → EReal) (t : Fin cfg6.N) :
    ((cfg6.win 11).blk t).view.read (Elt Ideal) (emb f) = emb (a := 1024) (b := 1024) f := by
  funext j
  rw [View.read_apply]
  refine emb_congr f _ _ _ (Fin.ext ?_) (Fin.ext ?_)
  · show win6_11.index t 0 * 1024 + 1 * (j 0).val = (j 0).val
    rw [(index6_11 t).1]; omega
  · show win6_11.index t 1 * 1024 + 1 * (j 1).val = (j 1).val
    rw [(index6_11 t).2]; omega

theorem index6_12 (t : Fin cfg6.N) : win6_12.index t 0 * 272 = 272 * t.val ∧ win6_12.index t 1 * 1024 = 0 := by
  rcases fin_N6 t with rfl | rfl | rfl | rfl | rfl | rfl | rfl | rfl <;> decide +kernel

theorem read6_12 (f : Fin 2176 → Fin 1024 → EReal) (t : Fin cfg6.N) :
    ((cfg6.win 12).blk t).view.read (Elt Ideal) (emb f) = emb (a := 272) (b := 1024) (rows f (272 * t.val) (by have h := t.isLt; have hN : cfg6.N = 8 := N_6; omega)) := by
  funext j
  rw [View.read_apply]
  refine emb_congr f _ _ _ (Fin.ext ?_) (Fin.ext ?_)
  · show win6_12.index t 0 * 272 + 1 * (j 0).val = 272 * t.val + (j 0).val
    rw [(index6_12 t).1]; omega
  · show win6_12.index t 1 * 1024 + 1 * (j 1).val = (j 1).val
    rw [(index6_12 t).2]; omega

theorem index6_13 (t : Fin cfg6.N) : win6_13.index t 0 * 1 = 0 ∧ win6_13.index t 1 * 1024 = 0 := by
  rcases fin_N6 t with rfl | rfl | rfl | rfl | rfl | rfl | rfl | rfl <;> decide +kernel

theorem read6_13 (f : Fin 1 → Fin 1024 → EReal) (t : Fin cfg6.N) :
    ((cfg6.win 13).blk t).view.read (Elt Ideal) (emb f) = emb (a := 1) (b := 1024) f := by
  funext j
  rw [View.read_apply]
  refine emb_congr f _ _ _ (Fin.ext ?_) (Fin.ext ?_)
  · show win6_13.index t 0 * 1 + 1 * (j 0).val = (j 0).val
    rw [(index6_13 t).1]; omega
  · show win6_13.index t 1 * 1024 + 1 * (j 1).val = (j 1).val
    rw [(index6_13 t).2]; omega

theorem index6_14 (t : Fin cfg6.N) : win6_14.index t 0 * 272 = 272 * t.val ∧ win6_14.index t 1 * 1024 = 0 := by
  rcases fin_N6 t with rfl | rfl | rfl | rfl | rfl | rfl | rfl | rfl <;> decide +kernel

theorem read6_14 (f : Fin 2176 → Fin 1024 → EReal) (t : Fin cfg6.N) :
    ((cfg6.win 14).blk t).view.read (Elt Ideal) (emb f) = emb (a := 272) (b := 1024) (rows f (272 * t.val) (by have h := t.isLt; have hN : cfg6.N = 8 := N_6; omega)) := by
  funext j
  rw [View.read_apply]
  refine emb_congr f _ _ _ (Fin.ext ?_) (Fin.ext ?_)
  · show win6_14.index t 0 * 272 + 1 * (j 0).val = 272 * t.val + (j 0).val
    rw [(index6_14 t).1]; omega
  · show win6_14.index t 1 * 1024 + 1 * (j 1).val = (j 1).val
    rw [(index6_14 t).2]; omega

theorem index6_15 (t : Fin cfg6.N) : win6_15.index t 0 * 272 = 272 * t.val ∧ win6_15.index t 1 * 1024 = 0 := by
  rcases fin_N6 t with rfl | rfl | rfl | rfl | rfl | rfl | rfl | rfl <;> decide +kernel

theorem read6_15 (f : Fin 2176 → Fin 1024 → EReal) (t : Fin cfg6.N) :
    ((cfg6.win 15).blk t).view.read (Elt Ideal) (emb f) = emb (a := 272) (b := 1024) (rows f (272 * t.val) (by have h := t.isLt; have hN : cfg6.N = 8 := N_6; omega)) := by
  funext j
  rw [View.read_apply]
  refine emb_congr f _ _ _ (Fin.ext ?_) (Fin.ext ?_)
  · show win6_15.index t 0 * 272 + 1 * (j 0).val = 272 * t.val + (j 0).val
    rw [(index6_15 t).1]; omega
  · show win6_15.index t 1 * 1024 + 1 * (j 1).val = (j 1).val
    rw [(index6_15 t).2]; omega

theorem index6_16 (t : Fin cfg6.N) : win6_16.index t 0 * 272 = 272 * t.val ∧ win6_16.index t 1 * 1024 = 0 := by
  rcases fin_N6 t with rfl | rfl | rfl | rfl | rfl | rfl | rfl | rfl <;> decide +kernel

theorem read6_16 (f : Fin 2176 → Fin 1024 → EReal) (t : Fin cfg6.N) :
    ((cfg6.win 16).blk t).view.read (Elt Ideal) (emb f) = emb (a := 272) (b := 1024) (rows f (272 * t.val) (by have h := t.isLt; have hN : cfg6.N = 8 := N_6; omega)) := by
  funext j
  rw [View.read_apply]
  refine emb_congr f _ _ _ (Fin.ext ?_) (Fin.ext ?_)
  · show win6_16.index t 0 * 272 + 1 * (j 0).val = 272 * t.val + (j 0).val
    rw [(index6_16 t).1]; omega
  · show win6_16.index t 1 * 1024 + 1 * (j 1).val = (j 1).val
    rw [(index6_16 t).2]; omega

theorem index6_17 (t : Fin cfg6.N) : win6_17.index t 0 * 1 = 0 ∧ win6_17.index t 1 * 1024 = 0 := by
  rcases fin_N6 t with rfl | rfl | rfl | rfl | rfl | rfl | rfl | rfl <;> decide +kernel

theorem read6_17 (f : Fin 1 → Fin 1024 → EReal) (t : Fin cfg6.N) :
    ((cfg6.win 17).blk t).view.read (Elt Ideal) (emb f) = emb (a := 1) (b := 1024) f := by
  funext j
  rw [View.read_apply]
  refine emb_congr f _ _ _ (Fin.ext ?_) (Fin.ext ?_)
  · show win6_17.index t 0 * 1 + 1 * (j 0).val = (j 0).val
    rw [(index6_17 t).1]; omega
  · show win6_17.index t 1 * 1024 + 1 * (j 1).val = (j 1).val
    rw [(index6_17 t).2]; omega

/-- The matrices the call reads: the six sections of the projection's cotangent and of its weights, the normalization's
    argument and weights, and the residual's cotangent. -/
structure Operands where
  f0 : Fin 2176 → Fin 1024 → EReal
  f1 : Fin 1024 → Fin 1024 → EReal
  f2 : Fin 2176 → Fin 1024 → EReal
  f3 : Fin 1024 → Fin 1024 → EReal
  f4 : Fin 2176 → Fin 512 → EReal
  f5 : Fin 512 → Fin 1024 → EReal
  f6 : Fin 2176 → Fin 128 → EReal
  f7 : Fin 128 → Fin 1024 → EReal
  f8 : Fin 2176 → Fin 1024 → EReal
  f9 : Fin 1024 → Fin 1024 → EReal
  f10 : Fin 2176 → Fin 1024 → EReal
  f11 : Fin 1024 → Fin 1024 → EReal
  f12 : Fin 2176 → Fin 1024 → EReal
  f13 : Fin 1 → Fin 1024 → EReal
  f14 : Fin 2176 → Fin 1024 → EReal

/-- What the six products sum to. -/
def Operands.sum (p : Operands) : Fin 2176 → Fin 1024 → EReal :=
  six p.f0 p.f1 p.f2 p.f3 p.f4 p.f5 p.f6 p.f7 p.f8 p.f9 p.f10 p.f11

/-- The call's input arrays hold the matrices `p`. -/
structure Entry (c : Dev nD) (p : Operands) : Prop where
  h0 : V c main_arg3 = emb p.f0
  h1 : V c main_v26 = emb p.f1
  h2 : V c main_arg4 = emb p.f2
  h3 : V c main_v27 = emb p.f3
  h4 : V c main_arg5 = emb p.f4
  h5 : V c main_v28 = emb p.f5
  h6 : V c main_arg6 = emb p.f6
  h7 : V c main_v29 = emb p.f7
  h8 : V c main_arg7 = emb p.f8
  h9 : V c main_v30 = emb p.f9
  h10 : V c main_arg8 = emb p.f10
  h11 : V c main_v31 = emb p.f11
  h12 : V c main_arg0 = emb p.f12
  h13 : V c main_arg1 = emb p.f13
  h14 : V c main_arg9 = emb p.f14

theorem bound6 (t : Fin cfg6.N) : 272 * t.val + 272 ≤ 2176 := by
  have h := t.isLt; have hN : cfg6.N = 8 := N_6; omega

section
variable (c : Dev nD) (p : Operands) (H : Entry V c p) (t : Fin cfg6.N)
include H

theorem block6_0 : iblk6 V c 0 t = emb (rows p.f0 (272 * t.val) (bound6 t)) := by
  unfold iblk6
  exact (congrArg (((cfg6.win 0).blk t).view.read (Elt Ideal)) H.h0).trans (read6_0 p.f0 t)

theorem block6_1 : iblk6 V c 1 t = emb p.f1 := by
  unfold iblk6
  exact (congrArg (((cfg6.win 1).blk t).view.read (Elt Ideal)) H.h1).trans (read6_1 p.f1 t)

theorem block6_2 : iblk6 V c 2 t = emb (rows p.f2 (272 * t.val) (bound6 t)) := by
  unfold iblk6
  exact (congrArg (((cfg6.win 2).blk t).view.read (Elt Ideal)) H.h2).trans (read6_2 p.f2 t)

theorem block6_3 : iblk6 V c 3 t = emb p.f3 := by
  unfold iblk6
  exact (congrArg (((cfg6.win 3).blk t).view.read (Elt Ideal)) H.h3).trans (read6_3 p.f3 t)

theorem block6_4 : iblk6 V c 4 t = emb (rows p.f4 (272 * t.val) (bound6 t)) := by
  unfold iblk6
  exact (congrArg (((cfg6.win 4).blk t).view.read (Elt Ideal)) H.h4).trans (read6_4 p.f4 t)

theorem block6_5 : iblk6 V c 5 t = emb p.f5 := by
  unfold iblk6
  exact (congrArg (((cfg6.win 5).blk t).view.read (Elt Ideal)) H.h5).trans (read6_5 p.f5 t)

theorem block6_6 : iblk6 V c 6 t = emb (rows p.f6 (272 * t.val) (bound6 t)) := by
  unfold iblk6
  exact (congrArg (((cfg6.win 6).blk t).view.read (Elt Ideal)) H.h6).trans (read6_6 p.f6 t)

theorem block6_7 : iblk6 V c 7 t = emb p.f7 := by
  unfold iblk6
  exact (congrArg (((cfg6.win 7).blk t).view.read (Elt Ideal)) H.h7).trans (read6_7 p.f7 t)

theorem block6_8 : iblk6 V c 8 t = emb (rows p.f8 (272 * t.val) (bound6 t)) := by
  unfold iblk6
  exact (congrArg (((cfg6.win 8).blk t).view.read (Elt Ideal)) H.h8).trans (read6_8 p.f8 t)

theorem block6_9 : iblk6 V c 9 t = emb p.f9 := by
  unfold iblk6
  exact (congrArg (((cfg6.win 9).blk t).view.read (Elt Ideal)) H.h9).trans (read6_9 p.f9 t)

theorem block6_10 : iblk6 V c 10 t = emb (rows p.f10 (272 * t.val) (bound6 t)) := by
  unfold iblk6
  exact (congrArg (((cfg6.win 10).blk t).view.read (Elt Ideal)) H.h10).trans (read6_10 p.f10 t)

theorem block6_11 : iblk6 V c 11 t = emb p.f11 := by
  unfold iblk6
  exact (congrArg (((cfg6.win 11).blk t).view.read (Elt Ideal)) H.h11).trans (read6_11 p.f11 t)

theorem block6_12 : iblk6 V c 12 t = emb (rows p.f12 (272 * t.val) (bound6 t)) := by
  unfold iblk6
  exact (congrArg (((cfg6.win 12).blk t).view.read (Elt Ideal)) H.h12).trans (read6_12 p.f12 t)

theorem block6_13 : iblk6 V c 13 t = emb p.f13 := by
  unfold iblk6
  exact (congrArg (((cfg6.win 13).blk t).view.read (Elt Ideal)) H.h13).trans (read6_13 p.f13 t)

theorem block6_14 : iblk6 V c 14 t = emb (rows p.f14 (272 * t.val) (bound6 t)) := by
  unfold iblk6
  exact (congrArg (((cfg6.win 14).blk t).view.read (Elt Ideal)) H.h14).trans (read6_14 p.f14 t)

/-- What the six products of point `t`'s rows sum to. -/
theorem sum_block : k6_pay4 (F := Ideal) (k6_pay3 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t)) (iblk6 V c 10 t) (iblk6 V c 11 t)
      = emb (rows p.sum (272 * t.val) (bound6 t)) := by
  rw [block6_0 V c p H t, block6_1 V c p H t, block6_2 V c p H t, block6_3 V c p H t, block6_4 V c p H t, block6_5 V c p H t, block6_6 V c p H t, block6_7 V c p H t, block6_8 V c p H t, block6_9 V c p H t, block6_10 V c p H t, block6_11 V c p H t, pay6d]
  rfl

/-- What point `t` leaves in the weights' cotangent, over what it found there. -/
theorem weight_step (xo : Fin 1 → Fin 1024 → EReal) :
    k6_pay1 (F := Ideal) (k6_pay9 (emb xo)) (k6_pay10 (k6_pay3 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t)) (iblk6 V c 10 t) (iblk6 V c 11 t) (iblk6 V c 12 t))
      = emb (fun i j => xo i j + ∑ l : Fin 272, rows (fun a b => p.sum a b * xhat p.f12 a b) (272 * t.val) (bound6 t) l j) := by
  rw [block6_12 V c p H t, pay6w _ _ _ _ _ _ (sum_block V c p H t)]
  rfl

theorem left15 : (outsAt6 V c t.val t.isLt).1 = emb (rows (dnorm p.f14 p.sum p.f12 p.f13) (272 * t.val) (bound6 t)) := by
  by_cases hz0 : t.val % 8 = 0
  · rw [outsAt6_A V c t hz0]
    dsimp only
    rw [bodyA_15, block6_12 V c p H t, block6_13 V c p H t, block6_14 V c p H t, pay6o _ _ _ _ _ _ _ (sum_block V c p H t)]
    rfl
  · rw [outsAt6_B V c t hz0]
    dsimp only
    rw [bodyB_15, block6_12 V c p H t, block6_13 V c p H t, block6_14 V c p H t, pay6o _ _ _ _ _ _ _ (sum_block V c p H t)]
    rfl

end

section
variable (c : Dev nD) (p : Operands) (H : Entry V c p)
include H

/-- After point `n` the weights' cotangent holds the sum over the rows of the points so far. -/
theorem left17 : ∀ (n : Nat) (hn : n < cfg6.N), (outsAt6 V c n hn).2.2
    = emb (fun (_ : Fin 1) j => ∑ r ∈ Finset.range (272 * (n + 1)), ext (fun a b => p.sum a b * xhat p.f12 a b) r j)
  | 0, hn => by
    have e := outsAt6_A V c ⟨0, hn⟩ rfl
    rw [show outsAt6 V c 0 hn = _ from e]
    dsimp only
    rw [bodyA_17, pay6z, weight_step V c p H ⟨0, hn⟩]
    congr 1
    funext i j
    rw [ext_rows]
    simp
  | n + 1, hn => by
    have hN : cfg6.N = 8 := N_6
    have hB : ¬(⟨n + 1, hn⟩ : Fin cfg6.N).val % 8 = 0 := by dsimp only; omega
    have e := outsAt6_B V c ⟨n + 1, hn⟩ hB
    rw [show outsAt6 V c (n + 1) hn = _ from e]
    dsimp only
    rw [bodyB_17]
    have ih := left17 n (Nat.lt_of_succ_lt hn)
    rw [show (outsAt6 V c (n + 1 - 1) _).2.2 = _ from ih, weight_step V c p H ⟨n + 1, hn⟩]
    congr 1
    funext i j
    rw [ext_rows]
    rw [show 272 * (n + 1 + 1) = 272 * (n + 1) + 272 from by ring, Finset.sum_range_add]

theorem flushed6_15 (t : Fin cfg6.N) : (dat6 V c).flushed 15 t = ((cfg6.win 15).blk t).view.read (Elt Ideal) (emb (dnorm p.f14 p.sum p.f12 p.f13)) := by
  rw [read6_15]
  show (cfg6.win 15).cut (grid6.coords t) ((dat6 V c).after 15 t) = _
  rw [after6_15, left15 V c p H t]
  rfl

end

theorem cover6_15 (i : (⟨2, ![2176, 1024]⟩ : Shape).Idx) :
    ∃ t : Fin cfg6.N, (cfg6.win 15).flush t = true ∧ i ∈ ((cfg6.win 15).blk t).view.set := by
  have h0 : (i 0 : Nat) < 2176 := (i 0).isLt
  have h1 : (i 1 : Nat) < 1024 := (i 1).isLt
  have hN : cfg6.N = 8 := N_6
  have ht : (i 0 : Nat) / 272 < cfg6.N := by omega
  refine ⟨⟨(i 0 : Nat) / 272, ht⟩, flush6_15 _, ?_⟩
  generalize htt : (⟨(i 0 : Nat) / 272, ht⟩ : Fin cfg6.N) = t
  have hv : t.val = (i 0 : Nat) / 272 := by rw [← htt]
  show i ∈ ((View.whole main_v38_0).slice (win6_15.rect t)).set
  rw [View.set_slice_whole, Rect.mem_set_unit]
  have e := index6_15 t
  have x : win6_15.xsize (grid6.coords t) 0 = 272 ∧ win6_15.xsize (grid6.coords t) 1 = 1024 := ⟨rfl, rfl⟩
  intro a
  match a with
  | ⟨0, _⟩ =>
    show win6_15.index t 0 * 272 ≤ (i 0 : Nat) ∧ (i 0 : Nat) < win6_15.index t 0 * 272 + win6_15.xsize (grid6.coords t) 0
    rw [e.1, x.1]; omega
  | ⟨1, _⟩ =>
    show win6_15.index t 1 * 1024 ≤ (i 1 : Nat) ∧ (i 1 : Nat) < win6_15.index t 1 * 1024 + win6_15.xsize (grid6.coords t) 1
    rw [e.2, x.2]; omega

section
variable (c : Dev nD) (p : Operands) (H : Entry V c p)
include H

theorem final6_15 : (dat6 V c).arrAt 15 cfg6.N = emb (dnorm p.f14 p.sum p.f12 p.f13) :=
  (dat6 V c).arrAt_eq_of_cover 15 (emb (dnorm p.f14 p.sum p.f12 p.f13)) (fun t _ => flushed6_15 V c p H t) cover6_15

theorem flushed6_17 (t : Fin cfg6.N) (hf : (cfg6.win 17).flush t = true) :
    (dat6 V c).flushed 17 t = ((cfg6.win 17).blk t).view.read (Elt Ideal) (emb (dweight p.sum p.f12)) := by
  have hN : cfg6.N = 8 := N_6
  have h7 : t.val = 7 := by have := (flush6_17 t).mp hf; have := t.isLt; omega
  rw [read6_17]
  show (cfg6.win 17).cut (grid6.coords t) ((dat6 V c).after 17 t) = _
  rw [after6_17, left17 V c p H t.val t.isLt, h7]
  have e : (fun (_ : Fin 1) (j : Fin 1024) => ∑ r ∈ Finset.range (272 * (7 + 1)), ext (fun a b => p.sum a b * xhat p.f12 a b) r j)
      = dweight p.sum p.f12 := by
    funext i j
    exact ext_all _ j
  rw [e]
  rfl

theorem final6_17 : (dat6 V c).arrAt 17 cfg6.N = emb (dweight p.sum p.f12) :=
  (dat6 V c).arrAt_eq_of_cover 17 (emb (dweight p.sum p.f12)) (flushed6_17 V c p H) fun i =>
    ⟨t6_7, (flush6_17 t6_7).mpr rfl, by
      show i ∈ ((View.whole main_v38_2).slice (win6_17.rect t6_7)).set
      rw [View.set_slice_whole, Rect.mem_set_unit]
      have h0 : (i 0 : Nat) < 1 := (i 0).isLt
      have h1 : (i 1 : Nat) < 1024 := (i 1).isLt
      have e := index6_17 t6_7
      have x : win6_17.xsize (grid6.coords t6_7) 0 = 1 ∧ win6_17.xsize (grid6.coords t6_7) 1 = 1024 := ⟨rfl, rfl⟩
      intro a
      match a with
      | ⟨0, _⟩ =>
        show win6_17.index t6_7 0 * 1 ≤ (i 0 : Nat) ∧ (i 0 : Nat) < win6_17.index t6_7 0 * 1 + win6_17.xsize (grid6.coords t6_7) 0
        rw [e.1, x.1]; omega
      | ⟨1, _⟩ =>
        show win6_17.index t6_7 1 * 1024 ≤ (i 1 : Nat) ∧ (i 1 : Nat) < win6_17.index t6_7 1 * 1024 + win6_17.xsize (grid6.coords t6_7) 1
        rw [e.2, x.2]; omega⟩

end

end Cert.Kernel2Ideal.Value

end
-- ==== Proof.Run2.lean ====
/- The run of the input projection's seven backward calls, read at every array: the generated frame's launch, whose last state is the fold of
   the seven regions' write-backs. -/
module

public import proofs.«01_k».proof.Proof.Gen.Kernel2Ideal.Frame

@[expose] public section

set_option maxRecDepth 16384

noncomputable section

namespace Cert.Kernel2Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, and every array lying in a device's memory then holds what the fold of the regions leaves there. -/
theorem run_fold : θ_run defs (onTc (τ := τ) (main (F := F))) ⟨m, fun _ => 0, ρ⟩ (fun r => ∀ c : Dev nD,
    ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => h)

end Cert.Kernel2Ideal.Value

end
-- ==== Proof.Reference2Run.lean ====
/- The run of the input projection's reference: a straight line of host operations in which every array is written
   once, so that at its end each array is its operation's value of the arrays that operation reads. -/
module

public import proofs.«01_k».proof.Proof.Gen.Reference2Ideal
public import proofs.«01_k».proof.Proof.ReferenceRun

@[expose] public section

set_option maxRecDepth 16384

noncomputable section

namespace Cert.Reference2Ideal.Value

open Idealize.ShloMosaic Idealize.ShloMosaic.TcCoe Idealize.ShloMosaic.Tactic Idealize.ShloMosaic.StableHlo Idealize.SL.Sem
open Cert.ReferenceIdeal.Value (end_nullary end_unary end_binary end_reshape end_of_op before_eq_end)
open Cert.Reference2Ideal Cert.Reference2Ideal.Facts₀ Cert.Reference2Ideal.Facts

/-- An operation of several operands in a line in which every array is written once. -/
theorem end_nary {τ : Topo} {sig : RefSig} {Val : EltTy → Type} {l : List (HloOp τ sig Val)} {W : List (Ref sig .tc)}
    (hW : l.map HloOp.writes = W.map fun r => {Proc.devRef (τ := τ) .tc r}) (V : Valuation τ sig Val) (i : Nat)
    {rest : List (HloOp τ sig Val)} {n : Nat} {xs : Fin n → Ref sig .tc} {y : Ref sig .tc}
    {f : ((k : Fin n) → (xs k).ty.Contents Val) → y.ty.Contents Val} {hxs hy}
    (hs : l.drop i = nary xs y f hxs hy :: rest) (hr : y ∉ W.drop (i + 1)) (hx : ∀ k, xs k ∉ W.drop i) :
    after l V (Proc.devRef .tc y) = f (fun k => after l V (Proc.devRef .tc (xs k))) := by
  rw [end_of_op hW V i hs hr, nary_result']
  exact congrArg f (funext fun k => before_eq_end hW V i (hx k))

variable {F : FTy → Type} [FloatOps F]

/-- The reference's operations in order. -/
abbrev ops : List (HloOp τ sig (Elt F)) :=
  [ StableHlo.unary main_arg3 main_v0 ((extf .f32 · bitsLt_bf16_f32) : (⟨S2176x1024, .bf16⟩ : BufTy).Contents (Elt F) → (⟨S2176x1024, .f32⟩ : BufTy).Contents (Elt F)),
    StableHlo.unary main_arg4 main_v1 ((extf .f32 · bitsLt_bf16_f32) : (⟨S2176x1024, .bf16⟩ : BufTy).Contents (Elt F) → (⟨S2176x1024, .f32⟩ : BufTy).Contents (Elt F)),
    StableHlo.unary main_arg5 main_v2 ((extf .f32 · bitsLt_bf16_f32) : (⟨S2176x512, .bf16⟩ : BufTy).Contents (Elt F) → (⟨S2176x512, .f32⟩ : BufTy).Contents (Elt F)),
    StableHlo.unary main_arg6 main_v3 ((extf .f32 · bitsLt_bf16_f32) : (⟨S2176x128, .bf16⟩ : BufTy).Contents (Elt F) → (⟨S2176x128, .f32⟩ : BufTy).Contents (Elt F)),
    StableHlo.unary main_arg7 main_v4 ((extf .f32 · bitsLt_bf16_f32) : (⟨S2176x1024, .bf16⟩ : BufTy).Contents (Elt F) → (⟨S2176x1024, .f32⟩ : BufTy).Contents (Elt F)),
    StableHlo.unary main_arg8 main_v5 ((extf .f32 · bitsLt_bf16_f32) : (⟨S2176x1024, .bf16⟩ : BufTy).Contents (Elt F) → (⟨S2176x1024, .f32⟩ : BufTy).Contents (Elt F)),
    StableHlo.binary main_arg0 main_arg0 main_v6 (mulf : (⟨S2176x1024, .f32⟩ : BufTy).Contents (Elt F) → (⟨S2176x1024, .f32⟩ : BufTy).Contents (Elt F) → (⟨S2176x1024, .f32⟩ : BufTy).Contents (Elt F)),
    StableHlo.nullary main_cst (constant S_ .f32 0x00000000#32),
    StableHlo.binary main_v6 main_cst main_v7 ((fun x v => Host.reduceAdd x v reducesTo_S2176x1024_S2176_d1 h_S_) : (⟨S2176x1024, .f32⟩ : BufTy).Contents (Elt F) → (⟨S_, .f32⟩ : BufTy).Contents (Elt F) → (⟨S2176, .f32⟩ : BufTy).Contents (Elt F)),
    StableHlo.unary main_v7 main_v8 (broadcastInDim S2176x1 ![0] bcast_S2176_S2176x1_0 : (⟨S2176, .f32⟩ : BufTy).Contents (Elt F) → (⟨S2176x1, .f32⟩ : BufTy).Contents (Elt F)),
    StableHlo.nullary main_cst_0 (constant S_ .f32 0x44800000#32),
    StableHlo.unary main_cst_0 main_v9 (broadcastInDim S2176x1 ![] bcast_S_S2176x1 : (⟨S_, .f32⟩ : BufTy).Contents (Elt F) → (⟨S2176x1, .f32⟩ : BufTy).Contents (Elt F)),
    StableHlo.binary main_v8 main_v9 main_v10 (Host.divf : (⟨S2176x1, .f32⟩ : BufTy).Contents (Elt F) → (⟨S2176x1, .f32⟩ : BufTy).Contents (Elt F) → (⟨S2176x1, .f32⟩ : BufTy).Contents (Elt F)),
    StableHlo.nullary main_cst_1 (constant S_ .f32 0x358637BD#32),
    StableHlo.unary main_cst_1 main_v11 (broadcastInDim S2176x1 ![] bcast_S_S2176x1 : (⟨S_, .f32⟩ : BufTy).Contents (Elt F) → (⟨S2176x1, .f32⟩ : BufTy).Contents (Elt F)),
    StableHlo.binary main_v10 main_v11 main_v12 (addf : (⟨S2176x1, .f32⟩ : BufTy).Contents (Elt F) → (⟨S2176x1, .f32⟩ : BufTy).Contents (Elt F) → (⟨S2176x1, .f32⟩ : BufTy).Contents (Elt F)),
    StableHlo.unary main_v12 main_v13 (Host.rsqrt : (⟨S2176x1, .f32⟩ : BufTy).Contents (Elt F) → (⟨S2176x1, .f32⟩ : BufTy).Contents (Elt F)),
    StableHlo.binary main_v13 main_v12 main_v14 (Host.divf : (⟨S2176x1, .f32⟩ : BufTy).Contents (Elt F) → (⟨S2176x1, .f32⟩ : BufTy).Contents (Elt F) → (⟨S2176x1, .f32⟩ : BufTy).Contents (Elt F)),
    StableHlo.nullary main_cst_2 (constant S_ .f32 0xBF000000#32),
    StableHlo.unary main_cst_2 main_v15 (broadcastInDim S2176x1 ![] bcast_S_S2176x1 : (⟨S_, .f32⟩ : BufTy).Contents (Elt F) → (⟨S2176x1, .f32⟩ : BufTy).Contents (Elt F)),
    StableHlo.binary main_v15 main_v14 main_v16 (mulf : (⟨S2176x1, .f32⟩ : BufTy).Contents (Elt F) → (⟨S2176x1, .f32⟩ : BufTy).Contents (Elt F) → (⟨S2176x1, .f32⟩ : BufTy).Contents (Elt F)),
    StableHlo.unary main_v13 main_v17 (broadcastInDim S2176x1024 ![0, 1] bcast_S2176x1_S2176x1024_0_1 : (⟨S2176x1, .f32⟩ : BufTy).Contents (Elt F) → (⟨S2176x1024, .f32⟩ : BufTy).Contents (Elt F)),
    StableHlo.binary main_arg0 main_v17 main_v18 (mulf : (⟨S2176x1024, .f32⟩ : BufTy).Contents (Elt F) → (⟨S2176x1024, .f32⟩ : BufTy).Contents (Elt F) → (⟨S2176x1024, .f32⟩ : BufTy).Contents (Elt F)),
    StableHlo.unary main_arg1 main_v19 (broadcastInDim S2176x1024 ![0, 1] bcast_S1x1024_S2176x1024_0_1 : (⟨S1x1024, .f32⟩ : BufTy).Contents (Elt F) → (⟨S2176x1024, .f32⟩ : BufTy).Contents (Elt F)),
    StableHlo.binary main_v18 main_v19 main_v20 (mulf : (⟨S2176x1024, .f32⟩ : BufTy).Contents (Elt F) → (⟨S2176x1024, .f32⟩ : BufTy).Contents (Elt F) → (⟨S2176x1024, .f32⟩ : BufTy).Contents (Elt F)),
    StableHlo.binary main_v20 main_arg2 main_v21 ((fun l r => Host.dotGeneral dot_S2176x1024_S1024x4624_S2176x4624_1_0_0_1_n_n none l r) : (⟨S2176x1024, .f32⟩ : BufTy).Contents (Elt F) → (⟨S1024x4624, .f32⟩ : BufTy).Contents (Elt F) → (⟨S2176x4624, .f32⟩ : BufTy).Contents (Elt F)),
    StableHlo.unary main_v21 main_v22 ((extractStridedSlice S2176x1024 ![0, 0] · slices_S2176x4624_S2176x1024_0_0) : (⟨S2176x4624, .f32⟩ : BufTy).Contents (Elt F) → (⟨S2176x1024, .f32⟩ : BufTy).Contents (Elt F)),
    StableHlo.unary main_v21 main_v23 ((extractStridedSlice S2176x1536 ![0, 1024] · slices_S2176x4624_S2176x1536_0_1024) : (⟨S2176x4624, .f32⟩ : BufTy).Contents (Elt F) → (⟨S2176x1536, .f32⟩ : BufTy).Contents (Elt F)),
    StableHlo.unary main_v21 main_v24 ((extractStridedSlice S2176x16 ![0, 2560] · slices_S2176x4624_S2176x16_0_2560) : (⟨S2176x4624, .f32⟩ : BufTy).Contents (Elt F) → (⟨S2176x16, .f32⟩ : BufTy).Contents (Elt F)),
    StableHlo.unary main_v21 main_v25 ((extractStridedSlice S2176x1024 ![0, 2576] · slices_S2176x4624_S2176x1024_0_2576) : (⟨S2176x4624, .f32⟩ : BufTy).Contents (Elt F) → (⟨S2176x1024, .f32⟩ : BufTy).Contents (Elt F)),
    StableHlo.unary main_v21 main_v26 ((extractStridedSlice S2176x1024 ![0, 3600] · slices_S2176x4624_S2176x1024_0_3600) : (⟨S2176x4624, .f32⟩ : BufTy).Contents (Elt F) → (⟨S2176x1024, .f32⟩ : BufTy).Contents (Elt F)),
    StableHlo.binary main_v1 main_v2 main_v27 ((fun a b => concatenate S2176x1536 1 [⟨S2176x1024, a⟩, ⟨S2176x512, b⟩] concatenates_S2176x1024_S2176x512_S2176x1536_d1) : (⟨S2176x1024, .f32⟩ : BufTy).Contents (Elt F) → (⟨S2176x512, .f32⟩ : BufTy).Contents (Elt F) → (⟨S2176x1536, .f32⟩ : BufTy).Contents (Elt F)),
    StableHlo.unary main_v3 main_v28 ((extractStridedSlice S2176x16 ![0, 0] · slices_S2176x128_S2176x16_0_0) : (⟨S2176x128, .f32⟩ : BufTy).Contents (Elt F) → (⟨S2176x16, .f32⟩ : BufTy).Contents (Elt F)),
    StableHlo.nary ![main_v0, main_v27, main_v28, main_v4, main_v5] main_v29 (fun u => (concatenate S2176x4624 1 [⟨S2176x1024, (u 0 : (⟨S2176x1024, .f32⟩ : BufTy).Contents (Elt F))⟩, ⟨S2176x1536, (u 1 : (⟨S2176x1536, .f32⟩ : BufTy).Contents (Elt F))⟩, ⟨S2176x16, (u 2 : (⟨S2176x16, .f32⟩ : BufTy).Contents (Elt F))⟩, ⟨S2176x1024, (u 3 : (⟨S2176x1024, .f32⟩ : BufTy).Contents (Elt F))⟩, ⟨S2176x1024, (u 4 : (⟨S2176x1024, .f32⟩ : BufTy).Contents (Elt F))⟩] concatenates_S2176x1024_S2176x1536_S2176x16_S2176x1024_S2176x1024_S2176x4624_d1 : (⟨S2176x4624, .f32⟩ : BufTy).Contents (Elt F))),
    StableHlo.binary main_v29 main_v20 main_v30 ((fun l r => Host.dotGeneral dot_S2176x4624_S2176x1024_S4624x1024_0_0_1_1_n_n none l r) : (⟨S2176x4624, .f32⟩ : BufTy).Contents (Elt F) → (⟨S2176x1024, .f32⟩ : BufTy).Contents (Elt F) → (⟨S4624x1024, .f32⟩ : BufTy).Contents (Elt F)),
    StableHlo.unary main_v30 main_v31 ((transpose S1024x4624 [1, 0] · transposes_S4624x1024_S1024x4624_1_0) : (⟨S4624x1024, .f32⟩ : BufTy).Contents (Elt F) → (⟨S1024x4624, .f32⟩ : BufTy).Contents (Elt F)),
    StableHlo.binary main_v29 main_arg2 main_v32 ((fun l r => Host.dotGeneral dot_S2176x4624_S1024x4624_S2176x1024_1_1_0_0_n_n none l r) : (⟨S2176x4624, .f32⟩ : BufTy).Contents (Elt F) → (⟨S1024x4624, .f32⟩ : BufTy).Contents (Elt F) → (⟨S2176x1024, .f32⟩ : BufTy).Contents (Elt F)),
    StableHlo.binary main_v18 main_v32 main_v33 (mulf : (⟨S2176x1024, .f32⟩ : BufTy).Contents (Elt F) → (⟨S2176x1024, .f32⟩ : BufTy).Contents (Elt F) → (⟨S2176x1024, .f32⟩ : BufTy).Contents (Elt F)),
    StableHlo.nullary main_cst_3 (constant S_ .f32 0x00000000#32),
    StableHlo.binary main_v33 main_cst_3 main_v34 ((fun x v => Host.reduceAdd x v reducesTo_S2176x1024_S1024_d0 h_S_) : (⟨S2176x1024, .f32⟩ : BufTy).Contents (Elt F) → (⟨S_, .f32⟩ : BufTy).Contents (Elt F) → (⟨S1024, .f32⟩ : BufTy).Contents (Elt F)),
    StableHlo.reshape main_v34 main_v35 (rfl : (.f32 : EltTy) = .f32) shapeCasts_S1024_S1x1024,
    StableHlo.unary main_arg1 main_v36 (broadcastInDim S2176x1024 ![0, 1] bcast_S1x1024_S2176x1024_0_1 : (⟨S1x1024, .f32⟩ : BufTy).Contents (Elt F) → (⟨S2176x1024, .f32⟩ : BufTy).Contents (Elt F)),
    StableHlo.binary main_v32 main_v36 main_v37 (mulf : (⟨S2176x1024, .f32⟩ : BufTy).Contents (Elt F) → (⟨S2176x1024, .f32⟩ : BufTy).Contents (Elt F) → (⟨S2176x1024, .f32⟩ : BufTy).Contents (Elt F)),
    StableHlo.binary main_arg0 main_v37 main_v38 (mulf : (⟨S2176x1024, .f32⟩ : BufTy).Contents (Elt F) → (⟨S2176x1024, .f32⟩ : BufTy).Contents (Elt F) → (⟨S2176x1024, .f32⟩ : BufTy).Contents (Elt F)),
    StableHlo.nullary main_cst_4 (constant S_ .f32 0x00000000#32),
    StableHlo.binary main_v38 main_cst_4 main_v39 ((fun x v => Host.reduceAdd x v reducesTo_S2176x1024_S2176_d1 h_S_) : (⟨S2176x1024, .f32⟩ : BufTy).Contents (Elt F) → (⟨S_, .f32⟩ : BufTy).Contents (Elt F) → (⟨S2176, .f32⟩ : BufTy).Contents (Elt F)),
    StableHlo.reshape main_v39 main_v40 (rfl : (.f32 : EltTy) = .f32) shapeCasts_S2176_S2176x1,
    StableHlo.unary main_v13 main_v41 (broadcastInDim S2176x1024 ![0, 1] bcast_S2176x1_S2176x1024_0_1 : (⟨S2176x1, .f32⟩ : BufTy).Contents (Elt F) → (⟨S2176x1024, .f32⟩ : BufTy).Contents (Elt F)),
    StableHlo.binary main_v37 main_v41 main_v42 (mulf : (⟨S2176x1024, .f32⟩ : BufTy).Contents (Elt F) → (⟨S2176x1024, .f32⟩ : BufTy).Contents (Elt F) → (⟨S2176x1024, .f32⟩ : BufTy).Contents (Elt F)),
    StableHlo.binary main_arg9 main_v42 main_v43 (addf : (⟨S2176x1024, .f32⟩ : BufTy).Contents (Elt F) → (⟨S2176x1024, .f32⟩ : BufTy).Contents (Elt F) → (⟨S2176x1024, .f32⟩ : BufTy).Contents (Elt F)),
    StableHlo.binary main_v40 main_v16 main_v44 (mulf : (⟨S2176x1, .f32⟩ : BufTy).Contents (Elt F) → (⟨S2176x1, .f32⟩ : BufTy).Contents (Elt F) → (⟨S2176x1, .f32⟩ : BufTy).Contents (Elt F)),
    StableHlo.nullary main_cst_5 (constant S_ .f32 0x44800000#32),
    StableHlo.unary main_cst_5 main_v45 (broadcastInDim S2176x1 ![] bcast_S_S2176x1 : (⟨S_, .f32⟩ : BufTy).Contents (Elt F) → (⟨S2176x1, .f32⟩ : BufTy).Contents (Elt F)),
    StableHlo.binary main_v44 main_v45 main_v46 (Host.divf : (⟨S2176x1, .f32⟩ : BufTy).Contents (Elt F) → (⟨S2176x1, .f32⟩ : BufTy).Contents (Elt F) → (⟨S2176x1, .f32⟩ : BufTy).Contents (Elt F)),
    StableHlo.nullary main_cst_6 (constant S_ .f32 0x00000000#32),
    StableHlo.binary main_v46 main_cst_6 main_v47 ((fun x v => Host.reduceAdd x v reducesTo_S2176x1_S2176_d1 h_S_) : (⟨S2176x1, .f32⟩ : BufTy).Contents (Elt F) → (⟨S_, .f32⟩ : BufTy).Contents (Elt F) → (⟨S2176, .f32⟩ : BufTy).Contents (Elt F)),
    StableHlo.unary main_v47 main_v48 (broadcastInDim S2176x1024 ![0] bcast_S2176_S2176x1024_0 : (⟨S2176, .f32⟩ : BufTy).Contents (Elt F) → (⟨S2176x1024, .f32⟩ : BufTy).Contents (Elt F)),
    StableHlo.binary main_arg0 main_v48 main_v49 (mulf : (⟨S2176x1024, .f32⟩ : BufTy).Contents (Elt F) → (⟨S2176x1024, .f32⟩ : BufTy).Contents (Elt F) → (⟨S2176x1024, .f32⟩ : BufTy).Contents (Elt F)),
    StableHlo.binary main_v43 main_v49 main_v50 (addf : (⟨S2176x1024, .f32⟩ : BufTy).Contents (Elt F) → (⟨S2176x1024, .f32⟩ : BufTy).Contents (Elt F) → (⟨S2176x1024, .f32⟩ : BufTy).Contents (Elt F)),
    StableHlo.binary main_v48 main_arg0 main_v51 (mulf : (⟨S2176x1024, .f32⟩ : BufTy).Contents (Elt F) → (⟨S2176x1024, .f32⟩ : BufTy).Contents (Elt F) → (⟨S2176x1024, .f32⟩ : BufTy).Contents (Elt F)),
    StableHlo.binary main_v50 main_v51 main_v52 (addf : (⟨S2176x1024, .f32⟩ : BufTy).Contents (Elt F) → (⟨S2176x1024, .f32⟩ : BufTy).Contents (Elt F) → (⟨S2176x1024, .f32⟩ : BufTy).Contents (Elt F)) ]

/-- What each writes. -/
abbrev wrote : List (Ref sig .tc) :=
  [main_v0, main_v1, main_v2, main_v3, main_v4, main_v5, main_v6, main_cst, main_v7, main_v8, main_cst_0, main_v9, main_v10, main_cst_1, main_v11, main_v12, main_v13, main_v14, main_cst_2, main_v15, main_v16, main_v17, main_v18, main_v19, main_v20, main_v21, main_v22, main_v23, main_v24, main_v25, main_v26, main_v27, main_v28, main_v29, main_v30, main_v31, main_v32, main_v33, main_cst_3, main_v34, main_v35, main_v36, main_v37, main_v38, main_cst_4, main_v39, main_v40, main_v41, main_v42, main_v43, main_v44, main_cst_5, main_v45, main_v46, main_cst_6, main_v47, main_v48, main_v49, main_v50, main_v51, main_v52]

theorem ops_wrote : (ops (F := F)).map HloOp.writes = wrote.map fun r => {Proc.devRef (τ := τ) .tc r} := rfl

set_option maxHeartbeats 4000000 in
theorem main_eq (c : Dev nD) : main (F := F) c = seq ops := by chain_rfl

theorem ops_sub : (ops (F := F)).Forall fun op => op.bufs ⊆ tcRefs τ sig :=
  ⟨unary_bufs_sub .., unary_bufs_sub .., unary_bufs_sub .., unary_bufs_sub .., unary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub .., unary_bufs_sub .., unary_bufs_sub .., unary_bufs_sub .., unary_bufs_sub .., unary_bufs_sub .., binary_bufs_sub .., unary_bufs_sub .., nary_bufs_sub .., binary_bufs_sub .., unary_bufs_sub .., binary_bufs_sub .., binary_bufs_sub .., nullary_bufs_sub .., binary_bufs_sub .., reshape_bufs_sub .., unary_bufs_sub .., binary_bufs_sub .., binary_bufs_sub .., nullary_bufs_sub .., binary_bufs_sub .., reshape_bufs_sub .., unary_bufs_sub .., binary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub ..⟩

variable (m : (ℓ : Loc nD τ sig) → Buf (Elt F) ℓ) (ρ : Dev nD → PrngReg)

/-- The contents of device `c`'s arrays when the line ends. -/
abbrev fin (c : Dev nD) : Valuation τ sig (Elt F) := after ops (launchContents m c)

theorem run_fin : θ_run defs (onTc (τ := τ) (main (F := F))) ⟨m, fun _ => 0, ρ⟩ fun r =>
    ∀ (c : Dev nD) (b : Ref sig .tc), r.2.mem ((c.tc : Thread nD τ).loc b) = fin m c (Proc.devRef .tc b) :=
  run_seq (by decide) (by decide) defs main (fun _ => ops) main_eq (fun _ => ops_sub) m ρ

theorem fin_arg0 (c : Dev nD) : fin m c (Proc.devRef .tc main_arg0) = m ((c.tc : Thread nD τ).loc main_arg0) :=
  after_unwritten wrote ops_wrote (by decide) _

theorem fin_arg1 (c : Dev nD) : fin m c (Proc.devRef .tc main_arg1) = m ((c.tc : Thread nD τ).loc main_arg1) :=
  after_unwritten wrote ops_wrote (by decide) _

theorem fin_arg2 (c : Dev nD) : fin m c (Proc.devRef .tc main_arg2) = m ((c.tc : Thread nD τ).loc main_arg2) :=
  after_unwritten wrote ops_wrote (by decide) _

theorem fin_arg3 (c : Dev nD) : fin m c (Proc.devRef .tc main_arg3) = m ((c.tc : Thread nD τ).loc main_arg3) :=
  after_unwritten wrote ops_wrote (by decide) _

theorem fin_arg4 (c : Dev nD) : fin m c (Proc.devRef .tc main_arg4) = m ((c.tc : Thread nD τ).loc main_arg4) :=
  after_unwritten wrote ops_wrote (by decide) _

theorem fin_arg5 (c : Dev nD) : fin m c (Proc.devRef .tc main_arg5) = m ((c.tc : Thread nD τ).loc main_arg5) :=
  after_unwritten wrote ops_wrote (by decide) _

theorem fin_arg6 (c : Dev nD) : fin m c (Proc.devRef .tc main_arg6) = m ((c.tc : Thread nD τ).loc main_arg6) :=
  after_unwritten wrote ops_wrote (by decide) _

theorem fin_arg7 (c : Dev nD) : fin m c (Proc.devRef .tc main_arg7) = m ((c.tc : Thread nD τ).loc main_arg7) :=
  after_unwritten wrote ops_wrote (by decide) _

theorem fin_arg8 (c : Dev nD) : fin m c (Proc.devRef .tc main_arg8) = m ((c.tc : Thread nD τ).loc main_arg8) :=
  after_unwritten wrote ops_wrote (by decide) _

theorem fin_arg9 (c : Dev nD) : fin m c (Proc.devRef .tc main_arg9) = m ((c.tc : Thread nD τ).loc main_arg9) :=
  after_unwritten wrote ops_wrote (by decide) _

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_mono (run_fin m ρ) fun r h => ⟨fun c => ⟨(h c main_arg0).trans (fin_arg0 m c), (h c main_arg1).trans (fin_arg1 m c), (h c main_arg2).trans (fin_arg2 m c), (h c main_arg3).trans (fin_arg3 m c), (h c main_arg4).trans (fin_arg4 m c), (h c main_arg5).trans (fin_arg5 m c), (h c main_arg6).trans (fin_arg6 m c), (h c main_arg7).trans (fin_arg7 m c), (h c main_arg8).trans (fin_arg8 m c), (h c main_arg9).trans (fin_arg9 m c)⟩,
    Idealize.ShloMosaic.sem_eq_zero_of_no_sems (by decide) r.2⟩

/-! ## Each array as its operation's value -/

variable (c : Dev nD)

theorem eq_v0 : fin m c (Proc.devRef .tc main_v0) = (((extf .f32 · bitsLt_bf16_f32) : (⟨S2176x1024, .bf16⟩ : BufTy).Contents (Elt F) → (⟨S2176x1024, .f32⟩ : BufTy).Contents (Elt F))) (fin m c (Proc.devRef .tc main_arg3)) :=
  end_unary ops_wrote (launchContents m c) 0 rfl (by decide) (by decide)

theorem eq_v1 : fin m c (Proc.devRef .tc main_v1) = (((extf .f32 · bitsLt_bf16_f32) : (⟨S2176x1024, .bf16⟩ : BufTy).Contents (Elt F) → (⟨S2176x1024, .f32⟩ : BufTy).Contents (Elt F))) (fin m c (Proc.devRef .tc main_arg4)) :=
  end_unary ops_wrote (launchContents m c) 1 rfl (by decide) (by decide)

theorem eq_v2 : fin m c (Proc.devRef .tc main_v2) = (((extf .f32 · bitsLt_bf16_f32) : (⟨S2176x512, .bf16⟩ : BufTy).Contents (Elt F) → (⟨S2176x512, .f32⟩ : BufTy).Contents (Elt F))) (fin m c (Proc.devRef .tc main_arg5)) :=
  end_unary ops_wrote (launchContents m c) 2 rfl (by decide) (by decide)

theorem eq_v3 : fin m c (Proc.devRef .tc main_v3) = (((extf .f32 · bitsLt_bf16_f32) : (⟨S2176x128, .bf16⟩ : BufTy).Contents (Elt F) → (⟨S2176x128, .f32⟩ : BufTy).Contents (Elt F))) (fin m c (Proc.devRef .tc main_arg6)) :=
  end_unary ops_wrote (launchContents m c) 3 rfl (by decide) (by decide)

theorem eq_v4 : fin m c (Proc.devRef .tc main_v4) = (((extf .f32 · bitsLt_bf16_f32) : (⟨S2176x1024, .bf16⟩ : BufTy).Contents (Elt F) → (⟨S2176x1024, .f32⟩ : BufTy).Contents (Elt F))) (fin m c (Proc.devRef .tc main_arg7)) :=
  end_unary ops_wrote (launchContents m c) 4 rfl (by decide) (by decide)

theorem eq_v5 : fin m c (Proc.devRef .tc main_v5) = (((extf .f32 · bitsLt_bf16_f32) : (⟨S2176x1024, .bf16⟩ : BufTy).Contents (Elt F) → (⟨S2176x1024, .f32⟩ : BufTy).Contents (Elt F))) (fin m c (Proc.devRef .tc main_arg8)) :=
  end_unary ops_wrote (launchContents m c) 5 rfl (by decide) (by decide)

theorem eq_v6 : fin m c (Proc.devRef .tc main_v6) = ((mulf : (⟨S2176x1024, .f32⟩ : BufTy).Contents (Elt F) → (⟨S2176x1024, .f32⟩ : BufTy).Contents (Elt F) → (⟨S2176x1024, .f32⟩ : BufTy).Contents (Elt F))) (fin m c (Proc.devRef .tc main_arg0)) (fin m c (Proc.devRef .tc main_arg0)) :=
  end_binary ops_wrote (launchContents m c) 6 rfl (by decide) (by decide) (by decide)

theorem eq_cst : fin m c (Proc.devRef .tc main_cst) = (constant S_ .f32 0x00000000#32) :=
  end_nullary ops_wrote (launchContents m c) 7 rfl (by decide)

theorem eq_v7 : fin m c (Proc.devRef .tc main_v7) = (((fun x v => Host.reduceAdd x v reducesTo_S2176x1024_S2176_d1 h_S_) : (⟨S2176x1024, .f32⟩ : BufTy).Contents (Elt F) → (⟨S_, .f32⟩ : BufTy).Contents (Elt F) → (⟨S2176, .f32⟩ : BufTy).Contents (Elt F))) (fin m c (Proc.devRef .tc main_v6)) (fin m c (Proc.devRef .tc main_cst)) :=
  end_binary ops_wrote (launchContents m c) 8 rfl (by decide) (by decide) (by decide)

theorem eq_v8 : fin m c (Proc.devRef .tc main_v8) = ((broadcastInDim S2176x1 ![0] bcast_S2176_S2176x1_0 : (⟨S2176, .f32⟩ : BufTy).Contents (Elt F) → (⟨S2176x1, .f32⟩ : BufTy).Contents (Elt F))) (fin m c (Proc.devRef .tc main_v7)) :=
  end_unary ops_wrote (launchContents m c) 9 rfl (by decide) (by decide)

theorem eq_cst_0 : fin m c (Proc.devRef .tc main_cst_0) = (constant S_ .f32 0x44800000#32) :=
  end_nullary ops_wrote (launchContents m c) 10 rfl (by decide)

theorem eq_v9 : fin m c (Proc.devRef .tc main_v9) = ((broadcastInDim S2176x1 ![] bcast_S_S2176x1 : (⟨S_, .f32⟩ : BufTy).Contents (Elt F) → (⟨S2176x1, .f32⟩ : BufTy).Contents (Elt F))) (fin m c (Proc.devRef .tc main_cst_0)) :=
  end_unary ops_wrote (launchContents m c) 11 rfl (by decide) (by decide)

theorem eq_v10 : fin m c (Proc.devRef .tc main_v10) = ((Host.divf : (⟨S2176x1, .f32⟩ : BufTy).Contents (Elt F) → (⟨S2176x1, .f32⟩ : BufTy).Contents (Elt F) → (⟨S2176x1, .f32⟩ : BufTy).Contents (Elt F))) (fin m c (Proc.devRef .tc main_v8)) (fin m c (Proc.devRef .tc main_v9)) :=
  end_binary ops_wrote (launchContents m c) 12 rfl (by decide) (by decide) (by decide)

theorem eq_cst_1 : fin m c (Proc.devRef .tc main_cst_1) = (constant S_ .f32 0x358637BD#32) :=
  end_nullary ops_wrote (launchContents m c) 13 rfl (by decide)

theorem eq_v11 : fin m c (Proc.devRef .tc main_v11) = ((broadcastInDim S2176x1 ![] bcast_S_S2176x1 : (⟨S_, .f32⟩ : BufTy).Contents (Elt F) → (⟨S2176x1, .f32⟩ : BufTy).Contents (Elt F))) (fin m c (Proc.devRef .tc main_cst_1)) :=
  end_unary ops_wrote (launchContents m c) 14 rfl (by decide) (by decide)

theorem eq_v12 : fin m c (Proc.devRef .tc main_v12) = ((addf : (⟨S2176x1, .f32⟩ : BufTy).Contents (Elt F) → (⟨S2176x1, .f32⟩ : BufTy).Contents (Elt F) → (⟨S2176x1, .f32⟩ : BufTy).Contents (Elt F))) (fin m c (Proc.devRef .tc main_v10)) (fin m c (Proc.devRef .tc main_v11)) :=
  end_binary ops_wrote (launchContents m c) 15 rfl (by decide) (by decide) (by decide)

theorem eq_v13 : fin m c (Proc.devRef .tc main_v13) = ((Host.rsqrt : (⟨S2176x1, .f32⟩ : BufTy).Contents (Elt F) → (⟨S2176x1, .f32⟩ : BufTy).Contents (Elt F))) (fin m c (Proc.devRef .tc main_v12)) :=
  end_unary ops_wrote (launchContents m c) 16 rfl (by decide) (by decide)

theorem eq_v14 : fin m c (Proc.devRef .tc main_v14) = ((Host.divf : (⟨S2176x1, .f32⟩ : BufTy).Contents (Elt F) → (⟨S2176x1, .f32⟩ : BufTy).Contents (Elt F) → (⟨S2176x1, .f32⟩ : BufTy).Contents (Elt F))) (fin m c (Proc.devRef .tc main_v13)) (fin m c (Proc.devRef .tc main_v12)) :=
  end_binary ops_wrote (launchContents m c) 17 rfl (by decide) (by decide) (by decide)

theorem eq_cst_2 : fin m c (Proc.devRef .tc main_cst_2) = (constant S_ .f32 0xBF000000#32) :=
  end_nullary ops_wrote (launchContents m c) 18 rfl (by decide)

theorem eq_v15 : fin m c (Proc.devRef .tc main_v15) = ((broadcastInDim S2176x1 ![] bcast_S_S2176x1 : (⟨S_, .f32⟩ : BufTy).Contents (Elt F) → (⟨S2176x1, .f32⟩ : BufTy).Contents (Elt F))) (fin m c (Proc.devRef .tc main_cst_2)) :=
  end_unary ops_wrote (launchContents m c) 19 rfl (by decide) (by decide)

theorem eq_v16 : fin m c (Proc.devRef .tc main_v16) = ((mulf : (⟨S2176x1, .f32⟩ : BufTy).Contents (Elt F) → (⟨S2176x1, .f32⟩ : BufTy).Contents (Elt F) → (⟨S2176x1, .f32⟩ : BufTy).Contents (Elt F))) (fin m c (Proc.devRef .tc main_v15)) (fin m c (Proc.devRef .tc main_v14)) :=
  end_binary ops_wrote (launchContents m c) 20 rfl (by decide) (by decide) (by decide)

theorem eq_v17 : fin m c (Proc.devRef .tc main_v17) = ((broadcastInDim S2176x1024 ![0, 1] bcast_S2176x1_S2176x1024_0_1 : (⟨S2176x1, .f32⟩ : BufTy).Contents (Elt F) → (⟨S2176x1024, .f32⟩ : BufTy).Contents (Elt F))) (fin m c (Proc.devRef .tc main_v13)) :=
  end_unary ops_wrote (launchContents m c) 21 rfl (by decide) (by decide)

theorem eq_v18 : fin m c (Proc.devRef .tc main_v18) = ((mulf : (⟨S2176x1024, .f32⟩ : BufTy).Contents (Elt F) → (⟨S2176x1024, .f32⟩ : BufTy).Contents (Elt F) → (⟨S2176x1024, .f32⟩ : BufTy).Contents (Elt F))) (fin m c (Proc.devRef .tc main_arg0)) (fin m c (Proc.devRef .tc main_v17)) :=
  end_binary ops_wrote (launchContents m c) 22 rfl (by decide) (by decide) (by decide)

theorem eq_v19 : fin m c (Proc.devRef .tc main_v19) = ((broadcastInDim S2176x1024 ![0, 1] bcast_S1x1024_S2176x1024_0_1 : (⟨S1x1024, .f32⟩ : BufTy).Contents (Elt F) → (⟨S2176x1024, .f32⟩ : BufTy).Contents (Elt F))) (fin m c (Proc.devRef .tc main_arg1)) :=
  end_unary ops_wrote (launchContents m c) 23 rfl (by decide) (by decide)

theorem eq_v20 : fin m c (Proc.devRef .tc main_v20) = ((mulf : (⟨S2176x1024, .f32⟩ : BufTy).Contents (Elt F) → (⟨S2176x1024, .f32⟩ : BufTy).Contents (Elt F) → (⟨S2176x1024, .f32⟩ : BufTy).Contents (Elt F))) (fin m c (Proc.devRef .tc main_v18)) (fin m c (Proc.devRef .tc main_v19)) :=
  end_binary ops_wrote (launchContents m c) 24 rfl (by decide) (by decide) (by decide)

theorem eq_v27 : fin m c (Proc.devRef .tc main_v27) = (((fun a b => concatenate S2176x1536 1 [⟨S2176x1024, a⟩, ⟨S2176x512, b⟩] concatenates_S2176x1024_S2176x512_S2176x1536_d1) : (⟨S2176x1024, .f32⟩ : BufTy).Contents (Elt F) → (⟨S2176x512, .f32⟩ : BufTy).Contents (Elt F) → (⟨S2176x1536, .f32⟩ : BufTy).Contents (Elt F))) (fin m c (Proc.devRef .tc main_v1)) (fin m c (Proc.devRef .tc main_v2)) :=
  end_binary ops_wrote (launchContents m c) 31 rfl (by decide) (by decide) (by decide)

theorem eq_v28 : fin m c (Proc.devRef .tc main_v28) = (((extractStridedSlice S2176x16 ![0, 0] · slices_S2176x128_S2176x16_0_0) : (⟨S2176x128, .f32⟩ : BufTy).Contents (Elt F) → (⟨S2176x16, .f32⟩ : BufTy).Contents (Elt F))) (fin m c (Proc.devRef .tc main_v3)) :=
  end_unary ops_wrote (launchContents m c) 32 rfl (by decide) (by decide)

theorem eq_v29 : fin m c (Proc.devRef .tc main_v29) = (concatenate S2176x4624 1 [⟨S2176x1024, fin m c (Proc.devRef .tc main_v0)⟩, ⟨S2176x1536, fin m c (Proc.devRef .tc main_v27)⟩, ⟨S2176x16, fin m c (Proc.devRef .tc main_v28)⟩, ⟨S2176x1024, fin m c (Proc.devRef .tc main_v4)⟩, ⟨S2176x1024, fin m c (Proc.devRef .tc main_v5)⟩] concatenates_S2176x1024_S2176x1536_S2176x16_S2176x1024_S2176x1024_S2176x4624_d1 : (⟨S2176x4624, .f32⟩ : BufTy).Contents (Elt F)) :=
  end_nary ops_wrote (launchContents m c) 33 rfl (by decide) (by decide)

theorem eq_v30 : fin m c (Proc.devRef .tc main_v30) = (((fun l r => Host.dotGeneral dot_S2176x4624_S2176x1024_S4624x1024_0_0_1_1_n_n none l r) : (⟨S2176x4624, .f32⟩ : BufTy).Contents (Elt F) → (⟨S2176x1024, .f32⟩ : BufTy).Contents (Elt F) → (⟨S4624x1024, .f32⟩ : BufTy).Contents (Elt F))) (fin m c (Proc.devRef .tc main_v29)) (fin m c (Proc.devRef .tc main_v20)) :=
  end_binary ops_wrote (launchContents m c) 34 rfl (by decide) (by decide) (by decide)

theorem eq_v31 : fin m c (Proc.devRef .tc main_v31) = (((transpose S1024x4624 [1, 0] · transposes_S4624x1024_S1024x4624_1_0) : (⟨S4624x1024, .f32⟩ : BufTy).Contents (Elt F) → (⟨S1024x4624, .f32⟩ : BufTy).Contents (Elt F))) (fin m c (Proc.devRef .tc main_v30)) :=
  end_unary ops_wrote (launchContents m c) 35 rfl (by decide) (by decide)

theorem eq_v32 : fin m c (Proc.devRef .tc main_v32) = (((fun l r => Host.dotGeneral dot_S2176x4624_S1024x4624_S2176x1024_1_1_0_0_n_n none l r) : (⟨S2176x4624, .f32⟩ : BufTy).Contents (Elt F) → (⟨S1024x4624, .f32⟩ : BufTy).Contents (Elt F) → (⟨S2176x1024, .f32⟩ : BufTy).Contents (Elt F))) (fin m c (Proc.devRef .tc main_v29)) (fin m c (Proc.devRef .tc main_arg2)) :=
  end_binary ops_wrote (launchContents m c) 36 rfl (by decide) (by decide) (by decide)

theorem eq_v33 : fin m c (Proc.devRef .tc main_v33) = ((mulf : (⟨S2176x1024, .f32⟩ : BufTy).Contents (Elt F) → (⟨S2176x1024, .f32⟩ : BufTy).Contents (Elt F) → (⟨S2176x1024, .f32⟩ : BufTy).Contents (Elt F))) (fin m c (Proc.devRef .tc main_v18)) (fin m c (Proc.devRef .tc main_v32)) :=
  end_binary ops_wrote (launchContents m c) 37 rfl (by decide) (by decide) (by decide)

theorem eq_cst_3 : fin m c (Proc.devRef .tc main_cst_3) = (constant S_ .f32 0x00000000#32) :=
  end_nullary ops_wrote (launchContents m c) 38 rfl (by decide)

theorem eq_v34 : fin m c (Proc.devRef .tc main_v34) = (((fun x v => Host.reduceAdd x v reducesTo_S2176x1024_S1024_d0 h_S_) : (⟨S2176x1024, .f32⟩ : BufTy).Contents (Elt F) → (⟨S_, .f32⟩ : BufTy).Contents (Elt F) → (⟨S1024, .f32⟩ : BufTy).Contents (Elt F))) (fin m c (Proc.devRef .tc main_v33)) (fin m c (Proc.devRef .tc main_cst_3)) :=
  end_binary ops_wrote (launchContents m c) 39 rfl (by decide) (by decide) (by decide)

theorem eq_v35 : fin m c (Proc.devRef .tc main_v35) = (shapeCast S1x1024 · shapeCasts_S1024_S1x1024) (fin m c (Proc.devRef .tc main_v34)) :=
  end_reshape ops_wrote (launchContents m c) 40 rfl (by decide) (by decide)

theorem eq_v36 : fin m c (Proc.devRef .tc main_v36) = ((broadcastInDim S2176x1024 ![0, 1] bcast_S1x1024_S2176x1024_0_1 : (⟨S1x1024, .f32⟩ : BufTy).Contents (Elt F) → (⟨S2176x1024, .f32⟩ : BufTy).Contents (Elt F))) (fin m c (Proc.devRef .tc main_arg1)) :=
  end_unary ops_wrote (launchContents m c) 41 rfl (by decide) (by decide)

theorem eq_v37 : fin m c (Proc.devRef .tc main_v37) = ((mulf : (⟨S2176x1024, .f32⟩ : BufTy).Contents (Elt F) → (⟨S2176x1024, .f32⟩ : BufTy).Contents (Elt F) → (⟨S2176x1024, .f32⟩ : BufTy).Contents (Elt F))) (fin m c (Proc.devRef .tc main_v32)) (fin m c (Proc.devRef .tc main_v36)) :=
  end_binary ops_wrote (launchContents m c) 42 rfl (by decide) (by decide) (by decide)

theorem eq_v38 : fin m c (Proc.devRef .tc main_v38) = ((mulf : (⟨S2176x1024, .f32⟩ : BufTy).Contents (Elt F) → (⟨S2176x1024, .f32⟩ : BufTy).Contents (Elt F) → (⟨S2176x1024, .f32⟩ : BufTy).Contents (Elt F))) (fin m c (Proc.devRef .tc main_arg0)) (fin m c (Proc.devRef .tc main_v37)) :=
  end_binary ops_wrote (launchContents m c) 43 rfl (by decide) (by decide) (by decide)

theorem eq_cst_4 : fin m c (Proc.devRef .tc main_cst_4) = (constant S_ .f32 0x00000000#32) :=
  end_nullary ops_wrote (launchContents m c) 44 rfl (by decide)

theorem eq_v39 : fin m c (Proc.devRef .tc main_v39) = (((fun x v => Host.reduceAdd x v reducesTo_S2176x1024_S2176_d1 h_S_) : (⟨S2176x1024, .f32⟩ : BufTy).Contents (Elt F) → (⟨S_, .f32⟩ : BufTy).Contents (Elt F) → (⟨S2176, .f32⟩ : BufTy).Contents (Elt F))) (fin m c (Proc.devRef .tc main_v38)) (fin m c (Proc.devRef .tc main_cst_4)) :=
  end_binary ops_wrote (launchContents m c) 45 rfl (by decide) (by decide) (by decide)

theorem eq_v40 : fin m c (Proc.devRef .tc main_v40) = (shapeCast S2176x1 · shapeCasts_S2176_S2176x1) (fin m c (Proc.devRef .tc main_v39)) :=
  end_reshape ops_wrote (launchContents m c) 46 rfl (by decide) (by decide)

theorem eq_v41 : fin m c (Proc.devRef .tc main_v41) = ((broadcastInDim S2176x1024 ![0, 1] bcast_S2176x1_S2176x1024_0_1 : (⟨S2176x1, .f32⟩ : BufTy).Contents (Elt F) → (⟨S2176x1024, .f32⟩ : BufTy).Contents (Elt F))) (fin m c (Proc.devRef .tc main_v13)) :=
  end_unary ops_wrote (launchContents m c) 47 rfl (by decide) (by decide)

theorem eq_v42 : fin m c (Proc.devRef .tc main_v42) = ((mulf : (⟨S2176x1024, .f32⟩ : BufTy).Contents (Elt F) → (⟨S2176x1024, .f32⟩ : BufTy).Contents (Elt F) → (⟨S2176x1024, .f32⟩ : BufTy).Contents (Elt F))) (fin m c (Proc.devRef .tc main_v37)) (fin m c (Proc.devRef .tc main_v41)) :=
  end_binary ops_wrote (launchContents m c) 48 rfl (by decide) (by decide) (by decide)

theorem eq_v43 : fin m c (Proc.devRef .tc main_v43) = ((addf : (⟨S2176x1024, .f32⟩ : BufTy).Contents (Elt F) → (⟨S2176x1024, .f32⟩ : BufTy).Contents (Elt F) → (⟨S2176x1024, .f32⟩ : BufTy).Contents (Elt F))) (fin m c (Proc.devRef .tc main_arg9)) (fin m c (Proc.devRef .tc main_v42)) :=
  end_binary ops_wrote (launchContents m c) 49 rfl (by decide) (by decide) (by decide)

theorem eq_v44 : fin m c (Proc.devRef .tc main_v44) = ((mulf : (⟨S2176x1, .f32⟩ : BufTy).Contents (Elt F) → (⟨S2176x1, .f32⟩ : BufTy).Contents (Elt F) → (⟨S2176x1, .f32⟩ : BufTy).Contents (Elt F))) (fin m c (Proc.devRef .tc main_v40)) (fin m c (Proc.devRef .tc main_v16)) :=
  end_binary ops_wrote (launchContents m c) 50 rfl (by decide) (by decide) (by decide)

theorem eq_cst_5 : fin m c (Proc.devRef .tc main_cst_5) = (constant S_ .f32 0x44800000#32) :=
  end_nullary ops_wrote (launchContents m c) 51 rfl (by decide)

theorem eq_v45 : fin m c (Proc.devRef .tc main_v45) = ((broadcastInDim S2176x1 ![] bcast_S_S2176x1 : (⟨S_, .f32⟩ : BufTy).Contents (Elt F) → (⟨S2176x1, .f32⟩ : BufTy).Contents (Elt F))) (fin m c (Proc.devRef .tc main_cst_5)) :=
  end_unary ops_wrote (launchContents m c) 52 rfl (by decide) (by decide)

theorem eq_v46 : fin m c (Proc.devRef .tc main_v46) = ((Host.divf : (⟨S2176x1, .f32⟩ : BufTy).Contents (Elt F) → (⟨S2176x1, .f32⟩ : BufTy).Contents (Elt F) → (⟨S2176x1, .f32⟩ : BufTy).Contents (Elt F))) (fin m c (Proc.devRef .tc main_v44)) (fin m c (Proc.devRef .tc main_v45)) :=
  end_binary ops_wrote (launchContents m c) 53 rfl (by decide) (by decide) (by decide)

theorem eq_cst_6 : fin m c (Proc.devRef .tc main_cst_6) = (constant S_ .f32 0x00000000#32) :=
  end_nullary ops_wrote (launchContents m c) 54 rfl (by decide)

theorem eq_v47 : fin m c (Proc.devRef .tc main_v47) = (((fun x v => Host.reduceAdd x v reducesTo_S2176x1_S2176_d1 h_S_) : (⟨S2176x1, .f32⟩ : BufTy).Contents (Elt F) → (⟨S_, .f32⟩ : BufTy).Contents (Elt F) → (⟨S2176, .f32⟩ : BufTy).Contents (Elt F))) (fin m c (Proc.devRef .tc main_v46)) (fin m c (Proc.devRef .tc main_cst_6)) :=
  end_binary ops_wrote (launchContents m c) 55 rfl (by decide) (by decide) (by decide)

theorem eq_v48 : fin m c (Proc.devRef .tc main_v48) = ((broadcastInDim S2176x1024 ![0] bcast_S2176_S2176x1024_0 : (⟨S2176, .f32⟩ : BufTy).Contents (Elt F) → (⟨S2176x1024, .f32⟩ : BufTy).Contents (Elt F))) (fin m c (Proc.devRef .tc main_v47)) :=
  end_unary ops_wrote (launchContents m c) 56 rfl (by decide) (by decide)

theorem eq_v49 : fin m c (Proc.devRef .tc main_v49) = ((mulf : (⟨S2176x1024, .f32⟩ : BufTy).Contents (Elt F) → (⟨S2176x1024, .f32⟩ : BufTy).Contents (Elt F) → (⟨S2176x1024, .f32⟩ : BufTy).Contents (Elt F))) (fin m c (Proc.devRef .tc main_arg0)) (fin m c (Proc.devRef .tc main_v48)) :=
  end_binary ops_wrote (launchContents m c) 57 rfl (by decide) (by decide) (by decide)

theorem eq_v50 : fin m c (Proc.devRef .tc main_v50) = ((addf : (⟨S2176x1024, .f32⟩ : BufTy).Contents (Elt F) → (⟨S2176x1024, .f32⟩ : BufTy).Contents (Elt F) → (⟨S2176x1024, .f32⟩ : BufTy).Contents (Elt F))) (fin m c (Proc.devRef .tc main_v43)) (fin m c (Proc.devRef .tc main_v49)) :=
  end_binary ops_wrote (launchContents m c) 58 rfl (by decide) (by decide) (by decide)

theorem eq_v51 : fin m c (Proc.devRef .tc main_v51) = ((mulf : (⟨S2176x1024, .f32⟩ : BufTy).Contents (Elt F) → (⟨S2176x1024, .f32⟩ : BufTy).Contents (Elt F) → (⟨S2176x1024, .f32⟩ : BufTy).Contents (Elt F))) (fin m c (Proc.devRef .tc main_v48)) (fin m c (Proc.devRef .tc main_arg0)) :=
  end_binary ops_wrote (launchContents m c) 59 rfl (by decide) (by decide) (by decide)

theorem eq_v52 : fin m c (Proc.devRef .tc main_v52) = ((addf : (⟨S2176x1024, .f32⟩ : BufTy).Contents (Elt F) → (⟨S2176x1024, .f32⟩ : BufTy).Contents (Elt F) → (⟨S2176x1024, .f32⟩ : BufTy).Contents (Elt F))) (fin m c (Proc.devRef .tc main_v50)) (fin m c (Proc.devRef .tc main_v51)) :=
  end_binary ops_wrote (launchContents m c) 60 rfl (by decide) (by decide) (by decide)

end Cert.Reference2Ideal.Value

end
-- ==== Proof.Fold2.lean ====
/- What the fold of the seven regions and the host operations around them leaves in each array, as the arrays of the
   input projection's backward pass over the extended reals. -/
module

public import proofs.«01_k».proof.Proof.Values2
public import proofs.«01_k».proof.Proof.WideOps
public import proofs.«01_k».proof.Proof.RegionsIn
public import proofs.«01_k».proof.Proof.RegionNorm1
public import proofs.«01_k».proof.Proof.Run2
public import proofs.«01_k».proof.Proof.Reference2Run
public import Idealize.ShloMosaic.Lib.Claim
public import Idealize.ShloMosaic.Lib.Pointwise

@[expose] public section

set_option maxRecDepth 16384

noncomputable section

namespace Cert.Kernel2Ideal.Value

open Idealize.ShloMosaic Idealize.ShloMosaic.TcCoe Idealize.ShloMosaic.Tactic
open Cert.Kernel2Ideal Cert.Kernel2Ideal.Gen Cert.Wide

/-- Device `c`'s argument arrays hold the matrices `a`. -/
structure Holds (m : (ℓ : Loc nD τ sig) → Buf (Elt Ideal) ℓ) (c : Dev nD) (a : Inputs2) : Prop where
  x : m ((c : Thread nD τ).loc main_arg0) = emb a.x
  w : m ((c : Thread nD τ).loc main_arg1) = emb a.w
  win : m ((c : Thread nD τ).loc main_arg2) = emb a.win
  dz : m ((c : Thread nD τ).loc main_arg3) = emb a.dz
  dxs : m ((c : Thread nD τ).loc main_arg4) = emb a.dxs
  dbc : m ((c : Thread nD τ).loc main_arg5) = emb a.dbc
  ddt : m ((c : Thread nD τ).loc main_arg6) = emb a.ddt
  dg : m ((c : Thread nD τ).loc main_arg7) = emb a.dg
  dx : m ((c : Thread nD τ).loc main_arg8) = emb a.dx
  g : m ((c : Thread nD τ).loc main_arg9) = emb a.g

/-- What the last call reads. -/
def operands (a : Inputs2) : Operands where
  f0 := a.dz
  f1 := (tr (cols (n := 1024) a.win 0 (by decide)))
  f2 := a.dxs
  f3 := (tr (cols (n := 1024) a.win 1024 (by decide)))
  f4 := a.dbc
  f5 := (tr (cols (n := 512) a.win 2048 (by decide)))
  f6 := a.ddt
  f7 := (padded a.win)
  f8 := a.dg
  f9 := (tr (cols (n := 1024) a.win 2576 (by decide)))
  f10 := a.dx
  f11 := (tr (cols (n := 1024) a.win 3600 (by decide)))
  f12 := a.x
  f13 := a.w
  f14 := a.g

theorem operands_sum (a : Inputs2) : (operands a).sum = a.du := six_eq a

/-- What the last host operations write, in order. -/
theorem last_wrote : (hostOps7 (F := Ideal)).map HloOp.writes
    = [main_v39, main_v40, main_v41, main_v42, main_v43, main_v44, main_v45, main_v46].map fun r => {Proc.devRef (τ := τ) .tc r} := rfl

variable (m : (ℓ : Loc nD τ sig) → Buf (Elt Ideal) ℓ) (ρ : Dev nD → PrngReg) (c : Dev nD) {a : Inputs2} (h : Holds m c a)
include h

/-! ## The arrays the host prepares: the normalized rows, and the weights' sections as rows -/

theorem at1_v12 : W1 m ρ c (Proc.devRef .tc main_v12) = emb a.u := by
  unfold_abbrev_sides
  after_results
  rw [show W0 m ρ c (Proc.devRef .tc main_arg0) = emb a.x from h.x, show W0 m ρ c (Proc.devRef .tc main_arg1) = emb a.w from h.w]
  exact nrm_host a.x a.w

theorem at1_v14 : W1 m ρ c (Proc.devRef .tc main_v14) = emb (tr (cols (n := 1024) a.win 0 (by decide))) := by
  unfold_abbrev_sides
  after_results
  rw [show W0 m ρ c (Proc.devRef .tc main_arg2) = emb a.win from h.win]
  exact section_rows a.win 0 (by decide) _ _

theorem at1_v16 : W1 m ρ c (Proc.devRef .tc main_v16) = emb (tr (cols (n := 1024) a.win 1024 (by decide))) := by
  unfold_abbrev_sides
  after_results
  rw [show W0 m ρ c (Proc.devRef .tc main_arg2) = emb a.win from h.win]
  exact section_rows a.win 1024 (by decide) _ _

theorem at1_v18 : W1 m ρ c (Proc.devRef .tc main_v18) = emb (tr (cols (n := 512) a.win 2048 (by decide))) := by
  unfold_abbrev_sides
  after_results
  rw [show W0 m ρ c (Proc.devRef .tc main_arg2) = emb a.win from h.win]
  exact section_rows a.win 2048 (by decide) _ _

theorem at1_v20 : W1 m ρ c (Proc.devRef .tc main_v20) = emb (tr (cols (n := 16) a.win 2560 (by decide))) := by
  unfold_abbrev_sides
  after_results
  rw [show W0 m ρ c (Proc.devRef .tc main_arg2) = emb a.win from h.win]
  exact section_rows a.win 2560 (by decide) _ _

theorem at1_v22 : W1 m ρ c (Proc.devRef .tc main_v22) = emb (tr (cols (n := 1024) a.win 2576 (by decide))) := by
  unfold_abbrev_sides
  after_results
  rw [show W0 m ρ c (Proc.devRef .tc main_arg2) = emb a.win from h.win]
  exact section_rows a.win 2576 (by decide) _ _

theorem at1_v24 : W1 m ρ c (Proc.devRef .tc main_v24) = emb (tr (cols (n := 1024) a.win 3600 (by decide))) := by
  unfold_abbrev_sides
  after_results
  rw [show W0 m ρ c (Proc.devRef .tc main_arg2) = emb a.win from h.win]
  exact section_rows a.win 3600 (by decide) _ _

theorem at2_v12 : W2 m ρ c (Proc.devRef .tc main_v12) = emb a.u :=
  (W2_of m ρ c main_v12 (by decide)).trans (at1_v12 m ρ c h)

theorem at2_v14 : W2 m ρ c (Proc.devRef .tc main_v14) = emb (tr (cols (n := 1024) a.win 0 (by decide))) :=
  (W2_of m ρ c main_v14 (by decide)).trans (at1_v14 m ρ c h)

theorem at2_v16 : W2 m ρ c (Proc.devRef .tc main_v16) = emb (tr (cols (n := 1024) a.win 1024 (by decide))) :=
  (W2_of m ρ c main_v16 (by decide)).trans (at1_v16 m ρ c h)

theorem at2_v18 : W2 m ρ c (Proc.devRef .tc main_v18) = emb (tr (cols (n := 512) a.win 2048 (by decide))) :=
  (W2_of m ρ c main_v18 (by decide)).trans (at1_v18 m ρ c h)

theorem at2_v22 : W2 m ρ c (Proc.devRef .tc main_v22) = emb (tr (cols (n := 1024) a.win 2576 (by decide))) :=
  (W2_of m ρ c main_v22 (by decide)).trans (at1_v22 m ρ c h)

theorem at2_v24 : W2 m ρ c (Proc.devRef .tc main_v24) = emb (tr (cols (n := 1024) a.win 3600 (by decide))) :=
  (W2_of m ρ c main_v24 (by decide)).trans (at1_v24 m ρ c h)

theorem at2_v25 : W2 m ρ c (Proc.devRef .tc main_v25) = emb (padded a.win) := by
  unfold_abbrev_sides
  after_results
  rw [show W0 m ρ c (Proc.devRef .tc main_arg2) = emb a.win from h.win]
  refine Eq.trans ?_ (pad_rows a.win (sitofp (F := Ideal) .f32 (constantI S_ 32 0#32)) (fun _ => by show (((0#32 : BitVec 32).toInt : ℝ) : EReal) = 0; simp)
    pads_S16x1024_S128x1024_01120_000 h_S_)
  exact congrArg (fun x => pad S128x1024 ![0, 0] ![112, 0] ![0, 0] x (sitofp (F := Ideal) .f32 (constantI S_ 32 0#32))
    pads_S16x1024_S128x1024_01120_000 h_S_) (section_rows (k := 16) a.win 2560 (by decide) _ _)

theorem at3_v12 : W3 m ρ c (Proc.devRef .tc main_v12) = emb a.u :=
  (W3_of m ρ c main_v12 (by decide)).trans (at2_v12 m ρ c h)

theorem at3_v26 : W3 m ρ c (Proc.devRef .tc main_v26) = emb (tr (cols (n := 1024) a.win 0 (by decide))) := by
  unfold_abbrev_sides
  after_results
  have k := at2_v14 m ρ c h
  exact k

theorem at3_v27 : W3 m ρ c (Proc.devRef .tc main_v27) = emb (tr (cols (n := 1024) a.win 1024 (by decide))) := by
  unfold_abbrev_sides
  after_results
  have k := at2_v16 m ρ c h
  exact k

theorem at3_v28 : W3 m ρ c (Proc.devRef .tc main_v28) = emb (tr (cols (n := 512) a.win 2048 (by decide))) := by
  unfold_abbrev_sides
  after_results
  have k := at2_v18 m ρ c h
  exact k

theorem at3_v29 : W3 m ρ c (Proc.devRef .tc main_v29) = emb (padded a.win) := by
  unfold_abbrev_sides
  after_results
  have k := at2_v25 m ρ c h
  exact k

theorem at3_v30 : W3 m ρ c (Proc.devRef .tc main_v30) = emb (tr (cols (n := 1024) a.win 2576 (by decide))) := by
  unfold_abbrev_sides
  after_results
  have k := at2_v22 m ρ c h
  exact k

theorem at3_v31 : W3 m ρ c (Proc.devRef .tc main_v31) = emb (tr (cols (n := 1024) a.win 3600 (by decide))) := by
  unfold_abbrev_sides
  after_results
  have k := at2_v24 m ρ c h
  exact k

/-! ## The six products with the normalized rows -/

theorem at4_v32_0 : W4 m ρ c (Proc.devRef .tc main_v32_0) = emb (tmm a.dz a.u) :=
  (W4_arr m ρ c 2).trans (final0_2 (V3 m ρ) c _ _ ((W3_args m ρ c main_arg3 (by decide)).trans h.dz) (at3_v12 m ρ c h))

theorem at4_v12 : W4 m ρ c (Proc.devRef .tc main_v12) = emb a.u :=
  (W4_of m ρ c main_v12 (by decide +kernel)).trans (at3_v12 m ρ c h)

theorem at4_v26 : W4 m ρ c (Proc.devRef .tc main_v26) = emb (tr (cols (n := 1024) a.win 0 (by decide))) :=
  (W4_of m ρ c main_v26 (by decide +kernel)).trans (at3_v26 m ρ c h)

theorem at4_v27 : W4 m ρ c (Proc.devRef .tc main_v27) = emb (tr (cols (n := 1024) a.win 1024 (by decide))) :=
  (W4_of m ρ c main_v27 (by decide +kernel)).trans (at3_v27 m ρ c h)

theorem at4_v28 : W4 m ρ c (Proc.devRef .tc main_v28) = emb (tr (cols (n := 512) a.win 2048 (by decide))) :=
  (W4_of m ρ c main_v28 (by decide +kernel)).trans (at3_v28 m ρ c h)

theorem at4_v29 : W4 m ρ c (Proc.devRef .tc main_v29) = emb (padded a.win) :=
  (W4_of m ρ c main_v29 (by decide +kernel)).trans (at3_v29 m ρ c h)

theorem at4_v30 : W4 m ρ c (Proc.devRef .tc main_v30) = emb (tr (cols (n := 1024) a.win 2576 (by decide))) :=
  (W4_of m ρ c main_v30 (by decide +kernel)).trans (at3_v30 m ρ c h)

theorem at4_v31 : W4 m ρ c (Proc.devRef .tc main_v31) = emb (tr (cols (n := 1024) a.win 3600 (by decide))) :=
  (W4_of m ρ c main_v31 (by decide +kernel)).trans (at3_v31 m ρ c h)

theorem at5_v33_0 : W5 m ρ c (Proc.devRef .tc main_v33_0) = emb (tmm a.dxs a.u) :=
  (W5_arr m ρ c 2).trans (final1_2 (V4 m ρ) c _ _ ((W4_args m ρ c main_arg4 (by decide)).trans h.dxs) (at4_v12 m ρ c h))

theorem at5_v12 : W5 m ρ c (Proc.devRef .tc main_v12) = emb a.u :=
  (W5_of m ρ c main_v12 (by decide +kernel)).trans (at4_v12 m ρ c h)

theorem at5_v26 : W5 m ρ c (Proc.devRef .tc main_v26) = emb (tr (cols (n := 1024) a.win 0 (by decide))) :=
  (W5_of m ρ c main_v26 (by decide +kernel)).trans (at4_v26 m ρ c h)

theorem at5_v27 : W5 m ρ c (Proc.devRef .tc main_v27) = emb (tr (cols (n := 1024) a.win 1024 (by decide))) :=
  (W5_of m ρ c main_v27 (by decide +kernel)).trans (at4_v27 m ρ c h)

theorem at5_v28 : W5 m ρ c (Proc.devRef .tc main_v28) = emb (tr (cols (n := 512) a.win 2048 (by decide))) :=
  (W5_of m ρ c main_v28 (by decide +kernel)).trans (at4_v28 m ρ c h)

theorem at5_v29 : W5 m ρ c (Proc.devRef .tc main_v29) = emb (padded a.win) :=
  (W5_of m ρ c main_v29 (by decide +kernel)).trans (at4_v29 m ρ c h)

theorem at5_v30 : W5 m ρ c (Proc.devRef .tc main_v30) = emb (tr (cols (n := 1024) a.win 2576 (by decide))) :=
  (W5_of m ρ c main_v30 (by decide +kernel)).trans (at4_v30 m ρ c h)

theorem at5_v31 : W5 m ρ c (Proc.devRef .tc main_v31) = emb (tr (cols (n := 1024) a.win 3600 (by decide))) :=
  (W5_of m ρ c main_v31 (by decide +kernel)).trans (at4_v31 m ρ c h)

theorem at5_v32_0 : W5 m ρ c (Proc.devRef .tc main_v32_0) = emb (tmm a.dz a.u) :=
  (W5_of m ρ c main_v32_0 (by decide +kernel)).trans (at4_v32_0 m ρ c h)

theorem at6_v34_0 : W6 m ρ c (Proc.devRef .tc main_v34_0) = emb (tmm a.dbc a.u) :=
  (W6_arr m ρ c 2).trans (final2_2 (V5 m ρ) c _ _ ((W5_args m ρ c main_arg5 (by decide)).trans h.dbc) (at5_v12 m ρ c h))

theorem at6_v12 : W6 m ρ c (Proc.devRef .tc main_v12) = emb a.u :=
  (W6_of m ρ c main_v12 (by decide +kernel)).trans (at5_v12 m ρ c h)

theorem at6_v26 : W6 m ρ c (Proc.devRef .tc main_v26) = emb (tr (cols (n := 1024) a.win 0 (by decide))) :=
  (W6_of m ρ c main_v26 (by decide +kernel)).trans (at5_v26 m ρ c h)

theorem at6_v27 : W6 m ρ c (Proc.devRef .tc main_v27) = emb (tr (cols (n := 1024) a.win 1024 (by decide))) :=
  (W6_of m ρ c main_v27 (by decide +kernel)).trans (at5_v27 m ρ c h)

theorem at6_v28 : W6 m ρ c (Proc.devRef .tc main_v28) = emb (tr (cols (n := 512) a.win 2048 (by decide))) :=
  (W6_of m ρ c main_v28 (by decide +kernel)).trans (at5_v28 m ρ c h)

theorem at6_v29 : W6 m ρ c (Proc.devRef .tc main_v29) = emb (padded a.win) :=
  (W6_of m ρ c main_v29 (by decide +kernel)).trans (at5_v29 m ρ c h)

theorem at6_v30 : W6 m ρ c (Proc.devRef .tc main_v30) = emb (tr (cols (n := 1024) a.win 2576 (by decide))) :=
  (W6_of m ρ c main_v30 (by decide +kernel)).trans (at5_v30 m ρ c h)

theorem at6_v31 : W6 m ρ c (Proc.devRef .tc main_v31) = emb (tr (cols (n := 1024) a.win 3600 (by decide))) :=
  (W6_of m ρ c main_v31 (by decide +kernel)).trans (at5_v31 m ρ c h)

theorem at6_v32_0 : W6 m ρ c (Proc.devRef .tc main_v32_0) = emb (tmm a.dz a.u) :=
  (W6_of m ρ c main_v32_0 (by decide +kernel)).trans (at5_v32_0 m ρ c h)

theorem at6_v33_0 : W6 m ρ c (Proc.devRef .tc main_v33_0) = emb (tmm a.dxs a.u) :=
  (W6_of m ρ c main_v33_0 (by decide +kernel)).trans (at5_v33_0 m ρ c h)

theorem at7_v35_0 : W7 m ρ c (Proc.devRef .tc main_v35_0) = emb (tmm a.ddt a.u) :=
  (W7_arr m ρ c 2).trans (final3_2 (V6 m ρ) c _ _ ((W6_args m ρ c main_arg6 (by decide)).trans h.ddt) (at6_v12 m ρ c h))

theorem at7_v12 : W7 m ρ c (Proc.devRef .tc main_v12) = emb a.u :=
  (W7_of m ρ c main_v12 (by decide +kernel)).trans (at6_v12 m ρ c h)

theorem at7_v26 : W7 m ρ c (Proc.devRef .tc main_v26) = emb (tr (cols (n := 1024) a.win 0 (by decide))) :=
  (W7_of m ρ c main_v26 (by decide +kernel)).trans (at6_v26 m ρ c h)

theorem at7_v27 : W7 m ρ c (Proc.devRef .tc main_v27) = emb (tr (cols (n := 1024) a.win 1024 (by decide))) :=
  (W7_of m ρ c main_v27 (by decide +kernel)).trans (at6_v27 m ρ c h)

theorem at7_v28 : W7 m ρ c (Proc.devRef .tc main_v28) = emb (tr (cols (n := 512) a.win 2048 (by decide))) :=
  (W7_of m ρ c main_v28 (by decide +kernel)).trans (at6_v28 m ρ c h)

theorem at7_v29 : W7 m ρ c (Proc.devRef .tc main_v29) = emb (padded a.win) :=
  (W7_of m ρ c main_v29 (by decide +kernel)).trans (at6_v29 m ρ c h)

theorem at7_v30 : W7 m ρ c (Proc.devRef .tc main_v30) = emb (tr (cols (n := 1024) a.win 2576 (by decide))) :=
  (W7_of m ρ c main_v30 (by decide +kernel)).trans (at6_v30 m ρ c h)

theorem at7_v31 : W7 m ρ c (Proc.devRef .tc main_v31) = emb (tr (cols (n := 1024) a.win 3600 (by decide))) :=
  (W7_of m ρ c main_v31 (by decide +kernel)).trans (at6_v31 m ρ c h)

theorem at7_v32_0 : W7 m ρ c (Proc.devRef .tc main_v32_0) = emb (tmm a.dz a.u) :=
  (W7_of m ρ c main_v32_0 (by decide +kernel)).trans (at6_v32_0 m ρ c h)

theorem at7_v33_0 : W7 m ρ c (Proc.devRef .tc main_v33_0) = emb (tmm a.dxs a.u) :=
  (W7_of m ρ c main_v33_0 (by decide +kernel)).trans (at6_v33_0 m ρ c h)

theorem at7_v34_0 : W7 m ρ c (Proc.devRef .tc main_v34_0) = emb (tmm a.dbc a.u) :=
  (W7_of m ρ c main_v34_0 (by decide +kernel)).trans (at6_v34_0 m ρ c h)

theorem at8_v36_0 : W8 m ρ c (Proc.devRef .tc main_v36_0) = emb (tmm a.dg a.u) :=
  (W8_arr m ρ c 2).trans (final4_2 (V7 m ρ) c _ _ ((W7_args m ρ c main_arg7 (by decide)).trans h.dg) (at7_v12 m ρ c h))

theorem at8_v12 : W8 m ρ c (Proc.devRef .tc main_v12) = emb a.u :=
  (W8_of m ρ c main_v12 (by decide +kernel)).trans (at7_v12 m ρ c h)

theorem at8_v26 : W8 m ρ c (Proc.devRef .tc main_v26) = emb (tr (cols (n := 1024) a.win 0 (by decide))) :=
  (W8_of m ρ c main_v26 (by decide +kernel)).trans (at7_v26 m ρ c h)

theorem at8_v27 : W8 m ρ c (Proc.devRef .tc main_v27) = emb (tr (cols (n := 1024) a.win 1024 (by decide))) :=
  (W8_of m ρ c main_v27 (by decide +kernel)).trans (at7_v27 m ρ c h)

theorem at8_v28 : W8 m ρ c (Proc.devRef .tc main_v28) = emb (tr (cols (n := 512) a.win 2048 (by decide))) :=
  (W8_of m ρ c main_v28 (by decide +kernel)).trans (at7_v28 m ρ c h)

theorem at8_v29 : W8 m ρ c (Proc.devRef .tc main_v29) = emb (padded a.win) :=
  (W8_of m ρ c main_v29 (by decide +kernel)).trans (at7_v29 m ρ c h)

theorem at8_v30 : W8 m ρ c (Proc.devRef .tc main_v30) = emb (tr (cols (n := 1024) a.win 2576 (by decide))) :=
  (W8_of m ρ c main_v30 (by decide +kernel)).trans (at7_v30 m ρ c h)

theorem at8_v31 : W8 m ρ c (Proc.devRef .tc main_v31) = emb (tr (cols (n := 1024) a.win 3600 (by decide))) :=
  (W8_of m ρ c main_v31 (by decide +kernel)).trans (at7_v31 m ρ c h)

theorem at8_v32_0 : W8 m ρ c (Proc.devRef .tc main_v32_0) = emb (tmm a.dz a.u) :=
  (W8_of m ρ c main_v32_0 (by decide +kernel)).trans (at7_v32_0 m ρ c h)

theorem at8_v33_0 : W8 m ρ c (Proc.devRef .tc main_v33_0) = emb (tmm a.dxs a.u) :=
  (W8_of m ρ c main_v33_0 (by decide +kernel)).trans (at7_v33_0 m ρ c h)

theorem at8_v34_0 : W8 m ρ c (Proc.devRef .tc main_v34_0) = emb (tmm a.dbc a.u) :=
  (W8_of m ρ c main_v34_0 (by decide +kernel)).trans (at7_v34_0 m ρ c h)

theorem at8_v35_0 : W8 m ρ c (Proc.devRef .tc main_v35_0) = emb (tmm a.ddt a.u) :=
  (W8_of m ρ c main_v35_0 (by decide +kernel)).trans (at7_v35_0 m ρ c h)

theorem at9_v37_0 : W9 m ρ c (Proc.devRef .tc main_v37_0) = emb (tmm a.dx a.u) :=
  (W9_arr m ρ c 2).trans (final5_2 (V8 m ρ) c _ _ ((W8_args m ρ c main_arg8 (by decide)).trans h.dx) (at8_v12 m ρ c h))

theorem at9_v26 : W9 m ρ c (Proc.devRef .tc main_v26) = emb (tr (cols (n := 1024) a.win 0 (by decide))) :=
  (W9_of m ρ c main_v26 (by decide +kernel)).trans (at8_v26 m ρ c h)

theorem at9_v27 : W9 m ρ c (Proc.devRef .tc main_v27) = emb (tr (cols (n := 1024) a.win 1024 (by decide))) :=
  (W9_of m ρ c main_v27 (by decide +kernel)).trans (at8_v27 m ρ c h)

theorem at9_v28 : W9 m ρ c (Proc.devRef .tc main_v28) = emb (tr (cols (n := 512) a.win 2048 (by decide))) :=
  (W9_of m ρ c main_v28 (by decide +kernel)).trans (at8_v28 m ρ c h)

theorem at9_v29 : W9 m ρ c (Proc.devRef .tc main_v29) = emb (padded a.win) :=
  (W9_of m ρ c main_v29 (by decide +kernel)).trans (at8_v29 m ρ c h)

theorem at9_v30 : W9 m ρ c (Proc.devRef .tc main_v30) = emb (tr (cols (n := 1024) a.win 2576 (by decide))) :=
  (W9_of m ρ c main_v30 (by decide +kernel)).trans (at8_v30 m ρ c h)

theorem at9_v31 : W9 m ρ c (Proc.devRef .tc main_v31) = emb (tr (cols (n := 1024) a.win 3600 (by decide))) :=
  (W9_of m ρ c main_v31 (by decide +kernel)).trans (at8_v31 m ρ c h)

theorem at9_v32_0 : W9 m ρ c (Proc.devRef .tc main_v32_0) = emb (tmm a.dz a.u) :=
  (W9_of m ρ c main_v32_0 (by decide +kernel)).trans (at8_v32_0 m ρ c h)

theorem at9_v33_0 : W9 m ρ c (Proc.devRef .tc main_v33_0) = emb (tmm a.dxs a.u) :=
  (W9_of m ρ c main_v33_0 (by decide +kernel)).trans (at8_v33_0 m ρ c h)

theorem at9_v34_0 : W9 m ρ c (Proc.devRef .tc main_v34_0) = emb (tmm a.dbc a.u) :=
  (W9_of m ρ c main_v34_0 (by decide +kernel)).trans (at8_v34_0 m ρ c h)

theorem at9_v35_0 : W9 m ρ c (Proc.devRef .tc main_v35_0) = emb (tmm a.ddt a.u) :=
  (W9_of m ρ c main_v35_0 (by decide +kernel)).trans (at8_v35_0 m ρ c h)

theorem at9_v36_0 : W9 m ρ c (Proc.devRef .tc main_v36_0) = emb (tmm a.dg a.u) :=
  (W9_of m ρ c main_v36_0 (by decide +kernel)).trans (at8_v36_0 m ρ c h)

/-! ## The last call -/

theorem entry : Entry (V9 m ρ) c (operands a) where
  h0 := (W9_args m ρ c main_arg3 (by decide)).trans h.dz
  h1 := at9_v26 m ρ c h
  h2 := (W9_args m ρ c main_arg4 (by decide)).trans h.dxs
  h3 := at9_v27 m ρ c h
  h4 := (W9_args m ρ c main_arg5 (by decide)).trans h.dbc
  h5 := at9_v28 m ρ c h
  h6 := (W9_args m ρ c main_arg6 (by decide)).trans h.ddt
  h7 := at9_v29 m ρ c h
  h8 := (W9_args m ρ c main_arg7 (by decide)).trans h.dg
  h9 := at9_v30 m ρ c h
  h10 := (W9_args m ρ c main_arg8 (by decide)).trans h.dx
  h11 := at9_v31 m ρ c h
  h12 := (W9_args m ρ c main_arg0 (by decide)).trans h.x
  h13 := (W9_args m ρ c main_arg1 (by decide)).trans h.w
  h14 := (W9_args m ρ c main_arg9 (by decide)).trans h.g

theorem at10_v38_0 : W10 m ρ c (Proc.devRef .tc main_v38_0) = emb a.dx0 :=
  (W10_arr m ρ c 15).trans ((final6_15 (V9 m ρ) c (operands a) (entry m ρ c h)).trans (by rw [operands_sum]; rfl))

theorem at10_v38_2 : W10 m ρ c (Proc.devRef .tc main_v38_2) = emb a.dwn :=
  (W10_arr m ρ c 17).trans ((final6_17 (V9 m ρ) c (operands a) (entry m ρ c h)).trans (by rw [operands_sum]; rfl))

theorem at10_v32_0 : W10 m ρ c (Proc.devRef .tc main_v32_0) = emb (tmm a.dz a.u) :=
  (W10_of m ρ c main_v32_0 (by decide +kernel)).trans (at9_v32_0 m ρ c h)

theorem at10_v33_0 : W10 m ρ c (Proc.devRef .tc main_v33_0) = emb (tmm a.dxs a.u) :=
  (W10_of m ρ c main_v33_0 (by decide +kernel)).trans (at9_v33_0 m ρ c h)

theorem at10_v34_0 : W10 m ρ c (Proc.devRef .tc main_v34_0) = emb (tmm a.dbc a.u) :=
  (W10_of m ρ c main_v34_0 (by decide +kernel)).trans (at9_v34_0 m ρ c h)

theorem at10_v35_0 : W10 m ρ c (Proc.devRef .tc main_v35_0) = emb (tmm a.ddt a.u) :=
  (W10_of m ρ c main_v35_0 (by decide +kernel)).trans (at9_v35_0 m ρ c h)

theorem at10_v36_0 : W10 m ρ c (Proc.devRef .tc main_v36_0) = emb (tmm a.dg a.u) :=
  (W10_of m ρ c main_v36_0 (by decide +kernel)).trans (at9_v36_0 m ρ c h)

theorem at10_v37_0 : W10 m ρ c (Proc.devRef .tc main_v37_0) = emb (tmm a.dx a.u) :=
  (W10_of m ρ c main_v37_0 (by decide +kernel)).trans (at9_v37_0 m ρ c h)

/-! ## The sections of the weights' cotangent side by side -/

theorem at11_v38_0 : W11 m ρ c (Proc.devRef .tc main_v38_0) = emb a.dx0 :=
  (W11_of m ρ c main_v38_0 (by decide)).trans (at10_v38_0 m ρ c h)

theorem at11_v38_2 : W11 m ρ c (Proc.devRef .tc main_v38_2) = emb a.dwn :=
  (W11_of m ρ c main_v38_2 (by decide)).trans (at10_v38_2 m ρ c h)

theorem at11_v40 : W11 m ρ c (Proc.devRef .tc main_v40) = emb (cols (n := 1024) a.dw 0 (by decide)) := by
  unfold_abbrev_sides
  after_results
  have k := at10_v32_0 m ρ c h
  rw [show W10 m ρ c (Proc.devRef .tc main_v32_0) = _ from k]
  exact (tr_emb _ _).trans (congrArg emb a.dw_dz)

theorem at11_v41 : W11 m ρ c (Proc.devRef .tc main_v41) = emb (cols (n := 1024) a.dw 1024 (by decide)) := by
  unfold_abbrev_sides
  after_results
  have k := at10_v33_0 m ρ c h
  rw [show W10 m ρ c (Proc.devRef .tc main_v33_0) = _ from k]
  exact (tr_emb _ _).trans (congrArg emb a.dw_dxs)

theorem at11_v42 : W11 m ρ c (Proc.devRef .tc main_v42) = emb (cols (n := 512) a.dw 2048 (by decide)) := by
  unfold_abbrev_sides
  after_results
  have k := at10_v34_0 m ρ c h
  rw [show W10 m ρ c (Proc.devRef .tc main_v34_0) = _ from k]
  exact (tr_emb _ _).trans (congrArg emb a.dw_dbc)

theorem at11_v43 : W11 m ρ c (Proc.devRef .tc main_v43) = emb (cols (n := 16) a.dw 2560 (by decide)) := by
  unfold_abbrev_sides
  after_results
  have k := at10_v35_0 m ρ c h
  rw [show W10 m ρ c (Proc.devRef .tc main_v35_0) = _ from k]
  exact (first_rows (k := 16) _ (by decide) _ _).trans (congrArg emb a.dw_ddt)

theorem at11_v44 : W11 m ρ c (Proc.devRef .tc main_v44) = emb (cols (n := 1024) a.dw 2576 (by decide)) := by
  unfold_abbrev_sides
  after_results
  have k := at10_v36_0 m ρ c h
  rw [show W10 m ρ c (Proc.devRef .tc main_v36_0) = _ from k]
  exact (tr_emb _ _).trans (congrArg emb a.dw_dg)

theorem at11_v45 : W11 m ρ c (Proc.devRef .tc main_v45) = emb (cols (n := 1024) a.dw 3600 (by decide)) := by
  unfold_abbrev_sides
  after_results
  have k := at10_v37_0 m ρ c h
  rw [show W10 m ρ c (Proc.devRef .tc main_v37_0) = _ from k]
  exact (tr_emb _ _).trans (congrArg emb a.dw_dx)

theorem at11_v46 : W11 m ρ c (Proc.devRef .tc main_v46) = emb a.dw :=
  (Cert.Reference2Ideal.Value.end_nary last_wrote (W10 m ρ c) 7 rfl (by decide) (by decide)).trans
    (join_six a.dw _ _ _ _ _ _ _ (at11_v40 m ρ c h) (at11_v41 m ρ c h) (at11_v42 m ρ c h) (at11_v43 m ρ c h) (at11_v44 m ρ c h)
      (at11_v45 m ρ c h))

end Cert.Kernel2Ideal.Value

end
-- ==== Proof.Reference2.lean ====
/- Every array of the run of the input projection's reference over the extended reals: its results are the arrays of the
   projection's backward pass. -/
module

public import proofs.«01_k».proof.Proof.Reference2Run
public import proofs.«01_k».proof.Proof.WideOps
public import proofs.«01_k».proof.Proof.Values2

@[expose] public section

set_option maxRecDepth 16384

noncomputable section

namespace Cert.Reference2Ideal.Value

open Idealize.ShloMosaic Idealize.ShloMosaic.TcCoe Idealize.ShloMosaic.StableHlo
open Cert.Reference2Ideal Cert.Reference2Ideal.Facts₀ Cert.Reference2Ideal.Facts Cert.Wide

theorem cols_cols {A N n k : Nat} (f : Fin A → Fin N → EReal) (c b : Nat) (h : c + n ≤ N) (h' : b + k ≤ n) (h2 : c + b + k ≤ N) :
    cols (cols f c h) b h' = cols f (c + b) h2 := by
  funext i j
  exact congrArg (f i) (Fin.ext (Nat.add_assoc c b j.val).symm)

theorem dot_dw (f : Fin 2176 → Fin 4624 → EReal) (g : Fin 2176 → Fin 1024 → EReal) :
    Host.dotGeneral (F := Ideal) (φ₁ := .f32) (φ₂ := .f32) dot_S2176x4624_S2176x1024_S4624x1024_0_0_1_1_n_n none (emb f) (emb g) = emb (tmm f g) := by
  funext t
  idx_vars t
  pointwise []
  simp only [emb_ix2]
  rfl

theorem dot_du (f : Fin 2176 → Fin 4624 → EReal) (g : Fin 1024 → Fin 4624 → EReal) :
    Host.dotGeneral (F := Ideal) (φ₁ := .f32) (φ₂ := .f32) dot_S2176x4624_S1024x4624_S2176x1024_1_1_0_0_n_n none (emb f) (emb g) = emb (mmT f g) := by
  funext t
  idx_vars t
  pointwise []
  simp only [emb_ix2]
  rfl

/-- Device `c`'s argument arrays hold the matrices `a`. -/
structure Holds (m : (ℓ : Loc nD τ sig) → Buf (Elt Ideal) ℓ) (c : Dev nD) (a : Inputs2) : Prop where
  x : m ((c.tc : Thread nD τ).loc main_arg0) = emb a.x
  w : m ((c.tc : Thread nD τ).loc main_arg1) = emb a.w
  win : m ((c.tc : Thread nD τ).loc main_arg2) = emb a.win
  dz : m ((c.tc : Thread nD τ).loc main_arg3) = emb a.dz
  dxs : m ((c.tc : Thread nD τ).loc main_arg4) = emb a.dxs
  dbc : m ((c.tc : Thread nD τ).loc main_arg5) = emb a.dbc
  ddt : m ((c.tc : Thread nD τ).loc main_arg6) = emb a.ddt
  dg : m ((c.tc : Thread nD τ).loc main_arg7) = emb a.dg
  dx : m ((c.tc : Thread nD τ).loc main_arg8) = emb a.dx
  g : m ((c.tc : Thread nD τ).loc main_arg9) = emb a.g

variable (m : (ℓ : Loc nD τ sig) → Buf (Elt Ideal) ℓ) (c : Dev nD) {a : Inputs2} (h : Holds m c a)
include h

theorem val_arg0 : fin m c (Proc.devRef .tc main_arg0) = emb a.x := (fin_arg0 m c).trans h.x

theorem val_arg1 : fin m c (Proc.devRef .tc main_arg1) = emb a.w := (fin_arg1 m c).trans h.w

theorem val_arg2 : fin m c (Proc.devRef .tc main_arg2) = emb a.win := (fin_arg2 m c).trans h.win

theorem val_arg3 : fin m c (Proc.devRef .tc main_arg3) = emb a.dz := (fin_arg3 m c).trans h.dz

theorem val_arg4 : fin m c (Proc.devRef .tc main_arg4) = emb a.dxs := (fin_arg4 m c).trans h.dxs

theorem val_arg5 : fin m c (Proc.devRef .tc main_arg5) = emb a.dbc := (fin_arg5 m c).trans h.dbc

theorem val_arg6 : fin m c (Proc.devRef .tc main_arg6) = emb a.ddt := (fin_arg6 m c).trans h.ddt

theorem val_arg7 : fin m c (Proc.devRef .tc main_arg7) = emb a.dg := (fin_arg7 m c).trans h.dg

theorem val_arg8 : fin m c (Proc.devRef .tc main_arg8) = emb a.dx := (fin_arg8 m c).trans h.dx

theorem val_arg9 : fin m c (Proc.devRef .tc main_arg9) = emb a.g := (fin_arg9 m c).trans h.g

theorem val_v0 : fin m c (Proc.devRef .tc main_v0) = emb (a.dz) := by
  rw [eq_v0 m c, val_arg3 m c h]
  exact cast_emb _ _

theorem val_v1 : fin m c (Proc.devRef .tc main_v1) = emb (a.dxs) := by
  rw [eq_v1 m c, val_arg4 m c h]
  exact cast_emb _ _

theorem val_v2 : fin m c (Proc.devRef .tc main_v2) = emb (a.dbc) := by
  rw [eq_v2 m c, val_arg5 m c h]
  exact cast_emb _ _

theorem val_v3 : fin m c (Proc.devRef .tc main_v3) = emb (a.ddt) := by
  rw [eq_v3 m c, val_arg6 m c h]
  exact cast_emb _ _

theorem val_v4 : fin m c (Proc.devRef .tc main_v4) = emb (a.dg) := by
  rw [eq_v4 m c, val_arg7 m c h]
  exact cast_emb _ _

theorem val_v5 : fin m c (Proc.devRef .tc main_v5) = emb (a.dx) := by
  rw [eq_v5 m c, val_arg8 m c h]
  exact cast_emb _ _

theorem val_v6 : fin m c (Proc.devRef .tc main_v6) = emb (fun i j => a.x i j * a.x i j) := by
  rw [eq_v6 m c, val_arg0 m c h]
  exact mul_emb _ _

theorem val_v8 : fin m c (Proc.devRef .tc main_v8) = emb (fun i _ => ∑ j, a.x i j * a.x i j) := by
  rw [eq_v8 m c, eq_v7 m c, val_v6 m c h, eq_cst m c]
  exact row_sums _

theorem val_v9 : fin m c (Proc.devRef .tc main_v9) = emb (fun _ _ => ((1024 : ℝ) : EReal)) := by
  rw [eq_v9 m c, eq_cst_0 m c]
  exact lit_col_1024

theorem val_v10 : fin m c (Proc.devRef .tc main_v10) = emb (fun i _ => Ideal.div (∑ j, a.x i j * a.x i j) ((1024 : ℝ) : EReal)) := by
  rw [eq_v10 m c, val_v8 m c h, val_v9 m c h]
  exact div_emb _ _

theorem val_v11 : fin m c (Proc.devRef .tc main_v11) = emb (fun _ _ => ((Cert.Block.eps : ℝ) : EReal)) := by
  rw [eq_v11 m c, eq_cst_1 m c]
  exact lit_col_eps

theorem val_v12 : fin m c (Proc.devRef .tc main_v12) = emb (fun i _ => ms a.x i) := by
  rw [eq_v12 m c, val_v10 m c h, val_v11 m c h]
  exact add_emb _ _

theorem val_v13 : fin m c (Proc.devRef .tc main_v13) = emb (fun i _ => rs a.x i) := by
  rw [eq_v13 m c, val_v12 m c h]
  exact rsqrt_emb _

theorem val_v14 : fin m c (Proc.devRef .tc main_v14) = emb (fun i _ => Ideal.div (rs a.x i) (ms a.x i)) := by
  rw [eq_v14 m c, val_v13 m c h, val_v12 m c h]
  exact div_emb _ _

theorem val_v15 : fin m c (Proc.devRef .tc main_v15) = emb (fun _ _ => ((-(1 / 2) : ℝ) : EReal)) := by
  rw [eq_v15 m c, eq_cst_2 m c]
  exact lit_col_half

theorem val_v16 : fin m c (Proc.devRef .tc main_v16) = emb (fun i _ => ((-(1 / 2) : ℝ) : EReal) * Ideal.div (rs a.x i) (ms a.x i)) := by
  rw [eq_v16 m c, val_v15 m c h, val_v14 m c h]
  exact mul_emb _ _

theorem val_v17 : fin m c (Proc.devRef .tc main_v17) = emb (fun i _ => rs a.x i) := by
  rw [eq_v17 m c, val_v13 m c h]
  exact spread_col _

theorem val_v18 : fin m c (Proc.devRef .tc main_v18) = emb (xhat a.x) := by
  rw [eq_v18 m c, val_arg0 m c h, val_v17 m c h]
  exact mul_emb _ _

theorem val_v19 : fin m c (Proc.devRef .tc main_v19) = emb (fun _ j => a.w 0 j) := by
  rw [eq_v19 m c, val_arg1 m c h]
  exact spread_row _

theorem val_v20 : fin m c (Proc.devRef .tc main_v20) = emb (a.u) := by
  rw [eq_v20 m c, val_v18 m c h, val_v19 m c h]
  exact mul_emb _ _

/-- The second and the third section, side by side. -/
theorem val_v27 : fin m c (Proc.devRef .tc main_v27) = emb (cols (n := 1536) a.d 1024 (by decide)) := by
  rw [eq_v27 m c, val_v1 m c h, val_v2 m c h]
  refine join_two _ _ _ _ (congrArg emb ?_) (congrArg emb ?_)
  · exact a.d_dxs.symm.trans (cols_cols a.d 1024 0 (by decide) (by decide) (by decide)).symm
  · exact a.d_dbc.symm.trans (cols_cols a.d 1024 1024 (by decide) (by decide) (by decide)).symm

theorem val_v28 : fin m c (Proc.devRef .tc main_v28) = emb (cols (n := 16) a.d 2560 (by decide)) := by
  rw [eq_v28 m c, val_v3 m c h]
  exact (slice_cols a.ddt 0 (by decide) _).trans (congrArg emb a.d_ddt.symm)

/-- The cotangent of the projection's result. -/
theorem val_v29 : fin m c (Proc.devRef .tc main_v29) = emb a.d := by
  rw [eq_v29 m c]
  exact join_five a.d _ _ _ _ _ _ ((val_v0 m c h).trans (congrArg emb a.d_dz.symm)) (val_v27 m c h) (val_v28 m c h)
    ((val_v4 m c h).trans (congrArg emb a.d_dg.symm)) ((val_v5 m c h).trans (congrArg emb a.d_dx.symm))

theorem val_v30 : fin m c (Proc.devRef .tc main_v30) = emb (tmm a.d a.u) := by
  rw [eq_v30 m c, val_v29 m c h, val_v20 m c h]
  exact dot_dw _ _

theorem val_v31 : fin m c (Proc.devRef .tc main_v31) = emb (a.dw) := by
  rw [eq_v31 m c, val_v30 m c h]
  exact tr_emb _ _

theorem val_v32 : fin m c (Proc.devRef .tc main_v32) = emb (a.du) := by
  rw [eq_v32 m c, val_v29 m c h, val_arg2 m c h]
  exact dot_du _ _

theorem val_v33 : fin m c (Proc.devRef .tc main_v33) = emb (fun i j => xhat a.x i j * a.du i j) := by
  rw [eq_v33 m c, val_v18 m c h, val_v32 m c h]
  exact mul_emb _ _

theorem val_v35 : fin m c (Proc.devRef .tc main_v35) = emb (a.dwn) := by
  rw [eq_v35 m c, eq_v34 m c, val_v33 m c h, eq_cst_3 m c]
  refine (col_sums _).trans (congrArg emb ?_)
  funext i j
  exact Finset.sum_congr rfl fun l _ => mul_comm (xhat a.x l j) (a.du l j)

theorem val_v36 : fin m c (Proc.devRef .tc main_v36) = emb (fun _ j => a.w 0 j) := by
  rw [eq_v36 m c, val_arg1 m c h]
  exact spread_row _

theorem val_v37 : fin m c (Proc.devRef .tc main_v37) = emb (fun i j => a.du i j * a.w 0 j) := by
  rw [eq_v37 m c, val_v32 m c h, val_v36 m c h]
  exact mul_emb _ _

theorem val_v38 : fin m c (Proc.devRef .tc main_v38) = emb (fun i j => a.x i j * (a.du i j * a.w 0 j)) := by
  rw [eq_v38 m c, val_arg0 m c h, val_v37 m c h]
  exact mul_emb _ _

theorem val_v40 : fin m c (Proc.devRef .tc main_v40) = emb (fun i _ => ∑ j, a.x i j * (a.du i j * a.w 0 j)) := by
  rw [eq_v40 m c, eq_v39 m c, val_v38 m c h, eq_cst_4 m c]
  exact row_sums' _

theorem val_v41 : fin m c (Proc.devRef .tc main_v41) = emb (fun i _ => rs a.x i) := by
  rw [eq_v41 m c, val_v13 m c h]
  exact spread_col _

theorem val_v42 : fin m c (Proc.devRef .tc main_v42) = emb (fun i j => a.du i j * a.w 0 j * rs a.x i) := by
  rw [eq_v42 m c, val_v37 m c h, val_v41 m c h]
  exact mul_emb _ _

theorem val_v43 : fin m c (Proc.devRef .tc main_v43) = emb (fun i j => a.g i j + a.du i j * a.w 0 j * rs a.x i) := by
  rw [eq_v43 m c, val_arg9 m c h, val_v42 m c h]
  exact add_emb _ _

theorem val_v44 : fin m c (Proc.devRef .tc main_v44) = emb (fun i _ => (∑ j, a.x i j * (a.du i j * a.w 0 j)) * (((-(1 / 2) : ℝ) : EReal) * Ideal.div (rs a.x i) (ms a.x i))) := by
  rw [eq_v44 m c, val_v40 m c h, val_v16 m c h]
  exact mul_emb _ _

theorem val_v45 : fin m c (Proc.devRef .tc main_v45) = emb (fun _ _ => ((1024 : ℝ) : EReal)) := by
  rw [eq_v45 m c, eq_cst_5 m c]
  exact lit_col_1024

/-- The mean square's cotangent, over the row's length. -/
abbrev slope (a : Inputs2) (i : Fin 2176) : EReal :=
  Ideal.div ((∑ j, a.x i j * (a.du i j * a.w 0 j)) * (((-(1 / 2) : ℝ) : EReal) * Ideal.div (rs a.x i) (ms a.x i))) ((1024 : ℝ) : EReal)

theorem val_v46 : fin m c (Proc.devRef .tc main_v46) = emb (fun i _ => slope a i) := by
  rw [eq_v46 m c, val_v44 m c h, val_v45 m c h]
  exact div_emb _ _

theorem val_v48 : fin m c (Proc.devRef .tc main_v48) = emb (fun i _ => slope a i) := by
  rw [eq_v48 m c, eq_v47 m c, val_v46 m c h, eq_cst_6 m c]
  exact unit_sums _

theorem val_v49 : fin m c (Proc.devRef .tc main_v49) = emb (fun i j => a.x i j * slope a i) := by
  rw [eq_v49 m c, val_arg0 m c h, val_v48 m c h]
  exact mul_emb _ _

theorem val_v50 : fin m c (Proc.devRef .tc main_v50) = emb (fun i j => a.g i j + a.du i j * a.w 0 j * rs a.x i + a.x i j * slope a i) := by
  rw [eq_v50 m c, val_v43 m c h, val_v49 m c h]
  exact add_emb _ _

theorem val_v51 : fin m c (Proc.devRef .tc main_v51) = emb (fun i j => slope a i * a.x i j) := by
  rw [eq_v51 m c, val_v48 m c h, val_arg0 m c h]
  exact mul_emb _ _

theorem val_v52 : fin m c (Proc.devRef .tc main_v52) = emb (a.dx0) := by
  rw [eq_v52 m c, val_v50 m c h, val_v51 m c h]
  refine (add_emb _ _).trans (congrArg emb ?_)
  funext i j
  exact norm_rule _ _ _ _ _ _ _ rfl

end Cert.Reference2Ideal.Value

end
-- ==== Proof.Claims2.lean ====
/- The value claim of the input projection's pass: from any arguments the kernels and the reference
   both end with the arrays of the one backward pass, so their results are equal. -/
module

public import proofs.«01_k».proof.Defs
public import proofs.«01_k».proof.Proof.Fold2
public import proofs.«01_k».proof.Proof.Reference2

@[expose] public section

set_option maxRecDepth 16384

noncomputable section

namespace Cert.Wide

open Idealize.ShloMosaic Idealize.ShloMosaic.TcCoe Idealize.SL.Sem

/-- The matrices device `c`'s argument arrays hold. -/
def inputs2 (m : (ℓ : Loc Cert.Kernel2Ideal.nD Cert.Kernel2Ideal.τ Cert.Kernel2Ideal.sig) → Buf (Elt Ideal) ℓ) (c : Dev Cert.Kernel2Ideal.nD) : Inputs2 where
  x := mat (m ((c.tc : Thread Cert.Kernel2Ideal.nD Cert.Kernel2Ideal.τ).loc Cert.Kernel2Ideal.main_arg0))
  w := mat (m ((c.tc : Thread Cert.Kernel2Ideal.nD Cert.Kernel2Ideal.τ).loc Cert.Kernel2Ideal.main_arg1))
  win := mat (m ((c.tc : Thread Cert.Kernel2Ideal.nD Cert.Kernel2Ideal.τ).loc Cert.Kernel2Ideal.main_arg2))
  dz := mat (m ((c.tc : Thread Cert.Kernel2Ideal.nD Cert.Kernel2Ideal.τ).loc Cert.Kernel2Ideal.main_arg3))
  dxs := mat (m ((c.tc : Thread Cert.Kernel2Ideal.nD Cert.Kernel2Ideal.τ).loc Cert.Kernel2Ideal.main_arg4))
  dbc := mat (m ((c.tc : Thread Cert.Kernel2Ideal.nD Cert.Kernel2Ideal.τ).loc Cert.Kernel2Ideal.main_arg5))
  ddt := mat (m ((c.tc : Thread Cert.Kernel2Ideal.nD Cert.Kernel2Ideal.τ).loc Cert.Kernel2Ideal.main_arg6))
  dg := mat (m ((c.tc : Thread Cert.Kernel2Ideal.nD Cert.Kernel2Ideal.τ).loc Cert.Kernel2Ideal.main_arg7))
  dx := mat (m ((c.tc : Thread Cert.Kernel2Ideal.nD Cert.Kernel2Ideal.τ).loc Cert.Kernel2Ideal.main_arg8))
  g := mat (m ((c.tc : Thread Cert.Kernel2Ideal.nD Cert.Kernel2Ideal.τ).loc Cert.Kernel2Ideal.main_arg9))

theorem kernel2_holds {m : (ℓ : Loc Cert.Kernel2Ideal.nD Cert.Kernel2Ideal.τ Cert.Kernel2Ideal.sig) → Buf (Elt Ideal) ℓ}
    (c : Dev Cert.Kernel2Ideal.nD) : Cert.Kernel2Ideal.Value.Holds m c (inputs2 m c) where
  x := emb_mat _
  w := emb_mat _
  win := emb_mat _
  dz := emb_mat _
  dxs := emb_mat _
  dbc := emb_mat _
  ddt := emb_mat _
  dg := emb_mat _
  dx := emb_mat _
  g := emb_mat _

/-- From memories that agree on the arguments, both programs end with equal results and unchanged arguments. -/
theorem algebraic2 : Cert.algebraic_Kernel2Ideal_Reference2Ideal := by
  intro m g m' g' _ hm
  have hk := fun c => kernel2_holds (m := m) c
  have hr : ∀ c, Cert.Reference2Ideal.Value.Holds m' c (inputs2 m c) := fun c => by
    obtain ⟨h0, h1, h2, h3, h4, h5, h6, h7, h8, h9⟩ := hm c
    have k := hk c
    exact ⟨h0.trans k.x, h1.trans k.w, h2.trans k.win, h3.trans k.dz, h4.trans k.dxs, h5.trans k.dbc, h6.trans k.ddt, h7.trans k.dg, h8.trans k.dx, h9.trans k.g⟩
  refine ⟨fun c => emb (inputs2 m c).dx0, fun c => emb (inputs2 m c).dwn, fun c => emb (inputs2 m c).dw, ?_, ?_⟩
  · refine θ_run_mono (Cert.Kernel2Ideal.Value.run_fold m g) fun r h c => ⟨(h c _ (Cert.Kernel2Ideal.Gen.mem_uc Cert.Kernel2Ideal.main_v38_0 (by decide))).trans (Cert.Kernel2Ideal.Value.at11_v38_0 m g c (hk c)),
      (h c _ (Cert.Kernel2Ideal.Gen.mem_uc Cert.Kernel2Ideal.main_v38_2 (by decide))).trans (Cert.Kernel2Ideal.Value.at11_v38_2 m g c (hk c)),
      (h c _ (Cert.Kernel2Ideal.Gen.mem_uc Cert.Kernel2Ideal.main_v46 (by decide))).trans (Cert.Kernel2Ideal.Value.at11_v46 m g c (hk c)),
      (h c _ (Cert.Kernel2Ideal.Gen.mem_uc Cert.Kernel2Ideal.main_arg0 (by decide))).trans (Cert.Kernel2Ideal.Gen.W11_main_arg0 m g c),
      (h c _ (Cert.Kernel2Ideal.Gen.mem_uc Cert.Kernel2Ideal.main_arg1 (by decide))).trans (Cert.Kernel2Ideal.Gen.W11_main_arg1 m g c),
      (h c _ (Cert.Kernel2Ideal.Gen.mem_uc Cert.Kernel2Ideal.main_arg2 (by decide))).trans (Cert.Kernel2Ideal.Gen.W11_main_arg2 m g c),
      (h c _ (Cert.Kernel2Ideal.Gen.mem_uc Cert.Kernel2Ideal.main_arg3 (by decide))).trans (Cert.Kernel2Ideal.Gen.W11_main_arg3 m g c),
      (h c _ (Cert.Kernel2Ideal.Gen.mem_uc Cert.Kernel2Ideal.main_arg4 (by decide))).trans (Cert.Kernel2Ideal.Gen.W11_main_arg4 m g c),
      (h c _ (Cert.Kernel2Ideal.Gen.mem_uc Cert.Kernel2Ideal.main_arg5 (by decide))).trans (Cert.Kernel2Ideal.Gen.W11_main_arg5 m g c),
      (h c _ (Cert.Kernel2Ideal.Gen.mem_uc Cert.Kernel2Ideal.main_arg6 (by decide))).trans (Cert.Kernel2Ideal.Gen.W11_main_arg6 m g c),
      (h c _ (Cert.Kernel2Ideal.Gen.mem_uc Cert.Kernel2Ideal.main_arg7 (by decide))).trans (Cert.Kernel2Ideal.Gen.W11_main_arg7 m g c),
      (h c _ (Cert.Kernel2Ideal.Gen.mem_uc Cert.Kernel2Ideal.main_arg8 (by decide))).trans (Cert.Kernel2Ideal.Gen.W11_main_arg8 m g c),
      (h c _ (Cert.Kernel2Ideal.Gen.mem_uc Cert.Kernel2Ideal.main_arg9 (by decide))).trans (Cert.Kernel2Ideal.Gen.W11_main_arg9 m g c)⟩
  · refine θ_run_mono (Cert.Reference2Ideal.Value.run_fin m' g') fun r h c => ⟨(h c Cert.Reference2Ideal.main_v52).trans (Cert.Reference2Ideal.Value.val_v52 m' c (hr c)),
      (h c Cert.Reference2Ideal.main_v35).trans (Cert.Reference2Ideal.Value.val_v35 m' c (hr c)),
      (h c Cert.Reference2Ideal.main_v31).trans (Cert.Reference2Ideal.Value.val_v31 m' c (hr c)),
      (h c Cert.Reference2Ideal.main_arg0).trans (Cert.Reference2Ideal.Value.fin_arg0 m' c),
      (h c Cert.Reference2Ideal.main_arg1).trans (Cert.Reference2Ideal.Value.fin_arg1 m' c),
      (h c Cert.Reference2Ideal.main_arg2).trans (Cert.Reference2Ideal.Value.fin_arg2 m' c),
      (h c Cert.Reference2Ideal.main_arg3).trans (Cert.Reference2Ideal.Value.fin_arg3 m' c),
      (h c Cert.Reference2Ideal.main_arg4).trans (Cert.Reference2Ideal.Value.fin_arg4 m' c),
      (h c Cert.Reference2Ideal.main_arg5).trans (Cert.Reference2Ideal.Value.fin_arg5 m' c),
      (h c Cert.Reference2Ideal.main_arg6).trans (Cert.Reference2Ideal.Value.fin_arg6 m' c),
      (h c Cert.Reference2Ideal.main_arg7).trans (Cert.Reference2Ideal.Value.fin_arg7 m' c),
      (h c Cert.Reference2Ideal.main_arg8).trans (Cert.Reference2Ideal.Value.fin_arg8 m' c),
      (h c Cert.Reference2Ideal.main_arg9).trans (Cert.Reference2Ideal.Value.fin_arg9 m' c)⟩

end Cert.Wide

end
-- ==== Proof.Embed.lean ====
/- The embedding: the call writes 112 rows of zeros, the meta tokens and the sequence, which is what the reference joins. -/
module

public import proofs.«01_k».proof.Defs
public import proofs.«01_k».proof.Proof.Gen.Kernel3Ideal.Value
public import proofs.«01_k».proof.Proof.Gen.Reference3Ideal.Run
public import proofs.«01_k».proof.Proof.Wide
public import Idealize.ShloMosaic.Lib.WritesUnit
public import Idealize.ShloMosaic.Lib.WholeRead

@[expose] public section

set_option maxRecDepth 16384

noncomputable section

namespace Cert.Kernel3Ideal.Value

open Idealize.ShloMosaic Idealize.ShloMosaic.TcCoe Idealize.SL.Sem
open Idealize.ShloMosaic.Pipeline (Dat)
open Cert.Kernel3Ideal Cert.Kernel3Ideal.Gen

variable {F : FTy → Type} [FloatOps F]
variable (m : (ℓ : Loc nD τ sig) → Buf (Elt F) ℓ)

/-- The rows of zeros, the meta tokens and the sequence, one under the other. -/
def joined (x : S2048x1024.Idx → Elt F .f32) (meta_ : S16x1024.Idx → Elt F .f32) (i : S2176x1024.Idx) : Elt F .f32 :=
  if h : (i 0).val < 112 then (Scalar.ofBits .f32 0x00000000#32 : F .f32)
  else if h' : (i 0).val < 128 then meta_ (ix2 ⟨(i 0).val - 112, by omega⟩ (i 1))
  else x (ix2 ⟨(i 0).val - 128, by have := (i 0).isLt; simp only [S2176x1024, Matrix.cons_val_zero] at this; omega⟩ (i 1))

theorem hz : (![0, 0] : Fin 2 → Nat) = fun _ => 0 := funext fun a => by fin_cases a <;> rfl

/-- The block that the first point leaves: zeros above the meta tokens. -/
theorem first (c : Dev nD) (i : grid0.Coords) (arg1 : Memref sig .tc .vmem S128x1024 .f32) (harg1 : arg1.IsWhole) (arg2 : Memref sig .tc .vmem S16x1024 .f32) (harg2 : arg2.IsWhole) (arg3 : Memref sig .tc .vmem S128x1024 .f32) (harg3 : arg3.IsWhole) (hc0 : cond0_0 i) (hc1 : ¬cond0_1 i)
    (x0 : Vec F S128x1024 .f32) (x1 : Vec F S16x1024 .f32) (p : Fin 128) (q : Fin 1024) :
    out0_A_2 c i arg1 harg1 arg2 harg2 arg3 harg3 hc0 hc1 x0 x1 (ix2 p q)
      = if h : p.val < 112 then (Scalar.ofBits .f32 0x00000000#32 : F .f32) else x1 (ix2 ⟨p.val - 112, by omega⟩ q) := by
  unfold out0_A_2 kernelRun0_A
  dsimp only
  split
  · rename_i h
    refine (View.read_writes_cons_rows_of_not_mem (d := ![128, 1024]) (o := 112) (W := 16) _ _ _ _ _ _ rfl rfl (Or.inl h)).trans ?_
    exact (View.read_writes_cons_rows_of_mem (d := ![128, 1024]) (o := 0) _ _ _ _ _ _ (ix2 ⟨p.val, h⟩ q) rfl (Nat.zero_add _).symm rfl)
  · rename_i h
    have hp : p.val - 112 < 16 := by omega
    have he : p.val = 112 + (p.val - 112) := by omega
    refine (View.read_writes_cons_rows_of_mem (d := ![128, 1024]) (o := 112) _ _ _ _ _ _ (ix2 (⟨p.val - 112, hp⟩ : Fin 16) q) rfl he rfl).trans ?_
    refine (harg2.readAt_unread x1 _ _).trans (congrArg x1 ?_)
    funext a
    fin_cases a <;> exact Fin.ext (by simp [LoadRect.idx])

/-- The block that a later point leaves is the sequence's block. -/
theorem later (c : Dev nD) (i : grid0.Coords) (arg1 : Memref sig .tc .vmem S128x1024 .f32) (harg1 : arg1.IsWhole) (arg2 : Memref sig .tc .vmem S16x1024 .f32) (harg2 : arg2.IsWhole) (arg3 : Memref sig .tc .vmem S128x1024 .f32) (harg3 : arg3.IsWhole) (hc0 : ¬cond0_0 i) (hc1 : cond0_1 i)
    (x0 : Vec F S128x1024 .f32) (x1 : Vec F S16x1024 .f32) : out0_B_2 c i arg1 harg1 arg2 harg2 arg3 harg3 hc0 hc1 x0 x1 = x0 := by
  unfold out0_B_2 kernelRun0_B
  dsimp only
  rw [View.read_writes_junk_eq_canon]
  refine (View.canon_unit_zero (S := S128x1024) hz _ _).trans ?_
  funext i
  refine (harg1.readAt_unread x0 _ _).trans (congrArg x0 ?_)
  funext a
  fin_cases a <;> exact Fin.ext (by simp [LoadRect.idx])

theorem N0 : cfg0.N = 17 := rfl

theorem index0 : ∀ t : Fin cfg0.N, win0_0.index t 0 * 128 = 128 * (t.val - 1) ∧ win0_0.index t 1 * 1024 = 0 :=
  (by decide +kernel : ∀ t : Fin grid0.N, win0_0.index t 0 * 128 = 128 * (t.val - 1) ∧ win0_0.index t 1 * 1024 = 0)

theorem index1 : ∀ t : Fin cfg0.N, win0_1.index t 0 * 16 = 0 ∧ win0_1.index t 1 * 1024 = 0 :=
  (by decide +kernel : ∀ t : Fin grid0.N, win0_1.index t 0 * 16 = 0 ∧ win0_1.index t 1 * 1024 = 0)

theorem index2 : ∀ t : Fin cfg0.N, win0_2.index t 0 * 128 = 128 * t.val ∧ win0_2.index t 1 * 1024 = 0 :=
  (by decide +kernel : ∀ t : Fin grid0.N, win0_2.index t 0 * 128 = 128 * t.val ∧ win0_2.index t 1 * 1024 = 0)

theorem flush2 : ∀ t : Fin cfg0.N, (cfg0.win 2).flush t = true :=
  (by decide +kernel : ∀ t : Fin grid0.N, (cfg0.win 2).flush t = true)

/-- The sequence's block at a later point, entry by entry. -/
theorem block0 (c : Dev nD) (t : Fin cfg0.N) (p : Fin 128) (q : Fin 1024) (r : Fin 2048) (h : r.val = 128 * (t.val - 1) + p.val) :
    (iblk m c 0 t : Vec F S128x1024 .f32) (ix2 p q) = (V m c main_arg0 : S2048x1024.Idx → Elt F .f32) (ix2 r q) := by
  show ((cfg0.win 0).blk t).view.read (Elt F) (V m c main_arg0) (ix2 p q) = _
  rw [View.read_apply]
  refine congrArg (V m c main_arg0 : S2048x1024.Idx → Elt F .f32) (funext fun a => ?_)
  fin_cases a
  · refine Fin.ext ?_
    show win0_0.index t 0 * 128 + 1 * p.val = r.val
    rw [(index0 t).1]; omega
  · refine Fin.ext ?_
    show win0_0.index t 1 * 1024 + 1 * q.val = q.val
    rw [(index0 t).2]; omega

/-- The meta tokens' block, entry by entry. -/
theorem block1 (c : Dev nD) (t : Fin cfg0.N) (p : Fin 16) (q : Fin 1024) :
    (iblk m c 1 t : Vec F S16x1024 .f32) (ix2 p q) = (V m c main_arg1 : S16x1024.Idx → Elt F .f32) (ix2 p q) := by
  show ((cfg0.win 1).blk t).view.read (Elt F) (V m c main_arg1) (ix2 p q) = _
  rw [View.read_apply]
  refine congrArg (V m c main_arg1 : S16x1024.Idx → Elt F .f32) (funext fun a => ?_)
  fin_cases a
  · refine Fin.ext ?_
    show win0_1.index t 0 * 16 + 1 * p.val = p.val
    rw [(index1 t).1]; omega
  · refine Fin.ext ?_
    show win0_1.index t 1 * 1024 + 1 * q.val = q.val
    rw [(index1 t).2]; omega

/-- Every point writes back its block of the joined rows. -/
theorem flushed2_eq (c : Dev nD) (t : Fin cfg0.N) :
    (dats m 0 c).flushed 2 t = ((cfg0.win 2).blk t).view.read (Elt F) (joined (V m c main_arg0) (V m c main_arg1)) := by
  have ht : t.val < 17 := t.isLt
  funext j
  obtain ⟨p, q, rfl⟩ : ∃ (p : Fin 128) (q : Fin 1024), j = ix2 p q := ⟨j 0, j 1, funext fun a => by fin_cases a <;> rfl⟩
  have hR : ((cfg0.win 2).blk t).view.read (Elt F) (joined (V m c main_arg0) (V m c main_arg1)) (ix2 p q)
      = joined (V m c main_arg0) (V m c main_arg1) (ix2 ⟨128 * t.val + p.val, by omega⟩ q) := by
    rw [View.read_apply]
    refine congrArg (joined (V m c main_arg0) (V m c main_arg1)) (funext fun a => ?_)
    fin_cases a
    · refine Fin.ext ?_
      show win0_2.index t 0 * 128 + 1 * p.val = 128 * t.val + p.val
      rw [(index2 t).1]; omega
    · refine Fin.ext ?_
      show win0_2.index t 1 * 1024 + 1 * q.val = q.val
      rw [(index2 t).2]; omega
  refine Eq.trans ?_ hR.symm
  have v0 : ((ix2 (⟨128 * t.val + p.val, by omega⟩ : Fin 2176) q : S2176x1024.Idx) 0).val = 128 * t.val + p.val := rfl
  by_cases h0 : t.val = 0
  · refine (congrFun (flushed2_A m c t (by omega) (by omega)) (ix2 p q)).trans ?_
    refine (first c (grid0.coords t) _ _ _ _ _ _ _ _ _ _ p q).trans ?_
    unfold joined
    simp only [v0]
    by_cases hp : p.val < 112
    · rw [dif_pos hp, dif_pos (by omega)]
    · rw [dif_neg hp, dif_neg (by omega), dif_pos (by omega)]
      refine (block1 m c t _ q).trans (congrArg (V m c main_arg1 : S16x1024.Idx → Elt F .f32) (congrArg (ix2 · q) (Fin.ext ?_)))
      show p.val - 112 = 128 * t.val + p.val - 112
      omega
  · refine (congrFun (flushed2_B m c t (by omega) (by omega)) (ix2 p q)).trans ?_
    refine (congrFun (later c (grid0.coords t) _ _ _ _ _ _ _ _ _ _) (ix2 p q)).trans ?_
    unfold joined
    simp only [v0]
    rw [dif_neg (by omega), dif_neg (by omega)]
    refine block0 m c t p q _ ?_
    show 128 * t.val + p.val - 128 = _
    omega

theorem cover2 (i : (⟨2, ![2176, 1024]⟩ : Shape).Idx) :
    ∃ t : Fin cfg0.N, (cfg0.win 2).flush t = true ∧ i ∈ ((cfg0.win 2).blk t).view.set := by
  have h0 : (i 0 : Nat) < 2176 := (i 0).isLt
  have h1 : (i 1 : Nat) < 1024 := (i 1).isLt
  have hN : cfg0.N = 17 := N0
  have ht : (i 0 : Nat) / 128 < cfg0.N := by omega
  refine ⟨⟨(i 0 : Nat) / 128, ht⟩, flush2 _, ?_⟩
  generalize htt : (⟨(i 0 : Nat) / 128, ht⟩ : Fin cfg0.N) = t
  have hv : t.val = (i 0 : Nat) / 128 := by rw [← htt]
  show i ∈ ((View.whole main_v0).slice (win0_2.rect t)).set
  rw [View.set_slice_whole, Rect.mem_set_unit]
  have e := index2 t
  have x : win0_2.xsize (grid0.coords t) 0 = 128 ∧ win0_2.xsize (grid0.coords t) 1 = 1024 := ⟨rfl, rfl⟩
  intro a
  match a with
  | ⟨0, _⟩ =>
    show win0_2.index t 0 * 128 ≤ (i 0 : Nat) ∧ (i 0 : Nat) < win0_2.index t 0 * 128 + win0_2.xsize (grid0.coords t) 0
    rw [e.1, x.1]; omega
  | ⟨1, _⟩ =>
    show win0_2.index t 1 * 1024 ≤ (i 1 : Nat) ∧ (i 1 : Nat) < win0_2.index t 1 * 1024 + win0_2.xsize (grid0.coords t) 1
    rw [e.2, x.2]; omega

/-- The array the call leaves. -/
theorem final2 (c : Dev nD) : (dats m 0 c).arrAt 2 cfg0.N = joined (V m c main_arg0) (V m c main_arg1) :=
  (dats m 0 c).arrAt_eq_of_cover 2 (joined (V m c main_arg0) (V m c main_arg1)) (fun t _ => flushed2_eq m c t) cover2

end Cert.Kernel3Ideal.Value

namespace Cert.Wide

open Idealize.ShloMosaic Idealize.ShloMosaic.TcCoe Idealize.SL.Sem
open Cert.Kernel3Ideal (S2048x1024 S16x1024 S2176x1024)

/-- What the reference joins, index by index. -/
theorem reference3_joined {F : FTy → Type} [FloatOps F] (z : (⟨2, ![112, 1024]⟩ : Shape).Idx → Elt F .f32) (hzero : ∀ i, z i = (Scalar.ofBits .f32 0x00000000#32 : F .f32))
    (a : S16x1024.Idx → Elt F .f32) (x : S2048x1024.Idx → Elt F .f32) (h) :
    concatenate S2176x1024 0 [⟨(⟨2, ![112, 1024]⟩ : Shape), z⟩, ⟨S16x1024, a⟩, ⟨S2048x1024, x⟩] h = Cert.Kernel3Ideal.Value.joined (F := F) x a := by
  funext i
  have hi : (i 0).val < 2176 := (i 0).isLt
  unfold Cert.Kernel3Ideal.Value.joined
  have off : ∀ {n : Nat} (r : Fin n) (b : Fin 2), b ≠ (0 : Fin 2) → ((ix2 r (i 1 : Fin 1024)) b).val = (i b).val := fun r b hb => by
    fin_cases b
    · exact absurd rfl hb
    · rfl
  split
  · rename_i h1
    refine (concatenate_apply_piece (t := S2176x1024) 0 _ h i 0 (by show 0 < 3; omega) _ z rfl rfl 0 rfl (ix2 ⟨(i 0).val, h1⟩ (i 1)) (off _) (Nat.zero_add _)).trans (hzero _)
  · rename_i h1
    split
    · rename_i h2
      refine concatenate_apply_piece (t := S2176x1024) 0 _ h i 1 (by show 1 < 3; omega) _ a rfl rfl 112 rfl (ix2 ⟨(i 0).val - 112, by omega⟩ (i 1)) (off _) ?_
      show 112 + ((i 0).val - 112) = (i 0).val
      omega
    · rename_i h2
      refine concatenate_apply_piece (t := S2176x1024) 0 _ h i 2 (by show 2 < 3; omega) _ x rfl rfl 128 rfl (ix2 ⟨(i 0).val - 128, by omega⟩ (i 1)) (off _) ?_
      show 128 + ((i 0).val - 128) = (i 0).val
      omega

/-- From memories that agree on the arguments, both programs end with equal results and unchanged arguments. -/
theorem algebraic3 : Cert.algebraic_Kernel3Ideal_Reference3Ideal := by
  intro m g m' g' _ hm
  refine ⟨fun c => Cert.Kernel3Ideal.Value.joined (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · exact θ_run_mono (Cert.Kernel3Ideal.Value.run_blocks m g) fun r h c => ⟨(h c).1.trans (Cert.Kernel3Ideal.Value.final2 m c), (h c).2.1, (h c).2.2⟩
  · refine θ_run_mono (Cert.Reference3Ideal.Value.run m' g') fun r h c => ⟨(h c).1.trans ?_, (h c).2.1, (h c).2.2⟩
    rw [(hm c).1, (hm c).2]
    exact reference3_joined (F := Ideal) _ (fun _ => rfl) _ _ _

end Cert.Wide

end
-- ==== Proof.Conv.lean ====
/- The backward pass of the causal convolution, one block of columns: what the call stores, as sums over all rows. -/
module

public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.KernelVsHost

@[expose] public section

set_option maxRecDepth 16384

noncomputable section

namespace Cert.Conv

open Idealize.ShloMosaic Cert.Kernel4Ideal Cert.Kernel4Ideal.Gen

/-- A matrix of 2176 rows with its shape named by its number of columns. -/
abbrev Rows (n : Nat) : Type := (⟨2, ![2176, n]⟩ : Shape).Idx → EReal
abbrev Taps (n : Nat) : Type := (⟨2, ![4, n]⟩ : Shape).Idx → EReal

variable {n : Nat}

/-- Row `t` of a matrix, zero below its end. -/
def row (a : Rows n) (t : Nat) (q : Fin n) : EReal := if h : t < 2176 then a (ix2 ⟨t, h⟩ q) else 0

/-- Row `t` with the rows before the sequence set to zero. -/
def live (a : Rows n) (t : Nat) (q : Fin n) : EReal := if 112 ≤ t then row a t q else 0

/-- Row `t - s`, zero above the start. -/
def back (a : Rows n) (s t : Nat) (q : Fin n) : EReal := if s ≤ t then row a (t - s) q else 0

/-- The gradient of the convolution's input. -/
def dxAt (dy : Rows n) (w : Taps n) (t : Nat) (q : Fin n) : EReal :=
  live dy t q * w (ix2 3 q) + live dy (t + 1) q * w (ix2 2 q) + live dy (t + 2) q * w (ix2 1 q) + live dy (t + 3) q * w (ix2 0 q)

/-- The gradient of the tap that reads `s` rows back. -/
def dwAt (dy x : Rows n) (s : Nat) (q : Fin n) : EReal := ∑ t ∈ Finset.range 2176, live dy t q * back x s t q

/-- The gradient of the bias. -/
def dbAt (dy : Rows n) (q : Fin n) : EReal := ∑ t ∈ Finset.range 2176, live dy t q

/-! ## The rows of a chunk -/

theorem ld_rows {o : Nat} (a : Vec Ideal S2176x512 .f32) (h : ∀ b : Fin 2, ![o, 0] b + S128x512.size b ≤ S2176x512.size b) (p : Fin 128) (q : Fin 512) :
    (View.ld a (Rect.unit ![o, 0] S128x512.size h) : Vec Ideal S128x512 .f32) (ix2 p q) = row a (o + p.val) q := by
  have ho : o + 128 ≤ 2176 := h 0
  have hp : o + p.val < 2176 := by have := p.isLt; omega
  rw [View.ld_unit]
  unfold row
  rw [dif_pos hp]
  refine congrArg a (funext fun b => ?_)
  fin_cases b
  · rfl
  · exact Fin.ext (Nat.zero_add _)

theorem ld_live {o : Nat} (a : Vec Ideal S2176x512 .f32) (h : ∀ b : Fin 2, ![o, 0] b + S128x512.size b ≤ S2176x512.size b) (ho : 112 ≤ o) (p : Fin 128) (q : Fin 512) :
    (View.ld a (Rect.unit ![o, 0] S128x512.size h) : Vec Ideal S128x512 .f32) (ix2 p q) = live a (o + p.val) q := by
  rw [ld_rows, live, if_pos (by omega)]

theorem ld_back {o : Nat} (s : Nat) (a : Vec Ideal S2176x512 .f32) (h : ∀ b : Fin 2, ![o, 0] b + S128x512.size b ≤ S2176x512.size b) (p : Fin 128) (q : Fin 512) :
    (View.ld a (Rect.unit ![o, 0] S128x512.size h) : Vec Ideal S128x512 .f32) (ix2 p q) = back a s (o + s + p.val) q := by
  rw [ld_rows, back, if_pos (by omega)]
  congr 1; omega

/-- The first chunk's rows, with those before the sequence set to zero. -/
theorem masked (d : Vec Ideal S128x512 .f32) (p : Fin 128) (q : Fin 512) :
    (k0_pay135 (F := Ideal) d) (ix2 p q) = if 112 ≤ p.val then d (ix2 p q) else 0 := by
  have hm : ∀ p : Fin 128, BitVec.setWidth 32 (IntOp.cmpi CmpIPredicate.sge (BitVec.ofNat 32 p.val) 112#32) = if 112 ≤ p.val then 1#32 else 0#32 := by decide +kernel
  pointwise [k0_pay135]
  rw [hm]
  split
  · show d (ix2 p q) * (((1#32 : BitVec 32).toInt : ℝ) : EReal) = _
    simp
  · show d (ix2 p q) * (((0#32 : BitVec 32).toInt : ℝ) : EReal) = _
    simp

theorem ld_masked (a : Vec Ideal S2176x512 .f32) (h : ∀ b : Fin 2, ![0, 0] b + S128x512.size b ≤ S2176x512.size b) (p : Fin 128) (q : Fin 512) :
    (k0_pay135 (F := Ideal) (View.ld a (Rect.unit ![0, 0] S128x512.size h))) (ix2 p q) = live a (0 + p.val) q := by
  rw [masked, ld_rows, live, Nat.zero_add]

theorem ld_first (a : Vec Ideal S2176x512 .f32) (h : ∀ b : Fin 2, ![0, 0] b + S128x512.size b ≤ S2176x512.size b) (p : Fin 128) (q : Fin 512) :
    (View.ld a (Rect.unit ![0, 0] S128x512.size h) : Vec Ideal S128x512 .f32) (ix2 p q) = back a 0 (0 + p.val) q := by
  rw [ld_rows, back, if_pos (Nat.zero_le _)]; rfl

section shifted

variable (a : Vec Ideal S2176x512 .f32) (h : ∀ b : Fin 2, ![0, 0] b + S128x512.size b ≤ S2176x512.size b) (p : Fin 128) (q : Fin 512)

omit h in
/-- Eight rows of zeros over the first chunk, read `s` rows back. -/
theorem above (s k : Nat) (hs : s ≤ 8) (hk : k = 8 + p.val - s) (h2 : ¬ k < 8 → k - 8 < 2176) :
    (if h' : k < 8 then (0 : EReal) else a (ix2 ⟨k - 8, h2 h'⟩ q)) = back a s p.val q := by
  unfold back
  split
  · rw [if_neg (by omega)]
  · rw [if_pos (by omega), row, dif_pos (by omega)]
    exact congrArg a (congrArg (ix2 · q) (Fin.ext (by dsimp only; omega)))

theorem shift1 : (extractStridedSlice S128x512 ![8, 0] (dynamicRotate 0 1#32 none (k0_pay132 (F := Ideal) (View.ld a (Rect.unit ![0, 0] S128x512.size h)) (Scalar.ofBits .f32 0x00000000#32)) rotates_S136x512_d0) slices_S136x512_o8_0_S128x512) (ix2 p q)
    = back a 1 (0 + p.val) q := by
  have hp := p.isLt
  pointwise [k0_pay132]
  exact above a p q 1 _ (by omega) (by omega) _

theorem shift2 : (k0_pay133 (F := Ideal) (View.ld a (Rect.unit ![0, 0] S128x512.size h)) (Scalar.ofBits .f32 0x00000000#32)) (ix2 p q) = back a 2 (0 + p.val) q := by
  have hp := p.isLt
  pointwise [k0_pay133, k0_pay132]
  exact above a p q 2 _ (by omega) (by omega) _

theorem shift3 : (k0_pay134 (F := Ideal) (View.ld a (Rect.unit ![0, 0] S128x512.size h)) (Scalar.ofBits .f32 0x00000000#32)) (ix2 p q) = back a 3 (0 + p.val) q := by
  have hp := p.isLt
  pointwise [k0_pay134, k0_pay132]
  exact above a p q 3 _ (by omega) (by omega) _

end shifted

/-- A chunk with the first rows of the chunk below, read `k` rows down. -/
theorem below {d : Vec Ideal S128x512 .f32} {nx : FVec Ideal S8x512 .f32} {E : Nat → Fin 512 → EReal} {o : Nat}
    (hd : ∀ p q, d (ix2 p q) = E (o + p.val) q) (hn : ∀ (p : Fin 8) q, nx (ix2 p q) = E (o + 128 + p.val) q) (q : Fin 512) (k j : Nat) (hk : k = j) (h2 : ¬ k < 128 → k - 128 < 8) :
    (if h : k < 128 then d (ix2 ⟨k, h⟩ q) else nx (ix2 ⟨k - 128, h2 h⟩ q)) = E (o + j) q := by
  subst hk
  split
  · rw [hd]
  · rw [hn]; dsimp only; congr 1; omega

/-- What a chunk's store holds, from its own rows and the first rows of the chunk below. -/
theorem chunk (w : Vec Ideal S4x512 .f32) (nx : FVec Ideal S8x512 .f32) (d : Vec Ideal S128x512 .f32) (E : Nat → Fin 512 → EReal) (o : Nat)
    (hd : ∀ p q, d (ix2 p q) = E (o + p.val) q) (hn : ∀ (p : Fin 8) q, nx (ix2 p q) = E (o + 128 + p.val) q) (p : Fin 128) (q : Fin 512) :
    (k0_pay125 (F := Ideal) w nx d) (ix2 p q)
      = E (o + p.val) q * w (ix2 3 q) + E (o + p.val + 1) q * w (ix2 2 q) + E (o + p.val + 2) q * w (ix2 1 q) + E (o + p.val + 3) q * w (ix2 0 q) := by
  have hp := p.isLt
  pointwise [k0_pay125]
  rw [hd, below hd hn q _ (p.val + 1) (by omega), below hd hn q _ (p.val + 2) (by omega), below hd hn q _ (p.val + 3) (by omega)]
  rfl

theorem next_rows {d : Vec Ideal S128x512 .f32} {E : Nat → Fin 512 → EReal} {o : Nat} (hd : ∀ p q, d (ix2 p q) = E (o + p.val) q) (p : Fin 8) (q : Fin 512) :
    (k0_pay131 (F := Ideal) d) (ix2 p q) = E (o + p.val) q := by
  pointwise [k0_pay131]
  rw [hd]

def dxBlock (dy : Vec Ideal S2176x512 .f32) (w : Vec Ideal S4x512 .f32) : Vec Ideal S2176x512 .bf16 := fun i => dxAt dy w (i 0).val (i 1)

/-- One piece of the stored gradient. -/
theorem piece (w : Vec Ideal S4x512 .f32) (dy : Vec Ideal S2176x512 .f32) {nx : FVec Ideal S8x512 .f32} {d : Vec Ideal S128x512 .f32} {o : Nat}
    (h : ∀ b : Fin 2, ![o, 0] b + S128x512.size b ≤ S2176x512.size b)
    (hd : ∀ p q, d (ix2 p q) = live dy (o + p.val) q) (hn : ∀ (p : Fin 8) q, nx (ix2 p q) = live dy (o + 128 + p.val) q) (y : S128x512.Idx) :
    (k0_pay125 (F := Ideal) w nx d) y = dxBlock dy w ((Rect.unit ![o, 0] S128x512.size h : Rect S2176x512).emb y) := by
  obtain ⟨p, q, rfl⟩ : ∃ (p : Fin 128) (q : Fin 512), y = ix2 p q := ⟨y 0, y 1, funext fun a => by fin_cases a <;> rfl⟩
  rw [chunk w nx d _ o hd hn p q]
  have e0 : (((Rect.unit ![o, 0] S128x512.size h : Rect S2176x512).emb (ix2 p q)) 0).val = o + p.val := by show o + 1 * p.val = _; omega
  have e1 : (((Rect.unit ![o, 0] S128x512.size h : Rect S2176x512).emb (ix2 p q)) 1 : Fin 512) = q := Fin.ext (by show 0 + 1 * q.val = _; omega)
  unfold dxBlock
  rw [e0, e1]
  rfl

theorem ld_tap (w : Vec Ideal S4x512 .f32) : View.ld w r0_0 = w := View.ld_unit_zero (funext fun a => by fin_cases a <;> rfl) _ _

theorem zero_next (dy : Vec Ideal S2176x512 .f32) (p : Fin 8) (q : Fin 512) :
    (broadcast S8x512 (Scalar.ofBits (F := Ideal) .f32 0x00000000#32) : FVec Ideal S8x512 .f32) (ix2 p q) = live dy (2048 + 128 + p.val) q := by
  have e : (broadcast S8x512 (Scalar.ofBits (F := Ideal) .f32 0x00000000#32) : FVec Ideal S8x512 .f32) (ix2 p q) = (0 : EReal) := by pointwise []
  rw [live, if_pos (by omega), row, dif_neg (by omega), e]

/-- A piece between the first and the last. -/
theorem inner (w : Vec Ideal S4x512 .f32) (dy : Vec Ideal S2176x512 .f32) (o : Nat) (ho : 112 ≤ o) (h : ∀ b : Fin 2, ![o, 0] b + S128x512.size b ≤ S2176x512.size b)
    (h' : ∀ b : Fin 2, ![o + 128, 0] b + S128x512.size b ≤ S2176x512.size b) (y : S128x512.Idx) :
    (k0_pay125 (F := Ideal) w (k0_pay131 (View.ld dy (Rect.unit ![o + 128, 0] S128x512.size h'))) (View.ld dy (Rect.unit ![o, 0] S128x512.size h))) y
      = dxBlock dy w ((Rect.unit ![o, 0] S128x512.size h : Rect S2176x512).emb y) :=
  piece w dy h (ld_live dy h ho) (next_rows (ld_live dy h' (by omega))) y

/-- The block of the input's gradient. -/
theorem out4 (dy x : Vec Ideal S2176x512 .f32) (w : Vec Ideal S4x512 .f32) (b : Vec Ideal S1x512 .f32) :
    out0_4 (F := Ideal) dy x w b = dxBlock dy w := by
  funext y
  unfold out0_4
  refine View.canon_apply_of_pieces (dxBlock dy w) _ ?_ y (cover0_4 _ _ _ _ _ _ _ _ _ _ _ _ _ _ _ _ _ y)
  rw [ld_tap]
  refine List.forall_mem_cons.2 ⟨fun x => piece w dy (nx := k0_pay131 (View.ld dy r0_61)) (d := k0_pay135 (View.ld dy r0_65)) (by decide) (ld_masked dy (by decide)) (next_rows (ld_live dy (by decide) (by omega))) x, ?_⟩
  refine List.forall_mem_cons.2 ⟨inner w dy 128 (by omega) (by decide) (by decide), ?_⟩
  refine List.forall_mem_cons.2 ⟨inner w dy 256 (by omega) (by decide) (by decide), ?_⟩
  refine List.forall_mem_cons.2 ⟨inner w dy 384 (by omega) (by decide) (by decide), ?_⟩
  refine List.forall_mem_cons.2 ⟨inner w dy 512 (by omega) (by decide) (by decide), ?_⟩
  refine List.forall_mem_cons.2 ⟨inner w dy 640 (by omega) (by decide) (by decide), ?_⟩
  refine List.forall_mem_cons.2 ⟨inner w dy 768 (by omega) (by decide) (by decide), ?_⟩
  refine List.forall_mem_cons.2 ⟨inner w dy 896 (by omega) (by decide) (by decide), ?_⟩
  refine List.forall_mem_cons.2 ⟨inner w dy 1024 (by omega) (by decide) (by decide), ?_⟩
  refine List.forall_mem_cons.2 ⟨inner w dy 1152 (by omega) (by decide) (by decide), ?_⟩
  refine List.forall_mem_cons.2 ⟨inner w dy 1280 (by omega) (by decide) (by decide), ?_⟩
  refine List.forall_mem_cons.2 ⟨inner w dy 1408 (by omega) (by decide) (by decide), ?_⟩
  refine List.forall_mem_cons.2 ⟨inner w dy 1536 (by omega) (by decide) (by decide), ?_⟩
  refine List.forall_mem_cons.2 ⟨inner w dy 1664 (by omega) (by decide) (by decide), ?_⟩
  refine List.forall_mem_cons.2 ⟨inner w dy 1792 (by omega) (by decide) (by decide), ?_⟩
  refine List.forall_mem_cons.2 ⟨inner w dy 1920 (by omega) (by decide) (by decide), ?_⟩
  exact List.forall_mem_cons.2 ⟨fun x => piece w dy (nx := broadcast S8x512 (Scalar.ofBits .f32 0x00000000#32)) (d := View.ld dy r0_1) (by decide) (ld_live dy (by decide) (by omega)) (zero_next dy) x, fun _ h => absurd h List.not_mem_nil⟩

/-- One chunk's contribution to a sum over the rows. -/
def step (prev : FVec Ideal S1x512 .f32) (d : FVec Ideal S128x512 .f32) : FVec Ideal S1x512 .f32 :=
  addf prev (shapeCast S1x512 (multiReduction .add [0] S512 d 0x00000000#32 reduces_S128x512_S512 (.inl rfl) rfl) shapeCasts_S512_S1x512)

theorem step_apply (prev : FVec Ideal S1x512 .f32) (d : FVec Ideal S128x512 .f32) (q : Fin 512) :
    step prev d (ix2 0 q) = prev (ix2 0 q) + ∑ p : Fin 128, d (ix2 p q) := by
  pointwise [step]

theorem steps_apply (q : Fin 512) : ∀ (l : List (FVec Ideal S128x512 .f32)) (z : FVec Ideal S1x512 .f32),
    (l.foldl step z) (ix2 0 q) = z (ix2 0 q) + (l.map fun d => ∑ p : Fin 128, d (ix2 p q)).sum
  | [], z => by simp
  | d :: l, z => by
    rw [List.foldl_cons, steps_apply q l, step_apply, List.map_cons, List.sum_cons, add_assoc]

theorem chunks_sum (f : Nat → EReal) : ∀ k : Nat, ∑ c ∈ Finset.range k, ∑ p : Fin 128, f (128 * c + p.val) = ∑ t ∈ Finset.range (128 * k), f t
  | 0 => by simp
  | k + 1 => by
    rw [Finset.sum_range_succ, chunks_sum f k, Nat.mul_succ, Finset.sum_range_add, Finset.sum_range (n := 128)]

/-- The chunks from the last to the first make up all rows. -/
theorem nest (z : FVec Ideal S1x512 .f32) (f : Nat → Fin 512 → EReal) (q : Fin 512) (hz : z (ix2 0 q) = 0) (l : List (FVec Ideal S128x512 .f32))
    (hl : List.Forall₂ (fun d c => ∀ p : Fin 128, d (ix2 p q) = f (128 * c + p.val) q) l (List.range 17).reverse) :
    (l.foldl step z) (ix2 0 q) = ∑ t ∈ Finset.range 2176, f t q := by
  rw [steps_apply, hz, zero_add]
  have e : l.map (fun d => ∑ p : Fin 128, d (ix2 p q)) = (List.range 17).reverse.map fun c => ∑ p : Fin 128, f (128 * c + p.val) q := by
    refine List.ext_getElem (by simpa using hl.length_eq) fun i h1 h2 => ?_
    simp only [List.getElem_map]
    exact Finset.sum_congr rfl fun p _ => hl.get _ _ p
  rw [e, List.map_reverse, List.sum_reverse]
  exact chunks_sum (f · q) 17

/-- Every row of a block of the products. -/
theorem prod_rows (s : Nat) (dy x : Vec Ideal S2176x512 .f32) {o o' : Nat} (h : ∀ b : Fin 2, ![o, 0] b + S128x512.size b ≤ S2176x512.size b)
    (h' : ∀ b : Fin 2, ![o', 0] b + S128x512.size b ≤ S2176x512.size b) (ho : 112 ≤ o) (e : o' + s = o) (p : Fin 128) (q : Fin 512) :
    (mulf (View.ld dy (Rect.unit ![o, 0] S128x512.size h) : Vec Ideal S128x512 .f32) (View.ld x (Rect.unit ![o', 0] S128x512.size h')) : FVec Ideal S128x512 .f32) (ix2 p q)
      = live dy (o + p.val) q * back x s (o + p.val) q := by
  have a := ld_live dy h ho p q
  have b := ld_back s x h' p q
  rw [e] at b
  rw [← a, ← b]; rfl

/-- The first chunk's products. -/
theorem prod_first (s : Nat) (dy x : Vec Ideal S2176x512 .f32) {xs : FVec Ideal S128x512 .f32} (h : ∀ b : Fin 2, ![0, 0] b + S128x512.size b ≤ S2176x512.size b)
    (hx : ∀ p q, xs (ix2 p q) = back x s (0 + p.val) q) (p : Fin 128) (q : Fin 512) :
    (mulf (k0_pay135 (F := Ideal) (View.ld dy (Rect.unit ![0, 0] S128x512.size h))) xs : FVec Ideal S128x512 .f32) (ix2 p q) = live dy (0 + p.val) q * back x s (0 + p.val) q := by
  rw [← ld_masked dy h p q, ← hx p q]; rfl

theorem zero_row (q : Fin 512) : (k0_pay7 (F := Ideal)) (ix2 0 q) = (0 : EReal) := by pointwise [k0_pay7]

/-- The block of the bias's gradient. -/
theorem out6 (dy x : Vec Ideal S2176x512 .f32) (w : Vec Ideal S4x512 .f32) (b : Vec Ideal S1x512 .f32) :
    out0_6 (F := Ideal) dy x w b = fun i : S1x512.Idx => dbAt dy (i 1) := by
  funext y
  obtain ⟨q, rfl⟩ : ∃ q : Fin 512, y = ix2 0 q := ⟨y 1, funext fun a => by fin_cases a; exact Fin.ext (by have := (y 0).isLt; simp at *; omega); rfl⟩
  unfold out0_6
  refine (congrFun (View.canon_unit_zero (S := S1x512) (funext fun a => by fin_cases a <;> rfl) _ _) _).trans ?_
  refine nest (k0_pay7 (F := Ideal)) (fun t q => live dy t q) q (zero_row q) [View.ld dy r0_1, View.ld dy r0_5, View.ld dy r0_9, View.ld dy r0_13, View.ld dy r0_17, View.ld dy r0_21, View.ld dy r0_25, View.ld dy r0_29, View.ld dy r0_33,
    View.ld dy r0_37, View.ld dy r0_41, View.ld dy r0_45, View.ld dy r0_49, View.ld dy r0_53, View.ld dy r0_57, View.ld dy r0_61, k0_pay135 (View.ld dy r0_65)] ?_
  iterate 16 refine .cons (fun p => ld_live dy _ (by omega) p q) ?_
  exact .cons (fun p => ld_masked dy _ p q) .nil

/-- The sums over the rows, one for each tap, from the reads of a chunk. -/
theorem tap (s : Nat) (dy x : Vec Ideal S2176x512 .f32) (z : FVec Ideal S1x512 .f32) (hz : ∀ q : Fin 512, z (ix2 0 q) = 0) {xs : FVec Ideal S128x512 .f32}
    (hx : ∀ p q, xs (ix2 p q) = back x s (0 + p.val) q) (h0 : ∀ b : Fin 2, ![0, 0] b + S128x512.size b ≤ S2176x512.size b) (l : List (FVec Ideal S128x512 .f32))
    (hl : ∀ q : Fin 512, List.Forall₂ (fun d c => ∀ p : Fin 128, d (ix2 p q) = live dy (128 * c + p.val) q * back x s (128 * c + p.val) q) l ((List.range 16).reverse.map (· + 1))) (q : Fin 512) :
    (step (l.foldl step z) (mulf (k0_pay135 (F := Ideal) (View.ld dy (Rect.unit ![0, 0] S128x512.size h0))) xs)) (ix2 0 q) = dwAt dy x s q := by
  refine (congrFun (List.foldl_concat step z _ l).symm _).trans ?_
  refine nest z (fun t q => live dy t q * back x s t q) q (hz q) _ ?_
  exact List.rel_append (hl q) (.cons (fun p => prod_first s dy x h0 hx p q) .nil)

theorem zero_rows : (∀ q : Fin 512, (k0_pay3 (F := Ideal)) (ix2 0 q) = (0 : EReal)) := fun q => by pointwise [k0_pay3]

/-- The block of the taps' gradients. -/
theorem out5 (dy x : Vec Ideal S2176x512 .f32) (w : Vec Ideal S4x512 .f32) (b : Vec Ideal S1x512 .f32) :
    out0_5 (F := Ideal) dy x w b = fun i : S4x512.Idx => dwAt dy x (3 - (i 0).val) (i 1) := by
  funext y
  obtain ⟨r, q, rfl⟩ : ∃ (r : Fin 4) (q : Fin 512), y = ix2 r q := ⟨y 0, y 1, funext fun a => by fin_cases a <;> rfl⟩
  unfold out0_5
  refine (congrFun (View.canon_unit_zero (S := S4x512) (funext fun a => by fin_cases a <;> rfl) _ _) _).trans ?_
  have off : ∀ b : Fin 2, b ≠ (0 : Fin 2) → ((ix2 (0 : Fin 1) q) b).val = ((ix2 r q) b).val := fun b hb => by
    fin_cases b
    · exact absurd rfl hb
    · rfl
  have t0 := tap 0 dy x (k0_pay6 (F := Ideal)) zero_rows (ld_first x (by decide)) (by decide) [mulf (View.ld dy r0_1) (View.ld x r0_1), mulf (View.ld dy r0_5) (View.ld x r0_5), mulf (View.ld dy r0_9) (View.ld x r0_9), mulf (View.ld dy r0_13) (View.ld x r0_13), mulf (View.ld dy r0_17) (View.ld x r0_17), mulf (View.ld dy r0_21) (View.ld x r0_21), mulf (View.ld dy r0_25) (View.ld x r0_25), mulf (View.ld dy r0_29) (View.ld x r0_29), mulf (View.ld dy r0_33) (View.ld x r0_33), mulf (View.ld dy r0_37) (View.ld x r0_37), mulf (View.ld dy r0_41) (View.ld x r0_41), mulf (View.ld dy r0_45) (View.ld x r0_45), mulf (View.ld dy r0_49) (View.ld x r0_49), mulf (View.ld dy r0_53) (View.ld x r0_53), mulf (View.ld dy r0_57) (View.ld x r0_57), mulf (View.ld dy r0_61) (View.ld x r0_61)]
    (fun q => by iterate 16 refine .cons (fun p => prod_rows 0 dy x _ _ (by omega) (by omega) p q) ?_
                 exact .nil) q
  have t1 := tap 1 dy x (k0_pay5 (F := Ideal)) zero_rows (shift1 x (by decide)) (by decide) [mulf (View.ld dy r0_1) (View.ld x r0_2), mulf (View.ld dy r0_5) (View.ld x r0_6), mulf (View.ld dy r0_9) (View.ld x r0_10), mulf (View.ld dy r0_13) (View.ld x r0_14), mulf (View.ld dy r0_17) (View.ld x r0_18), mulf (View.ld dy r0_21) (View.ld x r0_22), mulf (View.ld dy r0_25) (View.ld x r0_26), mulf (View.ld dy r0_29) (View.ld x r0_30), mulf (View.ld dy r0_33) (View.ld x r0_34), mulf (View.ld dy r0_37) (View.ld x r0_38), mulf (View.ld dy r0_41) (View.ld x r0_42), mulf (View.ld dy r0_45) (View.ld x r0_46), mulf (View.ld dy r0_49) (View.ld x r0_50), mulf (View.ld dy r0_53) (View.ld x r0_54), mulf (View.ld dy r0_57) (View.ld x r0_58), mulf (View.ld dy r0_61) (View.ld x r0_62)]
    (fun q => by iterate 16 refine .cons (fun p => prod_rows 1 dy x _ _ (by omega) (by omega) p q) ?_
                 exact .nil) q
  have t2 := tap 2 dy x (k0_pay4 (F := Ideal)) zero_rows (shift2 x (by decide)) (by decide) [mulf (View.ld dy r0_1) (View.ld x r0_3), mulf (View.ld dy r0_5) (View.ld x r0_7), mulf (View.ld dy r0_9) (View.ld x r0_11), mulf (View.ld dy r0_13) (View.ld x r0_15), mulf (View.ld dy r0_17) (View.ld x r0_19), mulf (View.ld dy r0_21) (View.ld x r0_23), mulf (View.ld dy r0_25) (View.ld x r0_27), mulf (View.ld dy r0_29) (View.ld x r0_31), mulf (View.ld dy r0_33) (View.ld x r0_35), mulf (View.ld dy r0_37) (View.ld x r0_39), mulf (View.ld dy r0_41) (View.ld x r0_43), mulf (View.ld dy r0_45) (View.ld x r0_47), mulf (View.ld dy r0_49) (View.ld x r0_51), mulf (View.ld dy r0_53) (View.ld x r0_55), mulf (View.ld dy r0_57) (View.ld x r0_59), mulf (View.ld dy r0_61) (View.ld x r0_63)]
    (fun q => by iterate 16 refine .cons (fun p => prod_rows 2 dy x _ _ (by omega) (by omega) p q) ?_
                 exact .nil) q
  have t3 := tap 3 dy x (k0_pay3 (F := Ideal)) zero_rows (shift3 x (by decide)) (by decide) [mulf (View.ld dy r0_1) (View.ld x r0_4), mulf (View.ld dy r0_5) (View.ld x r0_8), mulf (View.ld dy r0_9) (View.ld x r0_12), mulf (View.ld dy r0_13) (View.ld x r0_16), mulf (View.ld dy r0_17) (View.ld x r0_20), mulf (View.ld dy r0_21) (View.ld x r0_24), mulf (View.ld dy r0_25) (View.ld x r0_28), mulf (View.ld dy r0_29) (View.ld x r0_32), mulf (View.ld dy r0_33) (View.ld x r0_36), mulf (View.ld dy r0_37) (View.ld x r0_40), mulf (View.ld dy r0_41) (View.ld x r0_44), mulf (View.ld dy r0_45) (View.ld x r0_48), mulf (View.ld dy r0_49) (View.ld x r0_52), mulf (View.ld dy r0_53) (View.ld x r0_56), mulf (View.ld dy r0_57) (View.ld x r0_60), mulf (View.ld dy r0_61) (View.ld x r0_64)]
    (fun q => by iterate 16 refine .cons (fun p => prod_rows 3 dy x _ _ (by omega) (by omega) p q) ?_
                 exact .nil) q
  unfold k0_pay2
  dsimp only
  fin_cases r
  · exact (concatenate_apply_piece (t := S4x512) 0 _ _ _ 0 (by show 0 < 4; omega) S1x512 _ rfl rfl 0 rfl (ix2 0 q) off rfl).trans t3
  · exact (concatenate_apply_piece (t := S4x512) 0 _ _ _ 1 (by show 1 < 4; omega) S1x512 _ rfl rfl 1 rfl (ix2 0 q) off rfl).trans t2
  · exact (concatenate_apply_piece (t := S4x512) 0 _ _ _ 2 (by show 2 < 4; omega) S1x512 _ rfl rfl 2 rfl (ix2 0 q) off rfl).trans t1
  · exact (concatenate_apply_piece (t := S4x512) 0 _ _ _ 3 (by show 3 < 4; omega) S1x512 _ rfl rfl 3 rfl (ix2 0 q) off rfl).trans t0

/-! ## Columns of a block -/

section columns

variable {n n' : Nat} {a x : Rows n} {a' x' : Rows n'} {w : Taps n} {w' : Taps n'} {q : Fin n} {q' : Fin n'}

theorem row_col (h : ∀ p, a (ix2 p q) = a' (ix2 p q')) (t : Nat) : row a t q = row a' t q' := by
  unfold row; split
  · exact h _
  · rfl

theorem live_col (h : ∀ p, a (ix2 p q) = a' (ix2 p q')) (t : Nat) : live a t q = live a' t q' := by
  unfold live; rw [row_col h]

theorem back_col (h : ∀ p, a (ix2 p q) = a' (ix2 p q')) (s t : Nat) : back a s t q = back a' s t q' := by
  unfold back; rw [row_col h]

theorem dx_col (h : ∀ p, a (ix2 p q) = a' (ix2 p q')) (hw : ∀ p, w (ix2 p q) = w' (ix2 p q')) (t : Nat) : dxAt a w t q = dxAt a' w' t q' := by
  unfold dxAt; rw [live_col h, live_col h, live_col h, live_col h, hw, hw, hw, hw]

theorem dw_col (h : ∀ p, a (ix2 p q) = a' (ix2 p q')) (hx : ∀ p, x (ix2 p q) = x' (ix2 p q')) (s : Nat) : dwAt a x s q = dwAt a' x' s q' :=
  Finset.sum_congr rfl fun t _ => by rw [live_col h, back_col hx]

theorem db_col (h : ∀ p, a (ix2 p q) = a' (ix2 p q')) : dbAt a q = dbAt a' q' := Finset.sum_congr rfl fun t _ => live_col h t

end columns

end Cert.Conv

namespace Cert.Kernel4Ideal.Value

open Idealize.ShloMosaic Idealize.ShloMosaic.TcCoe Idealize.SL.Sem
open Idealize.ShloMosaic.Pipeline (Dat)
open Cert.Kernel4Ideal Cert.Kernel4Ideal.Gen Cert.Conv

variable (m : (ℓ : Loc nD τ sig) → Buf (Elt Ideal) ℓ)

/-- A block's column in the arrays. -/
def col (t : Fin cfg0.N) (q : Fin 512) : Fin 1024 := ⟨512 * t.val + q.val, by have : t.val < 2 := t.isLt; omega⟩

theorem indexes : ∀ t : Fin cfg0.N, (win0_0.index t 0 * 2176 = 0 ∧ win0_0.index t 1 * 512 = 512 * t.val) ∧ (win0_1.index t 0 * 2176 = 0 ∧ win0_1.index t 1 * 512 = 512 * t.val)
    ∧ (win0_2.index t 0 * 4 = 0 ∧ win0_2.index t 1 * 512 = 512 * t.val) ∧ (win0_4.index t 0 * 2176 = 0 ∧ win0_4.index t 1 * 512 = 512 * t.val)
    ∧ (win0_5.index t 0 * 4 = 0 ∧ win0_5.index t 1 * 512 = 512 * t.val) ∧ (win0_6.index t 0 * 1 = 0 ∧ win0_6.index t 1 * 512 = 512 * t.val) :=
  (by decide +kernel : ∀ t : Fin grid0.N, (win0_0.index t 0 * 2176 = 0 ∧ win0_0.index t 1 * 512 = 512 * t.val) ∧ (win0_1.index t 0 * 2176 = 0 ∧ win0_1.index t 1 * 512 = 512 * t.val)
    ∧ (win0_2.index t 0 * 4 = 0 ∧ win0_2.index t 1 * 512 = 512 * t.val) ∧ (win0_4.index t 0 * 2176 = 0 ∧ win0_4.index t 1 * 512 = 512 * t.val)
    ∧ (win0_5.index t 0 * 4 = 0 ∧ win0_5.index t 1 * 512 = 512 * t.val) ∧ (win0_6.index t 0 * 1 = 0 ∧ win0_6.index t 1 * 512 = 512 * t.val))

theorem flushes : ∀ t : Fin cfg0.N, (cfg0.win 4).flush t = true ∧ (cfg0.win 5).flush t = true ∧ (cfg0.win 6).flush t = true :=
  (by decide +kernel : ∀ t : Fin grid0.N, (cfg0.win 4).flush t = true ∧ (cfg0.win 5).flush t = true ∧ (cfg0.win 6).flush t = true)

/-- The place of a block's entry in its array. -/
theorem place {R H : Nat} {i0 i1 : Nat} (t : Fin cfg0.N) (e : i0 * H = 0 ∧ i1 * 512 = 512 * t.val) (p : Fin R) (q : Fin 512) (j : (⟨2, ![R, 1024]⟩ : Shape).Idx)
    (h0 : (j 0).val = i0 * H + 1 * p.val) (h1 : (j 1).val = i1 * 512 + 1 * q.val) : j = ix2 p (col t q) := by
  funext a
  fin_cases a
  · exact Fin.ext (by show (j 0).val = p.val; omega)
  · exact Fin.ext (by show (j 1).val = 512 * t.val + q.val; omega)

theorem block0 (c : Dev nD) (t : Fin cfg0.N) (q : Fin 512) (p : Fin 2176) :
    (iblk m c 0 t : Vec Ideal S2176x512 .f32) (ix2 p q) = (V m c main_arg0 : S2176x1024.Idx → EReal) (ix2 p (col t q)) := by
  show ((cfg0.win 0).blk t).view.read (Elt Ideal) (V m c main_arg0) (ix2 p q) = _
  rw [View.read_apply]
  exact congrArg (V m c main_arg0 : S2176x1024.Idx → EReal) (place t (indexes t).1 p q _ rfl rfl)

theorem block1 (c : Dev nD) (t : Fin cfg0.N) (q : Fin 512) (p : Fin 2176) :
    (iblk m c 1 t : Vec Ideal S2176x512 .f32) (ix2 p q) = (V m c main_arg1 : S2176x1024.Idx → EReal) (ix2 p (col t q)) := by
  show ((cfg0.win 1).blk t).view.read (Elt Ideal) (V m c main_arg1) (ix2 p q) = _
  rw [View.read_apply]
  exact congrArg (V m c main_arg1 : S2176x1024.Idx → EReal) (place t (indexes t).2.1 p q _ rfl rfl)

theorem block2 (c : Dev nD) (t : Fin cfg0.N) (q : Fin 512) (p : Fin 4) :
    (iblk m c 2 t : Vec Ideal S4x512 .f32) (ix2 p q) = (V m c main_arg2 : S4x1024.Idx → EReal) (ix2 p (col t q)) := by
  show ((cfg0.win 2).blk t).view.read (Elt Ideal) (V m c main_arg2) (ix2 p q) = _
  rw [View.read_apply]
  exact congrArg (V m c main_arg2 : S4x1024.Idx → EReal) (place t (indexes t).2.2.1 p q _ rfl rfl)

def dxArr (c : Dev nD) : S2176x1024.Idx → Elt Ideal .bf16 := fun i => dxAt (V m c main_arg0 : S2176x1024.Idx → EReal) (V m c main_arg2 : S4x1024.Idx → EReal) (i 0).val (i 1)
def dwArr (c : Dev nD) : S4x1024.Idx → Elt Ideal .f32 := fun i => dwAt (V m c main_arg0 : S2176x1024.Idx → EReal) (V m c main_arg1 : S2176x1024.Idx → EReal) (3 - (i 0).val) (i 1)
def dbArr (c : Dev nD) : S1x1024.Idx → Elt Ideal .f32 := fun i => dbAt (V m c main_arg0 : S2176x1024.Idx → EReal) (i 1)

theorem flushed4_eq (c : Dev nD) (t : Fin cfg0.N) : (dats m 0 c).flushed 4 t = ((cfg0.win 4).blk t).view.read (Elt Ideal) (dxArr m c) := by
  funext j
  obtain ⟨p, q, rfl⟩ : ∃ (p : Fin 2176) (q : Fin 512), j = ix2 p q := ⟨j 0, j 1, funext fun a => by fin_cases a <;> rfl⟩
  have hR : ((cfg0.win 4).blk t).view.read (Elt Ideal) (dxArr m c) (ix2 p q) = dxArr m c (ix2 p (col t q)) := by
    rw [View.read_apply]
    exact congrArg (dxArr m c) (place t (indexes t).2.2.2.1 p q _ rfl rfl)
  refine Eq.trans ?_ hR.symm
  refine (congrFun (flushed4 m c t) (ix2 p q)).trans ?_
  rw [out4]
  exact dx_col (block0 m c t q) (block2 m c t q) p.val

theorem flushed5_eq (c : Dev nD) (t : Fin cfg0.N) : (dats m 0 c).flushed 5 t = ((cfg0.win 5).blk t).view.read (Elt Ideal) (dwArr m c) := by
  funext j
  obtain ⟨p, q, rfl⟩ : ∃ (p : Fin 4) (q : Fin 512), j = ix2 p q := ⟨j 0, j 1, funext fun a => by fin_cases a <;> rfl⟩
  have hR : ((cfg0.win 5).blk t).view.read (Elt Ideal) (dwArr m c) (ix2 p q) = dwArr m c (ix2 p (col t q)) := by
    rw [View.read_apply]
    exact congrArg (dwArr m c) (place t (indexes t).2.2.2.2.1 p q _ rfl rfl)
  refine Eq.trans ?_ hR.symm
  refine (congrFun (flushed5 m c t) (ix2 p q)).trans ?_
  rw [out5]
  exact dw_col (block0 m c t q) (block1 m c t q) (3 - p.val)

theorem flushed6_eq (c : Dev nD) (t : Fin cfg0.N) : (dats m 0 c).flushed 6 t = ((cfg0.win 6).blk t).view.read (Elt Ideal) (dbArr m c) := by
  funext j
  obtain ⟨p, q, rfl⟩ : ∃ (p : Fin 1) (q : Fin 512), j = ix2 p q := ⟨j 0, j 1, funext fun a => by fin_cases a <;> rfl⟩
  have hR : ((cfg0.win 6).blk t).view.read (Elt Ideal) (dbArr m c) (ix2 p q) = dbArr m c (ix2 p (col t q)) := by
    rw [View.read_apply]
    exact congrArg (dbArr m c) (place t (indexes t).2.2.2.2.2 p q _ rfl rfl)
  refine Eq.trans ?_ hR.symm
  refine (congrFun (flushed6 m c t) (ix2 p q)).trans ?_
  rw [out6]
  exact db_col (block0 m c t q)

/-- Every column lies in a block. -/
theorem inside (q : Nat) (hq : q < 1024) : ∃ t : Fin cfg0.N, 512 * t.val ≤ q ∧ q < 512 * t.val + 512 :=
  ⟨⟨q / 512, by show q / 512 < 2; omega⟩, by dsimp only; omega, by dsimp only; omega⟩

theorem within {i0 i1 x0 x1 H R : Nat} (t : Fin cfg0.N) (e : i0 * H = 0 ∧ i1 * 512 = 512 * t.val) (hx : x0 = R ∧ x1 = 512) (i : (⟨2, ![R, 1024]⟩ : Shape).Idx)
    (ht : 512 * t.val ≤ (i 1).val ∧ (i 1).val < 512 * t.val + 512) : (i0 * H ≤ (i 0).val ∧ (i 0).val < i0 * H + x0) ∧ (i1 * 512 ≤ (i 1).val ∧ (i 1).val < i1 * 512 + x1) := by
  have h0 : (i 0).val < R := (i 0).isLt
  refine ⟨⟨?_, ?_⟩, ?_, ?_⟩ <;> omega

theorem cover4 (i : (⟨2, ![2176, 1024]⟩ : Shape).Idx) : ∃ t : Fin cfg0.N, (cfg0.win 4).flush t = true ∧ i ∈ ((cfg0.win 4).blk t).view.set := by
  obtain ⟨t, ht⟩ := inside (i 1).val (i 1).isLt
  have e := within (x0 := win0_4.xsize (grid0.coords t) 0) (x1 := win0_4.xsize (grid0.coords t) 1) t (indexes t).2.2.2.1 ⟨rfl, rfl⟩ i ht
  refine ⟨t, (flushes t).1, ?_⟩
  show i ∈ ((View.whole main_v0_0).slice (win0_4.rect t)).set
  rw [View.set_slice_whole, Rect.mem_set_unit]
  exact fun a => match a with | ⟨0, _⟩ => e.1 | ⟨1, _⟩ => e.2

theorem cover5 (i : (⟨2, ![4, 1024]⟩ : Shape).Idx) : ∃ t : Fin cfg0.N, (cfg0.win 5).flush t = true ∧ i ∈ ((cfg0.win 5).blk t).view.set := by
  obtain ⟨t, ht⟩ := inside (i 1).val (i 1).isLt
  have e := within (x0 := win0_5.xsize (grid0.coords t) 0) (x1 := win0_5.xsize (grid0.coords t) 1) t (indexes t).2.2.2.2.1 ⟨rfl, rfl⟩ i ht
  refine ⟨t, (flushes t).2.1, ?_⟩
  show i ∈ ((View.whole main_v0_1).slice (win0_5.rect t)).set
  rw [View.set_slice_whole, Rect.mem_set_unit]
  exact fun a => match a with | ⟨0, _⟩ => e.1 | ⟨1, _⟩ => e.2

theorem cover6 (i : (⟨2, ![1, 1024]⟩ : Shape).Idx) : ∃ t : Fin cfg0.N, (cfg0.win 6).flush t = true ∧ i ∈ ((cfg0.win 6).blk t).view.set := by
  obtain ⟨t, ht⟩ := inside (i 1).val (i 1).isLt
  have e := within (x0 := win0_6.xsize (grid0.coords t) 0) (x1 := win0_6.xsize (grid0.coords t) 1) t (indexes t).2.2.2.2.2 ⟨rfl, rfl⟩ i ht
  refine ⟨t, (flushes t).2.2, ?_⟩
  show i ∈ ((View.whole main_v0_2).slice (win0_6.rect t)).set
  rw [View.set_slice_whole, Rect.mem_set_unit]
  exact fun a => match a with | ⟨0, _⟩ => e.1 | ⟨1, _⟩ => e.2

/-- The arrays the call leaves. -/
theorem final (c : Dev nD) : (dats m 0 c).arrAt 4 cfg0.N = dxArr m c ∧ (dats m 0 c).arrAt 5 cfg0.N = dwArr m c ∧ (dats m 0 c).arrAt 6 cfg0.N = dbArr m c :=
  ⟨(dats m 0 c).arrAt_eq_of_cover 4 (dxArr m c) (fun t _ => flushed4_eq m c t) cover4, (dats m 0 c).arrAt_eq_of_cover 5 (dwArr m c) (fun t _ => flushed5_eq m c t) cover5,
    (dats m 0 c).arrAt_eq_of_cover 6 (dbArr m c) (fun t _ => flushed6_eq m c t) cover6⟩

end Cert.Kernel4Ideal.Value

namespace Cert.Reference4Ideal

open Idealize.ShloMosaic Cert.Conv Cert.Reference4Ideal.Gen

/-- The cotangent with the rows before the sequence set to zero, as the reference makes it. -/
def kept (dy : FVec Ideal S2176x1024 .f32) : FVec Ideal S2176x1024 .f32 :=
  select (broadcastInDim S2176x1024 ![0, 1] bcast_S2176x1_S2176x1024_0_1 (cmpi .sge (broadcastInDim S2176x1 ![0] bcast_S2176_S2176x1_0 (iotaInDim S2176 32 0)) (broadcastInDim S2176x1 ![] bcast_S_S2176x1 (constantI S_ 32 112#32)))) dy (broadcastInDim S2176x1024 ![] bcast_S_S2176x1024 (constant S_ .f32 0x00000000#32))

theorem kept_apply (dy : FVec Ideal S2176x1024 .f32) (i : Fin 2176) (q : Fin 1024) : kept dy (ix2 i q) = live dy i.val q := by
  unfold live row
  rw [dif_pos i.isLt]
  have hm : ∀ i : Fin 2176, IntOp.cmpi CmpIPredicate.sge (BitVec.ofNat 32 i.val) 112#32 = if 112 ≤ i.val then 1#1 else 0#1 := by decide +kernel
  pointwise [kept]
  rw [hm]
  split <;> rfl

/-- The sum of a matrix's rows. -/
theorem sum_rows (v : FVec Ideal S2176x1024 .f32) (f : Nat → EReal) (q : Fin 1024) (h : ∀ i : Fin 2176, v (ix2 i q) = f i.val) :
    (shapeCast S1x1024 (Host.reduceAdd v (constant S_ .f32 0x00000000#32) reducesTo_S2176x1024_S1024_d0 h_S_) shapeCasts_S1024_S1x1024 : FVec Ideal S1x1024 .f32) (ix2 0 q) = ∑ t ∈ Finset.range 2176, f t := by
  rw [Finset.sum_range]
  pointwise []
  simp only [zero_add, h]

theorem moved (x : FVec Ideal S2176x1024 .f32) (k : Nat) (hk : k ≤ 3) (h) (i : Fin 2176) (q : Fin 1024) :
    (extractStridedSlice S2176x1024 ![k, 0] (concatenate S2179x1024 0 [⟨S3x1024, (broadcastInDim S3x1024 ![] bcast_S_S3x1024 (constant (F := Ideal) S_ .f32 0x00000000#32))⟩, ⟨S2176x1024, x⟩] concatenates_S3x1024_S2176x1024_S2179x1024_d0) h) (ix2 i q)
      = back x (3 - k) i.val q := by
  pointwise []
  unfold back
  split
  · exact (if_neg (by omega)).symm
  · refine Eq.trans ?_ (if_pos (by omega)).symm
    unfold row
    refine Eq.trans ?_ (dif_pos (by omega)).symm
    exact congrArg x (congrArg (ix2 · q) (Fin.ext (by show k + i.val - 3 = i.val - (3 - k); omega)))

/-- The reference's products with one tap, moved up. -/
theorem padded (v : FVec Ideal S2176x1024 .f32) (f : Nat → EReal) (q : Fin 1024) (hv : ∀ i : Fin 2176, v (ix2 i q) = f i.val) (hf : ∀ t, 2176 ≤ t → f t = 0) (lo hi : Nat) (hlo : lo ≤ 3) (hp) (i : Fin 2176) :
    (pad S2179x1024 ![lo, 0] ![hi, 0] ![0, 0] v (constant S_ .f32 0x00000000#32) hp h_S_ : FVec Ideal S2179x1024 .f32) (ix2 ⟨3 + i.val, by omega⟩ q)
      = f (i.val + (3 - lo)) := by
  have hi' := i.isLt
  pointwise []
  split
  · rw [hv]; dsimp only; congr 1; omega
  · rw [hf _ (by omega)]

/-- The product with one tap. -/
theorem times (w : FVec Ideal S4x1024 .f32) (dy : FVec Ideal S2176x1024 .f32) (k : Nat) (hk : k < 4) (h) (i : Fin 2176) (q : Fin 1024) :
    (mulf (broadcastInDim S2176x1024 ![0, 1] bcast_S1x1024_S2176x1024_0_1 (extractStridedSlice S1x1024 ![k, 0] w h)) (kept dy) : FVec Ideal S2176x1024 .f32) (ix2 i q)
      = live dy i.val q * w (ix2 ⟨k, hk⟩ q) := by
  rw [← kept_apply, mul_comm]
  pointwise []

theorem below_end (dy : FVec Ideal S2176x1024 .f32) (w : EReal) (q : Fin 1024) (t : Nat) (ht : 2176 ≤ t) : live dy t q * w = 0 := by
  rw [live, if_pos (by omega), row, dif_neg (by omega), zero_mul]

/-- The reference's gradient of the input. -/
theorem dx_eq (dy : FVec Ideal S2176x1024 .f32) (w : FVec Ideal S4x1024 .f32) :
    (truncf .bf16 (extractStridedSlice S2176x1024 ![3, 0] (addf (addf (addf
      (pad S2179x1024 ![3, 0] ![0, 0] ![0, 0] (mulf (broadcastInDim S2176x1024 ![0, 1] bcast_S1x1024_S2176x1024_0_1 (extractStridedSlice S1x1024 ![3, 0] w slices_S4x1024_S1x1024_3_0)) (kept dy)) (constant S_ .f32 0x00000000#32) pads_S2176x1024_S2179x1024_300_000 h_S_)
      (pad S2179x1024 ![2, 0] ![1, 0] ![0, 0] (mulf (broadcastInDim S2176x1024 ![0, 1] bcast_S1x1024_S2176x1024_0_1 (extractStridedSlice S1x1024 ![2, 0] w slices_S4x1024_S1x1024_2_0)) (kept dy)) (constant S_ .f32 0x00000000#32) pads_S2176x1024_S2179x1024_210_000 h_S_))
      (pad S2179x1024 ![1, 0] ![2, 0] ![0, 0] (mulf (broadcastInDim S2176x1024 ![0, 1] bcast_S1x1024_S2176x1024_0_1 (extractStridedSlice S1x1024 ![1, 0] w slices_S4x1024_S1x1024_1_0)) (kept dy)) (constant S_ .f32 0x00000000#32) pads_S2176x1024_S2179x1024_120_000 h_S_))
      (pad S2179x1024 ![0, 0] ![3, 0] ![0, 0] (mulf (broadcastInDim S2176x1024 ![0, 1] bcast_S1x1024_S2176x1024_0_1 (extractStridedSlice S1x1024 ![0, 0] w slices_S4x1024_S1x1024_0_0)) (kept dy)) (constant S_ .f32 0x00000000#32) pads_S2176x1024_S2179x1024_030_000 h_S_)) slices_S2179x1024_S2176x1024_3_0) bitsLt_bf16_f32
      : FVec Ideal S2176x1024 .bf16) = fun i => dxAt dy w (i 0).val (i 1) := by
  funext j
  obtain ⟨i, q, rfl⟩ : ∃ (i : Fin 2176) (q : Fin 1024), j = ix2 i q := ⟨j 0, j 1, funext fun a => by fin_cases a <;> rfl⟩
  have one := fun (k hi : Nat) (hk : k < 4) (h) (hp) => padded _ (fun t => live dy t q * w (ix2 ⟨k, hk⟩ q)) q (fun i => times w dy k hk h i q) (below_end dy _ q) k hi (by omega) hp i
  have e : ∀ z : FVec Ideal S2179x1024 .f32, (truncf .bf16 (extractStridedSlice S2176x1024 ![3, 0] z slices_S2179x1024_S2176x1024_3_0) bitsLt_bf16_f32 : FVec Ideal S2176x1024 .bf16) (ix2 i q) = z (ix2 ⟨3 + i.val, by omega⟩ q) := fun z => by pointwise []
  refine (e _).trans ?_
  exact congrArg₂ (· + ·) (congrArg₂ (· + ·) (congrArg₂ (· + ·) (one 3 0 (by omega) _ _) (one 2 1 (by omega) _ _)) (one 1 2 (by omega) _ _)) (one 0 3 (by omega) _ _)

/-- One row of the reference's gradient of the taps. -/
theorem dw_row (dy x : FVec Ideal S2176x1024 .f32) (k : Nat) (hk : k ≤ 3) (h) (q : Fin 1024) :
    (shapeCast S1x1024 (Host.reduceAdd (mulf (kept dy) (extractStridedSlice S2176x1024 ![k, 0] (concatenate S2179x1024 0 [⟨S3x1024, (broadcastInDim S3x1024 ![] bcast_S_S3x1024 (constant (F := Ideal) S_ .f32 0x00000000#32))⟩, ⟨S2176x1024, x⟩] concatenates_S3x1024_S2176x1024_S2179x1024_d0) h))
      (constant S_ .f32 0x00000000#32) reducesTo_S2176x1024_S1024_d0 h_S_) shapeCasts_S1024_S1x1024 : FVec Ideal S1x1024 .f32) (ix2 0 q) = dwAt dy x (3 - k) q :=
  sum_rows _ (fun t => live dy t q * back x (3 - k) t q) q fun i => congrArg₂ (· * ·) (kept_apply dy i q) (moved x k hk h i q)

/-- Four rows under one another. -/
theorem four (a b c d : FVec Ideal S1x1024 .f32) (f : Nat → Fin 1024 → EReal) (ha : ∀ q : Fin 1024, a (ix2 0 q) = f 3 q) (hb : ∀ q : Fin 1024, b (ix2 0 q) = f 2 q) (hc : ∀ q : Fin 1024, c (ix2 0 q) = f 1 q)
    (hd : ∀ q : Fin 1024, d (ix2 0 q) = f 0 q) (h) : (concatenate S4x1024 0 [⟨S1x1024, a⟩, ⟨S1x1024, b⟩, ⟨S1x1024, c⟩, ⟨S1x1024, d⟩] h : FVec Ideal S4x1024 .f32) = fun i => f (3 - (i 0).val) (i 1) := by
  funext y
  obtain ⟨r, q, rfl⟩ : ∃ (r : Fin 4) (q : Fin 1024), y = ix2 r q := ⟨y 0, y 1, funext fun a => by fin_cases a <;> rfl⟩
  have off : ∀ b : Fin 2, b ≠ (0 : Fin 2) → ((ix2 (0 : Fin 1) q) b).val = ((ix2 r q) b).val := fun b hb => by
    fin_cases b
    · exact absurd rfl hb
    · rfl
  fin_cases r
  · exact (concatenate_apply_piece (t := S4x1024) 0 _ h _ 0 (by show 0 < 4; omega) S1x1024 a rfl rfl 0 rfl (ix2 0 q) off rfl).trans (ha q)
  · exact (concatenate_apply_piece (t := S4x1024) 0 _ h _ 1 (by show 1 < 4; omega) S1x1024 b rfl rfl 1 rfl (ix2 0 q) off rfl).trans (hb q)
  · exact (concatenate_apply_piece (t := S4x1024) 0 _ h _ 2 (by show 2 < 4; omega) S1x1024 c rfl rfl 2 rfl (ix2 0 q) off rfl).trans (hc q)
  · exact (concatenate_apply_piece (t := S4x1024) 0 _ h _ 3 (by show 3 < 4; omega) S1x1024 d rfl rfl 3 rfl (ix2 0 q) off rfl).trans (hd q)

/-- The reference's gradient of the bias. -/
theorem db_eq (dy : FVec Ideal S2176x1024 .f32) :
    (shapeCast S1x1024 (Host.reduceAdd (kept dy) (constant S_ .f32 0x00000000#32) reducesTo_S2176x1024_S1024_d0 h_S_) shapeCasts_S1024_S1x1024 : FVec Ideal S1x1024 .f32) = fun i => dbAt dy (i 1) := by
  funext y
  obtain ⟨q, rfl⟩ : ∃ q : Fin 1024, y = ix2 0 q := ⟨y 1, funext fun a => by fin_cases a; exact Fin.ext (by have := (y 0).isLt; simp at *; omega); rfl⟩
  exact sum_rows _ (fun t => live dy t q) q (kept_apply dy · q)

end Cert.Reference4Ideal

namespace Cert.Wide

open Idealize.ShloMosaic Idealize.ShloMosaic.TcCoe Idealize.SL.Sem
open Cert.Kernel4Ideal.Value Cert.Reference4Ideal

/-- From memories that agree on the arguments, both programs end with equal results and unchanged arguments. -/
theorem algebraic4 : Cert.algebraic_Kernel4Ideal_Reference4Ideal := by
  intro m g m' g' _ hm
  refine ⟨fun c => dxArr m c, fun c => dwArr m c, fun c => dbArr m c, ?_, ?_⟩
  · exact θ_run_mono (Cert.Kernel4Ideal.Value.run_blocks m g) fun r h c => ⟨(h c).1.trans (final m c).1, (h c).2.1.trans (final m c).2.1, (h c).2.2.1.trans (final m c).2.2, (h c).2.2.2⟩
  · refine θ_run_mono (Cert.Reference4Ideal.Value.run m' g') fun r h c => ⟨(h c).1.trans ?_, (h c).2.1.trans ?_, (h c).2.2.1.trans ?_, (h c).2.2.2⟩
    · rw [(hm c).1, (hm c).2.2.1]
      exact dx_eq _ _
    · rw [(hm c).1, (hm c).2.1]
      exact four _ _ _ _ (Cert.Conv.dwAt _ _) (dw_row _ _ 0 (by omega) _) (dw_row _ _ 1 (by omega) _) (dw_row _ _ 2 (by omega) _) (dw_row _ _ 3 (by omega) _) _
    · rw [(hm c).1]
      exact db_eq _

end Cert.Wide

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Claims
public import proofs.«01_k».proof.Proof.Claims2
public import proofs.«01_k».proof.Proof.Embed
public import proofs.«01_k».proof.Proof.Conv
public import Idealize.ShloMosaic.Adequacy
public import Idealize.ShloMosaic.Init

@[expose] public section

noncomputable section

namespace Cert.Proof

open Idealize.ShloMosaic Idealize.SL.Sem Cert.Kernel

/-- The host references of the two single calls end with unchanged arguments and counters at zero. -/
theorem frame3 : Cert.quiescent_Reference3Ideal := fun m ρ _ =>
  θ_run_mono (Cert.Reference3Ideal.Value.run m ρ) fun r h => ⟨fun c => (h c).2, sem_eq_zero_of_no_sems (by decide) r.2⟩

theorem frame4 : Cert.quiescent_Reference4Ideal := fun m ρ _ =>
  θ_run_mono (Cert.Reference4Ideal.Value.run m ρ) fun r h => ⟨fun c => (h c).2.2.2, sem_eq_zero_of_no_sems (by decide) r.2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Value.frame m ρ, fun m ρ _ => Cert.ReferenceIdeal.Value.frame m ρ,
  fun m ρ _ => Cert.Kernel2.Gen.frame m ρ, fun m ρ _ => Cert.Kernel2Ideal.Gen.frame m ρ,
  fun m ρ _ => Cert.Reference2Ideal.Value.frame m ρ,
  fun m ρ _ => Cert.Kernel3.Gen.frame m ρ, fun m ρ _ => Cert.Kernel3Ideal.Gen.frame m ρ, frame3,
  fun m ρ _ => Cert.Kernel4.Gen.frame m ρ, fun m ρ _ => Cert.Kernel4Ideal.Gen.frame m ρ, frame4,
  trivial, Cert.Block.algebraic, trivial, Cert.Wide.algebraic2, trivial, Cert.Wide.algebraic3, trivial, Cert.Wide.algebraic4⟩

end Cert.Proof

end
